-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  IdealRules.named_const.Statement Cert.KernelIdeal.κ "scale" .f32 0x3E38AA3B#32 (((Real.log 256)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.named_const.Statement Cert.Kernel3Ideal.κ "scale" .f32 0x3E38AA3B#32 (((Real.log 256)⁻¹ : ℝ) : EReal)

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v286) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S2x8192x4x4x64 : Shape := ⟨5, ![2, 8192, 4, 4, 64]⟩
abbrev S2x8448x4x64 : Shape := ⟨4, ![2, 8448, 4, 64]⟩
abbrev S_ : Shape := ⟨0, ![]⟩

class Facts : Prop where
  bitsLt_bf16_f32 : FTy.bits .bf16 < FTy.bits .f32
  bcast_S_S2x8192x4x4x64 : S_.BroadcastsInDim S2x8192x4x4x64 (![] : Fin 0 → Fin S2x8192x4x4x64.rank)
  bcast_S_S2x8448x4x64 : S_.BroadcastsInDim S2x8448x4x64 (![] : Fin 0 → Fin S2x8448x4x64.rank)

variable [Facts]

def fn {F : FTy → Type} [FloatOps F] (main_arg0 : FVec F S2x8192x4x4x64 .bf16) (main_arg1 : FVec F S2x8448x4x64 .bf16) (main_arg2 : FVec F S2x8448x4x64 .bf16) : IVec S2x8192x4x4x64 1 × IVec S2x8448x4x64 1 :=
  let main_v0 : FVec F S2x8192x4x4x64 .f32 := (extf .f32 · bitsLt_bf16_f32) main_arg0
  let main_v1 : FVec F S2x8192x4x4x64 .f32 := Host.absf main_v0
  let main_cst : FVec F S_ .f32 := constant S_ .f32 0x7F800000#32
  let main_v2 : FVec F S2x8192x4x4x64 .f32 := broadcastInDim S2x8192x4x4x64 ![] bcast_S_S2x8192x4x4x64 main_cst
  let main_v3 : IVec S2x8192x4x4x64 1 := cmpf .olt main_v1 main_v2
  let main_v4 : FVec F S2x8448x4x64 .f32 := (extf .f32 · bitsLt_bf16_f32) main_arg1
  let main_v5 : FVec F S2x8448x4x64 .f32 := Host.absf main_v4
  let main_cst_0 : FVec F S_ .f32 := constant S_ .f32 0x7F800000#32
  let main_v6 : FVec F S2x8448x4x64 .f32 := broadcastInDim S2x8448x4x64 ![] bcast_S_S2x8448x4x64 main_cst_0
  let main_v7 : IVec S2x8448x4x64 1 := cmpf .olt main_v5 main_v6
  (main_v3, main_v7)
-- ==== Pre_finite3.lean ====
abbrev S2x8192x8x2x64 : Shape := ⟨5, ![2, 8192, 8, 2, 64]⟩
abbrev S2x8448x8x2x64 : Shape := ⟨5, ![2, 8448, 8, 2, 64]⟩
abbrev S2x8448x8x128 : Shape := ⟨4, ![2, 8448, 8, 128]⟩
abbrev S64 : Shape := ⟨1, ![64]⟩
abbrev S128 : Shape := ⟨1, ![128]⟩
abbrev S_ : Shape := ⟨0, ![]⟩

class Facts : Prop where
  bitsLt_bf16_f32 : FTy.bits .bf16 < FTy.bits .f32
  bcast_S_S2x8448x8x128 : S_.BroadcastsInDim S2x8448x8x128 (![] : Fin 0 → Fin S2x8448x8x128.rank)
  bcast_S_S64 : S_.BroadcastsInDim S64 (![] : Fin 0 → Fin S64.rank)

variable [Facts]

def fn {F : FTy → Type} [FloatOps F] (main_arg0 : FVec F S2x8192x8x2x64 .bf16) (main_arg1 : FVec F S2x8448x8x2x64 .bf16) (main_arg2 : FVec F S2x8448x8x128 .bf16) (main_arg3 : FVec F S64 .f32) (main_arg4 : FVec F S64 .f32) (main_arg5 : FVec F S64 .f32) (main_arg6 : FVec F S64 .f32) (main_arg7 : FVec F S128 .f32) : IVec S2x8448x8x128 1 × IVec S64 1 × IVec S64 1 × IVec S64 1 × IVec S64 1 :=
  let main_v0 : FVec F S2x8448x8x128 .f32 := (extf .f32 · bitsLt_bf16_f32) main_arg2
  let main_v1 : FVec F S2x8448x8x128 .f32 := Host.absf main_v0
  let main_cst : FVec F S_ .f32 := constant S_ .f32 0x7F800000#32
  let main_v2 : FVec F S2x8448x8x128 .f32 := broadcastInDim S2x8448x8x128 ![] bcast_S_S2x8448x8x128 main_cst
  let main_v3 : IVec S2x8448x8x128 1 := cmpf .olt main_v1 main_v2
  let main_v4 : FVec F S64 .f32 := Host.absf main_arg3
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_v7 : FVec F S64 .f32 := Host.absf main_arg4
  let main_cst_1 : FVec F S_ .f32 := constant S_ .f32 0x7F800000#32
  let main_v8 : FVec F S64 .f32 := broadcastInDim S64 ![] bcast_S_S64 main_cst_1
  let main_v9 : IVec S64 1 := cmpf .olt main_v7 main_v8
  let main_v10 : FVec F S64 .f32 := Host.absf main_arg5
  let main_cst_2 : FVec F S_ .f32 := constant S_ .f32 0x7F800000#32
  let main_v11 : FVec F S64 .f32 := broadcastInDim S64 ![] bcast_S_S64 main_cst_2
  let main_v12 : IVec S64 1 := cmpf .olt main_v10 main_v11
  let main_v13 : FVec F S64 .f32 := Host.absf main_arg6
  let main_cst_3 : FVec F S_ .f32 := constant S_ .f32 0x7F800000#32
  let main_v14 : FVec F S64 .f32 := broadcastInDim S64 ![] bcast_S_S64 main_cst_3
  let main_v15 : IVec S64 1 := cmpf .olt main_v13 main_v14
  (main_v3, main_v6, main_v9, main_v12, main_v15)
-- ==== Kernel.lean ====
abbrev S2x8192x4x4x64 : Shape := ⟨5, ![2, 8192, 4, 4, 64]⟩
abbrev S2x8448x4x64 : Shape := ⟨4, ![2, 8448, 4, 64]⟩
abbrev S2x4x4x8192x64 : Shape := ⟨5, ![2, 4, 4, 8192, 64]⟩
abbrev S2x2x2x4x8192x64 : Shape := ⟨6, ![2, 2, 2, 4, 8192, 64]⟩
abbrev S_ : Shape := ⟨0, ![]⟩
abbrev S2x2x1x4x8192x64 : Shape := ⟨6, ![2, 2, 1, 4, 8192, 64]⟩
abbrev S2x2x1x4x8192x128 : Shape := ⟨6, ![2, 2, 1, 4, 8192, 128]⟩
abbrev S2x2x2x4x8192x128 : Shape := ⟨6, ![2, 2, 2, 4, 8192, 128]⟩
abbrev S2x16x8192x128 : Shape := ⟨4, ![2, 16, 8192, 128]⟩
abbrev S2x8448x256 : Shape := ⟨3, ![2, 8448, 256]⟩
abbrev S2x256x8448 : Shape := ⟨3, ![2, 256, 8448]⟩
abbrev S2x8192x1024 : Shape := ⟨3, ![2, 8192, 1024]⟩
abbrev S1x4x1024x128 : Shape := ⟨4, ![1, 4, 1024, 128]⟩
abbrev S1x8448x128 : Shape := ⟨3, ![1, 8448, 128]⟩
abbrev S1x64x8448 : Shape := ⟨3, ![1, 64, 8448]⟩
abbrev S1x1024x256 : Shape := ⟨3, ![1, 1024, 256]⟩
abbrev S128x4096 : Shape := ⟨2, ![128, 4096]⟩
abbrev S2x768x4096 : Shape := ⟨3, ![2, 768, 4096]⟩
abbrev S2x8x4096 : Shape := ⟨3, ![2, 8, 4096]⟩
abbrev S1x4096 : Shape := ⟨2, ![1, 4096]⟩
abbrev S80x4096 : Shape := ⟨2, ![80, 4096]⟩
abbrev S4x1024x128 : Shape := ⟨3, ![4, 1024, 128]⟩
abbrev S4096x128 : Shape := ⟨2, ![4096, 128]⟩
abbrev S64x4096 : Shape := ⟨2, ![64, 4096]⟩
abbrev S16x4096 : Shape := ⟨2, ![16, 4096]⟩
abbrev S16x768 : Shape := ⟨2, ![16, 768]⟩
abbrev S1x768x128 : Shape := ⟨3, ![1, 768, 128]⟩
abbrev S768x128 : Shape := ⟨2, ![768, 128]⟩
abbrev S128x256 : Shape := ⟨2, ![128, 256]⟩
abbrev S768x256 : Shape := ⟨2, ![768, 256]⟩
abbrev S1x768x256 : Shape := ⟨3, ![1, 768, 256]⟩
abbrev S96x8x256 : Shape := ⟨3, ![96, 8, 256]⟩
abbrev S8x256 : Shape := ⟨2, ![8, 256]⟩
abbrev S1x8x256 : Shape := ⟨3, ![1, 8, 256]⟩
abbrev S1x64x768 : Shape := ⟨3, ![1, 64, 768]⟩
abbrev S64x768 : Shape := ⟨2, ![64, 768]⟩
abbrev S80x768 : Shape := ⟨2, ![80, 768]⟩
abbrev S1x256 : Shape := ⟨2, ![1, 256]⟩
abbrev S256 : Shape := ⟨1, ![256]⟩
abbrev S80x256 : Shape := ⟨2, ![80, 256]⟩
abbrev S64x1024 : Shape := ⟨2, ![64, 1024]⟩
abbrev S128x1024 : Shape := ⟨2, ![128, 1024]⟩
abbrev S1024x128 : Shape := ⟨2, ![1024, 128]⟩
abbrev S1x1024x128 : Shape := ⟨3, ![1, 1024, 128]⟩

abbrev nBuf : Space → Nat
  | .hbm => 17
  | .vmem => 13
  | .smem => 0
  | _ => 0

abbrev bufTy : (tb : Table) → Fin (tcTables nBuf tb) → BufTy
  | .hbm, ⟨0, _⟩ => ⟨S2x8192x4x4x64, .bf16⟩
  | .hbm, ⟨1, _⟩ => ⟨S2x8448x4x64, .bf16⟩
  | .hbm, ⟨2, _⟩ => ⟨S2x8448x4x64, .bf16⟩
  | .hbm, ⟨3, _⟩ => ⟨S2x4x4x8192x64, .bf16⟩
  | .hbm, ⟨4, _⟩ => ⟨S2x2x2x4x8192x64, .bf16⟩
  | .hbm, ⟨5, _⟩ => ⟨S_, .bf16⟩
  | .hbm, ⟨6, _⟩ => ⟨S2x2x1x4x8192x64, .bf16⟩
  | .hbm, ⟨7, _⟩ => ⟨S2x2x1x4x8192x64, .bf16⟩
  | .hbm, ⟨8, _⟩ => ⟨S2x2x1x4x8192x128, .bf16⟩
  | .hbm, ⟨9, _⟩ => ⟨S2x2x1x4x8192x64, .bf16⟩
  | .hbm, ⟨10, _⟩ => ⟨S2x2x1x4x8192x128, .bf16⟩
  | .hbm, ⟨11, _⟩ => ⟨S2x2x2x4x8192x128, .bf16⟩
  | .hbm, ⟨12, _⟩ => ⟨S2x16x8192x128, .bf16⟩
  | .hbm, ⟨13, _⟩ => ⟨S2x8448x256, .bf16⟩
  | .hbm, ⟨14, _⟩ => ⟨S2x8448x256, .bf16⟩
  | .hbm, ⟨15, _⟩ => ⟨S2x256x8448, .bf16⟩
  | .hbm, ⟨16, _⟩ => ⟨S2x8192x1024, .bf16⟩
  | .local _ .vmem, ⟨0, _⟩ => ⟨S1x4x1024x128, .bf16⟩
  | .local _ .vmem, ⟨1, _⟩ => ⟨S1x4x1024x128, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x64x8448, .bf16⟩
  | .local _ .vmem, ⟨5, _⟩ => ⟨S1x64x8448, .bf16⟩
  | .local _ .vmem, ⟨6, _⟩ => ⟨S1x1024x256, .bf16⟩
  | .local _ .vmem, ⟨7, _⟩ => ⟨S1x1024x256, .bf16⟩
  | .local _ .vmem, ⟨8, _⟩ => ⟨S128x4096, .bf16⟩
  | .local _ .vmem, ⟨9, _⟩ => ⟨S2x768x4096, .f32⟩
  | .local _ .vmem, ⟨10, _⟩ => ⟨S2x8x4096, .f32⟩
  | .local _ .vmem, ⟨11, _⟩ => ⟨S1x4096, .f32⟩
  | .local _ .vmem, ⟨12, _⟩ => ⟨S80x4096, .f32⟩
  | _, _ => ⟨S2x8192x4x4x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

@[reducible] def k0_t1_loop : Scf.Loop 32 :=
  let c0_i32 : BitVec 32 := 0#32
  let c2_i32 : BitVec 32 := 2#32
  let v186 : BitVec 32 := Scalar.addi c0_i32 c2_i32
  let c1_i32 : BitVec 32 := 1#32
  ⟨c0_i32, v186, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c4_i32 : BitVec 32 := 4#32
  let v1785 : BitVec 32 := Scalar.muli arg12 c4_i32
  let c0_i32_1271 : BitVec 32 := 0#32
  let v1786 : BitVec 32 := Scalar.addi v1785 c0_i32_1271
  let c1_i32_1272 : BitVec 32 := 1#32
  let v1787 : BitVec 32 := Scalar.addi v1786 c1_i32_1272
  let c768_i32 : BitVec 32 := 768#32
  let v1789 : BitVec 32 := Scalar.muli v1787 c768_i32
  v1789
def k0_off1 (k0_t1 : Fin k0_t1_loop.trips) (c0_i32_1271 : BitVec 32) : Fin 3 → Nat :=
  let c0_1274 : Index := 0#32
  let c0_i32 : BitVec 32 := 0#32
  let c1_i32 : BitVec 32 := 1#32
  let arg12 : BitVec 32 := Scf.iv c0_i32 c1_i32 k0_t1
  let c4_i32 : BitVec 32 := 4#32
  let v1785 : BitVec 32 := Scalar.muli arg12 c4_i32
  let v1786 : BitVec 32 := Scalar.addi v1785 c0_i32_1271
  let c1_i32_1272 : BitVec 32 := 1#32
  let v1787 : BitVec 32 := Scalar.addi v1786 c1_i32_1272
  let c768_i32 : BitVec 32 := 768#32
  let v1789 : BitVec 32 := Scalar.muli v1787 c768_i32
  let v1790 : BitVec 32 := v1789
  let v1791 : Index := Scalar.indexCast v1790
  let c0_1275 : Index := 0#32
  ![0, v1791.toNat, 0]
def k0_mult2 (k0_t1 : Fin k0_t1_loop.trips) : BitVec 32 :=
  let c0_i32 : BitVec 32 := 0#32
  let c1_i32 : BitVec 32 := 1#32
  let arg12 : BitVec 32 := Scf.iv c0_i32 c1_i32 k0_t1
  let c4_i32 : BitVec 32 := 4#32
  let v1785 : BitVec 32 := Scalar.muli arg12 c4_i32
  let c0_i32_1273 : BitVec 32 := 0#32
  let v1788 : BitVec 32 := Scalar.addi v1785 c0_i32_1273
  let c768_i32_1276 : BitVec 32 := 768#32
  let v1794 : BitVec 32 := Scalar.muli v1788 c768_i32_1276
  v1794
def k0_off2 (k0_t1 : Fin k0_t1_loop.trips) (c0_i32_1273 : BitVec 32) : Fin 3 → Nat :=
  let c0_1277 : Index := 0#32
  let c0_1278 : Index := 0#32
  let c0_i32 : BitVec 32 := 0#32
  let c1_i32 : BitVec 32 := 1#32
  let arg12 : BitVec 32 := Scf.iv c0_i32 c1_i32 k0_t1
  let c4_i32 : BitVec 32 := 4#32
  let v1785 : BitVec 32 := Scalar.muli arg12 c4_i32
  let v1788 : BitVec 32 := Scalar.addi v1785 c0_i32_1273
  let c768_i32_1276 : BitVec 32 := 768#32
  let v1794 : BitVec 32 := Scalar.muli v1788 c768_i32_1276
  let v1795 : BitVec 32 := v1794
  let v1796 : Index := Scalar.indexCast v1795
  ![0, 0, v1796.toNat]
def k0_mult3 (k0_t1 : Fin k0_t1_loop.trips) : BitVec 32 :=
  let c0_i32 : BitVec 32 := 0#32
  let c1_i32 : BitVec 32 := 1#32
  let arg12 : BitVec 32 := Scf.iv c0_i32 c1_i32 k0_t1
  let c4_i32 : BitVec 32 := 4#32
  let v1785 : BitVec 32 := Scalar.muli arg12 c4_i32
  let c1_i32_1695 : BitVec 32 := 1#32
  let v2375 : BitVec 32 := Scalar.addi v1785 c1_i32_1695
  let c1_i32_1696 : BitVec 32 := 1#32
  let v2376 : BitVec 32 := Scalar.addi v2375 c1_i32_1696
  let c768_i32_1698 : BitVec 32 := 768#32
  let v2378 : BitVec 32 := Scalar.muli v2376 c768_i32_1698
  v2378
def k0_mult4 (k0_t1 : Fin k0_t1_loop.trips) : BitVec 32 :=
  let c0_i32 : BitVec 32 := 0#32
  let c1_i32 : BitVec 32 := 1#32
  let arg12 : BitVec 32 := Scf.iv c0_i32 c1_i32 k0_t1
  let c4_i32 : BitVec 32 := 4#32
  let v1785 : BitVec 32 := Scalar.muli arg12 c4_i32
  let c1_i32_1697 : BitVec 32 := 1#32
  let v2377 : BitVec 32 := Scalar.addi v1785 c1_i32_1697
  let c768_i32_1701 : BitVec 32 := 768#32
  let v2383 : BitVec 32 := Scalar.muli v2377 c768_i32_1701
  v2383
def k0_mult5 (k0_t1 : Fin k0_t1_loop.trips) : BitVec 32 :=
  let c0_i32 : BitVec 32 := 0#32
  let c1_i32 : BitVec 32 := 1#32
  let arg12 : BitVec 32 := Scf.iv c0_i32 c1_i32 k0_t1
  let c4_i32 : BitVec 32 := 4#32
  let v1785 : BitVec 32 := Scalar.muli arg12 c4_i32
  let c2_i32_2120 : BitVec 32 := 2#32
  let v2964 : BitVec 32 := Scalar.addi v1785 c2_i32_2120
  let c1_i32_2121 : BitVec 32 := 1#32
  let v2965 : BitVec 32 := Scalar.addi v2964 c1_i32_2121
  let c768_i32_2123 : BitVec 32 := 768#32
  let v2967 : BitVec 32 := Scalar.muli v2965 c768_i32_2123
  v2967
def k0_mult6 (k0_t1 : Fin k0_t1_loop.trips) : BitVec 32 :=
  let c0_i32 : BitVec 32 := 0#32
  let c1_i32 : BitVec 32 := 1#32
  let arg12 : BitVec 32 := Scf.iv c0_i32 c1_i32 k0_t1
  let c4_i32 : BitVec 32 := 4#32
  let v1785 : BitVec 32 := Scalar.muli arg12 c4_i32
  let c2_i32_2122 : BitVec 32 := 2#32
  let v2966 : BitVec 32 := Scalar.addi v1785 c2_i32_2122
  let c768_i32_2126 : BitVec 32 := 768#32
  let v2972 : BitVec 32 := Scalar.muli v2966 c768_i32_2126
  v2972
def k0_mult7 (k0_t1 : Fin k0_t1_loop.trips) : BitVec 32 :=
  let c0_i32 : BitVec 32 := 0#32
  let c1_i32 : BitVec 32 := 1#32
  let arg12 : BitVec 32 := Scf.iv c0_i32 c1_i32 k0_t1
  let c4_i32 : BitVec 32 := 4#32
  let v1785 : BitVec 32 := Scalar.muli arg12 c4_i32
  let c3_i32 : BitVec 32 := 3#32
  let v3553 : BitVec 32 := Scalar.addi v1785 c3_i32
  let c1_i32_2545 : BitVec 32 := 1#32
  let v3554 : BitVec 32 := Scalar.addi v3553 c1_i32_2545
  let c768_i32_2547 : BitVec 32 := 768#32
  let v3556 : BitVec 32 := Scalar.muli v3554 c768_i32_2547
  v3556
def k0_mult8 (k0_t1 : Fin k0_t1_loop.trips) : BitVec 32 :=
  let c0_i32 : BitVec 32 := 0#32
  let c1_i32 : BitVec 32 := 1#32
  let arg12 : BitVec 32 := Scf.iv c0_i32 c1_i32 k0_t1
  let c4_i32 : BitVec 32 := 4#32
  let v1785 : BitVec 32 := Scalar.muli arg12 c4_i32
  let c3_i32_2546 : BitVec 32 := 3#32
  let v3555 : BitVec 32 := Scalar.addi v1785 c3_i32_2546
  let c768_i32_2550 : BitVec 32 := 768#32
  let v3561 : BitVec 32 := Scalar.muli v3555 c768_i32_2550
  v3561
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x64x8448 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "scale" => some (((Real.log 256)⁻¹ : ℝ) : EReal)
  | _ => none
-- ==== ReferenceIdeal.lean ====
abbrev S2x8192x4x4x64 : Shape := ⟨5, ![2, 8192, 4, 4, 64]⟩
abbrev S2x8448x4x64 : Shape := ⟨4, ![2, 8448, 4, 64]⟩
abbrev S2x4x8448x8192x4 : Shape := ⟨5, ![2, 4, 8448, 8192, 4]⟩
abbrev S2x4x4x8192x8448 : Shape := ⟨5, ![2, 4, 4, 8192, 8448]⟩
abbrev S_ : Shape := ⟨0, ![]⟩
abbrev S2x4x4x8192 : Shape := ⟨4, ![2, 4, 4, 8192]⟩
abbrev S2x4x4x8192x1 : Shape := ⟨5, ![2, 4, 4, 8192, 1]⟩
abbrev S2x4x64x4x8192 : Shape := ⟨5, ![2, 4, 64, 4, 8192]⟩
abbrev S2x8192x1024 : Shape := ⟨3, ![2, 8192, 1024]⟩

abbrev nBuf : Space → Nat
  | .hbm => 31
  | .vmem => 0
  | .smem => 0
  | _ => 0

abbrev bufTy : (tb : Table) → Fin (tcTables nBuf tb) → BufTy
  | .hbm, ⟨0, _⟩ => ⟨S2x8192x4x4x64, .bf16⟩
  | .hbm, ⟨1, _⟩ => ⟨S2x8448x4x64, .bf16⟩
  | .hbm, ⟨2, _⟩ => ⟨S2x8448x4x64, .bf16⟩
  | .hbm, ⟨3, _⟩ => ⟨S2x8192x4x4x64, .f32⟩
  | .hbm, ⟨4, _⟩ => ⟨S2x8448x4x64, .f32⟩
  | .hbm, ⟨5, _⟩ => ⟨S2x4x8448x8192x4, .f32⟩
  | .hbm, ⟨6, _⟩ => ⟨S2x4x4x8192x8448, .f32⟩
  | .hbm, ⟨7, _⟩ => ⟨S_, .f32⟩
  | .hbm, ⟨8, _⟩ => ⟨S2x4x4x8192x8448, .f32⟩
  | .hbm, ⟨9, _⟩ => ⟨S2x4x4x8192x8448, .f32⟩
  | .hbm, ⟨10, _⟩ => ⟨S_, .f32⟩
  | .hbm, ⟨11, _⟩ => ⟨S2x4x4x8192, .f32⟩
  | .hbm, ⟨12, _⟩ => ⟨S_, .f32⟩
  | .hbm, ⟨13, _⟩ => ⟨S2x4x4x8192, .f32⟩
  | .hbm, ⟨14, _⟩ => ⟨S2x4x4x8192, .f32⟩
  | .hbm, ⟨15, _⟩ => ⟨S2x4x4x8192x1, .f32⟩
  | .hbm, ⟨16, _⟩ => ⟨S2x4x4x8192x8448, .f32⟩
  | .hbm, ⟨17, _⟩ => ⟨S2x4x4x8192x8448, .f32⟩
  | .hbm, ⟨18, _⟩ => ⟨S2x4x4x8192x8448, .f32⟩
  | .hbm, ⟨19, _⟩ => ⟨S_, .f32⟩
  | .hbm, ⟨20, _⟩ => ⟨S2x4x4x8192, .f32⟩
  | .hbm, ⟨21, _⟩ => ⟨S2x4x4x8192x1, .f32⟩
  | .hbm, ⟨22, _⟩ => ⟨S2x4x4x8192x8448, .f32⟩
  | .hbm, ⟨23, _⟩ => ⟨S2x4x4x8192x8448, .f32⟩
  | .hbm, ⟨24, _⟩ => ⟨S2x4x4x8192x8448, .bf16⟩
  | .hbm, ⟨25, _⟩ => ⟨S2x4x4x8192x8448, .f32⟩
  | .hbm, ⟨26, _⟩ => ⟨S2x8448x4x64, .f32⟩
  | .hbm, ⟨27, _⟩ => ⟨S2x4x64x4x8192, .f32⟩
  | .hbm, ⟨28, _⟩ => ⟨S2x8192x4x4x64, .f32⟩
  | .hbm, ⟨29, _⟩ => ⟨S2x8192x4x4x64, .bf16⟩
  | .hbm, ⟨30, _⟩ => ⟨S2x8192x1024, .bf16⟩
  | _, _ => ⟨S2x8192x4x4x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x6144 : Shape := ⟨2, ![2, 6144]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S2x6x1024 : Shape := ⟨3, ![2, 6, 1024]⟩
abbrev S1x1024 : Shape := ⟨2, ![1, 1024]⟩
abbrev S1x512x1024 : Shape := ⟨3, ![1, 512, 1024]⟩
abbrev S1x6x1024 : Shape := ⟨3, ![1, 6, 1024]⟩
abbrev S512x1024 : Shape := ⟨2, ![512, 1024]⟩
abbrev S6x1024 : Shape := ⟨2, ![6, 1024]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S2x6144, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S2x6x1024, .f32⟩
  | .hbm, ⟨8, _⟩ => ⟨S1024x1024, .bf16⟩
  | .hbm, ⟨9, _⟩ => ⟨S1x1024, .f32⟩
  | .hbm, ⟨10, _⟩ => ⟨S1024x4096, .bf16⟩
  | .hbm, ⟨11, _⟩ => ⟨S4096x1024, .bf16⟩
  | .hbm, ⟨12, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x6x1024, .f32⟩
  | .local _ .vmem, ⟨5, _⟩ => ⟨S1x6x1024, .f32⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x512x1024, .f32⟩
  | .local _ .vmem, ⟨11, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S2x8192x1024 : Shape := ⟨3, ![2, 8192, 1024]⟩
abbrev S2x6144 : Shape := ⟨2, ![2, 6144]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S2x1x6144 : Shape := ⟨3, ![2, 1, 6144]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4096 : Shape := ⟨3, ![2, 8192, 4096]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S2x6144, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S2x1x6144, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x8192x1024, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S2x8192x1024, .f32⟩
  | .hbm, ⟨20, _⟩ => ⟨S_, .f32⟩
  | .hbm, ⟨21, _⟩ => ⟨S2x8192, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S2x8192x1, .f32⟩
  | .hbm, ⟨30, _⟩ => ⟨S2x8192x1024, .f32⟩
  | .hbm, ⟨31, _⟩ => ⟨S2x8192x1024, .f32⟩
  | .hbm, ⟨32, _⟩ => ⟨S1x1x1024, .f32⟩
  | .hbm, ⟨33, _⟩ => ⟨S2x8192x1024, .f32⟩
  | .hbm, ⟨34, _⟩ => ⟨S2x8192x1024, .f32⟩
  | .hbm, ⟨35, _⟩ => ⟨S_, .f32⟩
  | .hbm, ⟨36, _⟩ => ⟨S2x1x1024, .f32⟩
  | .hbm, ⟨37, _⟩ => ⟨S2x1x1024, .f32⟩
  | .hbm, ⟨38, _⟩ => ⟨S2x8192x1024, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S2x8192x4096, .f32⟩
  | .hbm, ⟨43, _⟩ => ⟨S_, .f32⟩
  | .hbm, ⟨44, _⟩ => ⟨S2x8192x4096, .f32⟩
  | .hbm, ⟨45, _⟩ => ⟨S2x8192x4096, .f32⟩
  | .hbm, ⟨46, _⟩ => ⟨S2x8192x4096, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel3.lean ====
abbrev S2x8192x8x2x64 : Shape := ⟨5, ![2, 8192, 8, 2, 64]⟩
abbrev S2x8448x8x2x64 : Shape := ⟨5, ![2, 8448, 8, 2, 64]⟩
abbrev S2x8448x8x128 : Shape := ⟨4, ![2, 8448, 8, 128]⟩
abbrev S64 : Shape := ⟨1, ![64]⟩
abbrev S128 : Shape := ⟨1, ![128]⟩
abbrev S2x8x2x8192x64 : Shape := ⟨5, ![2, 8, 2, 8192, 64]⟩
abbrev S_ : Shape := ⟨0, ![]⟩
abbrev S2x8x1x8192x64 : Shape := ⟨5, ![2, 8, 1, 8192, 64]⟩
abbrev S2x8x1x8192x128 : Shape := ⟨5, ![2, 8, 1, 8192, 128]⟩
abbrev S2x8x2x8192x128 : Shape := ⟨5, ![2, 8, 2, 8192, 128]⟩
abbrev S2x16x8192x128 : Shape := ⟨4, ![2, 16, 8192, 128]⟩
abbrev S1x64 : Shape := ⟨2, ![1, 64]⟩
abbrev S4x64 : Shape := ⟨2, ![4, 64]⟩
abbrev S2x8448x1024 : Shape := ⟨3, ![2, 8448, 1024]⟩
abbrev S2x1024x8448 : Shape := ⟨3, ![2, 1024, 8448]⟩
abbrev S128x1 : Shape := ⟨2, ![128, 1]⟩
abbrev S2x8192x1024 : Shape := ⟨3, ![2, 8192, 1024]⟩
abbrev S1x2x2048x128 : Shape := ⟨4, ![1, 2, 2048, 128]⟩
abbrev S1x8448x128 : Shape := ⟨3, ![1, 8448, 128]⟩
abbrev S1x128x8448 : Shape := ⟨3, ![1, 128, 8448]⟩
abbrev S1x2048x128 : Shape := ⟨3, ![1, 2048, 128]⟩
abbrev S128x4096 : Shape := ⟨2, ![128, 4096]⟩
abbrev S2x768x4096 : Shape := ⟨3, ![2, 768, 4096]⟩
abbrev S2x8x4096 : Shape := ⟨3, ![2, 8, 4096]⟩
abbrev S1x4096 : Shape := ⟨2, ![1, 4096]⟩
abbrev S144x4096 : Shape := ⟨2, ![144, 4096]⟩
abbrev S2x2048x128 : Shape := ⟨3, ![2, 2048, 128]⟩
abbrev S4096x128 : Shape := ⟨2, ![4096, 128]⟩
abbrev S16x4096 : Shape := ⟨2, ![16, 4096]⟩
abbrev S16x768 : Shape := ⟨2, ![16, 768]⟩
abbrev S1x768x128 : Shape := ⟨3, ![1, 768, 128]⟩
abbrev S768x128 : Shape := ⟨2, ![768, 128]⟩
abbrev S128x256 : Shape := ⟨2, ![128, 256]⟩
abbrev S768x256 : Shape := ⟨2, ![768, 256]⟩
abbrev S1x768x256 : Shape := ⟨3, ![1, 768, 256]⟩
abbrev S96x8x256 : Shape := ⟨3, ![96, 8, 256]⟩
abbrev S8x256 : Shape := ⟨2, ![8, 256]⟩
abbrev S1x8x256 : Shape := ⟨3, ![1, 8, 256]⟩
abbrev S1x128x768 : Shape := ⟨3, ![1, 128, 768]⟩
abbrev S128x768 : Shape := ⟨2, ![128, 768]⟩
abbrev S144x768 : Shape := ⟨2, ![144, 768]⟩
abbrev S1x256 : Shape := ⟨2, ![1, 256]⟩
abbrev S256 : Shape := ⟨1, ![256]⟩
abbrev S144x256 : Shape := ⟨2, ![144, 256]⟩
abbrev S1 : Shape := ⟨1, ![1]⟩
abbrev S1x1 : Shape := ⟨2, ![1, 1]⟩
abbrev S128x2048 : Shape := ⟨2, ![128, 2048]⟩
abbrev S2048 : Shape := ⟨1, ![2048]⟩
abbrev S1x2048 : Shape := ⟨2, ![1, 2048]⟩
abbrev S2048x128 : Shape := ⟨2, ![2048, 128]⟩

abbrev nBuf : Space → Nat
  | .hbm => 27
  | .vmem => 15
  | .smem => 0
  | _ => 0

abbrev bufTy : (tb : Table) → Fin (tcTables nBuf tb) → BufTy
  | .hbm, ⟨0, _⟩ => ⟨S2x8192x8x2x64, .bf16⟩
  | .hbm, ⟨1, _⟩ => ⟨S2x8448x8x2x64, .bf16⟩
  | .hbm, ⟨2, _⟩ => ⟨S2x8448x8x128, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S2x8x2x8192x64, .bf16⟩
  | .hbm, ⟨9, _⟩ => ⟨S_, .bf16⟩
  | .hbm, ⟨10, _⟩ => ⟨S2x8x1x8192x64, .bf16⟩
  | .hbm, ⟨11, _⟩ => ⟨S2x8x1x8192x64, .bf16⟩
  | .hbm, ⟨12, _⟩ => ⟨S2x8x1x8192x128, .bf16⟩
  | .hbm, ⟨13, _⟩ => ⟨S2x8x1x8192x64, .bf16⟩
  | .hbm, ⟨14, _⟩ => ⟨S2x8x1x8192x128, .bf16⟩
  | .hbm, ⟨15, _⟩ => ⟨S2x8x2x8192x128, .bf16⟩
  | .hbm, ⟨16, _⟩ => ⟨S2x16x8192x128, .bf16⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S4x64, .f32⟩
  | .hbm, ⟨22, _⟩ => ⟨S2x8448x1024, .bf16⟩
  | .hbm, ⟨23, _⟩ => ⟨S2x8448x1024, .bf16⟩
  | .hbm, ⟨24, _⟩ => ⟨S2x1024x8448, .bf16⟩
  | .hbm, ⟨25, _⟩ => ⟨S128x1, .f32⟩
  | .hbm, ⟨26, _⟩ => ⟨S2x8192x1024, .bf16⟩
  | .local _ .vmem, ⟨0, _⟩ => ⟨S1x2x2048x128, .bf16⟩
  | .local _ .vmem, ⟨1, _⟩ => ⟨S1x2x2048x128, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x128x8448, .bf16⟩
  | .local _ .vmem, ⟨5, _⟩ => ⟨S1x128x8448, .bf16⟩
  | .local _ .vmem, ⟨6, _⟩ => ⟨S4x64, .f32⟩
  | .local _ .vmem, ⟨7, _⟩ => ⟨S128x1, .f32⟩
  | .local _ .vmem, ⟨8, _⟩ => ⟨S1x2048x128, .bf16⟩
  | .local _ .vmem, ⟨9, _⟩ => ⟨S1x2048x128, .bf16⟩
  | .local _ .vmem, ⟨10, _⟩ => ⟨S128x4096, .bf16⟩
  | .local _ .vmem, ⟨11, _⟩ => ⟨S2x768x4096, .f32⟩
  | .local _ .vmem, ⟨12, _⟩ => ⟨S2x8x4096, .f32⟩
  | .local _ .vmem, ⟨13, _⟩ => ⟨S1x4096, .f32⟩
  | .local _ .vmem, ⟨14, _⟩ => ⟨S144x4096, .f32⟩
  | _, _ => ⟨S2x8192x8x2x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 8, 4], ![false, false, false]⟩

@[reducible] def k0_t1_loop : Scf.Loop 32 :=
  let c0_i32 : BitVec 32 := 0#32
  let c2_i32 : BitVec 32 := 2#32
  let v186 : BitVec 32 := Scalar.addi c0_i32 c2_i32
  let c1_i32 : BitVec 32 := 1#32
  ⟨c0_i32, v186, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c4_i32 : BitVec 32 := 4#32
  let v1812 : BitVec 32 := Scalar.muli arg14 c4_i32
  let c0_i32_1280 : BitVec 32 := 0#32
  let v1813 : BitVec 32 := Scalar.addi v1812 c0_i32_1280
  let c1_i32_1281 : BitVec 32 := 1#32
  let v1814 : BitVec 32 := Scalar.addi v1813 c1_i32_1281
  let c768_i32 : BitVec 32 := 768#32
  let v1816 : BitVec 32 := Scalar.muli v1814 c768_i32
  v1816
def k0_off1 (k0_t1 : Fin k0_t1_loop.trips) (c0_i32_1280 : BitVec 32) : Fin 3 → Nat :=
  let c0_1283 : Index := 0#32
  let c0_i32 : BitVec 32 := 0#32
  let c1_i32 : BitVec 32 := 1#32
  let arg14 : BitVec 32 := Scf.iv c0_i32 c1_i32 k0_t1
  let c4_i32 : BitVec 32 := 4#32
  let v1812 : BitVec 32 := Scalar.muli arg14 c4_i32
  let v1813 : BitVec 32 := Scalar.addi v1812 c0_i32_1280
  let c1_i32_1281 : BitVec 32 := 1#32
  let v1814 : BitVec 32 := Scalar.addi v1813 c1_i32_1281
  let c768_i32 : BitVec 32 := 768#32
  let v1816 : BitVec 32 := Scalar.muli v1814 c768_i32
  let v1817 : BitVec 32 := v1816
  let v1818 : Index := Scalar.indexCast v1817
  let c0_1284 : Index := 0#32
  ![0, v1818.toNat, 0]
def k0_mult2 (k0_t1 : Fin k0_t1_loop.trips) : BitVec 32 :=
  let c0_i32 : BitVec 32 := 0#32
  let c1_i32 : BitVec 32 := 1#32
  let arg14 : BitVec 32 := Scf.iv c0_i32 c1_i32 k0_t1
  let c4_i32 : BitVec 32 := 4#32
  let v1812 : BitVec 32 := Scalar.muli arg14 c4_i32
  let c0_i32_1282 : BitVec 32 := 0#32
  let v1815 : BitVec 32 := Scalar.addi v1812 c0_i32_1282
  let c768_i32_1285 : BitVec 32 := 768#32
  let v1821 : BitVec 32 := Scalar.muli v1815 c768_i32_1285
  v1821
def k0_off2 (k0_t1 : Fin k0_t1_loop.trips) (c0_i32_1282 : BitVec 32) : Fin 3 → Nat :=
  let c0_1286 : Index := 0#32
  let c0_1287 : Index := 0#32
  let c0_i32 : BitVec 32 := 0#32
  let c1_i32 : BitVec 32 := 1#32
  let arg14 : BitVec 32 := Scf.iv c0_i32 c1_i32 k0_t1
  let c4_i32 : BitVec 32 := 4#32
  let v1812 : BitVec 32 := Scalar.muli arg14 c4_i32
  let v1815 : BitVec 32 := Scalar.addi v1812 c0_i32_1282
  let c768_i32_1285 : BitVec 32 := 768#32
  let v1821 : BitVec 32 := Scalar.muli v1815 c768_i32_1285
  let v1822 : BitVec 32 := v1821
  let v1823 : Index := Scalar.indexCast v1822
  ![0, 0, v1823.toNat]
def k0_mult3 (k0_t1 : Fin k0_t1_loop.trips) : BitVec 32 :=
  let c0_i32 : BitVec 32 := 0#32
  let c1_i32 : BitVec 32 := 1#32
  let arg14 : BitVec 32 := Scf.iv c0_i32 c1_i32 k0_t1
  let c4_i32 : BitVec 32 := 4#32
  let v1812 : BitVec 32 := Scalar.muli arg14 c4_i32
  let c1_i32_1704 : BitVec 32 := 1#32
  let v2402 : BitVec 32 := Scalar.addi v1812 c1_i32_1704
  let c1_i32_1705 : BitVec 32 := 1#32
  let v2403 : BitVec 32 := Scalar.addi v2402 c1_i32_1705
  let c768_i32_1707 : BitVec 32 := 768#32
  let v2405 : BitVec 32 := Scalar.muli v2403 c768_i32_1707
  v2405
def k0_mult4 (k0_t1 : Fin k0_t1_loop.trips) : BitVec 32 :=
  let c0_i32 : BitVec 32 := 0#32
  let c1_i32 : BitVec 32 := 1#32
  let arg14 : BitVec 32 := Scf.iv c0_i32 c1_i32 k0_t1
  let c4_i32 : BitVec 32 := 4#32
  let v1812 : BitVec 32 := Scalar.muli arg14 c4_i32
  let c1_i32_1706 : BitVec 32 := 1#32
  let v2404 : BitVec 32 := Scalar.addi v1812 c1_i32_1706
  let c768_i32_1710 : BitVec 32 := 768#32
  let v2410 : BitVec 32 := Scalar.muli v2404 c768_i32_1710
  v2410
def k0_mult5 (k0_t1 : Fin k0_t1_loop.trips) : BitVec 32 :=
  let c0_i32 : BitVec 32 := 0#32
  let c1_i32 : BitVec 32 := 1#32
  let arg14 : BitVec 32 := Scf.iv c0_i32 c1_i32 k0_t1
  let c4_i32 : BitVec 32 := 4#32
  let v1812 : BitVec 32 := Scalar.muli arg14 c4_i32
  let c2_i32_2129 : BitVec 32 := 2#32
  let v2991 : BitVec 32 := Scalar.addi v1812 c2_i32_2129
  let c1_i32_2130 : BitVec 32 := 1#32
  let v2992 : BitVec 32 := Scalar.addi v2991 c1_i32_2130
  let c768_i32_2132 : BitVec 32 := 768#32
  let v2994 : BitVec 32 := Scalar.muli v2992 c768_i32_2132
  v2994
def k0_mult6 (k0_t1 : Fin k0_t1_loop.trips) : BitVec 32 :=
  let c0_i32 : BitVec 32 := 0#32
  let c1_i32 : BitVec 32 := 1#32
  let arg14 : BitVec 32 := Scf.iv c0_i32 c1_i32 k0_t1
  let c4_i32 : BitVec 32 := 4#32
  let v1812 : BitVec 32 := Scalar.muli arg14 c4_i32
  let c2_i32_2131 : BitVec 32 := 2#32
  let v2993 : BitVec 32 := Scalar.addi v1812 c2_i32_2131
  let c768_i32_2135 : BitVec 32 := 768#32
  let v2999 : BitVec 32 := Scalar.muli v2993 c768_i32_2135
  v2999
def k0_mult7 (k0_t1 : Fin k0_t1_loop.trips) : BitVec 32 :=
  let c0_i32 : BitVec 32 := 0#32
  let c1_i32 : BitVec 32 := 1#32
  let arg14 : BitVec 32 := Scf.iv c0_i32 c1_i32 k0_t1
  let c4_i32 : BitVec 32 := 4#32
  let v1812 : BitVec 32 := Scalar.muli arg14 c4_i32
  let c3_i32 : BitVec 32 := 3#32
  let v3580 : BitVec 32 := Scalar.addi v1812 c3_i32
  let c1_i32_2554 : BitVec 32 := 1#32
  let v3581 : BitVec 32 := Scalar.addi v3580 c1_i32_2554
  let c768_i32_2556 : BitVec 32 := 768#32
  let v3583 : BitVec 32 := Scalar.muli v3581 c768_i32_2556
  v3583
def k0_mult8 (k0_t1 : Fin k0_t1_loop.trips) : BitVec 32 :=
  let c0_i32 : BitVec 32 := 0#32
  let c1_i32 : BitVec 32 := 1#32
  let arg14 : BitVec 32 := Scf.iv c0_i32 c1_i32 k0_t1
  let c4_i32 : BitVec 32 := 4#32
  let v1812 : BitVec 32 := Scalar.muli arg14 c4_i32
  let c3_i32_2555 : BitVec 32 := 3#32
  let v3582 : BitVec 32 := Scalar.addi v1812 c3_i32_2555
  let c768_i32_2559 : BitVec 32 := 768#32
  let v3588 : BitVec 32 := Scalar.muli v3582 c768_i32_2559
  v3588
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![arg0.toNat, c0_i32_5.toNat, v16.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x8448 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel3Ideal.lean ====
variable {F : FTy → Type} [FloatOps F] [Named F]
def κ : String → Option EReal := fun
  | "scale" => some (((Real.log 256)⁻¹ : ℝ) : EReal)
  | _ => none
-- ==== Reference3Ideal.lean ====
abbrev S2x8192x8x2x64 : Shape := ⟨5, ![2, 8192, 8, 2, 64]⟩
abbrev S2x8448x8x2x64 : Shape := ⟨5, ![2, 8448, 8, 2, 64]⟩
abbrev S2x8448x8x128 : Shape := ⟨4, ![2, 8448, 8, 128]⟩
abbrev S64 : Shape := ⟨1, ![64]⟩
abbrev S128 : Shape := ⟨1, ![128]⟩
abbrev S_ : Shape := ⟨0, ![]⟩
abbrev S2x2x8x8192x8448 : Shape := ⟨5, ![2, 2, 8, 8192, 8448]⟩
abbrev S2x2x8x8192 : Shape := ⟨4, ![2, 2, 8, 8192]⟩
abbrev S2x2x8x8192x1 : Shape := ⟨5, ![2, 2, 8, 8192, 1]⟩
abbrev S2x1x8x8192x8448 : Shape := ⟨5, ![2, 1, 8, 8192, 8448]⟩
abbrev S2x8x8192x8448 : Shape := ⟨4, ![2, 8, 8192, 8448]⟩
abbrev S2x8x128x8192 : Shape := ⟨4, ![2, 8, 128, 8192]⟩
abbrev S2x8192x8x128 : Shape := ⟨4, ![2, 8192, 8, 128]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩
abbrev S2x8192x1024 : Shape := ⟨3, ![2, 8192, 1024]⟩

abbrev nBuf : Space → Nat
  | .hbm => 70
  | .vmem => 0
  | .smem => 0
  | _ => 0

abbrev bufTy : (tb : Table) → Fin (tcTables nBuf tb) → BufTy
  | .hbm, ⟨0, _⟩ => ⟨S2x8192x8x2x64, .bf16⟩
  | .hbm, ⟨1, _⟩ => ⟨S2x8448x8x2x64, .bf16⟩
  | .hbm, ⟨2, _⟩ => ⟨S2x8448x8x128, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S2x8192x8x2x64, .f32⟩
  | .hbm, ⟨9, _⟩ => ⟨S2x8448x8x2x64, .f32⟩
  | .hbm, ⟨10, _⟩ => ⟨S2x8448x8x128, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x2x8x8192x8448, .f32⟩
  | .hbm, ⟨23, _⟩ => ⟨S_, .f32⟩
  | .hbm, ⟨24, _⟩ => ⟨S2x2x8x8192x8448, .f32⟩
  | .hbm, ⟨25, _⟩ => ⟨S2x2x8x8192x8448, .f32⟩
  | .hbm, ⟨26, _⟩ => ⟨S_, .f32⟩
  | .hbm, ⟨27, _⟩ => ⟨S2x2x8x8192, .f32⟩
  | .hbm, ⟨28, _⟩ => ⟨S_, .f32⟩
  | .hbm, ⟨29, _⟩ => ⟨S2x2x8x8192, .f32⟩
  | .hbm, ⟨30, _⟩ => ⟨S2x2x8x8192, .f32⟩
  | .hbm, ⟨31, _⟩ => ⟨S2x2x8x8192x1, .f32⟩
  | .hbm, ⟨32, _⟩ => ⟨S2x2x8x8192x8448, .f32⟩
  | .hbm, ⟨33, _⟩ => ⟨S2x2x8x8192x8448, .f32⟩
  | .hbm, ⟨34, _⟩ => ⟨S2x2x8x8192x8448, .f32⟩
  | .hbm, ⟨35, _⟩ => ⟨S_, .f32⟩
  | .hbm, ⟨36, _⟩ => ⟨S2x2x8x8192, .f32⟩
  | .hbm, ⟨37, _⟩ => ⟨S2x2x8x8192x1, .f32⟩
  | .hbm, ⟨38, _⟩ => ⟨S2x2x8x8192x8448, .f32⟩
  | .hbm, ⟨39, _⟩ => ⟨S2x2x8x8192x8448, .f32⟩
  | .hbm, ⟨40, _⟩ => ⟨S2x1x8x8192x8448, .f32⟩
  | .hbm, ⟨41, _⟩ => ⟨S2x8x8192x8448, .f32⟩
  | .hbm, ⟨42, _⟩ => ⟨S2x1x8x8192x8448, .f32⟩
  | .hbm, ⟨43, _⟩ => ⟨S2x8x8192x8448, .f32⟩
  | .hbm, ⟨44, _⟩ => ⟨S2x8x8192x8448, .f32⟩
  | .hbm, ⟨45, _⟩ => ⟨S2x8x8192x8448, .f32⟩
  | .hbm, ⟨46, _⟩ => ⟨S2x8x8192x8448, .f32⟩
  | .hbm, ⟨47, _⟩ => ⟨S2x8x128x8192, .f32⟩
  | .hbm, ⟨48, _⟩ => ⟨S2x8192x8x128, .f32⟩
  | .hbm, ⟨49, _⟩ => ⟨S2x8192x8x128, .f32⟩
  | .hbm, ⟨50, _⟩ => ⟨S_, .f32⟩
  | .hbm, ⟨51, _⟩ => ⟨S2x8192x8, .f32⟩
  | .hbm, ⟨52, _⟩ => ⟨S2x8192x8x1, .f32⟩
  | .hbm, ⟨53, _⟩ => ⟨S_, .f32⟩
  | .hbm, ⟨54, _⟩ => ⟨S2x8192x8x1, .f32⟩
  | .hbm, ⟨55, _⟩ => ⟨S2x8192x8x1, .f32⟩
  | .hbm, ⟨56, _⟩ => ⟨S_, .f32⟩
  | .hbm, ⟨57, _⟩ => ⟨S2x8192x8x1, .f32⟩
  | .hbm, ⟨58, _⟩ => ⟨S2x8192x8x1, .f32⟩
  | .hbm, ⟨59, _⟩ => ⟨S2x8192x8x1, .f32⟩
  | .hbm, ⟨60, _⟩ => ⟨S2x8192x8x128, .f32⟩
  | .hbm, ⟨61, _⟩ => ⟨S2x8192x8x128, .f32⟩
  | .hbm, ⟨62, _⟩ => ⟨S1x1x1x128, .f32⟩
  | .hbm, ⟨63, _⟩ => ⟨S2x8192x8x128, .f32⟩
  | .hbm, ⟨64, _⟩ => ⟨S2x8192x8x128, .f32⟩
  | .hbm, ⟨65, _⟩ => ⟨S_, .f32⟩
  | .hbm, ⟨66, _⟩ => ⟨S2x8192x8x128, .f32⟩
  | .hbm, ⟨67, _⟩ => ⟨S2x8192x8x128, .f32⟩
  | .hbm, ⟨68, _⟩ => ⟨S2x8192x1024, .f32⟩
  | .hbm, ⟨69, _⟩ => ⟨S2x8192x1024, .bf16⟩
  | _, _ => ⟨S2x8192x8x2x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel4.lean ====
abbrev S2x8192x1024 : Shape := ⟨3, ![2, 8192, 1024]⟩
abbrev S2x6144 : Shape := ⟨2, ![2, 6144]⟩
abbrev S31x1024 : Shape := ⟨2, ![31, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S2x6x1024 : Shape := ⟨3, ![2, 6, 1024]⟩
abbrev S1x1024 : Shape := ⟨2, ![1, 1024]⟩
abbrev S1x512x1024 : Shape := ⟨3, ![1, 512, 1024]⟩
abbrev S1x16x1024 : Shape := ⟨3, ![1, 16, 1024]⟩
abbrev S1x6x1024 : Shape := ⟨3, ![1, 6, 1024]⟩
abbrev S544x1024 : Shape := ⟨2, ![544, 1024]⟩
abbrev S512x1024 : Shape := ⟨2, ![512, 1024]⟩
abbrev S6x1024 : Shape := ⟨2, ![6, 1024]⟩
abbrev S16x1024 : Shape := ⟨2, ![16, 1024]⟩
abbrev S160x128 : Shape := ⟨2, ![160, 128]⟩
abbrev S128x128 : Shape := ⟨2, ![128, 128]⟩
abbrev S1x128 : Shape := ⟨2, ![1, 128]⟩
abbrev S512 : Shape := ⟨1, ![512]⟩
abbrev S512x1 : Shape := ⟨2, ![512, 1]⟩

abbrev nBuf : Space → Nat
  | .hbm => 22
  | .vmem => 23
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .bf16⟩
  | .hbm, ⟨2, _⟩ => ⟨S2x6144, .f32⟩
  | .hbm, ⟨3, _⟩ => ⟨S31x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x4096, .f32⟩
  | .hbm, ⟨11, _⟩ => ⟨S4096x1024, .f32⟩
  | .hbm, ⟨12, _⟩ => ⟨S2x6x1024, .f32⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S1024x4096, .bf16⟩
  | .hbm, ⟨17, _⟩ => ⟨S4096x1024, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .bf16⟩
  | .local _ .vmem, ⟨3, _⟩ => ⟨S1x16x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x16x1024, .bf16⟩
  | .local _ .vmem, ⟨7, _⟩ => ⟨S1x16x1024, .bf16⟩
  | .local _ .vmem, ⟨8, _⟩ => ⟨S31x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x6x1024, .f32⟩
  | .local _ .vmem, ⟨13, _⟩ => ⟨S1x6x1024, .f32⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1024x4096, .bf16⟩
  | .local _ .vmem, ⟨18, _⟩ => ⟨S4096x1024, .bf16⟩
  | .local _ .vmem, ⟨19, _⟩ => ⟨S1x512x1024, .f32⟩
  | .local _ .vmem, ⟨20, _⟩ => ⟨S1x512x1024, .f32⟩
  | .local _ .vmem, ⟨21, _⟩ => ⟨S544x1024, .f32⟩
  | .local _ .vmem, ⟨22, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_19 : BitVec 32 := 0#32
  let c4_i32 : BitVec 32 := 4#32
  let v28 : BitVec 32 := Scalar.addi c0_i32_19 c4_i32
  let c1_i32 : BitVec 32 := 1#32
  ⟨c0_i32_19, v28, c1_i32⟩
def k0_mult1 (k0_t1 : Fin k0_t1_loop.trips) : BitVec 32 :=
  let c0_i32_19 : BitVec 32 := 0#32
  let c1_i32 : BitVec 32 := 1#32
  let arg19 : BitVec 32 := Scf.iv c0_i32_19 c1_i32 k0_t1
  let c128_i32 : BitVec 32 := 128#32
  let v143 : BitVec 32 := Scalar.muli arg19 c128_i32
  v143
def k0_off1 (k0_t1 : Fin k0_t1_loop.trips) : Fin 2 → Nat :=
  let c0_i32_19 : BitVec 32 := 0#32
  let c1_i32 : BitVec 32 := 1#32
  let arg19 : BitVec 32 := Scf.iv c0_i32_19 c1_i32 k0_t1
  let c128_i32 : BitVec 32 := 128#32
  let v143 : BitVec 32 := Scalar.muli arg19 c128_i32
  let v144 : BitVec 32 := v143
  let v145 : Index := Scalar.indexCast v144
  let c0_72 : Index := 0#32
  ![v145.toNat, 0]
def k0_off2 (k0_t1 : Fin k0_t1_loop.trips) : Fin 2 → Nat :=
  let c0_i32_19 : BitVec 32 := 0#32
  let c1_i32 : BitVec 32 := 1#32
  let arg19 : BitVec 32 := Scf.iv c0_i32_19 c1_i32 k0_t1
  let c128_i32 : BitVec 32 := 128#32
  let v143 : BitVec 32 := Scalar.muli arg19 c128_i32
  let v144 : BitVec 32 := v143
  let v314 : Index := Scalar.indexCast v144
  let c0_109 : Index := 0#32
  ![v314.toNat, 0]
def k0_off3 (k0_t1 : Fin k0_t1_loop.trips) : Fin 2 → Nat :=
  let c0_i32_19 : BitVec 32 := 0#32
  let c1_i32 : BitVec 32 := 1#32
  let arg19 : BitVec 32 := Scf.iv c0_i32_19 c1_i32 k0_t1
  let c128_i32 : BitVec 32 := 128#32
  let v143 : BitVec 32 := Scalar.muli arg19 c128_i32
  let v144 : BitVec 32 := v143
  let v318 : Index := Scalar.indexCast v144
  let c128 : Index := 128#32
  ![v318.toNat, 128]
def k0_off4 (k0_t1 : Fin k0_t1_loop.trips) : Fin 2 → Nat :=
  let c0_i32_19 : BitVec 32 := 0#32
  let c1_i32 : BitVec 32 := 1#32
  let arg19 : BitVec 32 := Scf.iv c0_i32_19 c1_i32 k0_t1
  let c128_i32 : BitVec 32 := 128#32
  let v143 : BitVec 32 := Scalar.muli arg19 c128_i32
  let v144 : BitVec 32 := v143
  let v487 : Index := Scalar.indexCast v144
  let c128_182 : Index := 128#32
  ![v487.toNat, 128]
def k0_off5 (k0_t1 : Fin k0_t1_loop.trips) : Fin 2 → Nat :=
  let c0_i32_19 : BitVec 32 := 0#32
  let c1_i32 : BitVec 32 := 1#32
  let arg19 : BitVec 32 := Scf.iv c0_i32_19 c1_i32 k0_t1
  let c128_i32 : BitVec 32 := 128#32
  let v143 : BitVec 32 := Scalar.muli arg19 c128_i32
  let v144 : BitVec 32 := v143
  let v491 : Index := Scalar.indexCast v144
  let c256 : Index := 256#32
  ![v491.toNat, 256]
def k0_off6 (k0_t1 : Fin k0_t1_loop.trips) : Fin 2 → Nat :=
  let c0_i32_19 : BitVec 32 := 0#32
  let c1_i32 : BitVec 32 := 1#32
  let arg19 : BitVec 32 := Scf.iv c0_i32_19 c1_i32 k0_t1
  let c128_i32 : BitVec 32 := 128#32
  let v143 : BitVec 32 := Scalar.muli arg19 c128_i32
  let v144 : BitVec 32 := v143
  let v660 : Index := Scalar.indexCast v144
  let c256_255 : Index := 256#32
  ![v660.toNat, 256]
def k0_off7 (k0_t1 : Fin k0_t1_loop.trips) : Fin 2 → Nat :=
  let c0_i32_19 : BitVec 32 := 0#32
  let c1_i32 : BitVec 32 := 1#32
  let arg19 : BitVec 32 := Scf.iv c0_i32_19 c1_i32 k0_t1
  let c128_i32 : BitVec 32 := 128#32
  let v143 : BitVec 32 := Scalar.muli arg19 c128_i32
  let v144 : BitVec 32 := v143
  let v664 : Index := Scalar.indexCast v144
  let c384 : Index := 384#32
  ![v664.toNat, 384]
def k0_off8 (k0_t1 : Fin k0_t1_loop.trips) : Fin 2 → Nat :=
  let c0_i32_19 : BitVec 32 := 0#32
  let c1_i32 : BitVec 32 := 1#32
  let arg19 : BitVec 32 := Scf.iv c0_i32_19 c1_i32 k0_t1
  let c128_i32 : BitVec 32 := 128#32
  let v143 : BitVec 32 := Scalar.muli arg19 c128_i32
  let v144 : BitVec 32 := v143
  let v833 : Index := Scalar.indexCast v144
  let c384_328 : Index := 384#32
  ![v833.toNat, 384]
def k0_off9 (k0_t1 : Fin k0_t1_loop.trips) : Fin 2 → Nat :=
  let c0_i32_19 : BitVec 32 := 0#32
  let c1_i32 : BitVec 32 := 1#32
  let arg19 : BitVec 32 := Scf.iv c0_i32_19 c1_i32 k0_t1
  let c128_i32 : BitVec 32 := 128#32
  let v143 : BitVec 32 := Scalar.muli arg19 c128_i32
  let v144 : BitVec 32 := v143
  let v837 : Index := Scalar.indexCast v144
  let c512 : Index := 512#32
  ![v837.toNat, 512]
def k0_off10 (k0_t1 : Fin k0_t1_loop.trips) : Fin 2 → Nat :=
  let c0_i32_19 : BitVec 32 := 0#32
  let c1_i32 : BitVec 32 := 1#32
  let arg19 : BitVec 32 := Scf.iv c0_i32_19 c1_i32 k0_t1
  let c128_i32 : BitVec 32 := 128#32
  let v143 : BitVec 32 := Scalar.muli arg19 c128_i32
  let v144 : BitVec 32 := v143
  let v1006 : Index := Scalar.indexCast v144
  let c512_401 : Index := 512#32
  ![v1006.toNat, 512]
def k0_off11 (k0_t1 : Fin k0_t1_loop.trips) : Fin 2 → Nat :=
  let c0_i32_19 : BitVec 32 := 0#32
  let c1_i32 : BitVec 32 := 1#32
  let arg19 : BitVec 32 := Scf.iv c0_i32_19 c1_i32 k0_t1
  let c128_i32 : BitVec 32 := 128#32
  let v143 : BitVec 32 := Scalar.muli arg19 c128_i32
  let v144 : BitVec 32 := v143
  let v1010 : Index := Scalar.indexCast v144
  let c640 : Index := 640#32
  ![v1010.toNat, 640]
def k0_off12 (k0_t1 : Fin k0_t1_loop.trips) : Fin 2 → Nat :=
  let c0_i32_19 : BitVec 32 := 0#32
  let c1_i32 : BitVec 32 := 1#32
  let arg19 : BitVec 32 := Scf.iv c0_i32_19 c1_i32 k0_t1
  let c128_i32 : BitVec 32 := 128#32
  let v143 : BitVec 32 := Scalar.muli arg19 c128_i32
  let v144 : BitVec 32 := v143
  let v1179 : Index := Scalar.indexCast v144
  let c640_474 : Index := 640#32
  ![v1179.toNat, 640]
def k0_off13 (k0_t1 : Fin k0_t1_loop.trips) : Fin 2 → Nat :=
  let c0_i32_19 : BitVec 32 := 0#32
  let c1_i32 : BitVec 32 := 1#32
  let arg19 : BitVec 32 := Scf.iv c0_i32_19 c1_i32 k0_t1
  let c128_i32 : BitVec 32 := 128#32
  let v143 : BitVec 32 := Scalar.muli arg19 c128_i32
  let v144 : BitVec 32 := v143
  let v1183 : Index := Scalar.indexCast v144
  let c768 : Index := 768#32
  ![v1183.toNat, 768]
def k0_off14 (k0_t1 : Fin k0_t1_loop.trips) : Fin 2 → Nat :=
  let c0_i32_19 : BitVec 32 := 0#32
  let c1_i32 : BitVec 32 := 1#32
  let arg19 : BitVec 32 := Scf.iv c0_i32_19 c1_i32 k0_t1
  let c128_i32 : BitVec 32 := 128#32
  let v143 : BitVec 32 := Scalar.muli arg19 c128_i32
  let v144 : BitVec 32 := v143
  let v1352 : Index := Scalar.indexCast v144
  let c768_547 : Index := 768#32
  ![v1352.toNat, 768]
def k0_off15 (k0_t1 : Fin k0_t1_loop.trips) : Fin 2 → Nat :=
  let c0_i32_19 : BitVec 32 := 0#32
  let c1_i32 : BitVec 32 := 1#32
  let arg19 : BitVec 32 := Scf.iv c0_i32_19 c1_i32 k0_t1
  let c128_i32 : BitVec 32 := 128#32
  let v143 : BitVec 32 := Scalar.muli arg19 c128_i32
  let v144 : BitVec 32 := v143
  let v1356 : Index := Scalar.indexCast v144
  let c896 : Index := 896#32
  ![v1356.toNat, 896]
def k0_off16 (k0_t1 : Fin k0_t1_loop.trips) : Fin 2 → Nat :=
  let c0_i32_19 : BitVec 32 := 0#32
  let c1_i32 : BitVec 32 := 1#32
  let arg19 : BitVec 32 := Scf.iv c0_i32_19 c1_i32 k0_t1
  let c128_i32 : BitVec 32 := 128#32
  let v143 : BitVec 32 := Scalar.muli arg19 c128_i32
  let v144 : BitVec 32 := v143
  let v1525 : Index := Scalar.indexCast v144
  let c896_620 : Index := 896#32
  ![v1525.toNat, 896]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x6x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference4Ideal.lean ====
abbrev S2x8192x1024 : Shape := ⟨3, ![2, 8192, 1024]⟩
abbrev S2x6144 : Shape := ⟨2, ![2, 6144]⟩
abbrev S31x1024 : Shape := ⟨2, ![31, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S2x1x6144 : Shape := ⟨3, ![2, 1, 6144]⟩
abbrev S2x1x1024 : Shape := ⟨3, ![2, 1, 1024]⟩
abbrev S_ : Shape := ⟨0, ![]⟩
abbrev S2x8222x1024 : Shape := ⟨3, ![2, 8222, 1024]⟩
abbrev S1x1024 : Shape := ⟨2, ![1, 1024]⟩
abbrev S1x1x1024 : Shape := ⟨3, ![1, 1, 1024]⟩
abbrev S2x8192 : Shape := ⟨2, ![2, 8192]⟩
abbrev S2x8192x1 : Shape := ⟨3, ![2, 8192, 1]⟩
abbrev S2x8192x4096 : Shape := ⟨3, ![2, 8192, 4096]⟩

abbrev nBuf : Space → Nat
  | .hbm => 319
  | .vmem => 0
  | .smem => 0
  | _ => 0

abbrev hbmTy0_0 (i : Nat) : BufTy := match i % 128 with
  | 0 => ⟨S2x8192x1024, .f32⟩
  | 1 => ⟨S2x8192x1024, .bf16⟩
  | 2 => ⟨S2x6144, .f32⟩
  | 3 => ⟨S31x1024, .f32⟩
  | 4 => ⟨S1024, .f32⟩
  | 5 => ⟨S1024, .f32⟩
  | 6 => ⟨S1024, .f32⟩
  | 7 => ⟨S1024x1024, .f32⟩
  | 8 => ⟨S1024, .f32⟩
  | 9 => ⟨S1024, .f32⟩
  | 10 => ⟨S1024x4096, .f32⟩
  | 11 => ⟨S4096x1024, .f32⟩
  | 12 => ⟨S2x1x6144, .f32⟩
  | 13 => ⟨S2x1x1024, .f32⟩
  | 14 => ⟨S2x1x1024, .f32⟩
  | 15 => ⟨S2x1x1024, .f32⟩
  | 16 => ⟨S2x1x1024, .f32⟩
  | 17 => ⟨S2x1x1024, .f32⟩
  | 18 => ⟨S2x1x1024, .f32⟩
  | 19 => ⟨S2x8192x1024, .f32⟩
  | 20 => ⟨S_, .i32⟩
  | 21 => ⟨S_, .f32⟩
  | 22 => ⟨S2x8222x1024, .f32⟩
  | 23 => ⟨S2x8192x1024, .f32⟩
  | 24 => ⟨S1x1024, .f32⟩
  | 25 => ⟨S1024, .f32⟩
  | 26 => ⟨S1x1x1024, .f32⟩
  | 27 => ⟨S2x8192x1024, .f32⟩
  | 28 => ⟨S2x8192x1024, .f32⟩
  | 29 => ⟨S2x8192x1024, .f32⟩
  | 30 => ⟨S1x1024, .f32⟩
  | 31 => ⟨S1024, .f32⟩
  | 32 => ⟨S1x1x1024, .f32⟩
  | 33 => ⟨S2x8192x1024, .f32⟩
  | 34 => ⟨S2x8192x1024, .f32⟩
  | 35 => ⟨S2x8192x1024, .f32⟩
  | 36 => ⟨S2x8192x1024, .f32⟩
  | 37 => ⟨S1x1024, .f32⟩
  | 38 => ⟨S1024, .f32⟩
  | 39 => ⟨S1x1x1024, .f32⟩
  | 40 => ⟨S2x8192x1024, .f32⟩
  | 41 => ⟨S2x8192x1024, .f32⟩
  | 42 => ⟨S2x8192x1024, .f32⟩
  | 43 => ⟨S2x8192x1024, .f32⟩
  | 44 => ⟨S1x1024, .f32⟩
  | 45 => ⟨S1024, .f32⟩
  | 46 => ⟨S1x1x1024, .f32⟩
  | 47 => ⟨S2x8192x1024, .f32⟩
  | 48 => ⟨S2x8192x1024, .f32⟩
  | 49 => ⟨S2x8192x1024, .f32⟩
  | 50 => ⟨S2x8192x1024, .f32⟩
  | 51 => ⟨S1x1024, .f32⟩
  | 52 => ⟨S1024, .f32⟩
  | 53 => ⟨S1x1x1024, .f32⟩
  | 54 => ⟨S2x8192x1024, .f32⟩
  | 55 => ⟨S2x8192x1024, .f32⟩
  | 56 => ⟨S2x8192x1024, .f32⟩
  | 57 => ⟨S2x8192x1024, .f32⟩
  | 58 => ⟨S1x1024, .f32⟩
  | 59 => ⟨S1024, .f32⟩
  | 60 => ⟨S1x1x1024, .f32⟩
  | 61 => ⟨S2x8192x1024, .f32⟩
  | 62 => ⟨S2x8192x1024, .f32⟩
  | 63 => ⟨S2x8192x1024, .f32⟩
  | 64 => ⟨S2x8192x1024, .f32⟩
  | 65 => ⟨S1x1024, .f32⟩
  | 66 => ⟨S1024, .f32⟩
  | 67 => ⟨S1x1x1024, .f32⟩
  | 68 => ⟨S2x8192x1024, .f32⟩
  | 69 => ⟨S2x8192x1024, .f32⟩
  | 70 => ⟨S2x8192x1024, .f32⟩
  | 71 => ⟨S2x8192x1024, .f32⟩
  | 72 => ⟨S1x1024, .f32⟩
  | 73 => ⟨S1024, .f32⟩
  | 74 => ⟨S1x1x1024, .f32⟩
  | 75 => ⟨S2x8192x1024, .f32⟩
  | 76 => ⟨S2x8192x1024, .f32⟩
  | 77 => ⟨S2x8192x1024, .f32⟩
  | 78 => ⟨S2x8192x1024, .f32⟩
  | 79 => ⟨S1x1024, .f32⟩
  | 80 => ⟨S1024, .f32⟩
  | 81 => ⟨S1x1x1024, .f32⟩
  | 82 => ⟨S2x8192x1024, .f32⟩
  | 83 => ⟨S2x8192x1024, .f32⟩
  | 84 => ⟨S2x8192x1024, .f32⟩
  | 85 => ⟨S2x8192x1024, .f32⟩
  | 86 => ⟨S1x1024, .f32⟩
  | 87 => ⟨S1024, .f32⟩
  | 88 => ⟨S1x1x1024, .f32⟩
  | 89 => ⟨S2x8192x1024, .f32⟩
  | 90 => ⟨S2x8192x1024, .f32⟩
  | 91 => ⟨S2x8192x1024, .f32⟩
  | 92 => ⟨S2x8192x1024, .f32⟩
  | 93 => ⟨S1x1024, .f32⟩
  | 94 => ⟨S1024, .f32⟩
  | 95 => ⟨S1x1x1024, .f32⟩
  | 96 => ⟨S2x8192x1024, .f32⟩
  | 97 => ⟨S2x8192x1024, .f32⟩
  | 98 => ⟨S2x8192x1024, .f32⟩
  | 99 => ⟨S2x8192x1024, .f32⟩
  | 100 => ⟨S1x1024, .f32⟩
  | 101 => ⟨S1024, .f32⟩
  | 102 => ⟨S1x1x1024, .f32⟩
  | 103 => ⟨S2x8192x1024, .f32⟩
  | 104 => ⟨S2x8192x1024, .f32⟩
  | 105 => ⟨S2x8192x1024, .f32⟩
  | 106 => ⟨S2x8192x1024, .f32⟩
  | 107 => ⟨S1x1024, .f32⟩
  | 108 => ⟨S1024, .f32⟩
  | 109 => ⟨S1x1x1024, .f32⟩
  | 110 => ⟨S2x8192x1024, .f32⟩
  | 111 => ⟨S2x8192x1024, .f32⟩
  | 112 => ⟨S2x8192x1024, .f32⟩
  | 113 => ⟨S2x8192x1024, .f32⟩
  | 114 => ⟨S1x1024, .f32⟩
  | 115 => ⟨S1024, .f32⟩
  | 116 => ⟨S1x1x1024, .f32⟩
  | 117 => ⟨S2x8192x1024, .f32⟩
  | 118 => ⟨S2x8192x1024, .f32⟩
  | 119 => ⟨S2x8192x1024, .f32⟩
  | 120 => ⟨S2x8192x1024, .f32⟩
  | 121 => ⟨S1x1024, .f32⟩
  | 122 => ⟨S1024, .f32⟩
  | 123 => ⟨S1x1x1024, .f32⟩
  | 124 => ⟨S2x8192x1024, .f32⟩
  | 125 => ⟨S2x8192x1024, .f32⟩
  | 126 => ⟨S2x8192x1024, .f32⟩
  | 127 => ⟨S2x8192x1024, .f32⟩
  | _ => ⟨S2x8192x1024, .f32⟩

abbrev hbmTy0_1 (i : Nat) : BufTy := match i % 128 with
  | 0 => ⟨S1x1024, .f32⟩
  | 1 => ⟨S1024, .f32⟩
  | 2 => ⟨S1x1x1024, .f32⟩
  | 3 => ⟨S2x8192x1024, .f32⟩
  | 4 => ⟨S2x8192x1024, .f32⟩
  | 5 => ⟨S2x8192x1024, .f32⟩
  | 6 => ⟨S2x8192x1024, .f32⟩
  | 7 => ⟨S1x1024, .f32⟩
  | 8 => ⟨S1024, .f32⟩
  | 9 => ⟨S1x1x1024, .f32⟩
  | 10 => ⟨S2x8192x1024, .f32⟩
  | 11 => ⟨S2x8192x1024, .f32⟩
  | 12 => ⟨S2x8192x1024, .f32⟩
  | 13 => ⟨S2x8192x1024, .f32⟩
  | 14 => ⟨S1x1024, .f32⟩
  | 15 => ⟨S1024, .f32⟩
  | 16 => ⟨S1x1x1024, .f32⟩
  | 17 => ⟨S2x8192x1024, .f32⟩
  | 18 => ⟨S2x8192x1024, .f32⟩
  | 19 => ⟨S2x8192x1024, .f32⟩
  | 20 => ⟨S2x8192x1024, .f32⟩
  | 21 => ⟨S1x1024, .f32⟩
  | 22 => ⟨S1024, .f32⟩
  | 23 => ⟨S1x1x1024, .f32⟩
  | 24 => ⟨S2x8192x1024, .f32⟩
  | 25 => ⟨S2x8192x1024, .f32⟩
  | 26 => ⟨S2x8192x1024, .f32⟩
  | 27 => ⟨S2x8192x1024, .f32⟩
  | 28 => ⟨S1x1024, .f32⟩
  | 29 => ⟨S1024, .f32⟩
  | 30 => ⟨S1x1x1024, .f32⟩
  | 31 => ⟨S2x8192x1024, .f32⟩
  | 32 => ⟨S2x8192x1024, .f32⟩
  | 33 => ⟨S2x8192x1024, .f32⟩
  | 34 => ⟨S2x8192x1024, .f32⟩
  | 35 => ⟨S1x1024, .f32⟩
  | 36 => ⟨S1024, .f32⟩
  | 37 => ⟨S1x1x1024, .f32⟩
  | 38 => ⟨S2x8192x1024, .f32⟩
  | 39 => ⟨S2x8192x1024, .f32⟩
  | 40 => ⟨S2x8192x1024, .f32⟩
  | 41 => ⟨S2x8192x1024, .f32⟩
  | 42 => ⟨S1x1024, .f32⟩
  | 43 => ⟨S1024, .f32⟩
  | 44 => ⟨S1x1x1024, .f32⟩
  | 45 => ⟨S2x8192x1024, .f32⟩
  | 46 => ⟨S2x8192x1024, .f32⟩
  | 47 => ⟨S2x8192x1024, .f32⟩
  | 48 => ⟨S2x8192x1024, .f32⟩
  | 49 => ⟨S1x1024, .f32⟩
  | 50 => ⟨S1024, .f32⟩
  | 51 => ⟨S1x1x1024, .f32⟩
  | 52 => ⟨S2x8192x1024, .f32⟩
  | 53 => ⟨S2x8192x1024, .f32⟩
  | 54 => ⟨S2x8192x1024, .f32⟩
  | 55 => ⟨S2x8192x1024, .f32⟩
  | 56 => ⟨S1x1024, .f32⟩
  | 57 => ⟨S1024, .f32⟩
  | 58 => ⟨S1x1x1024, .f32⟩
  | 59 => ⟨S2x8192x1024, .f32⟩
  | 60 => ⟨S2x8192x1024, .f32⟩
  | 61 => ⟨S2x8192x1024, .f32⟩
  | 62 => ⟨S2x8192x1024, .f32⟩
  | 63 => ⟨S1x1024, .f32⟩
  | 64 => ⟨S1024, .f32⟩
  | 65 => ⟨S1x1x1024, .f32⟩
  | 66 => ⟨S2x8192x1024, .f32⟩
  | 67 => ⟨S2x8192x1024, .f32⟩
  | 68 => ⟨S2x8192x1024, .f32⟩
  | 69 => ⟨S2x8192x1024, .f32⟩
  | 70 => ⟨S1x1024, .f32⟩
  | 71 => ⟨S1024, .f32⟩
  | 72 => ⟨S1x1x1024, .f32⟩
  | 73 => ⟨S2x8192x1024, .f32⟩
  | 74 => ⟨S2x8192x1024, .f32⟩
  | 75 => ⟨S2x8192x1024, .f32⟩
  | 76 => ⟨S2x8192x1024, .f32⟩
  | 77 => ⟨S1x1024, .f32⟩
  | 78 => ⟨S1024, .f32⟩
  | 79 => ⟨S1x1x1024, .f32⟩
  | 80 => ⟨S2x8192x1024, .f32⟩
  | 81 => ⟨S2x8192x1024, .f32⟩
  | 82 => ⟨S2x8192x1024, .f32⟩
  | 83 => ⟨S2x8192x1024, .f32⟩
  | 84 => ⟨S1x1024, .f32⟩
  | 85 => ⟨S1024, .f32⟩
  | 86 => ⟨S1x1x1024, .f32⟩
  | 87 => ⟨S2x8192x1024, .f32⟩
  | 88 => ⟨S2x8192x1024, .f32⟩
  | 89 => ⟨S2x8192x1024, .f32⟩
  | 90 => ⟨S2x8192x1024, .f32⟩
  | 91 => ⟨S1x1024, .f32⟩
  | 92 => ⟨S1024, .f32⟩
  | 93 => ⟨S1x1x1024, .f32⟩
  | 94 => ⟨S2x8192x1024, .f32⟩
  | 95 => ⟨S2x8192x1024, .f32⟩
  | 96 => ⟨S2x8192x1024, .f32⟩
  | 97 => ⟨S2x8192x1024, .f32⟩
  | 98 => ⟨S1x1024, .f32⟩
  | 99 => ⟨S1024, .f32⟩
  | 100 => ⟨S1x1x1024, .f32⟩
  | 101 => ⟨S2x8192x1024, .f32⟩
  | 102 => ⟨S2x8192x1024, .f32⟩
  | 103 => ⟨S2x8192x1024, .f32⟩
  | 104 => ⟨S2x8192x1024, .f32⟩
  | 105 => ⟨S1x1024, .f32⟩
  | 106 => ⟨S1024, .f32⟩
  | 107 => ⟨S1x1x1024, .f32⟩
  | 108 => ⟨S2x8192x1024, .f32⟩
  | 109 => ⟨S2x8192x1024, .f32⟩
  | 110 => ⟨S2x8192x1024, .f32⟩
  | 111 => ⟨S1x1x1024, .f32⟩
  | 112 => ⟨S2x8192x1024, .f32⟩
  | 113 => ⟨S2x8192x1024, .f32⟩
  | 114 => ⟨S_, .f32⟩
  | 115 => ⟨S2x8192, .f32⟩
  | 116 => ⟨S2x8192x1, .f32⟩
  | 117 => ⟨S_, .f32⟩
  | 118 => ⟨S2x8192x1, .f32⟩
  | 119 => ⟨S2x8192x1, .f32⟩
  | 120 => ⟨S2x8192x1024, .f32⟩
  | 121 => ⟨S2x8192x1024, .f32⟩
  | 122 => ⟨S2x8192x1024, .f32⟩
  | 123 => ⟨S_, .f32⟩
  | 124 => ⟨S2x8192, .f32⟩
  | 125 => ⟨S2x8192x1, .f32⟩
  | 126 => ⟨S_, .f32⟩
  | 127 => ⟨S2x8192x1, .f32⟩
  | _ => ⟨S2x8192x1024, .f32⟩

abbrev hbmTy0_2 (i : Nat) : BufTy := match i % 128 with
  | 0 => ⟨S2x8192x1, .f32⟩
  | 1 => ⟨S2x8192x1024, .f32⟩
  | 2 => ⟨S2x8192x1024, .f32⟩
  | 3 => ⟨S_, .f32⟩
  | 4 => ⟨S2x8192x1, .f32⟩
  | 5 => ⟨S2x8192x1, .f32⟩
  | 6 => ⟨S2x8192x1, .f32⟩
  | 7 => ⟨S2x8192x1024, .f32⟩
  | 8 => ⟨S2x8192x1024, .f32⟩
  | 9 => ⟨S1x1x1024, .f32⟩
  | 10 => ⟨S2x8192x1024, .f32⟩
  | 11 => ⟨S2x8192x1024, .f32⟩
  | 12 => ⟨S1x1x1024, .f32⟩
  | 13 => ⟨S2x8192x1024, .f32⟩
  | 14 => ⟨S2x8192x1024, .f32⟩
  | 15 => ⟨S2x8192x1024, .f32⟩
  | 16 => ⟨S2x8192x1024, .f32⟩
  | 17 => ⟨S_, .f32⟩
  | 18 => ⟨S2x8192x1024, .f32⟩
  | 19 => ⟨S2x8192x1024, .f32⟩
  | 20 => ⟨S_, .f32⟩
  | 21 => ⟨S2x8192x1024, .f32⟩
  | 22 => ⟨S2x8192x1024, .f32⟩
  | 23 => ⟨S2x8192x1024, .f32⟩
  | 24 => ⟨S2x8192x1024, .f32⟩
  | 25 => ⟨S1x1x1024, .f32⟩
  | 26 => ⟨S2x8192x1024, .f32⟩
  | 27 => ⟨S2x8192x1024, .f32⟩
  | 28 => ⟨S2x8192x1024, .f32⟩
  | 29 => ⟨S2x8192x1024, .f32⟩
  | 30 => ⟨S2x8192x1024, .f32⟩
  | 31 => ⟨S2x8192x1024, .f32⟩
  | 32 => ⟨S_, .f32⟩
  | 33 => ⟨S2x8192, .f32⟩
  | 34 => ⟨S2x8192x1, .f32⟩
  | 35 => ⟨S_, .f32⟩
  | 36 => ⟨S2x8192x1, .f32⟩
  | 37 => ⟨S2x8192x1, .f32⟩
  | 38 => ⟨S_, .f32⟩
  | 39 => ⟨S2x8192x1, .f32⟩
  | 40 => ⟨S2x8192x1, .f32⟩
  | 41 => ⟨S2x8192x1, .f32⟩
  | 42 => ⟨S2x8192x1024, .f32⟩
  | 43 => ⟨S2x8192x1024, .f32⟩
  | 44 => ⟨S1x1x1024, .f32⟩
  | 45 => ⟨S2x8192x1024, .f32⟩
  | 46 => ⟨S2x8192x1024, .f32⟩
  | 47 => ⟨S_, .f32⟩
  | 48 => ⟨S2x1x1024, .f32⟩
  | 49 => ⟨S2x1x1024, .f32⟩
  | 50 => ⟨S2x8192x1024, .f32⟩
  | 51 => ⟨S2x8192x1024, .f32⟩
  | 52 => ⟨S2x8192x1024, .f32⟩
  | 53 => ⟨S2x8192x1024, .f32⟩
  | 54 => ⟨S2x8192x4096, .f32⟩
  | 55 => ⟨S_, .f32⟩
  | 56 => ⟨S2x8192x4096, .f32⟩
  | 57 => ⟨S2x8192x4096, .f32⟩
  | 58 => ⟨S2x8192x4096, .f32⟩
  | 59 => ⟨S2x8192x1024, .f32⟩
  | 60 => ⟨S2x8192x1024, .f32⟩
  | 61 => ⟨S2x8192x1024, .f32⟩
  | 62 => ⟨S2x8192x1024, .f32⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_call0_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_v178 : Ref sig .tc := ⟨.hbm, 192, rfl⟩
abbrev main_v179 : Ref sig .tc := ⟨.hbm, 193, rfl⟩
abbrev main_v180 : Ref sig .tc := ⟨.hbm, 194, rfl⟩
abbrev main_v181 : Ref sig .tc := ⟨.hbm, 195, rfl⟩
abbrev main_v182 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_v194 : Ref sig .tc := ⟨.hbm, 208, rfl⟩
abbrev main_v195 : Ref sig .tc := ⟨.hbm, 209, rfl⟩
abbrev main_v196 : Ref sig .tc := ⟨.hbm, 210, rfl⟩
abbrev main_v197 : Ref sig .tc := ⟨.hbm, 211, rfl⟩
abbrev main_v198 : Ref sig .tc := ⟨.hbm, 212, rfl⟩
abbrev main_v199 : Ref sig .tc := ⟨.hbm, 213, rfl⟩
abbrev main_v200 : Ref sig .tc := ⟨.hbm, 214, rfl⟩
abbrev main_v201 : Ref sig .tc := ⟨.hbm, 215, rfl⟩
abbrev main_v202 : Ref sig .tc := ⟨.hbm, 216, rfl⟩
abbrev main_v203 : Ref sig .tc := ⟨.hbm, 217, rfl⟩
abbrev main_v204 : Ref sig .tc := ⟨.hbm, 218, rfl⟩
abbrev main_v205 : Ref sig .tc := ⟨.hbm, 219, rfl⟩
abbrev main_v206 : Ref sig .tc := ⟨.hbm, 220, rfl⟩
abbrev main_v207 : Ref sig .tc := ⟨.hbm, 221, rfl⟩
abbrev main_v208 : Ref sig .tc := ⟨.hbm, 222, rfl⟩
abbrev main_v209 : Ref sig .tc := ⟨.hbm, 223, rfl⟩
abbrev main_v210 : Ref sig .tc := ⟨.hbm, 224, rfl⟩
abbrev main_v211 : Ref sig .tc := ⟨.hbm, 225, rfl⟩
abbrev main_v212 : Ref sig .tc := ⟨.hbm, 226, rfl⟩
abbrev main_v213 : Ref sig .tc := ⟨.hbm, 227, rfl⟩
abbrev main_v214 : Ref sig .tc := ⟨.hbm, 228, rfl⟩
abbrev main_v215 : Ref sig .tc := ⟨.hbm, 229, rfl⟩
abbrev main_v216 : Ref sig .tc := ⟨.hbm, 230, rfl⟩
abbrev main_v217 : Ref sig .tc := ⟨.hbm, 231, rfl⟩
abbrev main_v218 : Ref sig .tc := ⟨.hbm, 232, rfl⟩
abbrev main_v219 : Ref sig .tc := ⟨.hbm, 233, rfl⟩
abbrev main_v220 : Ref sig .tc := ⟨.hbm, 234, rfl⟩
abbrev main_v221 : Ref sig .tc := ⟨.hbm, 235, rfl⟩
abbrev main_v222 : Ref sig .tc := ⟨.hbm, 236, rfl⟩
abbrev main_v223 : Ref sig .tc := ⟨.hbm, 237, rfl⟩
abbrev main_v224 : Ref sig .tc := ⟨.hbm, 238, rfl⟩
abbrev main_v225 : Ref sig .tc := ⟨.hbm, 239, rfl⟩
abbrev main_v226 : Ref sig .tc := ⟨.hbm, 240, rfl⟩
abbrev main_v227 : Ref sig .tc := ⟨.hbm, 241, rfl⟩
abbrev main_cst : Ref sig .tc := ⟨.hbm, 242, rfl⟩
abbrev main_v228 : Ref sig .tc := ⟨.hbm, 243, rfl⟩
abbrev main_v229 : Ref sig .tc := ⟨.hbm, 244, rfl⟩
abbrev main_cst_0 : Ref sig .tc := ⟨.hbm, 245, rfl⟩
abbrev main_v230 : Ref sig .tc := ⟨.hbm, 246, rfl⟩
abbrev main_v231 : Ref sig .tc := ⟨.hbm, 247, rfl⟩
abbrev main_v232 : Ref sig .tc := ⟨.hbm, 248, rfl⟩
abbrev main_v233 : Ref sig .tc := ⟨.hbm, 249, rfl⟩
abbrev main_v234 : Ref sig .tc := ⟨.hbm, 250, rfl⟩
abbrev main_cst_1 : Ref sig .tc := ⟨.hbm, 251, rfl⟩
abbrev main_v235 : Ref sig .tc := ⟨.hbm, 252, rfl⟩
abbrev main_v236 : Ref sig .tc := ⟨.hbm, 253, rfl⟩
abbrev main_cst_2 : Ref sig .tc := ⟨.hbm, 254, rfl⟩
abbrev main_v237 : Ref sig .tc := ⟨.hbm, 255, rfl⟩
abbrev main_v238 : Ref sig .tc := ⟨.hbm, 256, rfl⟩
abbrev main_v239 : Ref sig .tc := ⟨.hbm, 257, rfl⟩
abbrev main_v240 : Ref sig .tc := ⟨.hbm, 258, rfl⟩
abbrev main_cst_3 : Ref sig .tc := ⟨.hbm, 259, rfl⟩
abbrev main_v241 : Ref sig .tc := ⟨.hbm, 260, rfl⟩
abbrev main_v242 : Ref sig .tc := ⟨.hbm, 261, rfl⟩
abbrev main_v243 : Ref sig .tc := ⟨.hbm, 262, rfl⟩
abbrev main_v244 : Ref sig .tc := ⟨.hbm, 263, rfl⟩
abbrev main_v245 : Ref sig .tc := ⟨.hbm, 264, rfl⟩
abbrev main_v246 : Ref sig .tc := ⟨.hbm, 265, rfl⟩
abbrev main_v247 : Ref sig .tc := ⟨.hbm, 266, rfl⟩
abbrev main_v248 : Ref sig .tc := ⟨.hbm, 267, rfl⟩
abbrev main_v249 : Ref sig .tc := ⟨.hbm, 268, rfl⟩
abbrev main_v250 : Ref sig .tc := ⟨.hbm, 269, rfl⟩
abbrev main_v251 : Ref sig .tc := ⟨.hbm, 270, rfl⟩
abbrev main_call1_v0 : Ref sig .tc := ⟨.hbm, 271, rfl⟩
abbrev main_call1_v1 : Ref sig .tc := ⟨.hbm, 272, rfl⟩
abbrev main_call1_cst : Ref sig .tc := ⟨.hbm, 273, rfl⟩
abbrev main_call1_v2 : Ref sig .tc := ⟨.hbm, 274, rfl⟩
abbrev main_call1_v3 : Ref sig .tc := ⟨.hbm, 275, rfl⟩
abbrev main_call1_cst_0 : Ref sig .tc := ⟨.hbm, 276, rfl⟩
abbrev main_call1_v4 : Ref sig .tc := ⟨.hbm, 277, rfl⟩
abbrev main_call1_v5 : Ref sig .tc := ⟨.hbm, 278, rfl⟩
abbrev main_v252 : Ref sig .tc := ⟨.hbm, 279, rfl⟩
abbrev main_v253 : Ref sig .tc := ⟨.hbm, 280, rfl⟩
abbrev main_v254 : Ref sig .tc := ⟨.hbm, 281, rfl⟩
abbrev main_v255 : Ref sig .tc := ⟨.hbm, 282, rfl⟩
abbrev main_v256 : Ref sig .tc := ⟨.hbm, 283, rfl⟩
abbrev main_v257 : Ref sig .tc := ⟨.hbm, 284, rfl⟩
abbrev main_v258 : Ref sig .tc := ⟨.hbm, 285, rfl⟩
abbrev main_v259 : Ref sig .tc := ⟨.hbm, 286, rfl⟩
abbrev main_v260 : Ref sig .tc := ⟨.hbm, 287, rfl⟩
abbrev main_cst_4 : Ref sig .tc := ⟨.hbm, 288, rfl⟩
abbrev main_v261 : Ref sig .tc := ⟨.hbm, 289, rfl⟩
abbrev main_v262 : Ref sig .tc := ⟨.hbm, 290, rfl⟩
abbrev main_cst_5 : Ref sig .tc := ⟨.hbm, 291, rfl⟩
abbrev main_v263 : Ref sig .tc := ⟨.hbm, 292, rfl⟩
abbrev main_v264 : Ref sig .tc := ⟨.hbm, 293, rfl⟩
abbrev main_cst_6 : Ref sig .tc := ⟨.hbm, 294, rfl⟩
abbrev main_v265 : Ref sig .tc := ⟨.hbm, 295, rfl⟩
abbrev main_v266 : Ref sig .tc := ⟨.hbm, 296, rfl⟩
abbrev main_v267 : Ref sig .tc := ⟨.hbm, 297, rfl⟩
abbrev main_v268 : Ref sig .tc := ⟨.hbm, 298, rfl⟩
abbrev main_v269 : Ref sig .tc := ⟨.hbm, 299, rfl⟩
abbrev main_v270 : Ref sig .tc := ⟨.hbm, 300, rfl⟩
abbrev main_v271 : Ref sig .tc := ⟨.hbm, 301, rfl⟩
abbrev main_v272 : Ref sig .tc := ⟨.hbm, 302, rfl⟩
abbrev main_cst_7 : Ref sig .tc := ⟨.hbm, 303, rfl⟩
abbrev main_v273 : Ref sig .tc := ⟨.hbm, 304, rfl⟩
abbrev main_v274 : Ref sig .tc := ⟨.hbm, 305, rfl⟩
abbrev main_v275 : Ref sig .tc := ⟨.hbm, 306, rfl⟩
abbrev main_v276 : Ref sig .tc := ⟨.hbm, 307, rfl⟩
abbrev main_v277 : Ref sig .tc := ⟨.hbm, 308, rfl⟩
abbrev main_v278 : Ref sig .tc := ⟨.hbm, 309, rfl⟩
abbrev main_v279 : Ref sig .tc := ⟨.hbm, 310, rfl⟩
abbrev main_cst_8 : Ref sig .tc := ⟨.hbm, 311, rfl⟩
abbrev main_v280 : Ref sig .tc := ⟨.hbm, 312, rfl⟩
abbrev main_v281 : Ref sig .tc := ⟨.hbm, 313, rfl⟩
abbrev main_v282 : Ref sig .tc := ⟨.hbm, 314, rfl⟩
abbrev main_v283 : Ref sig .tc := ⟨.hbm, 315, rfl⟩
abbrev main_v284 : Ref sig .tc := ⟨.hbm, 316, rfl⟩
abbrev main_v285 : Ref sig .tc := ⟨.hbm, 317, rfl⟩
abbrev main_v286 : Ref sig .tc := ⟨.hbm, 318, rfl⟩

abbrev nD : Nat := 1
abbrev τ : Topo := Topo.v7x

variable {F : FTy → Type} [FloatOps F]
-- ==== Kernel5.lean ====
abbrev S2x8192x1024 : Shape := ⟨3, ![2, 8192, 1024]⟩
abbrev S2x6144 : Shape := ⟨2, ![2, 6144]⟩
abbrev S1024 : Shape := ⟨1, ![1024]⟩
abbrev S1024x2048 : Shape := ⟨2, ![1024, 2048]⟩
abbrev S2048 : Shape := ⟨1, ![2048]⟩
abbrev S2x6x1024 : Shape := ⟨3, ![2, 6, 1024]⟩
abbrev S1x1024 : Shape := ⟨2, ![1, 1024]⟩
abbrev S1x2048 : Shape := ⟨2, ![1, 2048]⟩
abbrev S1x1024x1024 : Shape := ⟨3, ![1, 1024, 1024]⟩
abbrev S1x6x1024 : Shape := ⟨3, ![1, 6, 1024]⟩
abbrev S6x1024 : Shape := ⟨2, ![6, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩

abbrev nBuf : Space → Nat
  | .hbm => 10
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024x2048, .f32⟩
  | .hbm, ⟨4, _⟩ => ⟨S2048, .f32⟩
  | .hbm, ⟨5, _⟩ => ⟨S2x6x1024, .f32⟩
  | .hbm, ⟨6, _⟩ => ⟨S1x1024, .f32⟩
  | .hbm, ⟨7, _⟩ => ⟨S1024x2048, .bf16⟩
  | .hbm, ⟨8, _⟩ => ⟨S1x2048, .f32⟩
  | .hbm, ⟨9, _⟩ => ⟨S2x8192x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2048, .bf16⟩
  | .local _ .vmem, ⟨6, _⟩ => ⟨S1x2048, .f32⟩
  | .local _ .vmem, ⟨7, _⟩ => ⟨S1x1024x1024, .bf16⟩
  | .local _ .vmem, ⟨8, _⟩ => ⟨S1x1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S2x8192x1024 : Shape := ⟨3, ![2, 8192, 1024]⟩
abbrev S2x6144 : Shape := ⟨2, ![2, 6144]⟩
abbrev S1024 : Shape := ⟨1, ![1024]⟩
abbrev S1024x2048 : Shape := ⟨2, ![1024, 2048]⟩
abbrev S2048 : Shape := ⟨1, ![2048]⟩
abbrev S2x1x6144 : Shape := ⟨3, ![2, 1, 6144]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2048 : Shape := ⟨3, ![2, 8192, 2048]⟩
abbrev S1x1x2048 : Shape := ⟨3, ![1, 1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1024, .f32⟩
  | .hbm, ⟨3, _⟩ => ⟨S1024x2048, .f32⟩
  | .hbm, ⟨4, _⟩ => ⟨S2048, .f32⟩
  | .hbm, ⟨5, _⟩ => ⟨S2x1x6144, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S2x1x1024, .f32⟩
  | .hbm, ⟨10, _⟩ => ⟨S2x1x1024, .f32⟩
  | .hbm, ⟨11, _⟩ => ⟨S2x1x1024, .f32⟩
  | .hbm, ⟨12, _⟩ => ⟨S2x8192x1024, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x1024, .f32⟩
  | .hbm, ⟨24, _⟩ => ⟨S2x8192x1024, .f32⟩
  | .hbm, ⟨25, _⟩ => ⟨S1x1x1024, .f32⟩
  | .hbm, ⟨26, _⟩ => ⟨S2x8192x1024, .f32⟩
  | .hbm, ⟨27, _⟩ => ⟨S2x8192x1024, .f32⟩
  | .hbm, ⟨28, _⟩ => ⟨S_, .f32⟩
  | .hbm, ⟨29, _⟩ => ⟨S2x1x1024, .f32⟩
  | .hbm, ⟨30, _⟩ => ⟨S2x1x1024, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x2048, .f32⟩
  | .hbm, ⟨36, _⟩ => ⟨S1x1x2048, .f32⟩
  | .hbm, ⟨37, _⟩ => ⟨S2x8192x2048, .f32⟩
  | .hbm, ⟨38, _⟩ => ⟨S2x8192x2048, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S2x8192x1024, .f32⟩
  | .hbm, ⟨43, _⟩ => ⟨S_, .f32⟩
  | .hbm, ⟨44, _⟩ => ⟨S2x8192x1024, .f32⟩
  | .hbm, ⟨45, _⟩ => ⟨S2x8192x1024, .f32⟩
  | .hbm, ⟨46, _⟩ => ⟨S_, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S2x8192x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Proof.Post.Value.lean ====
/-
  The end of a layer (out-projection, gated residual, modulated RMSNorm, squared-ReLU MLP), at the ideal instance:
  what the tiled kernel leaves in its result array is the reference's composed term of the arguments.
-/
module

public import proofs.«01_k».proof.Proof.Gen.Kernel2Ideal.Value
public import proofs.«01_k».proof.Proof.Gen.Reference2Ideal.Run
public import proofs.«01_k».proof.Defs
public import Idealize.ShloMosaic.Lib.Claim
public import Idealize.ShloMosaic.Lib.Quiescent
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Post

/-! ## The reference's term, in stages -/

section Ref
open Cert.Reference2Ideal Cert.Reference2Ideal.Gen

/-- Column block `k` of the modulation row, spread over the tokens. -/
abbrev modRow (M : FVec Ideal S2x6144 .f32) (off : Fin 3 → ℕ) (h : S2x1x6144.Slices off S2x1x1024) : FVec Ideal S2x8192x1024 .f32 :=
  broadcastInDim S2x8192x1024 ![0, 1, 2] bcast_S2x1x1024_S2x8192x1024_0_1_2 (extractStridedSlice S2x1x1024 off (broadcastInDim S2x1x6144 ![0, 2] bcast_S2x6144_S2x1x6144_0_2 M) h)

/-- The residual stream after the gated out-projection. -/
def x1 (X : FVec Ideal S2x8192x1024 .f32) (O : FVec Ideal S2x8192x1024 .bf16) (M : FVec Ideal S2x6144 .f32) (W : FVec Ideal S1024x1024 .f32) : FVec Ideal S2x8192x1024 .f32 :=
  addf X (mulf (modRow M ![0, 0, 2048] slices_S2x1x6144_S2x1x1024_0_0_2048) (Host.dotGeneral dot_S2x8192x1024_S1024x1024_S2x8192x1024_2_0_01_1_n_n none (extf .f32 O bitsLt_bf16_f32) W))

/-- The modulated RMSNorm of the residual stream. -/
def h2 (X1 : FVec Ideal S2x8192x1024 .f32) (M : FVec Ideal S2x6144 .f32) (G : FVec Ideal S1024 .f32) : FVec Ideal S2x8192x1024 .f32 :=
  addf (mulf (mulf (mulf X1 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf X1 X1) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 G))) (broadcastInDim S2x8192x1024 ![0, 1, 2] bcast_S2x1x1024_S2x8192x1024_0_1_2 (addf (broadcastInDim S2x1x1024 ![] bcast_S_S2x1x1024 (constant S_ .f32 0x3F800000#32)) (extractStridedSlice S2x1x1024 ![0, 0, 4096] (broadcastInDim S2x1x6144 ![0, 2] bcast_S2x6144_S2x1x6144_0_2 M) slices_S2x1x6144_S2x1x1024_0_0_4096)))) (modRow M ![0, 0, 3072] slices_S2x1x6144_S2x1x1024_0_0_3072)

/-- The hidden layer of the MLP: the squared positive part of the up-projection. -/
def hid (H : FVec Ideal S2x8192x1024 .f32) (U : FVec Ideal S1024x4096 .f32) : FVec Ideal S2x8192x4096 .f32 :=
  mulf (maximumf (Host.dotGeneral dot_S2x8192x1024_S1024x4096_S2x8192x4096_2_0_01_1_n_n none H U) (broadcastInDim S2x8192x4096 ![] bcast_S_S2x8192x4096 (constant S_ .f32 0x00000000#32))) (maximumf (Host.dotGeneral dot_S2x8192x1024_S1024x4096_S2x8192x4096_2_0_01_1_n_n none H U) (broadcastInDim S2x8192x4096 ![] bcast_S_S2x8192x4096 (constant S_ .f32 0x00000000#32)))

/-- The layer's result. -/
def out (X1 : FVec Ideal S2x8192x1024 .f32) (M : FVec Ideal S2x6144 .f32) (Hd : FVec Ideal S2x8192x4096 .f32) (D : FVec Ideal S4096x1024 .f32) : FVec Ideal S2x8192x1024 .f32 :=
  addf X1 (mulf (modRow M ![0, 0, 5120] slices_S2x1x6144_S2x1x1024_0_0_5120) (Host.dotGeneral dot_S2x8192x4096_S4096x1024_S2x8192x1024_2_0_01_1_n_n none Hd D))

/-- The whole term. -/
def REF (X : FVec Ideal S2x8192x1024 .f32) (O : FVec Ideal S2x8192x1024 .bf16) (M : FVec Ideal S2x6144 .f32) (W : FVec Ideal S1024x1024 .f32)
    (G : FVec Ideal S1024 .f32) (U : FVec Ideal S1024x4096 .f32) (D : FVec Ideal S4096x1024 .f32) : FVec Ideal S2x8192x1024 .f32 :=
  out (x1 X O M W) M (hid (h2 (x1 X O M W) M G) U) D

/-- The reference's run leaves that term. -/
theorem res_eq (m : (ℓ : Loc nD τ sig) → Buf (Elt Ideal) ℓ) (c : Dev nD) :
    Cert.Reference2Ideal.Value.res_main_v38 m c = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  unfold Cert.Reference2Ideal.Value.res_main_v38 REF out hid h2 x1
  rfl

end Ref

/-! ## The kernel's payloads at a block index -/

open Cert.Kernel2Ideal Cert.Kernel2Ideal.Gen
variable (m : (ℓ : Loc nD τ sig) → Buf (Elt Ideal) ℓ)

/-- The windows' block indices at every grid point. -/
theorem idx : ∀ t : Fin cfg0.N, win0_0.index t = ![(grid0.coords t 0).val, (grid0.coords t 1).val, 0] ∧ win0_1.index t = ![(grid0.coords t 0).val, (grid0.coords t 1).val, 0]
    ∧ win0_2.index t = ![(grid0.coords t 0).val, 0, 0] ∧ win0_3.index t = ![0, 0] ∧ win0_4.index t = ![0, 0] ∧ win0_5.index t = ![0, 0] ∧ win0_6.index t = ![0, 0]
    ∧ win0_7.index t = ![(grid0.coords t 0).val, (grid0.coords t 1).val, 0] :=
  (by decide +kernel : ∀ t : Fin grid0.N, _)

/-- A sum over 4096 terms is the sum of its four quarters, added in order to zero. -/
theorem sum_quarters (f : Fin 4096 → EReal) :
    ∑ k : Fin 4096, f k = (((∑ k : Fin 1024, f ⟨k.val, by omega⟩) + ∑ k : Fin 1024, f ⟨1024 + k.val, by omega⟩)
      + ∑ k : Fin 1024, f ⟨2048 + k.val, by omega⟩) + ∑ k : Fin 1024, f ⟨3072 + k.val, by omega⟩ := by
  have e := Fin.sum_univ_add (a := 3072) (b := 1024) f
  have e2 := Fin.sum_univ_add (a := 2048) (b := 1024) (fun i => f (Fin.castAdd 1024 i))
  have e3 := Fin.sum_univ_add (a := 1024) (b := 1024) (fun i => f (Fin.castAdd 1024 (Fin.castAdd 1024 i)))
  rw [e, e2, e3]
  rfl

/-- The residual after the out-projection, computed by the body at a block index. -/
theorem pay_x1 (c : Dev nD) (t : Fin cfg0.N) (b : Fin 2) (r : Fin 8192) (y0 : Fin 512) (y1 : Fin 1024)
    (hb : b.val = (grid0.coords t 0).val) (hr : r.val = (grid0.coords t 1).val * 512 + y0.val) :
    k0_pay3 (F := Ideal) (iblk m c 0 t) (iblk m c 2 t) (iblk m c 1 t) (iblk m c 3 t) (ix2 y0 y1)
      = x1 (m ((c : Thread nD τ).loc main_arg0)) (m ((c : Thread nD τ).loc main_arg1)) (m ((c : Thread nD τ).loc main_arg2)) (m ((c : Thread nD τ).loc main_arg3)) (ix3 b r y1) := by
  pointwise [k0_pay3, k0_pay2, x1]
  blk_point [iblk, V, idx t]

/-- The modulated norm, computed by the body at a block index. -/
theorem pay_h2 (c : Dev nD) (t : Fin cfg0.N) (b : Fin 2) (r : Fin 8192) (y0 : Fin 512) (y1 : Fin 1024)
    (hb : b.val = (grid0.coords t 0).val) (hr : r.val = (grid0.coords t 1).val * 512 + y0.val) :
    k0_pay4 (F := Ideal) (iblk m c 0 t) (iblk m c 2 t) (iblk m c 1 t) (iblk m c 3 t) (iblk m c 4 t) (ix2 y0 y1)
      = h2 (x1 (m ((c : Thread nD τ).loc main_arg0)) (m ((c : Thread nD τ).loc main_arg1)) (m ((c : Thread nD τ).loc main_arg2)) (m ((c : Thread nD τ).loc main_arg3)))
          (m ((c : Thread nD τ).loc main_arg2)) (m ((c : Thread nD τ).loc main_arg4)) (ix3 b r y1) := by
  have hx : ∀ k : Fin 1024, _ := fun k => pay_x1 m c t b r y0 k hb hr
  pointwise [k0_pay4, k0_pay2, h2]
  simp only [hx]
  blk_point [iblk, V, idx t]

/-- The squared-ReLU MLP with its gated residual, computed by the body over four column blocks of the up-projection,
    at a block index: one sum over the whole hidden width. -/
theorem pay_mlp (A : FVec Ideal S512x1024 .f32) (H : FVec Ideal S512x1024 .bf16) (M : FVec Ideal S1x6x1024 .f32) (U : FVec Ideal S1024x4096 .bf16) (D : FVec Ideal S4096x1024 .bf16)
    (y0 : Fin 512) (y1 : Fin 1024) :
    k0_pay1 (F := Ideal) (k0_pay2 M) A
      (k0_pay6 H (k0_pay5 (F := Ideal)) (View.ld U r0_4) (View.ld D r0_5) (View.ld U r0_6) (View.ld D r0_7) (View.ld U r0_8) (View.ld D r0_9))
      (k0_pay7 H (View.ld U r0_10)) (k0_pay8 (F := Ideal)) (View.ld D r0_11) (ix3 0 y0 y1)
      = (A (ix2 y0 y1) : EReal) + M (ix3 0 5 y1) * ∑ k : Fin 4096,
          (max (∑ j : Fin 1024, (H (ix2 y0 j) : EReal) * U (ix2 j k)) 0 * max (∑ j : Fin 1024, (H (ix2 y0 j) : EReal) * U (ix2 j k)) 0) * D (ix2 k y1) := by
  rw [sum_quarters]
  pointwise [k0_pay1, k0_pay2, k0_pay6, k0_pay5, k0_pay7, k0_pay8]

/-- The result at an index. -/
theorem out_apply (X1 : FVec Ideal Cert.Reference2Ideal.S2x8192x1024 .f32) (M : FVec Ideal Cert.Reference2Ideal.S2x6144 .f32) (H : FVec Ideal Cert.Reference2Ideal.S2x8192x1024 .f32)
    (U : FVec Ideal Cert.Reference2Ideal.S1024x4096 .f32) (D : FVec Ideal Cert.Reference2Ideal.S4096x1024 .f32) (b : Fin 2) (r : Fin 8192) (y1 : Fin 1024) :
    out X1 M (hid H U) D (ix3 b r y1) = (X1 (ix3 b r y1) : EReal) + M (ix2 b ⟨5120 + y1.val, by omega⟩) * ∑ k : Fin 4096,
          (max (∑ j : Fin 1024, (H (ix3 b r j) : EReal) * U (ix2 j k)) 0 * max (∑ j : Fin 1024, (H (ix3 b r j) : EReal) * U (ix2 j k)) 0) * D (ix2 k y1) := by
  pointwise [out, hid]

/-- What the body stores at a block index is the reference's term at the array index under it. -/
theorem point (c : Dev nD) (t : Fin cfg0.N) (y : S1x512x1024.Idx) :
    (dats m 0 c).after 7 t y = REF (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (((cfg0.win 7).blk t).view.emb y) := by
  idx_vars y
  have hy : y0 = 0 := Subsingleton.elim _ _
  subst hy
  obtain ⟨b, hb⟩ : ∃ b : Fin 2, b.val = (grid0.coords t 0).val := ⟨⟨_, (grid0.coords t 0).isLt⟩, rfl⟩
  have h1 : (grid0.coords t 1).val < 16 := (grid0.coords t 1).isLt
  obtain ⟨r, hr⟩ : ∃ r : Fin 8192, r.val = (grid0.coords t 1).val * 512 + y1.val := ⟨⟨_, by omega⟩, rfl⟩
  have he : (((cfg0.win 7).blk t).view.emb (ix3 0 y1 y2) : Cert.Reference2Ideal.S2x8192x1024.Idx) = ix3 b r y2 := by
    blk_ext [idx t, hb, hr]
  rw [he, after0_7]
  frame_out
  rw [REF, out_apply]
  have e9 : k0_pay9 (F := Ideal) (iblk m c 0 t) (iblk m c 1 t) (iblk m c 2 t) (iblk m c 3 t) (iblk m c 4 t) (iblk m c 5 t) (iblk m c 6 t)
      = k0_pay4 (F := Ideal) (iblk m c 0 t) (iblk m c 2 t) (iblk m c 1 t) (iblk m c 3 t) (iblk m c 4 t) := by
    unfold k0_pay9
    frame_out
  rw [e9, pay_mlp, pay_x1 m c t b r y1 y2 hb hr]
  simp only [fun k : Fin 1024 => pay_h2 m c t b r y1 k hb hr]
  blk_point [iblk, V, idx t]

/-- The result array after the run is the reference's term of the arguments. -/
theorem final (c : Dev nD) : (dats m 0 c).arrAt 7 (cfgs 0).N
    = REF (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  exact point m c t y

end Cert.Post

/-! ## The claims -/

/-- Kernel and reference, from memories agreeing on the arguments, end with equal results. -/
theorem Cert.Post.algebraic : @Cert.algebraic_Kernel2Ideal_Reference2Ideal Cert.Kernel2Ideal.Gen.facts Cert.Reference2Ideal.Gen.facts := by
  pair_intro
  · run_from Cert.Kernel2Ideal.Gen.run_main m g
  · run_from Cert.Reference2Ideal.Value.run m' g'
    rw [Cert.Post.res_eq, Cert.Post.final m c]
    obtain ⟨h0, h1, h2, h3, h4, h5, h6⟩ := hagree c
    rw [h0, h1, h2, h3, h4, h5, h6]

/-- The reference runs, leaves its arguments unchanged and every counter at zero. -/
theorem Cert.Post.frame_reference : @Cert.quiescent_Reference2Ideal Cert.Reference2Ideal.Gen.facts := by
  exact fun m g _ => (θ_run Cert.Reference2Ideal.defs _ _).mono (fun r h => ⟨fun c => (h c).2, Idealize.ShloMosaic.sem_eq_zero_of_no_sems (by decide) r.2⟩)
    (Cert.Reference2Ideal.Value.run (F := Ideal) m g)

end
-- ==== Proof.Flash.Prog.lean ====
/- The flash-attention kernel's body as its units: per column block one product of keys and queries (`prodU`) and one
   update of the running maximum and of the accumulator (`consU`). -/
module

public import proofs.«01_k».proof.Proof.Gen.KernelIdeal.Skeleton

@[expose] public section

set_option maxRecDepth 1000000
set_option maxHeartbeats 0

noncomputable section

namespace Cert.Flash

open Idealize.ShloMosaic Idealize.SL.Sem
open Cert.KernelIdeal Cert.KernelIdeal.Gen

variable {F : FTy → Type} [FloatOps F] [Named F]

/-- The scores of one chunk of keys against one block of query columns, as stored. -/
def pS (kc : FVec F S768x128 .bf16) (q : Vec F S128x256 .bf16) : FVec F S1x768x256 .f32 :=
  shapeCast S1x768x256 (matmul dot_S768x128_S128x256_S768x256_1_0_0_1_n_n none kc q (constant S768x256 .f32 0x00000000#32)) shapeCasts_S768x256_S1x768x256

/-- Their maximum over the rows that share a sublane, as stored. -/
def pC (kc : FVec F S768x128 .bf16) (q : Vec F S128x256 .bf16) : FVec F S1x8x256 .f32 :=
  shapeCast S1x8x256 (multiReduction .maximumf [0] S8x256 (shapeCast S96x8x256 (matmul dot_S768x128_S128x256_S768x256_1_0_0_1_n_n none kc q (constant S768x256 .f32 0x00000000#32)) shapeCasts_S768x256_S96x8x256) 0xFF800000#32 reduces_S96x8x256_S8x256 (.inl rfl) rfl) shapeCasts_S8x256_S1x8x256

/-- The new running maximum. -/
def pN (m : FVec F S1x256 .f32) (cm : Vec F S1x8x256 .f32) : FVec F S1x256 .f32 :=
  maximumf m (shapeCast S1x256 (multiReduction .maximumf [0] S256 (shapeCast S8x256 cm shapeCasts_S1x8x256_S8x256) 0xFF800000#32 reduces_S8x256_S256 (.inl rfl) rfl) shapeCasts_S256_S1x256)

/-- The new running maximum, as stored. -/
def pM (m : FVec F S1x256 .f32) (cm : Vec F S1x8x256 .f32) : FVec F S1x256 .f32 :=
  shapeCast S1x256 (pN m cm) shapeCasts_S1x256_S1x256

/-- The new accumulator, as stored. -/
def pA (vt1 : FVec F S80x768 .bf16) (m : FVec F S1x256 .f32) (cm : Vec F S1x8x256 .f32) (s : Vec F S1x768x256 .f32) (a : FVec F S80x256 .f32) : FVec F S80x256 .f32 :=
  shapeCast S80x256 (addf (mulf (broadcastTo S80x256 (exp2 (subf m (pN m cm))) broadcasts_S1x256_S80x256) a)
    (matmul dot_S80x768_S768x256_S80x256_1_0_0_1_n_n none vt1
      (truncf .bf16 (exp2 (subf (shapeCast S768x256 s shapeCasts_S1x768x256_S768x256) (broadcastTo S768x256 (pN m cm) broadcasts_S1x256_S768x256))) bitsLt_bf16_f32)
      (constant S80x256 .f32 0x00000000#32))) shapeCasts_S80x256_S80x256

theorem inb7 (c : Fin 16) : ∀ a, (![0, 256 * c.val] : Fin 2 → Nat) a + S128x256.size a ≤ S128x4096.size a := by
  intro a; fin_cases a <;> simp <;> omega
theorem inb8 (s : Fin 2) (c : Fin 16) : ∀ a, (![s.val, 0, 256 * c.val] : Fin 3 → Nat) a + S1x768x256.size a ≤ S2x768x4096.size a := by
  intro a; fin_cases a <;> simp <;> omega
theorem inb9 (s : Fin 2) (c : Fin 16) : ∀ a, (![s.val, 0, 256 * c.val] : Fin 3 → Nat) a + S1x8x256.size a ≤ S2x8x4096.size a := by
  intro a; fin_cases a <;> simp <;> omega
theorem inb10 (c : Fin 16) : ∀ a, (![0, 256 * c.val] : Fin 2 → Nat) a + S1x256.size a ≤ S1x4096.size a := by
  intro a; fin_cases a <;> simp <;> omega
theorem inb11 (c : Fin 16) : ∀ a, (![0, 256 * c.val] : Fin 2 → Nat) a + S80x256.size a ≤ S80x4096.size a := by
  intro a; fin_cases a <;> simp <;> omega

/-- The block of columns `c` of each scratch array. -/
abbrev r7 (c : Fin 16) : Rect S128x4096 := Rect.unit (s := S128x4096) ![0, 256 * c.val] S128x256.size (inb7 c)
abbrev r8 (s : Fin 2) (c : Fin 16) : Rect S2x768x4096 := Rect.unit (s := S2x768x4096) ![s.val, 0, 256 * c.val] S1x768x256.size (inb8 s c)
abbrev r9 (s : Fin 2) (c : Fin 16) : Rect S2x8x4096 := Rect.unit (s := S2x8x4096) ![s.val, 0, 256 * c.val] S1x8x256.size (inb9 s c)
abbrev r10 (c : Fin 16) : Rect S1x4096 := Rect.unit (s := S1x4096) ![0, 256 * c.val] S1x256.size (inb10 c)
abbrev r11 (c : Fin 16) : Rect S80x4096 := Rect.unit (s := S80x4096) ![0, 256 * c.val] S80x256.size (inb11 c)

variable (arg7 : Memref sig .tc .vmem S128x4096 .bf16) (arg8 : Memref sig .tc .vmem S2x768x4096 .f32)
  (arg9 : Memref sig .tc .vmem S2x8x4096 .f32) (arg10 : Memref sig .tc .vmem S1x4096 .f32) (arg11 : Memref sig .tc .vmem S80x4096 .f32)

/-- One block of scores: product, store, maxima, store; then `K`. -/
def prodU (kc : FVec F S768x128 .bf16) (s : Fin 2) (c : Fin 16) (K : Prog (TpuEff nD τ sig (Elt F) Λ₀ .tc) PUnit) :
    Prog (TpuEff nD τ sig (Elt F) Λ₀ .tc) PUnit :=
  .op (.load arg7 (r7 c).toLoadRect (View.loadsAt_vmem h_S128x256)) fun (q : Vec F S128x256 .bf16) =>
  .op (.load arg8 (r8 s c).toLoadRect (View.loadsAt_vmem h_S1x768x256)) fun _ =>
  .op (.store arg8 (r8 s c) (pS kc q) Finset.univ (View.stores_vmem_bits_univ h_S1x768x256 rfl) (.inl rfl)) fun _ =>
  .op (.load arg9 (r9 s c).toLoadRect (View.loadsAt_vmem h_S1x8x256)) fun _ =>
  .op (.store arg9 (r9 s c) (pC kc q) Finset.univ (View.stores_vmem_bits_univ h_S1x8x256 rfl) (.inl rfl)) fun _ => K

/-- One update of a block of columns by a chunk's stored scores; then `K`. -/
def consU (vt1 : FVec F S80x768 .bf16) (s : Fin 2) (c : Fin 16) (K : Prog (TpuEff nD τ sig (Elt F) Λ₀ .tc) PUnit) :
    Prog (TpuEff nD τ sig (Elt F) Λ₀ .tc) PUnit :=
  .op (.load arg10 (r10 c).toLoadRect (View.loadsAt_vmem h_S1x256)) fun (m : Vec F S1x256 .f32) =>
  .op (.load arg9 (r9 s c).toLoadRect (View.loadsAt_vmem h_S1x8x256)) fun (cm : Vec F S1x8x256 .f32) =>
  .op (.load arg8 (r8 s c).toLoadRect (View.loadsAt_vmem h_S1x768x256)) fun (sc : Vec F S1x768x256 .f32) =>
  .op (.load arg11 (r11 c).toLoadRect (View.loadsAt_vmem h_S80x256)) fun (a : Vec F S80x256 .f32) =>
  .op (.load arg11 (r11 c).toLoadRect (View.loadsAt_vmem h_S80x256)) fun _ =>
  .op (.store arg11 (r11 c) (pA vt1 m cm sc a) Finset.univ (View.stores_vmem_bits_univ h_S80x256 rfl) (.inl rfl)) fun _ =>
  .op (.load arg10 (r10 c).toLoadRect (View.loadsAt_vmem h_S1x256)) fun _ =>
  .op (.store arg10 (r10 c) (pM m cm) Finset.univ (View.stores_vmem_bits_univ h_S1x256 rfl) (.inl rfl)) fun _ => K

/-- All column blocks. -/
def blocks : List (Fin 16) := [0, 1, 2, 3, 4, 5, 6, 7, 8, 9, 10, 11, 12, 13, 14, 15]

/-- The column blocks of one step: scores of the next chunk into slot `s`, update by the chunk of slot `s'`. -/
def cols (kc : FVec F S768x128 .bf16) (vt1 : FVec F S80x768 .bf16) (s s' : Fin 2) (K : Prog (TpuEff nD τ sig (Elt F) Λ₀ .tc) PUnit) :
    List (Fin 16) → Prog (TpuEff nD τ sig (Elt F) Λ₀ .tc) PUnit
  | [] => K
  | c :: cs => prodU arg7 arg8 arg9 kc s c (consU arg8 arg9 arg10 arg11 vt1 s' c (cols kc vt1 s s' K cs))

/-- A chunk of transposed values with the rows of ones under it. -/
def withOnes (ones : FVec F S16x768 .bf16) (v : Vec F S1x64x768 .bf16) : FVec F S80x768 .bf16 :=
  concatenate S80x768 0 [⟨S64x768, shapeCast S64x768 v shapeCasts_S1x64x768_S64x768⟩, ⟨S16x768, ones⟩] concatenates_S64x768_S16x768_S80x768_d0

/-- One step of the loop: the keys of one chunk, the values of the chunk before, and all column blocks. -/
def stepU (arg4 : Memref sig .tc .vmem S1x8448x128 .bf16) (arg5 : Memref sig .tc .vmem S1x64x8448 .bf16)
    (ones : FVec F S16x768 .bf16) (o4 : Fin 3 → Nat) (h4 : ∀ a, o4 a + S1x768x128.size a ≤ S1x8448x128.size a)
    (o5 : Fin 3 → Nat) (h5 : ∀ a, o5 a + S1x64x768.size a ≤ S1x64x8448.size a) (s s' : Fin 2)
    (K : Prog (TpuEff nD τ sig (Elt F) Λ₀ .tc) PUnit) : Prog (TpuEff nD τ sig (Elt F) Λ₀ .tc) PUnit :=
  .op (.load arg4 (Rect.unit (s := S1x8448x128) o4 S1x768x128.size h4).toLoadRect (View.loadsAt_vmem h_S1x768x128)) fun (k : Vec F S1x768x128 .bf16) =>
  .op (.load arg5 (Rect.unit (s := S1x64x8448) o5 S1x64x768.size h5).toLoadRect (View.loadsAt_vmem h_S1x64x768)) fun (v : Vec F S1x64x768 .bf16) =>
  cols arg7 arg8 arg9 arg10 arg11 (shapeCast S768x128 k shapeCasts_S1x768x128_S768x128) (withOnes ones v) s s' K blocks

/-- The column blocks of the first step: scores alone. -/
def colsP (kc : FVec F S768x128 .bf16) (s : Fin 2) (K : Prog (TpuEff nD τ sig (Elt F) Λ₀ .tc) PUnit) :
    List (Fin 16) → Prog (TpuEff nD τ sig (Elt F) Λ₀ .tc) PUnit
  | [] => K
  | c :: cs => prodU arg7 arg8 arg9 kc s c (colsP kc s K cs)

/-- The column blocks of the last step: updates alone. -/
def colsC (vt1 : FVec F S80x768 .bf16) (s : Fin 2) (K : Prog (TpuEff nD τ sig (Elt F) Λ₀ .tc) PUnit) :
    List (Fin 16) → Prog (TpuEff nD τ sig (Elt F) Λ₀ .tc) PUnit
  | [] => K
  | c :: cs => consU arg8 arg9 arg10 arg11 vt1 s c (colsC vt1 s K cs)

/-- One trip of the loop is four steps. -/
def tripU (arg4 : Memref sig .tc .vmem S1x8448x128 .bf16) (arg5 : Memref sig .tc .vmem S1x64x8448 .bf16)
    (ones : FVec F S16x768 .bf16) (t : Fin k0_t1_loop.trips) : Prog (TpuEff nD τ sig (Elt F) Λ₀ .tc) PUnit :=
  stepU arg7 arg8 arg9 arg10 arg11 arg4 arg5 ones _ (k0_off1_inb t 0) _ (k0_off2_inb t 0) 1 0 <|
  stepU arg7 arg8 arg9 arg10 arg11 arg4 arg5 ones _ (k0_off1_inb t 1) _ (k0_off2_inb t 1) 0 1 <|
  stepU arg7 arg8 arg9 arg10 arg11 arg4 arg5 ones _ (k0_off1_inb t 2) _ (k0_off2_inb t 2) 1 0 <|
  stepU arg7 arg8 arg9 arg10 arg11 arg4 arg5 ones _ (k0_off1_inb t 3) _ (k0_off2_inb t 3) 0 1 <|
  .ret ⟨⟩

/-- The printed region of the loop is `tripU`. -/
theorem trip_eq (i : grid0.Coords) (arg3 : Memref sig .tc .vmem S1x4x1024x128 .bf16) (harg3 : arg3.IsWhole) (arg4 : Memref sig .tc .vmem S1x8448x128 .bf16) (harg4 : arg4.IsWhole) (arg5 : Memref sig .tc .vmem S1x64x8448 .bf16) (harg5 : arg5.IsWhole) (arg6 : Memref sig .tc .vmem S1x1024x256 .bf16) (harg6 : arg6.IsWhole) (arg7 : Memref sig .tc .vmem S128x4096 .bf16) (harg7 : arg7.IsWhole) (arg8 : Memref sig .tc .vmem S2x768x4096 .f32) (harg8 : arg8.IsWhole) (arg9 : Memref sig .tc .vmem S2x8x4096 .f32) (harg9 : arg9.IsWhole) (arg10 : Memref sig .tc .vmem S1x4096 .f32) (harg10 : arg10.IsWhole) (arg11 : Memref sig .tc .vmem S80x4096 .f32) (harg11 : arg11.IsWhole)
   (v23 : FVec F S16x768 .bf16) (v25 : FVec F S768x128 .bf16) (v165 : FVec F S1x8x256 .f32) (t : Fin k0_t1_loop.trips) :
   k0_t1_body i arg3 harg3 arg4 harg4 arg5 harg5 arg6 harg6 arg7 harg7 arg8 harg8 arg9 harg9 arg10 harg10 arg11 harg11 v23 v25 v165 t ⟨⟩
   = tripU arg7 arg8 arg9 arg10 arg11 arg4 arg5 v23 t := by
  rfl

/-- The query block, scaled and transposed, as stored. -/
def pQ (x : Vec F S1x4x1024x128 .bf16) : FVec F S128x4096 .bf16 :=
  shapeCast S128x4096 (truncf .bf16 (transpose S128x4096 [1, 0] (mulf (extf .f32 (shapeCast S4096x128 (shapeCast S4x1024x128 x shapeCasts_S1x4x1024x128_S4x1024x128) shapeCasts_S4x1024x128_S4096x128) bitsLt_bf16_f32)
    (broadcast S4096x128 (Named.named κ "scale" 0x3E38AA3B#32))) transposes_S4096x128_p1_0_S128x4096) bitsLt_bf16_f32) shapeCasts_S128x4096_S128x4096

/-- The rows of ones. -/
def ones : FVec F S16x768 .bf16 := broadcast S16x768 (Scalar.ofBits .bf16 0x3F80#16)

/-- The end of the body: the accumulator divided by its row of sums, stored by pairs of heads. -/
def finU (arg6 : Memref sig .tc .vmem S1x1024x256 .bf16) (harg6 : arg6.IsWhole) : Prog (TpuEff nD τ sig (Elt F) Λ₀ .tc) PUnit :=
  .op (.load arg11 (Rect.unit (s := S80x4096) ![0, 0] S64x4096.size inb_S80x4096_S64x4096_0_0).toLoadRect (View.loadsAt_vmem h_S64x4096)) fun (a : Vec F S64x4096 .f32) =>
  .op (.load arg11 (Rect.unit (s := S80x4096) ![64, 0] S1x4096.size inb_S80x4096_S1x4096_64_0).toLoadRect (View.loadsAt_vmem h_S1x4096)) fun (l : Vec F S1x4096 .f32) =>
  .op (.load arg6 (Rect.unit (s := S1x1024x256) ![0, 0, 0] S1x1024x128.size inb_S1x1024x256_S1x1024x128_0_0_0).toLoadRect (View.loadsAt_vmem h_S1x1024x128)) fun _ =>
  .op (.store arg6 (Rect.unit (s := S1x1024x256) ![0, 0, 0] S1x1024x128.size inb_S1x1024x256_S1x1024x128_0_0_0) (k0_pay3 a l) Finset.univ (View.stores_vmem h_S1x1024x128 (harg6.storeExact_slice rfl _ packedbf16_S1x1024x256_S1x1024x128_0_0_0) (fun _ => rfl)) (.inl rfl)) fun _ =>
  .op (.load arg6 (Rect.unit (s := S1x1024x256) ![0, 0, 128] S1x1024x128.size inb_S1x1024x256_S1x1024x128_0_0_128).toLoadRect (View.loadsAt_vmem h_S1x1024x128)) fun _ =>
  .op (.store arg6 (Rect.unit (s := S1x1024x256) ![0, 0, 128] S1x1024x128.size inb_S1x1024x256_S1x1024x128_0_0_128) (k0_pay4 a l) Finset.univ (View.stores_vmem h_S1x1024x128 (harg6.storeExact_slice rfl _ packedbf16_S1x1024x256_S1x1024x128_0_0_128) (fun _ => rfl)) (.inl rfl)) fun _ =>
  .ret ⟨⟩

/-- What follows the loop: two steps, the last update and the end. -/
def restU (arg4 : Memref sig .tc .vmem S1x8448x128 .bf16) (arg5 : Memref sig .tc .vmem S1x64x8448 .bf16) (arg6 : Memref sig .tc .vmem S1x1024x256 .bf16) (harg6 : arg6.IsWhole) : Prog (TpuEff nD τ sig (Elt F) Λ₀ .tc) PUnit :=
  stepU arg7 arg8 arg9 arg10 arg11 arg4 arg5 ones _ inb_S1x8448x128_S1x768x128_0_6912_0 _ inb_S1x64x8448_S1x64x768_0_0_6144 1 0 <|
  stepU arg7 arg8 arg9 arg10 arg11 arg4 arg5 ones _ inb_S1x8448x128_S1x768x128_0_7680_0 _ inb_S1x64x8448_S1x64x768_0_0_6912 0 1 <|
  .op (.load arg5 (Rect.unit (s := S1x64x8448) ![0, 0, 7680] S1x64x768.size inb_S1x64x8448_S1x64x768_0_0_7680).toLoadRect (View.loadsAt_vmem h_S1x64x768)) fun (v : Vec F S1x64x768 .bf16) =>
  colsC arg8 arg9 arg10 arg11 (withOnes ones v) 0 (finU arg11 arg6 harg6) blocks

/-- What precedes the loop: the queries, the initial state, the first chunk's scores; then `K`. -/
def preU (arg3 : Memref sig .tc .vmem S1x4x1024x128 .bf16) (arg4 : Memref sig .tc .vmem S1x8448x128 .bf16) (harg7 : arg7.IsWhole)
    (K : Prog (TpuEff nD τ sig (Elt F) Λ₀ .tc) PUnit) : Prog (TpuEff nD τ sig (Elt F) Λ₀ .tc) PUnit :=
  .op (.load arg3 (Rect.unit (s := S1x4x1024x128) ![0, 0, 0, 0] S1x4x1024x128.size inb_S1x4x1024x128_S1x4x1024x128_0_0_0_0).toLoadRect (View.loadsAt_vmem h_S1x4x1024x128)) fun (x : Vec F S1x4x1024x128 .bf16) =>
  .op (.load arg7 (Rect.unit (s := S128x4096) ![0, 0] S128x4096.size inb_S128x4096_S128x4096_0_0).toLoadRect (View.loadsAt_vmem h_S128x4096)) fun _ =>
  .op (.store arg7 (Rect.unit (s := S128x4096) ![0, 0] S128x4096.size inb_S128x4096_S128x4096_0_0) (pQ x) Finset.univ (View.stores_vmem h_S128x4096 (harg7.storeExact_slice rfl _ packedbf16_S128x4096_S128x4096_0_0) (fun _ => rfl)) (.inl rfl)) fun _ =>
  .op (.load arg11 (Rect.unit (s := S80x4096) ![0, 0] S64x4096.size inb_S80x4096_S64x4096_0_0).toLoadRect (View.loadsAt_vmem h_S64x4096)) fun _ =>
  .op (.store arg11 (Rect.unit (s := S80x4096) ![0, 0] S64x4096.size inb_S80x4096_S64x4096_0_0) (shapeCast S64x4096 (broadcast S64x4096 (Scalar.ofBits .f32 0x00000000#32)) shapeCasts_S64x4096_S64x4096) Finset.univ (View.stores_vmem_bits_univ h_S64x4096 rfl) (.inl rfl)) fun _ =>
  .op (.load arg10 (Rect.unit (s := S1x4096) ![0, 0] S1x4096.size inb_S1x4096_S1x4096_0_0).toLoadRect (View.loadsAt_vmem h_S1x4096)) fun _ =>
  .op (.store arg10 (Rect.unit (s := S1x4096) ![0, 0] S1x4096.size inb_S1x4096_S1x4096_0_0) (shapeCast S1x4096 (broadcast S1x4096 (Scalar.ofBits .f32 0xF149F2CA#32)) shapeCasts_S1x4096_S1x4096) Finset.univ (View.stores_vmem_bits_univ h_S1x4096 rfl) (.inl rfl)) fun _ =>
  .op (.load arg11 (Rect.unit (s := S80x4096) ![64, 0] S16x4096.size inb_S80x4096_S16x4096_64_0).toLoadRect (View.loadsAt_vmem h_S16x4096)) fun _ =>
  .op (.store arg11 (Rect.unit (s := S80x4096) ![64, 0] S16x4096.size inb_S80x4096_S16x4096_64_0) (shapeCast S16x4096 (broadcast S16x4096 (Scalar.ofBits .f32 0x00000000#32)) shapeCasts_S16x4096_S16x4096) Finset.univ (View.stores_vmem_bits_univ h_S16x4096 rfl) (.inl rfl)) fun _ =>
  .op (.load arg4 (Rect.unit (s := S1x8448x128) ![0, 0, 0] S1x768x128.size inb_S1x8448x128_S1x768x128_0_0_0).toLoadRect (View.loadsAt_vmem h_S1x768x128)) fun (k : Vec F S1x768x128 .bf16) =>
  colsP arg7 arg8 arg9 (shapeCast S768x128 k shapeCasts_S1x768x128_S768x128) 0 K blocks

/-- The printed body is: what precedes the loop, the loop, the rest. -/
theorem body_eq (i : grid0.Coords) (arg3 : Memref sig .tc .vmem S1x4x1024x128 .bf16) (harg3 : arg3.IsWhole) (arg4 : Memref sig .tc .vmem S1x8448x128 .bf16) (harg4 : arg4.IsWhole) (arg5 : Memref sig .tc .vmem S1x64x8448 .bf16) (harg5 : arg5.IsWhole) (arg6 : Memref sig .tc .vmem S1x1024x256 .bf16) (harg6 : arg6.IsWhole) (arg7 : Memref sig .tc .vmem S128x4096 .bf16) (harg7 : arg7.IsWhole) (arg8 : Memref sig .tc .vmem S2x768x4096 .f32) (harg8 : arg8.IsWhole) (arg9 : Memref sig .tc .vmem S2x8x4096 .f32) (harg9 : arg9.IsWhole) (arg10 : Memref sig .tc .vmem S1x4096 .f32) (harg10 : arg10.IsWhole) (arg11 : Memref sig .tc .vmem S80x4096 .f32) (harg11 : arg11.IsWhole) :
    cc0_gqa_attention (F := F) i arg3 harg3 arg4 harg4 arg5 harg5 arg6 harg6 arg7 harg7 arg8 harg8 arg9 harg9 arg10 harg10 arg11 harg11
      = preU arg7 arg8 arg9 arg10 arg11 arg3 arg4 harg7
          (Prog.bind (Scf.Loop.for k0_t1_loop k0_t1_ok ⟨⟩ (fun t _ => tripU arg7 arg8 arg9 arg10 arg11 arg4 arg5 ones t))
            fun _ => restU arg7 arg8 arg9 arg10 arg11 arg4 arg5 arg6 harg6) := by
  refine Eq.trans (b := preU arg7 arg8 arg9 arg10 arg11 arg3 arg4 harg7
          (Prog.bind (α := FVec F S1x256 .f32) (Prog.bind (α := Σ' (_ : FVec F S768x128 .bf16), Vec F S1x64x768 .bf16) (Prog.bind (Scf.Loop.for k0_t1_loop k0_t1_ok ⟨⟩ (fun t _ => tripU arg7 arg8 arg9 arg10 arg11 arg4 arg5 ones t)) ?f1) ?f2) ?f3)) ?_ ?_
  case refine_1 => rfl
  case refine_2 => exact congrArg _ (((Prog.bind_assoc _ _ _).trans (Prog.bind_assoc _ _ _)).trans rfl)

end Cert.Flash
-- ==== Proof.Flash.Run.lean ====
/- The run of the flash-attention body over the contents of its buffers: every unit as a function of the contents, and the
   whole body as one function from the staged blocks and the scratch to the stored block. -/
module

public import proofs.«01_k».proof.Proof.Flash.Prog
public import proofs.«01_k».proof.Proof.Gen.KernelIdeal.Frame
public import Idealize.ShloMosaic.Lib.VecWindow

@[expose] public section

set_option maxRecDepth 100000

noncomputable section

namespace Cert.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.VecWindow (window put)

variable {F : FTy → Type} [FloatOps F] [Named F]

local notation "𝕄" => MT nD τ sig Unit (Elt F) ℕ (UR sig nD τ) ℕ

/-- A memref held whole at contents that read `X`. -/
def pt (c : Dev nD) {s : Shape} {e : EltTy} (m : Memref sig .tc .vmem s e) (X : s.Idx → Elt F e) : sProp 𝕄 :=
  m.view.loc (c : Thread nD τ) ↦[m.view.set]{fullShare} m.view.rep X

theorem pt_of_owns (c : Dev nD) {s : Shape} {e : EltTy} (m : Memref sig .tc .vmem s e) (X : s.Idx → Elt F e) :
    (owns (c : Thread nD τ) m fullShare X : sProp 𝕄) ⊢ pt c m X := by
  unfold owns pt
  iintro ⟨%f, %h, H⟩
  iapply (pointsTo_rep_of_read (c : Thread nD τ) m f fullShare X h)
  iexact H

theorem owns_of_pt (c : Dev nD) {s : Shape} {e : EltTy} (m : Memref sig .tc .vmem s e) (X : s.Idx → Elt F e) :
    (pt c m X : sProp 𝕄) ⊢ owns (c : Thread nD τ) m fullShare X := by
  unfold owns pt
  iintro H
  iexists _
  isplitr
  · ipureintro; exact View.read_rep _ _
  iexact H

/-- A load reads a window of the contents. -/
theorem load_pt (c : Dev nD) {s : Shape} {e : EltTy} {m : Memref sig .tc .vmem s e} {off size : Fin s.rank → ℕ} {inb : ∀ a, off a + size a ≤ s.size a}
    {hl : m.view.LoadsAt (Rect.unit off size inb).toLoadRect} {X : s.Idx → Elt F e} {P : sProp 𝕄} {Q : PUnit → sProp 𝕄}
    {k : ((Rect.unit off size inb).shape.Idx → Elt F e) → Prog (TpuEff nD τ sig (Elt F) Λ₀ .tc) PUnit}
    (h : iprop(pt c m X ∗ P) ⊢ wp frame (wpE (defs₀ (F := F)) Variants.none (c : Thread nD τ) none) Set.univ (k (window X off size inb)) Q) :
    iprop(pt c m X ∗ P) ⊢ wp frame (wpE (defs₀ (F := F)) Variants.none (c : Thread nD τ) none) Set.univ (.op (.load m (Rect.unit off size inb).toLoadRect hl) k) Q := by
  have e : m.view.readAt (Elt F) (Rect.unit off size inb).toLoadRect (m.view.rep X) = window X off size inb := View.readAt_rep_unit m.view X inb rfl inb
  rw [← e] at h
  have hw := wp_load (Γ := PendingWaitsCtx.empty) (defs := defs₀ (F := F)) Variants.none (c : Thread nD τ) none Set.univ (Q := Q) (m := m) (r := (Rect.unit off size inb).toLoadRect) (hl := hl) (k := k) (S := m.view.set) (q := fullShare) (f := m.view.rep X) (View.setOn_subset_set _ _)
  exact (sep_mono_right (wand_intro_left h)).trans (BIClass.wand_elim hw)

/-- A store puts its payload over a window of the contents. -/
theorem store_pt (c : Dev nD) {s : Shape} {e : EltTy} {m : Memref sig .tc .vmem s e} {off size : Fin s.rank → ℕ} {inb : ∀ a, off a + size a ≤ s.size a}
    {w : (Rect.unit off size inb).shape.Idx → Elt F e}
    {hx : (m.access (Rect.unit off size inb)).Stores Finset.univ} {hm : Finset.univ = Finset.univ ∨ ∀ a, (Rect.unit off size inb).stride a = 1}
    {X : s.Idx → Elt F e} {P : sProp 𝕄} {Q : PUnit → sProp 𝕄} {k : PUnit → Prog (TpuEff nD τ sig (Elt F) Λ₀ .tc) PUnit}
    (h : iprop(pt c m (put X off size w) ∗ P) ⊢ wp frame (wpE (defs₀ (F := F)) Variants.none (c : Thread nD τ) none) Set.univ (k ⟨⟩) Q) :
    iprop(pt c m X ∗ P) ⊢ wp frame (wpE (defs₀ (F := F)) Variants.none (c : Thread nD τ) none) Set.univ (.op (.store m (Rect.unit off size inb) w Finset.univ hx hm) k) Q := by
  have hw := wp_store_writes₀ (defs := defs₀ (F := F)) Variants.none (c : Thread nD τ) none Set.univ (Q := Q) (m := m) (r := Rect.unit off size inb) (w := w) (hx := hx) (hm := hm) (k := k) (S := m.view.set) (f := m.view.rep X) (View.set_slice_subset _ _)
  have hp : (m.view.loc (c : Thread nD τ) ↦[m.view.set]{fullShare} m.view.writes (Elt F) (m.view.rep X) [⟨Rect.unit off size inb, w⟩] : sProp 𝕄) ⊢ pt c m (put X off size w) :=
    pointsTo_rep_of_read (c : Thread nD τ) m _ fullShare _ (View.read_writes_rep_unit m.view X inb w rfl)
  exact (sep_mono_right (wand_intro_left ((sep_mono_left hp).trans h))).trans (BIClass.wand_elim hw)

section Perm
theorem up2 {A B G : sProp 𝕄} : iprop(A ∗ B ∗ G) ⊢ iprop(B ∗ A ∗ G) := by
  iintro ⟨HA, HB, HG⟩
  isplitl [HB]; · iexact HB
  isplitl [HA]; · iexact HA
  iexact HG
theorem up3 {A B C G : sProp 𝕄} : iprop(A ∗ B ∗ C ∗ G) ⊢ iprop(C ∗ A ∗ B ∗ G) := (sep_mono_right up2).trans up2
theorem up4 {A B C D G : sProp 𝕄} : iprop(A ∗ B ∗ C ∗ D ∗ G) ⊢ iprop(D ∗ A ∗ B ∗ C ∗ G) := (sep_mono_right up3).trans up2
theorem up5 {A B C D E G : sProp 𝕄} : iprop(A ∗ B ∗ C ∗ D ∗ E ∗ G) ⊢ iprop(E ∗ A ∗ B ∗ C ∗ D ∗ G) := (sep_mono_right up4).trans up2
theorem dn3 {A B C G : sProp 𝕄} : iprop(C ∗ A ∗ B ∗ G) ⊢ iprop(A ∗ B ∗ C ∗ G) := up2.trans (sep_mono_right up2)
theorem dn4 {A B C D G : sProp 𝕄} : iprop(D ∗ A ∗ B ∗ C ∗ G) ⊢ iprop(A ∗ B ∗ C ∗ D ∗ G) := up2.trans (sep_mono_right dn3)
theorem dn5 {A B C D E G : sProp 𝕄} : iprop(E ∗ A ∗ B ∗ C ∗ D ∗ G) ⊢ iprop(A ∗ B ∗ C ∗ D ∗ E ∗ G) := up2.trans (sep_mono_right dn4)
theorem up6 {A B C D E H G : sProp 𝕄} : iprop(A ∗ B ∗ C ∗ D ∗ E ∗ H ∗ G) ⊢ iprop(H ∗ A ∗ B ∗ C ∗ D ∗ E ∗ G) := (sep_mono_right up5).trans up2
theorem dn6 {A B C D E H G : sProp 𝕄} : iprop(H ∗ A ∗ B ∗ C ∗ D ∗ E ∗ G) ⊢ iprop(A ∗ B ∗ C ∗ D ∗ E ∗ H ∗ G) := up2.trans (sep_mono_right dn5)
theorem up7 {A B C D E H I G : sProp 𝕄} : iprop(A ∗ B ∗ C ∗ D ∗ E ∗ H ∗ I ∗ G) ⊢ iprop(I ∗ A ∗ B ∗ C ∗ D ∗ E ∗ H ∗ G) := (sep_mono_right up6).trans up2
theorem dn7 {A B C D E H I G : sProp 𝕄} : iprop(I ∗ A ∗ B ∗ C ∗ D ∗ E ∗ H ∗ G) ⊢ iprop(A ∗ B ∗ C ∗ D ∗ E ∗ H ∗ I ∗ G) := up2.trans (sep_mono_right dn6)
theorem up8 {A B C D E H I J G : sProp 𝕄} : iprop(A ∗ B ∗ C ∗ D ∗ E ∗ H ∗ I ∗ J ∗ G) ⊢ iprop(J ∗ A ∗ B ∗ C ∗ D ∗ E ∗ H ∗ I ∗ G) := (sep_mono_right up7).trans up2
theorem dn8 {A B C D E H I J G : sProp 𝕄} : iprop(J ∗ A ∗ B ∗ C ∗ D ∗ E ∗ H ∗ I ∗ G) ⊢ iprop(A ∗ B ∗ C ∗ D ∗ E ∗ H ∗ I ∗ J ∗ G) := up2.trans (sep_mono_right dn7)
theorem up9 {A B C D E H I J L G : sProp 𝕄} : iprop(A ∗ B ∗ C ∗ D ∗ E ∗ H ∗ I ∗ J ∗ L ∗ G) ⊢ iprop(L ∗ A ∗ B ∗ C ∗ D ∗ E ∗ H ∗ I ∗ J ∗ G) := (sep_mono_right up8).trans up2
theorem dn9 {A B C D E H I J L G : sProp 𝕄} : iprop(L ∗ A ∗ B ∗ C ∗ D ∗ E ∗ H ∗ I ∗ J ∗ G) ⊢ iprop(A ∗ B ∗ C ∗ D ∗ E ∗ H ∗ I ∗ J ∗ L ∗ G) := up2.trans (sep_mono_right dn8)
end Perm

/-- The contents of the scratch: scores, their maxima, the running maximum, the accumulator. -/
structure St (F : FTy → Type) where
  s : S2x768x4096.Idx → Elt F .f32
  x : S2x8x4096.Idx → Elt F .f32
  m : S1x4096.Idx → Elt F .f32
  a : S80x4096.Idx → Elt F .f32

/-- A block of columns of each array. -/
def w7 (Q : S128x4096.Idx → Elt F .bf16) (c : Fin 16) : Vec F S128x256 .bf16 := window Q ![0, 256 * c.val] S128x256.size (inb7 c)
def w8 (X : S2x768x4096.Idx → Elt F .f32) (s : Fin 2) (c : Fin 16) : Vec F S1x768x256 .f32 := window X ![s.val, 0, 256 * c.val] S1x768x256.size (inb8 s c)
def w9 (X : S2x8x4096.Idx → Elt F .f32) (s : Fin 2) (c : Fin 16) : Vec F S1x8x256 .f32 := window X ![s.val, 0, 256 * c.val] S1x8x256.size (inb9 s c)
def w10 (X : S1x4096.Idx → Elt F .f32) (c : Fin 16) : Vec F S1x256 .f32 := window X ![0, 256 * c.val] S1x256.size (inb10 c)
def w11 (X : S80x4096.Idx → Elt F .f32) (c : Fin 16) : Vec F S80x256 .f32 := window X ![0, 256 * c.val] S80x256.size (inb11 c)

/-- The contents after `prodU`. -/
def prodF (Q : S128x4096.Idx → Elt F .bf16) (kc : FVec F S768x128 .bf16) (s : Fin 2) (c : Fin 16) (σ : St F) : St F :=
  { σ with
    s := put σ.s ![s.val, 0, 256 * c.val] S1x768x256.size (pS kc (w7 Q c))
    x := put σ.x ![s.val, 0, 256 * c.val] S1x8x256.size (pC kc (w7 Q c)) }

/-- The contents after `consU`. -/
def consF (vt1 : FVec F S80x768 .bf16) (s : Fin 2) (c : Fin 16) (σ : St F) : St F :=
  { σ with
    a := put σ.a ![0, 256 * c.val] S80x256.size (pA vt1 (w10 σ.m c) (w9 σ.x s c) (w8 σ.s s c) (w11 σ.a c))
    m := put σ.m ![0, 256 * c.val] S1x256.size (pM (w10 σ.m c) (w9 σ.x s c)) }

section Units

variable (c : Dev nD) {arg7 : Memref sig .tc .vmem S128x4096 .bf16} {arg8 : Memref sig .tc .vmem S2x768x4096 .f32}
  {arg9 : Memref sig .tc .vmem S2x8x4096 .f32} {arg10 : Memref sig .tc .vmem S1x4096 .f32} {arg11 : Memref sig .tc .vmem S80x4096 .f32}

variable (arg7 arg8 arg9 arg10 arg11) in
/-- The scratch held at `Q` and `σ`, and `P`. -/
def held (Q : S128x4096.Idx → Elt F .bf16) (σ : St F) (P : sProp 𝕄) : sProp 𝕄 :=
  iprop(pt c arg7 Q ∗ pt c arg8 σ.s ∗ pt c arg9 σ.x ∗ pt c arg10 σ.m ∗ pt c arg11 σ.a ∗ P)

variable {Q : S128x4096.Idx → Elt F .bf16} {K : Prog (TpuEff nD τ sig (Elt F) Λ₀ .tc) PUnit}

theorem prodU_wp {P : sProp 𝕄} {R : PUnit → sProp 𝕄} {σ : St F} (kc : FVec F S768x128 .bf16) (s : Fin 2) (b : Fin 16)
    (h : held c arg7 arg8 arg9 arg10 arg11 Q (prodF Q kc s b σ) P ⊢ wp frame (wpE (defs₀ (F := F)) Variants.none (c : Thread nD τ) none) Set.univ K R) :
    held c arg7 arg8 arg9 arg10 arg11 Q σ P ⊢ wp frame (wpE (defs₀ (F := F)) Variants.none (c : Thread nD τ) none) Set.univ (prodU arg7 arg8 arg9 kc s b K) R := by
  unfold held prodU
  refine load_pt c ?_
  refine up2.trans (load_pt c (store_pt c (up2.trans ?_)))
  refine up3.trans (load_pt c (store_pt c (dn3.trans ?_)))
  exact h

theorem consU_wp {P : sProp 𝕄} {R : PUnit → sProp 𝕄} {σ : St F} (vt1 : FVec F S80x768 .bf16) (s : Fin 2) (b : Fin 16)
    (h : held c arg7 arg8 arg9 arg10 arg11 Q (consF vt1 s b σ) P ⊢ wp frame (wpE (defs₀ (F := F)) Variants.none (c : Thread nD τ) none) Set.univ K R) :
    held c arg7 arg8 arg9 arg10 arg11 Q σ P ⊢ wp frame (wpE (defs₀ (F := F)) Variants.none (c : Thread nD τ) none) Set.univ (consU arg8 arg9 arg10 arg11 vt1 s b K) R := by
  unfold held consU
  refine up4.trans (load_pt c (dn4.trans ?_))
  refine up3.trans (load_pt c (dn3.trans ?_))
  refine up2.trans (load_pt c (up2.trans ?_))
  refine up5.trans (load_pt c (load_pt c (store_pt c (dn5.trans ?_))))
  refine up4.trans (load_pt c (store_pt c (dn4.trans ?_)))
  exact h

/-- The contents after the column blocks of a step. -/
def colsF (Q : S128x4096.Idx → Elt F .bf16) (kc : FVec F S768x128 .bf16) (vt1 : FVec F S80x768 .bf16) (s s' : Fin 2) (l : List (Fin 16)) (σ : St F) : St F :=
  l.foldl (fun σ b => consF vt1 s' b (prodF Q kc s b σ)) σ
def colsPF (Q : S128x4096.Idx → Elt F .bf16) (kc : FVec F S768x128 .bf16) (s : Fin 2) (l : List (Fin 16)) (σ : St F) : St F :=
  l.foldl (fun σ b => prodF Q kc s b σ) σ
def colsCF (vt1 : FVec F S80x768 .bf16) (s : Fin 2) (l : List (Fin 16)) (σ : St F) : St F :=
  l.foldl (fun σ b => consF vt1 s b σ) σ

theorem cols_wp {P : sProp 𝕄} {R : PUnit → sProp 𝕄} (kc : FVec F S768x128 .bf16) (vt1 : FVec F S80x768 .bf16) (s s' : Fin 2) (l : List (Fin 16)) : ∀ (σ : St F)
    (_ : held c arg7 arg8 arg9 arg10 arg11 Q (colsF Q kc vt1 s s' l σ) P ⊢ wp frame (wpE (defs₀ (F := F)) Variants.none (c : Thread nD τ) none) Set.univ K R),
    held c arg7 arg8 arg9 arg10 arg11 Q σ P ⊢ wp frame (wpE (defs₀ (F := F)) Variants.none (c : Thread nD τ) none) Set.univ (cols arg7 arg8 arg9 arg10 arg11 kc vt1 s s' K l) R := by
  induction l with
  | nil => exact fun _ h => h
  | cons b l ih => exact fun σ h => prodU_wp c kc s b (consU_wp c vt1 s' b (ih _ h))

theorem colsP_wp {P : sProp 𝕄} {R : PUnit → sProp 𝕄} (kc : FVec F S768x128 .bf16) (s : Fin 2) (l : List (Fin 16)) : ∀ (σ : St F)
    (_ : held c arg7 arg8 arg9 arg10 arg11 Q (colsPF Q kc s l σ) P ⊢ wp frame (wpE (defs₀ (F := F)) Variants.none (c : Thread nD τ) none) Set.univ K R),
    held c arg7 arg8 arg9 arg10 arg11 Q σ P ⊢ wp frame (wpE (defs₀ (F := F)) Variants.none (c : Thread nD τ) none) Set.univ (colsP arg7 arg8 arg9 kc s K l) R := by
  induction l with
  | nil => exact fun _ h => h
  | cons b l ih => exact fun σ h => prodU_wp c kc s b (ih _ h)

theorem colsC_wp {P : sProp 𝕄} {R : PUnit → sProp 𝕄} (vt1 : FVec F S80x768 .bf16) (s : Fin 2) (l : List (Fin 16)) : ∀ (σ : St F)
    (_ : held c arg7 arg8 arg9 arg10 arg11 Q (colsCF vt1 s l σ) P ⊢ wp frame (wpE (defs₀ (F := F)) Variants.none (c : Thread nD τ) none) Set.univ K R),
    held c arg7 arg8 arg9 arg10 arg11 Q σ P ⊢ wp frame (wpE (defs₀ (F := F)) Variants.none (c : Thread nD τ) none) Set.univ (colsC arg8 arg9 arg10 arg11 vt1 s K l) R := by
  induction l with
  | nil => exact fun _ h => h
  | cons b l ih => exact fun σ h => consU_wp c vt1 s b (ih _ h)

/-- A chunk of keys and a chunk of values of the staged blocks. -/
def kcOf (kb : S1x8448x128.Idx → Elt F .bf16) (o : Fin 3 → Nat) (h : ∀ a, o a + S1x768x128.size a ≤ S1x8448x128.size a) : FVec F S768x128 .bf16 :=
  shapeCast S768x128 (window kb o S1x768x128.size h : Vec F S1x768x128 .bf16) shapeCasts_S1x768x128_S768x128
def vcOf (vb : S1x64x8448.Idx → Elt F .bf16) (o : Fin 3 → Nat) (h : ∀ a, o a + S1x64x768.size a ≤ S1x64x8448.size a) : FVec F S80x768 .bf16 :=
  withOnes ones (window vb o S1x64x768.size h : Vec F S1x64x768 .bf16)

variable {arg4 : Memref sig .tc .vmem S1x8448x128 .bf16} {arg5 : Memref sig .tc .vmem S1x64x8448 .bf16}
  {kb : S1x8448x128.Idx → Elt F .bf16} {vb : S1x64x8448.Idx → Elt F .bf16}

/-- The contents after a step. -/
def stepF (Q : S128x4096.Idx → Elt F .bf16) (kb : S1x8448x128.Idx → Elt F .bf16) (vb : S1x64x8448.Idx → Elt F .bf16)
    (o4 : Fin 3 → Nat) (h4 : ∀ a, o4 a + S1x768x128.size a ≤ S1x8448x128.size a)
    (o5 : Fin 3 → Nat) (h5 : ∀ a, o5 a + S1x64x768.size a ≤ S1x64x8448.size a) (s s' : Fin 2) (σ : St F) : St F :=
  colsF Q (kcOf kb o4 h4) (vcOf vb o5 h5) s s' blocks σ

theorem stepU_wp {P : sProp 𝕄} {R : PUnit → sProp 𝕄} {σ : St F} (o4 : Fin 3 → Nat) (h4 : ∀ a, o4 a + S1x768x128.size a ≤ S1x8448x128.size a)
    (o5 : Fin 3 → Nat) (h5 : ∀ a, o5 a + S1x64x768.size a ≤ S1x64x8448.size a) (s s' : Fin 2)
    (h : held c arg7 arg8 arg9 arg10 arg11 Q (stepF Q kb vb o4 h4 o5 h5 s s' σ) iprop(pt c arg4 kb ∗ pt c arg5 vb ∗ P)
      ⊢ wp frame (wpE (defs₀ (F := F)) Variants.none (c : Thread nD τ) none) Set.univ K R) :
    held c arg7 arg8 arg9 arg10 arg11 Q σ iprop(pt c arg4 kb ∗ pt c arg5 vb ∗ P)
      ⊢ wp frame (wpE (defs₀ (F := F)) Variants.none (c : Thread nD τ) none) Set.univ (stepU arg7 arg8 arg9 arg10 arg11 arg4 arg5 ones o4 h4 o5 h5 s s' K) R := by
  have h' := cols_wp c (kcOf kb o4 h4) (vcOf vb o5 h5) s s' blocks σ h
  unfold stepU
  unfold held at h' ⊢
  refine up6.trans (load_pt c (dn6.trans ?_))
  refine up7.trans (load_pt c (dn7.trans ?_))
  exact h'

/-- The contents after a trip. -/
def tripF (Q : S128x4096.Idx → Elt F .bf16) (kb : S1x8448x128.Idx → Elt F .bf16) (vb : S1x64x8448.Idx → Elt F .bf16) (t : Fin k0_t1_loop.trips) (σ : St F) : St F :=
  stepF Q kb vb _ (k0_off1_inb t 3) _ (k0_off2_inb t 3) 0 1 <| stepF Q kb vb _ (k0_off1_inb t 2) _ (k0_off2_inb t 2) 1 0 <|
  stepF Q kb vb _ (k0_off1_inb t 1) _ (k0_off2_inb t 1) 0 1 <| stepF Q kb vb _ (k0_off1_inb t 0) _ (k0_off2_inb t 0) 1 0 σ

theorem tripU_wp {P : sProp 𝕄} {σ : St F} (t : Fin k0_t1_loop.trips) :
    held c arg7 arg8 arg9 arg10 arg11 Q σ iprop(pt c arg4 kb ∗ pt c arg5 vb ∗ P)
      ⊢ wp frame (wpE (defs₀ (F := F)) Variants.none (c : Thread nD τ) none) Set.univ (tripU arg7 arg8 arg9 arg10 arg11 arg4 arg5 ones t)
          fun _ => held c arg7 arg8 arg9 arg10 arg11 Q (tripF Q kb vb t σ) iprop(pt c arg4 kb ∗ pt c arg5 vb ∗ P) := by
  unfold tripU
  exact stepU_wp c _ _ _ _ _ _ (stepU_wp c _ _ _ _ _ _ (stepU_wp c _ _ _ _ _ _ (stepU_wp c _ _ _ _ _ _ fupd_intro)))

/-- The contents after `n` trips. -/
def loopF (Q : S128x4096.Idx → Elt F .bf16) (kb : S1x8448x128.Idx → Elt F .bf16) (vb : S1x64x8448.Idx → Elt F .bf16) (σ : St F) : ℕ → St F
  | 0 => σ
  | n + 1 => if h : n < k0_t1_loop.trips then tripF Q kb vb ⟨n, h⟩ (loopF Q kb vb σ n) else loopF Q kb vb σ n

theorem loop_wp {P : sProp 𝕄} {R : PUnit → sProp 𝕄} {σ : St F} {K : PUnit → Prog (TpuEff nD τ sig (Elt F) Λ₀ .tc) PUnit}
    (h : ∀ u, held c arg7 arg8 arg9 arg10 arg11 Q (loopF Q kb vb σ k0_t1_loop.trips) iprop(pt c arg4 kb ∗ pt c arg5 vb ∗ P)
      ⊢ wp frame (wpE (defs₀ (F := F)) Variants.none (c : Thread nD τ) none) Set.univ (K u) R) :
    held c arg7 arg8 arg9 arg10 arg11 Q σ iprop(pt c arg4 kb ∗ pt c arg5 vb ∗ P)
      ⊢ wp frame (wpE (defs₀ (F := F)) Variants.none (c : Thread nD τ) none) Set.univ
        (Prog.bind (Scf.Loop.for k0_t1_loop k0_t1_ok ⟨⟩ (fun t _ => tripU arg7 arg8 arg9 arg10 arg11 arg4 arg5 ones t)) K) R := by
  have hb := Scf.wp_for_bind frame (wpE (defs₀ (F := F)) Variants.none (c : Thread nD τ) none) Set.univ k0_t1_loop.lb k0_t1_loop.ub k0_t1_loop.st k0_t1_ok PUnit.unit
    (fun t _ => tripU arg7 arg8 arg9 arg10 arg11 arg4 arg5 ones t)
    (fun n _ => held c arg7 arg8 arg9 arg10 arg11 Q (loopF Q kb vb σ n) iprop(pt c arg4 kb ∗ pt c arg5 vb ∗ P))
    (fun t _ => by
      have hs : loopF Q kb vb σ (t.val + 1) = tripF Q kb vb t (loopF Q kb vb σ t.val) := dif_pos t.isLt
      rw [hs]
      exact tripU_wp c t) (kk := K) (Q := R)
  have hb' : held c arg7 arg8 arg9 arg10 arg11 Q σ iprop(pt c arg4 kb ∗ pt c arg5 vb ∗ P)
      ⊢ iprop((∀ u, held c arg7 arg8 arg9 arg10 arg11 Q (loopF Q kb vb σ k0_t1_loop.trips) iprop(pt c arg4 kb ∗ pt c arg5 vb ∗ P)
          -∗ wp frame (wpE (defs₀ (F := F)) Variants.none (c : Thread nD τ) none) Set.univ (K u) R)
        -∗ wp frame (wpE (defs₀ (F := F)) Variants.none (c : Thread nD τ) none) Set.univ
        (Prog.bind (Scf.Loop.for k0_t1_loop k0_t1_ok ⟨⟩ (fun t _ => tripU arg7 arg8 arg9 arg10 arg11 arg4 arg5 ones t)) K) R) := hb
  iintro H
  iapply hb' $$ H
  iintro %u H
  iapply (h u)
  iexact H

variable {arg6 : Memref sig .tc .vmem S1x1024x256 .bf16} {arg3 : Memref sig .tc .vmem S1x4x1024x128 .bf16}
  {ob : S1x1024x256.Idx → Elt F .bf16} {qb : S1x4x1024x128.Idx → Elt F .bf16}

/-- The stored block from the accumulator. -/
def finF (a : S80x4096.Idx → Elt F .f32) (ob : S1x1024x256.Idx → Elt F .bf16) : S1x1024x256.Idx → Elt F .bf16 :=
  put (put ob ![0, 0, 0] S1x1024x128.size
    (k0_pay3 (window a ![0, 0] S64x4096.size inb_S80x4096_S64x4096_0_0 : Vec F S64x4096 .f32) (window a ![64, 0] S1x4096.size inb_S80x4096_S1x4096_64_0 : Vec F S1x4096 .f32)))
    ![0, 0, 128] S1x1024x128.size
    (k0_pay4 (window a ![0, 0] S64x4096.size inb_S80x4096_S64x4096_0_0 : Vec F S64x4096 .f32) (window a ![64, 0] S1x4096.size inb_S80x4096_S1x4096_64_0 : Vec F S1x4096 .f32))

theorem finU_wp {P : sProp 𝕄} {σ : St F} (harg6 : arg6.IsWhole) :
    held c arg7 arg8 arg9 arg10 arg11 Q σ iprop(pt c arg4 kb ∗ pt c arg5 vb ∗ pt c arg6 ob ∗ P)
      ⊢ wp frame (wpE (defs₀ (F := F)) Variants.none (c : Thread nD τ) none) Set.univ (finU arg11 arg6 harg6)
          fun _ => held c arg7 arg8 arg9 arg10 arg11 Q σ iprop(pt c arg4 kb ∗ pt c arg5 vb ∗ pt c arg6 (finF σ.a ob) ∗ P) := by
  unfold finU held
  refine up5.trans (load_pt c (load_pt c (dn5.trans ?_)))
  refine up8.trans (load_pt c (store_pt c (load_pt c (store_pt c (dn8.trans ?_)))))
  exact fupd_intro

/-- The contents after what follows the loop, the end apart. -/
def restF (Q : S128x4096.Idx → Elt F .bf16) (kb : S1x8448x128.Idx → Elt F .bf16) (vb : S1x64x8448.Idx → Elt F .bf16) (σ : St F) : St F :=
  colsCF (vcOf vb _ inb_S1x64x8448_S1x64x768_0_0_7680) 0 blocks <|
  stepF Q kb vb _ inb_S1x8448x128_S1x768x128_0_7680_0 _ inb_S1x64x8448_S1x64x768_0_0_6912 0 1 <|
  stepF Q kb vb _ inb_S1x8448x128_S1x768x128_0_6912_0 _ inb_S1x64x8448_S1x64x768_0_0_6144 1 0 σ

theorem restU_wp {P : sProp 𝕄} {σ : St F} (harg6 : arg6.IsWhole) :
    held c arg7 arg8 arg9 arg10 arg11 Q σ iprop(pt c arg4 kb ∗ pt c arg5 vb ∗ pt c arg6 ob ∗ P)
      ⊢ wp frame (wpE (defs₀ (F := F)) Variants.none (c : Thread nD τ) none) Set.univ (restU arg7 arg8 arg9 arg10 arg11 arg4 arg5 arg6 harg6)
          fun _ => held c arg7 arg8 arg9 arg10 arg11 Q (restF Q kb vb σ) iprop(pt c arg4 kb ∗ pt c arg5 vb ∗ pt c arg6 (finF (restF Q kb vb σ).a ob) ∗ P) := by
  unfold restU
  refine stepU_wp c _ _ _ _ _ _ (stepU_wp c _ _ _ _ _ _ ?_)
  have h := colsC_wp c (vcOf vb _ inb_S1x64x8448_S1x64x768_0_0_7680) 0 blocks _ (finU_wp c (arg7 := arg7) (arg8 := arg8) (arg9 := arg9) (arg10 := arg10) (arg11 := arg11)
    (arg4 := arg4) (arg5 := arg5) (kb := kb) (vb := vb) (ob := ob) (Q := Q) (P := P) (σ := restF Q kb vb σ) harg6)
  unfold held at h ⊢
  refine up7.trans (load_pt c (dn7.trans ?_))
  exact h

/-- The contents before the first chunk: the queries, and the state at its start. -/
def preQ (qb : S1x4x1024x128.Idx → Elt F .bf16) (Q : S128x4096.Idx → Elt F .bf16) : S128x4096.Idx → Elt F .bf16 :=
  put Q ![0, 0] S128x4096.size (pQ (window qb ![0, 0, 0, 0] S1x4x1024x128.size inb_S1x4x1024x128_S1x4x1024x128_0_0_0_0 : Vec F S1x4x1024x128 .bf16))
def preS (σ : St F) : St F :=
  { σ with
    a := put (put σ.a ![0, 0] S64x4096.size (shapeCast S64x4096 (broadcast S64x4096 (Scalar.ofBits .f32 0x00000000#32)) shapeCasts_S64x4096_S64x4096 : FVec F S64x4096 .f32))
      ![64, 0] S16x4096.size (shapeCast S16x4096 (broadcast S16x4096 (Scalar.ofBits .f32 0x00000000#32)) shapeCasts_S16x4096_S16x4096 : FVec F S16x4096 .f32)
    m := put σ.m ![0, 0] S1x4096.size (shapeCast S1x4096 (broadcast S1x4096 (Scalar.ofBits .f32 0xF149F2CA#32)) shapeCasts_S1x4096_S1x4096 : FVec F S1x4096 .f32) }

/-- The contents of the scratch after the whole body. -/
def bodyF (qb : S1x4x1024x128.Idx → Elt F .bf16) (kb : S1x8448x128.Idx → Elt F .bf16) (vb : S1x64x8448.Idx → Elt F .bf16) (Q : S128x4096.Idx → Elt F .bf16) (σ : St F) : St F :=
  restF (preQ qb Q) kb vb (loopF (preQ qb Q) kb vb (colsPF (preQ qb Q) (kcOf kb _ inb_S1x8448x128_S1x768x128_0_0_0) 0 blocks (preS σ)) k0_t1_loop.trips)

/-- The body runs from the staged blocks and any scratch to the block `finF` of what `bodyF` leaves. -/
theorem body_wp {P : sProp 𝕄} {σ : St F} (i : grid0.Coords) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) :
    held c arg7 arg8 arg9 arg10 arg11 Q σ iprop(pt c arg4 kb ∗ pt c arg5 vb ∗ pt c arg6 ob ∗ pt c arg3 qb ∗ P)
      ⊢ wp frame (wpE (defs₀ (F := F)) Variants.none (c : Thread nD τ) none) Set.univ (cc0_gqa_attention (F := F) i arg3 harg3 arg4 harg4 arg5 harg5 arg6 harg6 arg7 harg7 arg8 harg8 arg9 harg9 arg10 harg10 arg11 harg11)
          fun _ => held c arg7 arg8 arg9 arg10 arg11 (preQ qb Q) (bodyF qb kb vb Q σ) iprop(pt c arg4 kb ∗ pt c arg5 vb ∗ pt c arg6 (finF (bodyF qb kb vb Q σ).a ob) ∗ pt c arg3 qb ∗ P) := by
  rw [body_eq]
  have h := colsP_wp c (Q := preQ qb Q) (P := iprop(pt c arg4 kb ∗ pt c arg5 vb ∗ pt c arg6 ob ∗ pt c arg3 qb ∗ P)) (kcOf kb _ inb_S1x8448x128_S1x768x128_0_0_0) 0 blocks (preS σ)
    (loop_wp c (arg7 := arg7) (arg8 := arg8) (arg9 := arg9) (arg10 := arg10) (arg11 := arg11) (arg4 := arg4) (arg5 := arg5) fun _ => restU_wp c harg6)
  unfold preU
  unfold held at h ⊢
  refine up9.trans (load_pt c (dn9.trans ?_))
  refine load_pt c (store_pt c ?_)
  refine up5.trans (load_pt c (store_pt c (dn5.trans ?_)))
  refine up4.trans (load_pt c (store_pt c (dn4.trans ?_)))
  refine up5.trans (load_pt c (store_pt c (dn5.trans ?_)))
  refine up6.trans (load_pt c (dn6.trans ?_))
  exact h

end Units

end Cert.Flash
-- ==== Proof.Flash.Frame.lean ====
/- The flash-attention call's runs: at every point the body turns the staged blocks into the block `finF (bodyF …)`; the frame
   of the program, which says nothing of the stored block, and the run whose stored blocks are named, from a proof that the
   blocks are the named ones. -/
module

public import proofs.«01_k».proof.Proof.Flash.Run

@[expose] public section

set_option maxRecDepth 100000

noncomputable section

namespace Cert.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The scratch buffers, each at some contents, as the state the body runs from. -/
theorem scratch_in (c : Dev nD) (P : sProp 𝕄) :
    iprop(Pipeline.scopedRest (Ix := Unit) (Name := ℕ) (U := UR sig nD τ) (Lvl := ℕ) (Val := Elt F) spec0 c ∗ P)
      ⊢ iprop(∃ Q, ∃ σ : St F, held c (Memref.whole cc0_scratch0) (Memref.whole cc0_scratch1) (Memref.whole cc0_scratch2) (Memref.whole cc0_scratch3) (Memref.whole cc0_scratch4) Q σ P) := by
  rw [scopedRest0_eq]
  simp only [← owns_whole]
  unfold held
  iintro ⟨⟨⟨%f0, H0⟩, ⟨%f1, H1⟩, ⟨%f2, H2⟩, ⟨%f3, H3⟩, ⟨%f4, H4⟩⟩, HP⟩
  iexists f0
  iexists (St.mk f1 f2 f3 f4)
  isplitl [H0]; · iapply (pt_of_owns c (Memref.whole cc0_scratch0) f0); iexact H0
  isplitl [H1]; · iapply (pt_of_owns c (Memref.whole cc0_scratch1) f1); iexact H1
  isplitl [H2]; · iapply (pt_of_owns c (Memref.whole cc0_scratch2) f2); iexact H2
  isplitl [H3]; · iapply (pt_of_owns c (Memref.whole cc0_scratch3) f3); iexact H3
  isplitl [H4]; · iapply (pt_of_owns c (Memref.whole cc0_scratch4) f4); iexact H4
  iexact HP

theorem scratch_out (c : Dev nD) (P : sProp 𝕄) (Q : S128x4096.Idx → Elt F .bf16) (σ : St F) :
    held c (Memref.whole cc0_scratch0) (Memref.whole cc0_scratch1) (Memref.whole cc0_scratch2) (Memref.whole cc0_scratch3) (Memref.whole cc0_scratch4) Q σ P
      ⊢ iprop(Pipeline.scopedRest (Ix := Unit) (Name := ℕ) (U := UR sig nD τ) (Lvl := ℕ) (Val := Elt F) spec0 c ∗ P) := by
  rw [scopedRest0_eq]
  simp only [← owns_whole]
  unfold held
  iintro ⟨H0, H1, H2, H3, H4, HP⟩
  isplitl [H0 H1 H2 H3 H4]
  · isplitl [H0]; · iexists _; iapply (owns_of_pt c (Memref.whole cc0_scratch0) Q); iexact H0
    isplitl [H1]; · iexists _; iapply (owns_of_pt c (Memref.whole cc0_scratch1) σ.s); iexact H1
    isplitl [H2]; · iexists _; iapply (owns_of_pt c (Memref.whole cc0_scratch2) σ.x); iexact H2
    isplitl [H3]; · iexists _; iapply (owns_of_pt c (Memref.whole cc0_scratch3) σ.m); iexact H3
    iexists _; iapply (owns_of_pt c (Memref.whole cc0_scratch4) σ.a); iexact H4
  iexact HP

/-- The body at a point, from the staged blocks. -/
theorem point_wp (c : Dev nD) (t : Fin cfg0.N) (qb : S1x4x1024x128.Idx → Elt F .bf16) (kb : S1x8448x128.Idx → Elt F .bf16) (vb : S1x64x8448.Idx → Elt F .bf16) (ob : S1x1024x256.Idx → Elt F .bf16) (P : sProp 𝕄) :
    iprop(Pipeline.scopedRest (Ix := Unit) (Name := ℕ) (U := UR sig nD τ) (Lvl := ℕ) (Val := Elt F) spec0 c
        ∗ owns (c : Thread nD τ) (st0_0 t) fullShare qb ∗ owns (c : Thread nD τ) (st0_1 t) fullShare kb ∗ owns (c : Thread nD τ) (st0_2 t) fullShare vb ∗ owns (c : Thread nD τ) (st0_3 t) fullShare ob ∗ P)
      ⊢ wp frame (wpE (defs₀ (F := F)) Variants.none (c : Thread nD τ) none) Set.univ (bodyAt0 t) fun _ =>
        iprop(Pipeline.scopedRest (Ix := Unit) (Name := ℕ) (U := UR sig nD τ) (Lvl := ℕ) (Val := Elt F) spec0 c
        ∗ owns (c : Thread nD τ) (st0_0 t) fullShare qb ∗ owns (c : Thread nD τ) (st0_1 t) fullShare kb ∗ owns (c : Thread nD τ) (st0_2 t) fullShare vb
        ∗ (∃ Q, ∃ σ : St F, owns (c : Thread nD τ) (st0_3 t) fullShare (finF (bodyF qb kb vb Q σ).a ob)) ∗ P) := by
  unfold bodyAt0
  refine (scratch_in c _).trans ?_
  iintro ⟨%Q, %σ, H⟩
  iapply (wp_wand_r frame (wpE (defs₀ (F := F)) Variants.none (c : Thread nD τ) none) Set.univ)
  isplitl [H]
  · iapply (body_wp c (P := P) (Q := Q) (σ := σ) (arg3 := win0_0.stage (cfg0.slots t 0)) (arg4 := win0_1.stage (cfg0.slots t 1)) (arg5 := win0_2.stage (cfg0.slots t 2)) (arg6 := win0_3.stage (cfg0.slots t 3))
      (qb := qb) (kb := kb) (vb := vb) (ob := ob))
    unfold held
    icases H with ⟨H0, H1, H2, H3, H4, Hq, Hk, Hv, Ho, HP⟩
    isplitl [H0]; · iexact H0
    isplitl [H1]; · iexact H1
    isplitl [H2]; · iexact H2
    isplitl [H3]; · iexact H3
    isplitl [H4]; · iexact H4
    isplitl [Hk]; · iapply (pt_of_owns c (st0_1 t) kb); iexact Hk
    isplitl [Hv]; · iapply (pt_of_owns c (st0_2 t) vb); iexact Hv
    isplitl [Ho]; · iapply (pt_of_owns c (st0_3 t) ob); iexact Ho
    isplitl [Hq]; · iapply (pt_of_owns c (st0_0 t) qb); iexact Hq
    iexact HP
  iintro %u H
  ihave H' := (scratch_out c _ _ _) $$ H
  icases H' with ⟨Hs, Hk, Hv, Ho, Hq, HP⟩
  isplitl [Hs]; · iexact Hs
  isplitl [Hq]; · iapply (owns_of_pt c (st0_0 t) qb); iexact Hq
  isplitl [Hk]; · iapply (owns_of_pt c (st0_1 t) kb); iexact Hk
  isplitl [Hv]; · iapply (owns_of_pt c (st0_2 t) vb); iexact Hv
  isplitl [Ho]; · iexists Q; iexists σ; iapply (owns_of_pt c (st0_3 t) _); iexact Ho
  iexact HP

variable (m : (ℓ : Loc nD τ sig) → Buf (Elt F) ℓ) (ρ : Dev nD → PrngReg)

/-- The proof data: each input's buffer at its block after the body, the output's at `out`. -/
def dats (out : (c : Dev nD) → (t : Fin cfg0.N) → S1x1024x256.Idx → Elt F .bf16) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out c t
  Φ _ := Pipeline.ΦA spec0 c
  q _ := fullShare
  owed _ := 0

variable (out : (c : Dev nD) → (t : Fin cfg0.N) → S1x1024x256.Idx → Elt F .bf16)

theorem A_eq (c : Dev nD) (w : Fin cfg0.W) : (dats m out 0 c).A w = V m c (Pipeline.arrRef spec0 w) := by dsimp only [dats]
theorem after0_0 (c : Dev nD) (t : Fin cfg0.N) : (dats m out 0 c).after 0 t = iblk m c 0 t := by dsimp only [dats]
theorem after0_1 (c : Dev nD) (t : Fin cfg0.N) : (dats m out 0 c).after 1 t = iblk m c 1 t := by dsimp only [dats]
theorem after0_2 (c : Dev nD) (t : Fin cfg0.N) : (dats m out 0 c).after 2 t = iblk m c 2 t := by dsimp only [dats]
theorem after0_3 (c : Dev nD) (t : Fin cfg0.N) : (dats m out 0 c).after 3 t = out c t := by dsimp only [dats]
theorem before0_0 (c : Dev nD) (t : Fin cfg0.N) (d) : (dats m out 0 c).before 0 t d = iblk m c 0 t :=
  before0_0_of m (dats m out 0 c) (A_eq m out c 0) (after0_0 m out c) t d
theorem before0_1 (c : Dev nD) (t : Fin cfg0.N) (d) : (dats m out 0 c).before 1 t d = iblk m c 1 t :=
  before0_1_of m (dats m out 0 c) (A_eq m out c 1) (after0_1 m out c) t d
theorem before0_2 (c : Dev nD) (t : Fin cfg0.N) (d) : (dats m out 0 c).before 2 t d = iblk m c 2 t :=
  before0_2_of m (dats m out 0 c) (A_eq m out c 2) (after0_2 m out c) t d

/-- The body table's row at a point. -/
theorem defs₀_row (t : Fin cfg0.N) : defs₀ (F := F) .tc cfg0.body (cfg0.bodyArgs t (cfg0.slots t)) = bodyAt0 t := by
  unfold defs₀; rw [Defs.onTc_tc]

/-- The output window marked. -/
def fgt : Fin cfg0.W → Bool
  | ⟨0, _⟩ => false
  | ⟨1, _⟩ => false
  | ⟨2, _⟩ => false
  | ⟨3, _⟩ => true

theorem sound_forget (c : Dev nD) (t : Fin cfg0.N) :
    iprop((dats m out 0 c).Φ t.castSucc ∗ (dats m out 0 c).owesAt () t.castSucc
      ∗ (∃ d, owns (c : Thread nD τ) (st0_0 t) fullShare ((dats m out 0 c).before 0 t d))
      ∗ (∃ d, owns (c : Thread nD τ) (st0_1 t) fullShare ((dats m out 0 c).before 1 t d))
      ∗ (∃ d, owns (c : Thread nD τ) (st0_2 t) fullShare ((dats m out 0 c).before 2 t d))
      ∗ (∃ X, owns (c : Thread nD τ) (st0_3 t) fullShare X))
    ⊢ wp frame (wpE (defs₀ (F := F)) Variants.none (c : Thread nD τ) none) Set.univ (bodyAt0 t) fun _ =>
      iprop((dats m out 0 c).Φ t.succ ∗ (dats m out 0 c).owesAt () t.succ
      ∗ owns (c : Thread nD τ) (st0_0 t) fullShare ((dats m out 0 c).after 0 t)
      ∗ owns (c : Thread nD τ) (st0_1 t) fullShare ((dats m out 0 c).after 1 t)
      ∗ owns (c : Thread nD τ) (st0_2 t) fullShare ((dats m out 0 c).after 2 t)
      ∗ (∃ X, owns (c : Thread nD τ) (st0_3 t) fullShare X)) := by
  simp only [before0_0, before0_1, before0_2, after0_0, after0_1, after0_2]
  rw [show (dats m out 0 c).Φ t.succ = Pipeline.ΦA spec0 c from rfl, show (dats m out 0 c).Φ t.castSucc = Pipeline.ΦA spec0 c from rfl,
    show (dats m out 0 c).owesAt () t.succ = (dats m out 0 c).owesAt () t.castSucc from rfl]
  unfold Pipeline.ΦA
  iintro ⟨⟨Hs, Hr⟩, Ho, ⟨%d0, H0⟩, ⟨%d1, H1⟩, ⟨%d2, H2⟩, ⟨%X, H3⟩⟩
  iapply (wp_wand_r frame (wpE (defs₀ (F := F)) Variants.none (c : Thread nD τ) none) Set.univ)
  isplitl [Hs Hr H0 H1 H2 H3]
  · iapply (point_wp c t (iblk m c 0 t) (iblk m c 1 t) (iblk m c 2 t) X iprop(∃ r, prngReg c r))
    isplitl [Hs]; · iexact Hs
    isplitl [H0]; · iexact H0
    isplitl [H1]; · iexact H1
    isplitl [H2]; · iexact H2
    isplitl [H3]; · iexact H3
    iexact Hr
  iintro %u ⟨Hs, H0, H1, H2, ⟨%Q, %σ, H3⟩, Hr⟩
  isplitl [Hs Hr]
  · isplitl [Hs]; · iexact Hs
    iexact Hr
  isplitl [Ho]; · iexact Ho
  isplitl [H0]; · iexact H0
  isplitl [H1]; · iexact H1
  isplitl [H2]; · iexact H2
  iexists _; iexact H3

theorem body_forget (c : Dev nD) : BodyObligation (dats m out 0 c) (defs₀ (F := F)) Variants.none () Set.univ fgt := fun t => by
  rw [bigSep_W0, bigSep_W0, defs₀_row]
  exact sound_forget m out c t

theorem sound_exact (hout : ∀ c t Q (σ : St F) ob, finF (bodyF (iblk m c 0 t) (iblk m c 1 t) (iblk m c 2 t) Q σ).a ob = out c t) (c : Dev nD) (t : Fin cfg0.N) :
    iprop((dats m out 0 c).Φ t.castSucc ∗ (dats m out 0 c).owesAt () t.castSucc
      ∗ (∃ d, owns (c : Thread nD τ) (st0_0 t) fullShare ((dats m out 0 c).before 0 t d))
      ∗ (∃ d, owns (c : Thread nD τ) (st0_1 t) fullShare ((dats m out 0 c).before 1 t d))
      ∗ (∃ d, owns (c : Thread nD τ) (st0_2 t) fullShare ((dats m out 0 c).before 2 t d))
      ∗ (∃ d, owns (c : Thread nD τ) (st0_3 t) fullShare ((dats m out 0 c).before 3 t d)))
    ⊢ wp frame (wpE (defs₀ (F := F)) Variants.none (c : Thread nD τ) none) Set.univ (bodyAt0 t) fun _ =>
      iprop((dats m out 0 c).Φ t.succ ∗ (dats m out 0 c).owesAt () t.succ
      ∗ owns (c : Thread nD τ) (st0_0 t) fullShare ((dats m out 0 c).after 0 t)
      ∗ owns (c : Thread nD τ) (st0_1 t) fullShare ((dats m out 0 c).after 1 t)
      ∗ owns (c : Thread nD τ) (st0_2 t) fullShare ((dats m out 0 c).after 2 t)
      ∗ owns (c : Thread nD τ) (st0_3 t) fullShare ((dats m out 0 c).after 3 t)) := by
  simp only [before0_0, before0_1, before0_2, after0_0, after0_1, after0_2, after0_3]
  rw [show (dats m out 0 c).Φ t.succ = Pipeline.ΦA spec0 c from rfl, show (dats m out 0 c).Φ t.castSucc = Pipeline.ΦA spec0 c from rfl,
    show (dats m out 0 c).owesAt () t.succ = (dats m out 0 c).owesAt () t.castSucc from rfl]
  unfold Pipeline.ΦA
  iintro ⟨⟨Hs, Hr⟩, Ho, ⟨%d0, H0⟩, ⟨%d1, H1⟩, ⟨%d2, H2⟩, ⟨%d3, H3⟩⟩
  iapply (wp_wand_r frame (wpE (defs₀ (F := F)) Variants.none (c : Thread nD τ) none) Set.univ)
  isplitl [Hs Hr H0 H1 H2 H3]
  · iapply (point_wp c t (iblk m c 0 t) (iblk m c 1 t) (iblk m c 2 t) ((dats m out 0 c).before 3 t d3) iprop(∃ r, prngReg c r))
    isplitl [Hs]; · iexact Hs
    isplitl [H0]; · iexact H0
    isplitl [H1]; · iexact H1
    isplitl [H2]; · iexact H2
    isplitl [H3]; · iexact H3
    iexact Hr
  iintro %u ⟨Hs, H0, H1, H2, ⟨%Q, %σ, H3⟩, Hr⟩
  isplitl [Hs Hr]
  · isplitl [Hs]; · iexact Hs
    iexact Hr
  isplitl [Ho]; · iexact Ho
  isplitl [H0]; · iexact H0
  isplitl [H1]; · iexact H1
  isplitl [H2]; · iexact H2
  rw [← hout c t Q σ ((dats m out 0 c).before 3 t d3)]
  iexact H3

theorem body_exact (hout : ∀ c t Q (σ : St F) ob, finF (bodyF (iblk m c 0 t) (iblk m c 1 t) (iblk m c 2 t) Q σ).a ob = out c t) (c : Dev nD) :
    BodyObligation (dats m out 0 c) (defs₀ (F := F)) Variants.none () Set.univ := fun t => by
  rw [bigSep_W0, bigSep_W0, defs₀_row]
  exact sound_exact m out hout c t

set_option backward.isDefEq.respectTransparency.types false in
set_option maxHeartbeats 800000 in
/-- The launch, the output forgotten; every semaphore ends at zero. -/
theorem run_forget : θ_run defs (onTc (τ := τ) (main (F := F))) (s₀ m ρ)
    (fun r => Pipeline.RDat.FramePost (cfgs 0) (fun c => (dats m out 0 c).toRForget fgt) (V m) r ∧ r.2.sem = fun _ => 0) :=
  Pipeline.θ_run_frame_forget (Q' := _) cfgs (dats m out) (0 : Fin 1) launch0 defs₀ Variants.none fgt m ρ main
    (hbody := fun c => (body_forget m out c).loose) (hshare := fun c => (dats m out 0 c).share_full fun _ => rfl)
    (howed := fun _ _ => rfl) (V := V m) (hmain := hmain m Variants.none) (hA := A_eq m out) (hΦ := fun _ _ => rfl)

/-- The frame: the program runs, its arguments end unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)
    (run_forget m ρ (fun _ _ _ => Scalar.ofBits .bf16 0x0000#16))

set_option backward.isDefEq.respectTransparency.types false in
set_option maxHeartbeats 800000 in
/-- The launch with the stored blocks named. -/
theorem run_exact (hout : ∀ c t Q (σ : St F) ob, finF (bodyF (iblk m c 0 t) (iblk m c 1 t) (iblk m c 2 t) Q σ).a ob = out c t) :
    θ_run defs (onTc (τ := τ) (main (F := F))) (s₀ m ρ) (Pipeline.FramePost cfgs (dats m out) 0 (V m)) :=
  Pipeline.θ_run_frame cfgs (dats m out) (0 : Fin 1) launch0 defs₀ Variants.none m ρ main
    (hbody := fun c => (body_exact m out hout c).loose) (hshare := fun c => (dats m out 0 c).share_full fun _ => rfl)
    (howed := fun _ _ => rfl) (V := V m) (hmain := hmain m Variants.none) (hA := A_eq m out) (hΦ := fun _ _ => rfl)

end Cert.Flash
-- ==== Proof.Flash.Frames.lean ====
/- The frames of the flash-attention call, of the printed program and of its idealization: read on bit patterns the two are one program. -/
module

public import proofs.«01_k».proof.Proof.Flash.Frame
public import proofs.«01_k».proof.Proof.Gen.Kernel
public import proofs.«01_k».proof.Defs

@[expose] public section

set_option maxRecDepth 1000000
set_option maxHeartbeats 0

noncomputable section

namespace Cert.Flash

open Idealize.ShloMosaic Idealize.ShloMosaic.TcCoe
open Idealize.SL.Sem

attribute [local instance] Cert.Kernel.Gen.facts Cert.KernelIdeal.Gen.facts
/-- Read on bit patterns, a named constant is its printed bits: so the idealized program read there is the printed one. -/
@[reducible] def bitsNamed : Named Bits := ⟨fun _ _ {φ} b => Scalar.ofBits φ b⟩
attribute [local instance] bitsNamed

theorem main_bits : Cert.Kernel.main (F := Bits) = Cert.KernelIdeal.main (F := Bits) := rfl
theorem body_bits (i : Cert.KernelIdeal.grid0.Coords) a1 b1 a2 b2 a3 b3 a4 b4 a5 b5 a6 b6 a7 b7 a8 b8 a9 b9 : Cert.Kernel.cc0_gqa_attention (F := Bits) i a1 b1 a2 b2 a3 b3 a4 b4 a5 b5 a6 b6 a7 b7 a8 b8 a9 b9 = Cert.KernelIdeal.cc0_gqa_attention (F := Bits) i a1 b1 a2 b2 a3 b3 a4 b4 a5 b5 a6 b6 a7 b7 a8 b8 a9 b9 := rfl
theorem table_bits (b) (a : Cert.Kernel.Λ₀.Args b) : Cert.Kernel.defs₀ (F := Bits) .tc b a = Cert.KernelIdeal.defs₀ (F := Bits) .tc b a := by
  match b, a with
  | ⟨0, _⟩, (t, s) => exact body_bits _ _ _ _ _ _ _ _ _ _ _ _ _ _ _ _ _ _ _
  | ⟨_ + 1, h⟩, _ => exact absurd h (Nat.not_lt.2 (Nat.le_add_left _ _))
theorem defs0_bits : Cert.Kernel.defs₀ (F := Bits) = Cert.KernelIdeal.defs₀ (F := Bits) := by
  unfold Cert.Kernel.defs₀ Cert.KernelIdeal.defs₀
  refine congrArg Defs.onTc ?_
  funext b a
  exact table_bits b a
theorem defs_bits : Cert.Kernel.defs (F := Bits) = Cert.KernelIdeal.defs (F := Bits) := congrArg (Pipeline.defs (Cert.KernelIdeal.pcfgs (F := Bits))) defs0_bits

/-- The idealized call runs, its arguments unchanged. -/
theorem frame_kernelIdeal : Cert.quiescent_KernelIdeal := fun m ρ _ => frame_run (F := Ideal) m ρ

/-- The printed call runs, its arguments unchanged. -/
theorem frame_kernel : Cert.quiescent_Kernel := fun m ρ _ => by
  have h := frame_run (F := Bits) m ρ
  rw [← defs_bits, ← main_bits] at h
  exact h

end Cert.Flash
-- ==== Proof.Flash.Math.lean ====
/- The arithmetic of an online softmax over the extended reals: a running maximum `μ`, and an accumulator that is the sum
   of the values weighted by `2 ^ (score - μ)`; rescaling, adding a chunk, and the quotient by the sum of the weights. -/
module

public import Idealize.ShloMosaic.Lib.Pointwise

@[expose] public section

noncomputable section

namespace Cert.Flash

open Idealize.ShloMosaic

/-- A sum weighted by reals, times a nonnegative real: the weights are multiplied. -/
theorem sum_mul_coe {ι : Type} (s : Finset ι) (V : ι → EReal) (c : ι → ℝ) (d : ℝ) (hd : 0 ≤ d) :
    (∑ k ∈ s, V k * (c k : EReal)) * (d : EReal) = ∑ k ∈ s, V k * ((c k * d : ℝ) : EReal) := by
  classical
  induction s using Finset.induction_on with
  | empty => simp
  | insert a s ha ih =>
    rw [Finset.sum_insert ha, Finset.sum_insert ha, EReal.right_distrib_of_nonneg_of_ne_top (by exact_mod_cast hd) (EReal.coe_ne_top d), ih,
      mul_assoc, EReal.coe_mul]

/-- A sum of reals is real. -/
theorem sum_coe {ι : Type} (s : Finset ι) (c : ι → ℝ) : (∑ k ∈ s, (c k : EReal)) = ((∑ k ∈ s, c k : ℝ) : EReal) := by
  classical
  induction s using Finset.induction_on with
  | empty => simp
  | insert a s ha ih => rw [Finset.sum_insert ha, Finset.sum_insert ha, ih, EReal.coe_add]

/-- A product of reals summed is real. -/
theorem sum_mul_real {ι : Type} (s : Finset ι) (f g : ι → EReal) (hf : ∀ i, ∃ x : ℝ, f i = x) (hg : ∀ i, ∃ x : ℝ, g i = x) :
    ∃ x : ℝ, (∑ i ∈ s, f i * g i) = x := by
  choose a ha using hf
  choose b hb using hg
  refine ⟨∑ i ∈ s, a i * b i, ?_⟩
  rw [← sum_coe]
  exact Finset.sum_congr rfl fun i _ => by rw [ha, hb, EReal.coe_mul]

/-- The maximum of finitely many reals, from below all of them, is real. -/
theorem fold_max_real {ι : Type} (s : Finset ι) (hs : s.Nonempty) (f : ι → EReal) (h : ∀ i, ∃ x : ℝ, f i = x) :
    ∃ x : ℝ, s.fold max ⊥ f = x := by
  classical
  induction hs using Finset.Nonempty.cons_induction with
  | singleton a => obtain ⟨x, hx⟩ := h a; exact ⟨x, by simp [hx]⟩
  | cons a s ha hs ih =>
    obtain ⟨x, hx⟩ := h a
    obtain ⟨y, hy⟩ := ih
    exact ⟨max x y, by rw [Finset.fold_cons, hx, hy]; exact (EReal.coe_strictMono.monotone.map_max).symm⟩

theorem max_real {a b : EReal} (ha : ∃ x : ℝ, a = x) (hb : ∃ x : ℝ, b = x) : ∃ x : ℝ, max a b = x := by
  obtain ⟨x, rfl⟩ := ha
  obtain ⟨y, rfl⟩ := hb
  exact ⟨max x y, (EReal.coe_strictMono.monotone.map_max).symm⟩

/-- The weight of a score under a running maximum. -/
def e2 (r : ℝ) : ℝ := Real.rpow 2 r

theorem e2_pos (r : ℝ) : 0 < e2 r := Real.rpow_pos_of_pos (by norm_num) r
theorem e2_add (a b : ℝ) : e2 (a + b) = e2 a * e2 b := Real.rpow_add (by norm_num) a b

theorem exp2_sub (a b : ℝ) : Ideal.exp2 ((a : EReal) - (b : EReal)) = ((e2 (a - b) : ℝ) : EReal) := by
  rw [← EReal.coe_sub, Ideal.exp2_coe]; rfl

theorem exp_sub (a b : ℝ) : Ideal.exp ((a : EReal) - (b : EReal)) = ((Real.exp (a - b) : ℝ) : EReal) := by
  rw [← EReal.coe_sub]; rfl

/-- One chunk: the accumulator rescaled to the new maximum plus the chunk's weighted values is the longer sum. -/
theorem flash_step (N C : ℕ) (V : ℕ → EReal) (S : ℕ → ℝ) (μ μ' : ℝ) :
    ((e2 (μ - μ') : ℝ) : EReal) * (∑ k ∈ Finset.range N, V k * ((e2 (S k - μ) : ℝ) : EReal))
      + (∑ j : Fin C, V (N + j.val) * ((e2 (S (N + j.val) - μ') : ℝ) : EReal))
      = ∑ k ∈ Finset.range (N + C), V k * ((e2 (S k - μ') : ℝ) : EReal) := by
  rw [mul_comm, sum_mul_coe _ _ _ _ (e2_pos _).le, Finset.sum_range_add, Finset.sum_range (n := C)]
  refine congrArg (· + _) (Finset.sum_congr rfl fun k _ => ?_)
  rw [← e2_add]
  congr 3
  ring

/-- The quotient of the accumulator by the sum of the weights does not depend on the running maximum. -/
theorem flash_quot {ι : Type} (s : Finset ι) (hs : s.Nonempty) (V : ι → EReal) (S T : ι → ℝ) (μ : ℝ) (hST : ∀ k, e2 (S k) = Real.exp (T k)) :
    Ideal.div (∑ k ∈ s, V k * ((e2 (S k - μ) : ℝ) : EReal)) (∑ k ∈ s, 1 * ((e2 (S k - μ) : ℝ) : EReal))
      = ∑ k ∈ s, V k * ((Real.exp (T k) / ∑ k' ∈ s, Real.exp (T k') : ℝ) : EReal) := by
  have hw : ∀ k, e2 (S k - μ) = Real.exp (T k) * e2 (-μ) := fun k => by rw [← hST, ← e2_add, sub_eq_add_neg]
  have hl : (∑ k ∈ s, 1 * ((e2 (S k - μ) : ℝ) : EReal)) = (((∑ k ∈ s, Real.exp (T k)) * e2 (-μ) : ℝ) : EReal) := by
    rw [Finset.sum_mul, ← sum_coe]
    exact Finset.sum_congr rfl fun k _ => by rw [one_mul, hw]
  have hz : 0 < ∑ k ∈ s, Real.exp (T k) := Finset.sum_pos (fun k _ => Real.exp_pos _) hs
  have he := e2_pos (-μ)
  rw [hl, Ideal.div_coe (mul_pos hz he).ne', sum_mul_coe _ _ _ _ (by positivity)]
  refine Finset.sum_congr rfl fun k _ => ?_
  rw [hw]
  congr 2
  field_simp

/-- A softmax weight computed against any shift is the plain one. -/
theorem softmax_shift {ι : Type} (s : Finset ι) (hs : s.Nonempty) (T : ι → ℝ) (M : ℝ) (k : ι) :
    Ideal.div (((Real.exp (T k - M)) : ℝ) : EReal) (∑ k' ∈ s, ((Real.exp (T k' - M) : ℝ) : EReal))
      = ((Real.exp (T k) / ∑ k' ∈ s, Real.exp (T k') : ℝ) : EReal) := by
  have hw : ∀ k, Real.exp (T k - M) = Real.exp (T k) * Real.exp (-M) := fun k => by rw [← Real.exp_add, sub_eq_add_neg]
  have hz : 0 < ∑ k ∈ s, Real.exp (T k) := Finset.sum_pos (fun k _ => Real.exp_pos _) hs
  have he := Real.exp_pos (-M)
  have hl : (∑ k' ∈ s, ((Real.exp (T k' - M) : ℝ) : EReal)) = (((∑ k ∈ s, Real.exp (T k)) * Real.exp (-M) : ℝ) : EReal) := by
    rw [Finset.sum_mul, ← sum_coe]
    exact Finset.sum_congr rfl fun k _ => by rw [hw]
  rw [hl, Ideal.div_coe (mul_pos hz he).ne', hw, ← EReal.coe_mul]
  congr 1
  field_simp

/-- `2 ^ (x / ln 256) = exp (x / 8)`. -/
theorem e2_scale (x : ℝ) : e2 (x * (Real.log 256)⁻¹) = Real.exp (x * (1 / 8)) := by
  have h : Real.log 256 = 8 * Real.log 2 := by
    rw [show (256 : ℝ) = 2 ^ 8 by norm_num, Real.log_pow]; norm_num
  show (2 : ℝ) ^ (x * (Real.log 256)⁻¹) = _
  rw [Real.rpow_def_of_pos (by norm_num), h]
  have := (Real.log_pos (by norm_num : (1 : ℝ) < 2)).ne'
  congr 1
  field_simp

/-- The weight of key `k` among the scores `t`, scaled by `1/8`. -/
def W (t : Fin 8448 → EReal) (k : Fin 8448) : EReal :=
  ((Real.exp ((t k).toReal * (1 / 8)) / ∑ k' : Fin 8448, Real.exp ((t k').toReal * (1 / 8)) : ℝ) : EReal)

end Cert.Flash
-- ==== Proof.Flash.Col.lean ====
/- One column of the flash-attention state, at the ideal instance: what the units read and write there, and the invariant of a step:
   after `n` chunks the accumulator is the sum of the values of those chunks weighted by `2 ^ (score - running maximum)`. -/
module

public import proofs.«01_k».proof.Proof.Flash.Run
public import proofs.«01_k».proof.Proof.Flash.Math

@[expose] public section

set_option maxRecDepth 16384

noncomputable section

namespace Cert.Flash

open Idealize.ShloMosaic Idealize.SL.Sem
open Idealize.ShloMosaic.VecWindow
open Cert.KernelIdeal Cert.KernelIdeal.Gen

/-! ## Windows at an index -/

section Windows
variable {α : Type}

/-- A put over columns `o ..< o + c` of rows `p ..< p + a`, read inside. -/
theorem put2_in {A B a c : ℕ} (x : (Shape.mk 2 ![A, B]).Idx → α) (p o : ℕ) (w : (Shape.mk 2 ![a, c]).Idx → α) (i : Fin A) (col : Fin B)
    (hi : p ≤ i.val) (hi' : i.val < p + a) (h : o ≤ col.val) (h' : col.val < o + c) :
    put (s := Shape.mk 2 ![A, B]) x ![p, o] (Shape.mk 2 ![a, c]).size w (ix2 i col) = w (ix2 ⟨i.val - p, by omega⟩ ⟨col.val - o, by omega⟩) := by
  unfold put
  have hh : ∀ k : Fin 2, (![p, o] : Fin 2 → ℕ) k ≤ ((ix2 i col : (Shape.mk 2 ![A, B]).Idx) k).val ∧ ((ix2 i col : (Shape.mk 2 ![A, B]).Idx) k).val < (![p, o] : Fin 2 → ℕ) k + (Shape.mk 2 ![a, c]).size k := by
    intro k; fin_cases k
    · exact ⟨hi, hi'⟩
    · exact ⟨h, h'⟩
  rw [dif_pos hh]
  refine congrArg w (funext fun k => ?_)
  fin_cases k <;> rfl

/-- The same, read in another column or row. -/
theorem put2_out {A B a c : ℕ} (x : (Shape.mk 2 ![A, B]).Idx → α) (p o : ℕ) (w : (Shape.mk 2 ![a, c]).Idx → α) (i : Fin A) (col : Fin B)
    (h : (i.val < p ∨ p + a ≤ i.val) ∨ (col.val < o ∨ o + c ≤ col.val)) :
    put (s := Shape.mk 2 ![A, B]) x ![p, o] (Shape.mk 2 ![a, c]).size w (ix2 i col) = x (ix2 i col) := by
  unfold put
  refine dif_neg fun hh => ?_
  have h0 : p ≤ i.val ∧ i.val < p + a := hh 0
  have h1 : o ≤ col.val ∧ col.val < o + c := hh 1
  omega

theorem put3_in {A B C a b c : ℕ} (x : (Shape.mk 3 ![A, B, C]).Idx → α) (p q o : ℕ) (w : (Shape.mk 3 ![a, b, c]).Idx → α) (i : Fin A) (j : Fin B) (col : Fin C)
    (hi : p ≤ i.val) (hi' : i.val < p + a) (hj : q ≤ j.val) (hj' : j.val < q + b) (h : o ≤ col.val) (h' : col.val < o + c) :
    put (s := Shape.mk 3 ![A, B, C]) x ![p, q, o] (Shape.mk 3 ![a, b, c]).size w (ix3 i j col)
      = w (ix3 ⟨i.val - p, by omega⟩ ⟨j.val - q, by omega⟩ ⟨col.val - o, by omega⟩) := by
  unfold put
  have hh : ∀ k : Fin 3, (![p, q, o] : Fin 3 → ℕ) k ≤ ((ix3 i j col : (Shape.mk 3 ![A, B, C]).Idx) k).val ∧ ((ix3 i j col : (Shape.mk 3 ![A, B, C]).Idx) k).val < (![p, q, o] : Fin 3 → ℕ) k + (Shape.mk 3 ![a, b, c]).size k := by
    intro k; fin_cases k
    · exact ⟨hi, hi'⟩
    · exact ⟨hj, hj'⟩
    · exact ⟨h, h'⟩
  rw [dif_pos hh]
  refine congrArg w (funext fun k => ?_)
  fin_cases k <;> rfl

theorem put3_out {A B C a b c : ℕ} (x : (Shape.mk 3 ![A, B, C]).Idx → α) (p q o : ℕ) (w : (Shape.mk 3 ![a, b, c]).Idx → α) (i : Fin A) (j : Fin B) (col : Fin C)
    (h : (i.val < p ∨ p + a ≤ i.val) ∨ (col.val < o ∨ o + c ≤ col.val)) :
    put (s := Shape.mk 3 ![A, B, C]) x ![p, q, o] (Shape.mk 3 ![a, b, c]).size w (ix3 i j col) = x (ix3 i j col) := by
  unfold put
  refine dif_neg fun hh => ?_
  have h0 : p ≤ i.val ∧ i.val < p + a := hh 0
  have h1 : o ≤ col.val ∧ col.val < o + c := hh 2
  omega

/-- A window of columns and rows, read at an index. -/
theorem window2_at {A B a c : ℕ} (x : (Shape.mk 2 ![A, B]).Idx → α) (p o : ℕ)
    (inb : ∀ k, (![p, o] : Fin 2 → ℕ) k + (Shape.mk 2 ![a, c]).size k ≤ (Shape.mk 2 ![A, B]).size k)
    (i : Fin a) (y : Fin c) (i' : Fin A) (y' : Fin B) (hi : i'.val = p + i.val) (hy : y'.val = o + y.val) :
    window (s := Shape.mk 2 ![A, B]) x ![p, o] (Shape.mk 2 ![a, c]).size inb (ix2 i y) = x (ix2 i' y') := by
  refine congrArg x (funext fun k => ?_)
  fin_cases k
  · exact Fin.ext (show p + 1 * i.val = i'.val by omega)
  · exact Fin.ext (show o + 1 * y.val = y'.val by omega)

theorem window3_at {A B C a b c : ℕ} (x : (Shape.mk 3 ![A, B, C]).Idx → α) (p q o : ℕ)
    (inb : ∀ k, (![p, q, o] : Fin 3 → ℕ) k + (Shape.mk 3 ![a, b, c]).size k ≤ (Shape.mk 3 ![A, B, C]).size k)
    (i : Fin a) (j : Fin b) (y : Fin c) (i' : Fin A) (j' : Fin B) (y' : Fin C) (hi : i'.val = p + i.val) (hj : j'.val = q + j.val) (hy : y'.val = o + y.val) :
    window (s := Shape.mk 3 ![A, B, C]) x ![p, q, o] (Shape.mk 3 ![a, b, c]).size inb (ix3 i j y) = x (ix3 i' j' y') := by
  refine congrArg x (funext fun k => ?_)
  fin_cases k
  · exact Fin.ext (show p + 1 * i.val = i'.val by omega)
  · exact Fin.ext (show q + 1 * j.val = j'.val by omega)
  · exact Fin.ext (show o + 1 * y.val = y'.val by omega)

theorem window4_at {A B C D a b c d : ℕ} (x : (Shape.mk 4 ![A, B, C, D]).Idx → α) (o p q t : ℕ)
    (inb : ∀ k, (![o, p, q, t] : Fin 4 → ℕ) k + (Shape.mk 4 ![a, b, c, d]).size k ≤ (Shape.mk 4 ![A, B, C, D]).size k)
    (h : Fin a) (i : Fin b) (j : Fin c) (y : Fin d) (h' : Fin A) (i' : Fin B) (j' : Fin C) (y' : Fin D) (hh : h'.val = o + h.val) (hi : i'.val = p + i.val) (hj : j'.val = q + j.val)
    (hy : y'.val = t + y.val) :
    window (s := Shape.mk 4 ![A, B, C, D]) x ![o, p, q, t] (Shape.mk 4 ![a, b, c, d]).size inb (ix4 h i j y) = x (ix4 h' i' j' y') := by
  refine congrArg x (funext fun k => ?_)
  fin_cases k
  · exact Fin.ext (show o + 1 * h.val = h'.val by omega)
  · exact Fin.ext (show p + 1 * i.val = i'.val by omega)
  · exact Fin.ext (show q + 1 * j.val = j'.val by omega)
  · exact Fin.ext (show t + 1 * y.val = y'.val by omega)

end Windows

/-! ## The payloads at an index -/

theorem pS_at (kc : FVec Ideal S768x128 .bf16) (q : Vec Ideal S128x256 .bf16) (i : Fin 1) (j : Fin 768) (x : Fin 256) :
    pS kc q (ix3 i j x) = ∑ d : Fin 128, kc (ix2 j d) * q (ix2 d x) := by
  pointwise [pS]

theorem negInf : Ideal.ofBits .f32 0xFF800000#32 = ⊥ := by simp [Ideal.ofBits, Ideal.ieee]

theorem pC_real (kc : FVec Ideal S768x128 .bf16) (q : Vec Ideal S128x256 .bf16) (hk : ∀ j d, ∃ x : ℝ, kc (ix2 j d) = (x : EReal))
    (hq : ∀ d x, ∃ r : ℝ, q (ix2 d x) = (r : EReal)) (i : Fin 1) (r : Fin 8) (x : Fin 256) :
    ∃ y : ℝ, pC kc q (ix3 i r x) = (y : EReal) := by
  pointwise [pC]
  rw [negInf]
  exact fold_max_real _ Finset.univ_nonempty _ fun k => sum_mul_real _ _ _ (fun d => hk _ d) (fun d => hq d x)

theorem pN_real (m : FVec Ideal S1x256 .f32) (cm : Vec Ideal S1x8x256 .f32) (x : Fin 256) (hm : ∃ y : ℝ, m (ix2 0 x) = (y : EReal))
    (hc : ∀ r, ∃ y : ℝ, cm (ix3 0 r x) = (y : EReal)) : ∃ y : ℝ, pN m cm (ix2 0 x) = (y : EReal) := by
  pointwise [pN]
  rw [negInf]
  exact max_real hm (fold_max_real _ Finset.univ_nonempty _ fun k => hc k)

theorem pM_at (m : FVec Ideal S1x256 .f32) (cm : Vec Ideal S1x8x256 .f32) (x : Fin 256) :
    pM m cm (ix2 0 x) = pN m cm (ix2 0 x) := by
  pointwise [pM]

theorem exp2_ideal (x : EReal) : FloatOps.exp2 (F := Ideal) (φ := .f32) x = Ideal.exp2 x := rfl

theorem pA_at (vt1 : FVec Ideal S80x768 .bf16) (m : FVec Ideal S1x256 .f32) (cm : Vec Ideal S1x8x256 .f32) (s : Vec Ideal S1x768x256 .f32) (a : FVec Ideal S80x256 .f32) (r : Fin 80) (x : Fin 256) :
    pA vt1 m cm s a (ix2 r x) = Ideal.exp2 (m (ix2 0 x) - pN m cm (ix2 0 x)) * a (ix2 r x) + ∑ j : Fin 768, vt1 (ix2 r j) * Ideal.exp2 (s (ix3 0 j x) - pN m cm (ix2 0 x)) := by
  pointwise [pA]
  rfl

theorem withOnes_at (v : Vec Ideal S1x64x768 .bf16) (r : Fin 80) (j : Fin 768) :
    withOnes ones v (ix2 r j) = if h : r.val < 64 then v (ix3 0 ⟨r.val, h⟩ j) else 1 := by
  pointwise [withOnes, ones]

theorem pQ_at (x : Vec Ideal S1x4x1024x128 .bf16) (d : Fin 128) (c : Fin 4096) :
    pQ x (ix2 d c) = x (ix4 0 ⟨c.val / 1024, by omega⟩ ⟨c.val % 1024, by omega⟩ d) * (Named.named (F := Ideal) κ "scale" 0x3E38AA3B#32 : Ideal .f32) := by
  pointwise [pQ]

theorem kc_at (v : Vec Ideal S1x768x128 .bf16) (j : Fin 768) (d : Fin 128) :
    (shapeCast S768x128 v shapeCasts_S1x768x128_S768x128 : FVec Ideal S768x128 .bf16) (ix2 j d) = v (ix3 0 j d) := by
  pointwise

/-! ## A column of the state -/

/-- Column `col` lies in block `b` exactly when the block is `col / 256`. -/
theorem col_ne {b : Fin 16} {col : Fin 4096} (h : b.val ≠ col.val / 256) : col.val < 256 * b.val ∨ 256 * b.val + 256 ≤ col.val := by omega

variable (kb : S1x8448x128.Idx → Ideal .bf16) (vb : S1x64x8448.Idx → Ideal .bf16) (Q : S128x4096.Idx → Ideal .bf16)

/-- Key number `k`. -/
def fk (k : ℕ) : Fin 8448 := ⟨k % 8448, Nat.mod_lt _ (by norm_num)⟩

/-- Row `r` of the values of key `k`, with rows of ones under them. -/
def V1 (r : Fin 80) (k : ℕ) : EReal := if h : r.val < 64 then vb (ix3 0 ⟨r.val, h⟩ (fk k)) else 1

/-- The scores `S` are the products of keys and queries, of which each is real. -/
structure Scores (S : ℕ → Fin 4096 → ℝ) : Prop where
  hk : ∀ k d, ∃ x : ℝ, kb (ix3 0 k d) = (x : EReal)
  hq : ∀ d c, ∃ x : ℝ, Q (ix2 d c) = (x : EReal)
  hS : ∀ k c, (∑ d : Fin 128, (show EReal from kb (ix3 0 (fk k) d)) * (show EReal from Q (ix2 d c))) = ((S k c : ℝ) : EReal)

/-- After `n` chunks: a real running maximum and the weighted sum of their values. -/
def Hold (S : ℕ → Fin 4096 → ℝ) (n : ℕ) (col : Fin 4096) (σ : St Ideal) : Prop :=
  ∃ μ : ℝ, σ.m (ix2 0 col) = (μ : EReal) ∧ ∀ r : Fin 80, σ.a (ix2 r col) = ∑ k ∈ Finset.range (768 * n), V1 vb r k * ((e2 (S k col - μ) : ℝ) : EReal)

/-- Slot `s` holds the scores of chunk `n`, and real maxima. -/
def Slot (S : ℕ → Fin 4096 → ℝ) (n : ℕ) (s : Fin 2) (col : Fin 4096) (σ : St Ideal) : Prop :=
  (∀ j : Fin 768, σ.s (ix3 s j col) = ((S (768 * n + j.val) col : ℝ) : EReal)) ∧ ∀ r : Fin 8, ∃ x : ℝ, σ.x (ix3 s r col) = (x : EReal)

variable {kb vb Q} {S : ℕ → Fin 4096 → ℝ} {n : ℕ} {col : Fin 4096} {σ : St Ideal}

theorem hold_prod (kc : FVec Ideal S768x128 .bf16) (s : Fin 2) (b : Fin 16) (h : Hold vb S n col σ) : Hold vb S n col (prodF Q kc s b σ) := h

theorem slot_cons (vt1 : FVec Ideal S80x768 .bf16) (s s' : Fin 2) (b : Fin 16) (h : Slot S n s col σ) : Slot S n s col (consF vt1 s' b σ) := h

theorem slot_prod_ne (kc : FVec Ideal S768x128 .bf16) (s s' : Fin 2) (b : Fin 16) (hb : b.val ≠ col.val / 256 ∨ s ≠ s') (h : Slot S n s' col σ) :
    Slot S n s' col (prodF Q kc s b σ) := by
  have hh : (s'.val < s.val ∨ s.val + 1 ≤ s'.val) ∨ (col.val < 256 * b.val ∨ 256 * b.val + 256 ≤ col.val) := by
    rcases hb with hb | hb
    · exact .inr (col_ne hb)
    · exact .inl (by omega)
  refine ⟨fun j => ?_, fun r => ?_⟩
  · exact (put3_out σ.s s.val 0 (256 * b.val) _ s' j col hh).trans (h.1 j)
  · obtain ⟨x, hx⟩ := h.2 r
    exact ⟨x, (put3_out σ.x s.val 0 (256 * b.val) _ s' r col hh).trans hx⟩

/-- The scores of a chunk of keys against a block of columns are that chunk's. -/
theorem slot_prod (hs : Scores kb Q S) (s : Fin 2) (b : Fin 16) (hb : b.val = col.val / 256) (o : Fin 3 → ℕ)
    (h : ∀ a, o a + S1x768x128.size a ≤ S1x8448x128.size a) (hn : 768 * n + 768 ≤ 8448) (ho : o = ![0, 768 * n, 0]) :
    Slot S n s col (prodF Q (kcOf kb o h) s b σ) := by
  subst ho
  have hkc : ∀ (j : Fin 768) (d : Fin 128), kcOf (F := Ideal) kb _ h (ix2 j d) = kb (ix3 0 (fk (768 * n + j.val)) d) := fun j d => by
    refine (kc_at _ j d).trans (window3_at kb 0 (768 * n) 0 h 0 j d 0 (fk (768 * n + j.val)) d rfl ?_ (Nat.zero_add _).symm)
    exact Nat.mod_eq_of_lt (by omega)
  have hw : ∀ (d : Fin 128) (x : Fin 256), w7 (F := Ideal) Q b (ix2 d x) = Q (ix2 d ⟨256 * b.val + x.val, by omega⟩) := fun d x =>
    window2_at Q 0 (256 * b.val) (inb7 b) d x d ⟨256 * b.val + x.val, by omega⟩ (Nat.zero_add _).symm rfl
  have e1 : 256 * b.val ≤ col.val := by omega
  have e2 : col.val < 256 * b.val + 256 := by omega
  refine ⟨fun j => ?_, fun r => ?_⟩
  · refine (put3_in σ.s s.val 0 (256 * b.val) _ s j col le_rfl (Nat.lt_succ_self _) (Nat.zero_le _) (by omega) e1 e2).trans ?_
    refine (pS_at _ _ _ _ _).trans ?_
    rw [← hs.hS]
    refine Finset.sum_congr rfl fun d _ => ?_
    rw [hkc, hw]
    refine congrArg₂ (fun (a b : EReal) => a * b) rfl (congrArg Q ?_)
    exact congrArg (ix2 d) (Fin.ext (by show 256 * b.val + (col.val - 256 * b.val) = col.val; omega))
  · obtain ⟨y, hy⟩ := pC_real (kcOf kb _ h) (w7 Q b) (fun j d => by rw [hkc]; exact hs.hk _ _) (fun d x => by rw [hw]; exact hs.hq _ _)
      ⟨s.val - s.val, by omega⟩ ⟨r.val - 0, by omega⟩ ⟨col.val - 256 * b.val, by omega⟩
    exact ⟨y, (put3_in σ.x s.val 0 (256 * b.val) _ s r col le_rfl (Nat.lt_succ_self _) (Nat.zero_le _) (by omega) e1 e2).trans hy⟩

theorem hold_cons_ne (vt1 : FVec Ideal S80x768 .bf16) (s : Fin 2) (b : Fin 16) (hb : b.val ≠ col.val / 256) (h : Hold vb S n col σ) :
    Hold vb S n col (consF vt1 s b σ) := by
  obtain ⟨μ, hm, ha⟩ := h
  refine ⟨μ, ?_, fun r => ?_⟩
  · exact (put2_out σ.m 0 (256 * b.val) _ 0 col (.inr (col_ne hb))).trans hm
  · exact (put2_out σ.a 0 (256 * b.val) _ r col (.inr (col_ne hb))).trans (ha r)

/-- The update of a column by a chunk's scores. -/
theorem hold_cons (s : Fin 2) (b : Fin 16) (hb : b.val = col.val / 256) (o : Fin 3 → ℕ)
    (h : ∀ a, o a + S1x64x768.size a ≤ S1x64x8448.size a) (hn : 768 * n + 768 ≤ 8448) (ho : o = ![0, 0, 768 * n])
    (hh : Hold vb S n col σ) (hsl : Slot S n s col σ) : Hold vb S (n + 1) col (consF (vcOf vb o h) s b σ) := by
  subst ho
  have hvc : ∀ (r : Fin 80) (j : Fin 768), vcOf (F := Ideal) vb _ h (ix2 r j) = V1 vb r (768 * n + j.val) := fun r j => by
    refine (withOnes_at _ r j).trans ?_
    unfold V1
    by_cases hr : r.val < 64
    · rw [dif_pos hr, dif_pos hr]
      refine window3_at vb 0 0 (768 * n) h 0 ⟨r.val, hr⟩ j 0 ⟨r.val, hr⟩ (fk (768 * n + j.val)) rfl (Nat.zero_add _).symm ?_
      exact Nat.mod_eq_of_lt (by omega)
    · rw [dif_neg hr, dif_neg hr]
  have e1 : 256 * b.val ≤ col.val := by omega
  have e2 : col.val < 256 * b.val + 256 := by omega
  obtain ⟨μ, hm, ha⟩ := hh
  obtain ⟨hs, hx⟩ := hsl
  let x : Fin 256 := ⟨col.val - 256 * b.val, by omega⟩
  have hx' : (col : ℕ) = 256 * b.val + x.val := by show col.val = 256 * b.val + (col.val - 256 * b.val); omega
  have wm : w10 σ.m b (ix2 0 x) = (μ : EReal) := (window2_at σ.m 0 (256 * b.val) (inb10 b) 0 x 0 col rfl hx').trans hm
  have wx : ∀ r : Fin 8, ∃ y : ℝ, w9 σ.x s b (ix3 0 r x) = (y : EReal) := fun r => by
    obtain ⟨y, hy⟩ := hx r
    exact ⟨y, (window3_at σ.x s.val 0 (256 * b.val) (inb9 s b) 0 r x s r col rfl (Nat.zero_add _).symm hx').trans hy⟩
  have ws : ∀ j : Fin 768, w8 σ.s s b (ix3 0 j x) = ((S (768 * n + j.val) col : ℝ) : EReal) := fun j =>
    (window3_at σ.s s.val 0 (256 * b.val) (inb8 s b) 0 j x s j col rfl (Nat.zero_add _).symm hx').trans (hs j)
  have wa : ∀ r : Fin 80, w11 σ.a b (ix2 r x) = σ.a (ix2 r col) := fun r =>
    window2_at σ.a 0 (256 * b.val) (inb11 b) r x r col (Nat.zero_add _).symm hx'
  obtain ⟨μ', hμ'⟩ := pN_real (w10 σ.m b) (w9 σ.x s b) x ⟨μ, wm⟩ wx
  refine ⟨μ', ?_, fun r => ?_⟩
  · exact (put2_in σ.m 0 (256 * b.val) _ 0 col le_rfl (by norm_num) e1 e2).trans ((pM_at _ _ x).trans hμ')
  · refine (put2_in σ.a 0 (256 * b.val) _ r col (Nat.zero_le _) (by omega) e1 e2).trans ((pA_at _ _ _ _ _ r x).trans ?_)
    rw [hμ', wm, wa, ha, exp2_sub, show 768 * (n + 1) = 768 * n + 768 by ring, ← flash_step _ _ _ _ μ μ']
    refine congrArg _ (Finset.sum_congr rfl fun j _ => ?_)
    rw [hvc, ws, exp2_sub]

/-! ## A pass over the column blocks -/

/-- Of a pass over distinct blocks only the column's own changes the column. -/
theorem fold_once {α : Type} {f : α → Fin 16 → α} {b₀ : Fin 16} {P R : α → Prop} (hP : ∀ b x, b ≠ b₀ → P x → P (f x b))
    (hR : ∀ b x, b ≠ b₀ → R x → R (f x b)) (h : ∀ x, P x → R (f x b₀)) :
    ∀ (l : List (Fin 16)) (x : α), l.Nodup → b₀ ∈ l → P x → R (l.foldl f x) := by
  have hfold : ∀ (l : List (Fin 16)) (x : α), b₀ ∉ l → R x → R (l.foldl f x) := by
    intro l
    induction l with
    | nil => exact fun x _ hx => hx
    | cons b l ih =>
      intro x hb hx
      rw [List.mem_cons, not_or] at hb
      exact ih _ hb.2 (hR b x (Ne.symm hb.1) hx)
  intro l
  induction l with
  | nil => intro x _ hb; exact absurd hb (by simp)
  | cons b l ih =>
    intro x hl hb hx
    rw [List.nodup_cons] at hl
    by_cases e : b = b₀
    · subst e; exact hfold l _ hl.1 (h x hx)
    · exact ih _ hl.2 ((List.mem_cons.1 hb).resolve_left (Ne.symm e)) (hP b x e hx)

theorem blocks_nodup : blocks.Nodup := by decide
theorem mem_blocks (b : Fin 16) : b ∈ blocks := by revert b; decide

/-- A step: the next chunk's scores, the update by this chunk's. -/
theorem step_col (hs : Scores kb Q S) (o4 : Fin 3 → ℕ) (h4 : ∀ a, o4 a + S1x768x128.size a ≤ S1x8448x128.size a)
    (o5 : Fin 3 → ℕ) (h5 : ∀ a, o5 a + S1x64x768.size a ≤ S1x64x8448.size a) (s s' : Fin 2) (hne : s ≠ s')
    (hn : 768 * (n + 1) + 768 ≤ 8448) (ho4 : o4 = ![0, 768 * (n + 1), 0]) (ho5 : o5 = ![0, 0, 768 * n])
    (h : Hold vb S n col σ ∧ Slot S n s' col σ) :
    Hold vb S (n + 1) col (stepF Q kb vb o4 h4 o5 h5 s s' σ) ∧ Slot S (n + 1) s col (stepF Q kb vb o4 h4 o5 h5 s s' σ) := by
  unfold stepF colsF
  refine fold_once (f := fun σ b => consF (vcOf vb o5 h5) s' b (prodF Q (kcOf kb o4 h4) s b σ)) (b₀ := ⟨col.val / 256, by omega⟩) (P := fun σ => Hold vb S n col σ ∧ Slot S n s' col σ)
    (R := fun σ => Hold vb S (n + 1) col σ ∧ Slot S (n + 1) s col σ) ?_ ?_ ?_ blocks σ blocks_nodup (mem_blocks _) h
  · intro b x hb hx
    have hb' : b.val ≠ col.val / 256 := fun e => hb (Fin.ext e)
    exact ⟨hold_cons_ne _ _ _ hb' (hold_prod _ _ _ hx.1), slot_cons _ _ _ _ (slot_prod_ne _ _ _ _ (.inl hb') hx.2)⟩
  · intro b x hb hx
    have hb' : b.val ≠ col.val / 256 := fun e => hb (Fin.ext e)
    exact ⟨hold_cons_ne _ _ _ hb' (hold_prod _ _ _ hx.1), slot_cons _ _ _ _ (slot_prod_ne _ _ _ _ (.inl hb') hx.2)⟩
  · intro x hx
    exact ⟨hold_cons _ _ rfl _ _ (by omega) ho5 (hold_prod _ _ _ hx.1) (slot_prod_ne _ _ _ _ (.inr hne) hx.2),
      slot_cons _ _ _ _ (slot_prod hs _ _ rfl _ _ (by omega) ho4)⟩

/-- A chunk's scores alone. -/
theorem first_col (hs : Scores kb Q S) (s : Fin 2) (o4 : Fin 3 → ℕ) (h4 : ∀ a, o4 a + S1x768x128.size a ≤ S1x8448x128.size a) (hn : 768 * n + 768 ≤ 8448) (ho4 : o4 = ![0, 768 * n, 0])
    (h : Hold vb S n col σ) :
    Hold vb S n col (colsPF Q (kcOf kb o4 h4) s blocks σ) ∧ Slot S n s col (colsPF Q (kcOf kb o4 h4) s blocks σ) := by
  refine ⟨?_, ?_⟩
  · have hall : ∀ (l : List (Fin 16)) (x : St Ideal), Hold vb S n col x → Hold vb S n col (colsPF Q (kcOf kb o4 h4) s l x) := by
      intro l
      induction l with
      | nil => exact fun x hx => hx
      | cons b l ih => exact fun x hx => ih _ (hold_prod _ _ _ hx)
    exact hall blocks σ h
  · have hkeep : ∀ (l : List (Fin 16)) (x : St Ideal), (∀ b ∈ l, b.val ≠ col.val / 256) → Slot S n s col x → Slot S n s col (colsPF Q (kcOf kb o4 h4) s l x) := by
      intro l
      induction l with
      | nil => exact fun x _ hx => hx
      | cons b l ih => exact fun x hb hx => ih _ (fun b' h' => hb b' (List.mem_cons_of_mem _ h')) (slot_prod_ne _ _ _ _ (.inl (hb b List.mem_cons_self)) hx)
    have hall : ∀ (l : List (Fin 16)) (x : St Ideal), l.Nodup → (∃ b ∈ l, b.val = col.val / 256) → Slot S n s col (colsPF Q (kcOf kb o4 h4) s l x) := by
      intro l
      induction l with
      | nil => rintro x _ ⟨b, hb, _⟩; exact absurd hb (by simp)
      | cons b l ih =>
        rintro x hl ⟨b', hb', e⟩
        rw [List.nodup_cons] at hl
        by_cases hbb : b.val = col.val / 256
        · refine hkeep l _ (fun b'' h'' e'' => hl.1 ?_) (slot_prod hs s b hbb o4 h4 hn ho4)
          rwa [show b = b'' from Fin.ext (hbb.trans e''.symm)]
        · refine ih _ hl.2 ⟨b', (List.mem_cons.1 hb').resolve_left fun e' => hbb (e' ▸ e), e⟩
    exact hall blocks σ blocks_nodup ⟨⟨col.val / 256, by omega⟩, mem_blocks _, rfl⟩

/-- A chunk's update alone. -/
theorem last_col (s : Fin 2) (o5 : Fin 3 → ℕ) (h5 : ∀ a, o5 a + S1x64x768.size a ≤ S1x64x8448.size a) (hn : 768 * n + 768 ≤ 8448) (ho5 : o5 = ![0, 0, 768 * n])
    (h : Hold vb S n col σ ∧ Slot S n s col σ) : Hold vb S (n + 1) col (colsCF (vcOf vb o5 h5) s blocks σ) := by
  unfold colsCF
  refine fold_once (f := fun σ b => consF (vcOf vb o5 h5) s b σ) (b₀ := ⟨col.val / 256, by omega⟩) (P := fun σ => Hold vb S n col σ ∧ Slot S n s col σ)
    (R := fun σ => Hold vb S (n + 1) col σ) ?_ ?_ ?_ blocks σ blocks_nodup (mem_blocks _) h
  · exact fun b x hb hx => ⟨hold_cons_ne _ _ _ (fun e => hb (Fin.ext e)) hx.1, slot_cons _ _ _ _ hx.2⟩
  · exact fun b x hb hx => hold_cons_ne _ _ _ (fun e => hb (Fin.ext e)) hx
  · exact fun x hx => hold_cons _ _ rfl _ _ hn ho5 hx.1 hx.2

end Cert.Flash
-- ==== Proof.Flash.Body.lean ====
/- The whole flash-attention body at the ideal instance: the block it stores is softmax attention over all keys. -/
module

public import proofs.«01_k».proof.Proof.Flash.Col

@[expose] public section

set_option maxRecDepth 16384

noncomputable section

namespace Cert.Flash

open Idealize.ShloMosaic Idealize.SL.Sem
open Idealize.ShloMosaic.VecWindow
open Cert.KernelIdeal Cert.KernelIdeal.Gen

section Chain
variable {kb : S1x8448x128.Idx → Ideal .bf16} {vb : S1x64x8448.Idx → Ideal .bf16} {Q : S128x4096.Idx → Ideal .bf16}
  {S : ℕ → Fin 4096 → ℝ} {n : ℕ} {col : Fin 4096} {σ : St Ideal}

theorem initial_real : ∃ x : ℝ, Ideal.ofBits .f32 0xF149F2CA#32 = (x : EReal) := by
  refine ⟨-((13234890 : ℝ) * 2 ^ 76), ?_⟩
  rw [EReal.coe_neg, EReal.coe_mul]
  simp [Ideal.ofBits, Ideal.ieee]

/-- Before the first chunk the accumulator is zero and the running maximum real. -/
theorem preS_hold : Hold vb S 0 col (preS σ) := by
  obtain ⟨μ, hμ⟩ := initial_real
  have hz : ∀ j : S64x4096.Idx, (shapeCast S64x4096 (broadcast S64x4096 (Scalar.ofBits .f32 0x00000000#32)) shapeCasts_S64x4096_S64x4096 : FVec Ideal S64x4096 .f32) j = 0 := fun j => by pointwise
  have hz' : ∀ j : S16x4096.Idx, (shapeCast S16x4096 (broadcast S16x4096 (Scalar.ofBits .f32 0x00000000#32)) shapeCasts_S16x4096_S16x4096 : FVec Ideal S16x4096 .f32) j = 0 := fun j => by pointwise
  have hm : ∀ j : S1x4096.Idx, (shapeCast S1x4096 (broadcast S1x4096 (Scalar.ofBits .f32 0xF149F2CA#32)) shapeCasts_S1x4096_S1x4096 : FVec Ideal S1x4096 .f32) j = Ideal.ofBits .f32 0xF149F2CA#32 := fun j => by pointwise
  refine ⟨μ, ?_, fun r => ?_⟩
  · exact (put2_in σ.m 0 0 _ 0 col le_rfl (by norm_num) (Nat.zero_le _) (by omega)).trans ((hm _).trans hμ)
  · rw [Nat.mul_zero, Finset.sum_range_zero]
    by_cases hr : r.val < 64
    · exact (put2_out _ 64 0 _ r col (.inl (.inl hr))).trans ((put2_in σ.a 0 0 _ r col (Nat.zero_le _) (by omega) (Nat.zero_le _) (by omega)).trans (hz _))
    · exact (put2_in _ 64 0 _ r col (by omega) (by omega) (Nat.zero_le _) (by omega)).trans (hz' _)

/-- One trip of the loop is four steps. -/
theorem trip_col (hs : Scores kb Q S) (t : Fin k0_t1_loop.trips) (h : Hold vb S (4 * t.val) col σ ∧ Slot S (4 * t.val) 0 col σ) :
    Hold vb S (4 * (t.val + 1)) col (tripF Q kb vb t σ) ∧ Slot S (4 * (t.val + 1)) 0 col (tripF Q kb vb t σ) := by
  have ht : t.val < 2 := t.isLt
  have o1 : ∀ r : Fin 4, k0_off1 t (BitVec.ofNat 32 r.val) = ![0, 768 * (4 * t.val + r.val + 1), 0] := fun r =>
    (k0_off1_eq t r).trans (congrArg (fun x => (![0, x, 0] : Fin 3 → ℕ)) (by omega))
  have o2 : ∀ r : Fin 4, k0_off2 t (BitVec.ofNat 32 r.val) = ![0, 0, 768 * (4 * t.val + r.val)] := fun r =>
    (k0_off2_eq t r).trans (congrArg (fun x => (![0, 0, x] : Fin 3 → ℕ)) (by omega))
  have h1 := step_col (n := 4 * t.val) hs _ (k0_off1_inb t 0) _ (k0_off2_inb t 0) 1 0 (by decide) (by omega) (o1 0) (o2 0) h
  have h2 := step_col (n := 4 * t.val + 1) hs _ (k0_off1_inb t 1) _ (k0_off2_inb t 1) 0 1 (by decide) (by omega) (o1 1) (o2 1) h1
  have h3 := step_col (n := 4 * t.val + 2) hs _ (k0_off1_inb t 2) _ (k0_off2_inb t 2) 1 0 (by decide) (by omega) (o1 2) (o2 2) h2
  exact step_col (n := 4 * t.val + 3) hs _ (k0_off1_inb t 3) _ (k0_off2_inb t 3) 0 1 (by decide) (by omega) (o1 3) (o2 3) h3

theorem loop_col (hs : Scores kb Q S) (h : Hold vb S 0 col σ ∧ Slot S 0 0 col σ) :
    ∀ m, m ≤ k0_t1_loop.trips → Hold vb S (4 * m) col (loopF Q kb vb σ m) ∧ Slot S (4 * m) 0 col (loopF Q kb vb σ m)
  | 0, _ => h
  | m + 1, hm => by
    have e : loopF Q kb vb σ (m + 1) = tripF Q kb vb ⟨m, hm⟩ (loopF Q kb vb σ m) := dif_pos hm
    rw [e]
    exact trip_col hs ⟨m, hm⟩ (loop_col hs h m (Nat.le_of_succ_le hm))

theorem rest_col (hs : Scores kb Q S) (h : Hold vb S 8 col σ ∧ Slot S 8 0 col σ) : Hold vb S 11 col (restF Q kb vb σ) := by
  have h1 := step_col (n := 8) hs _ inb_S1x8448x128_S1x768x128_0_6912_0 _ inb_S1x64x8448_S1x64x768_0_0_6144 1 0 (by decide) (by norm_num) rfl rfl h
  have h2 := step_col (n := 9) hs _ inb_S1x8448x128_S1x768x128_0_7680_0 _ inb_S1x64x8448_S1x64x768_0_0_6912 0 1 (by decide) (by norm_num) rfl rfl h1
  exact last_col (n := 10) 0 _ inb_S1x64x8448_S1x64x768_0_0_7680 (by norm_num) rfl h2

/-- After the body every column holds the sum over all eleven chunks. -/
theorem body_col (qb : S1x4x1024x128.Idx → Ideal .bf16) (hs : Scores kb (preQ (F := Ideal) qb Q) S) : Hold vb S 11 col (bodyF (F := Ideal) qb kb vb Q σ) :=
  rest_col hs (loop_col hs (first_col (n := 0) hs 0 _ inb_S1x8448x128_S1x768x128_0_0_0 (by norm_num) rfl preS_hold) 2 le_rfl)

end Chain

/-! ## The stored block -/

/-- Attention of the query of column `c` on value row `r`. -/
def att (qb : FVec Ideal S1x4x1024x128 .bf16) (kb : FVec Ideal S1x8448x128 .bf16) (vb : FVec Ideal S1x64x8448 .bf16) (r : Fin 64) (g : Fin 4) (x : Fin 1024) : EReal :=
  ∑ k : Fin 8448, vb (ix3 0 r k) * W (fun k => ∑ d : Fin 128, kb (ix3 0 k d) * qb (ix4 0 g x d)) k

variable {qb : FVec Ideal S1x4x1024x128 .bf16} {kb : FVec Ideal S1x8448x128 .bf16} {vb : FVec Ideal S1x64x8448 .bf16}

theorem scale_eq : (Named.named (F := Ideal) κ "scale" 0x3E38AA3B#32 : Ideal .f32) = (((Real.log 256)⁻¹ : ℝ) : EReal) := rfl

theorem preQ_at (Q : S128x4096.Idx → Ideal .bf16) (d : Fin 128) (c : Fin 4096) :
    preQ (F := Ideal) qb Q (ix2 d c) = qb (ix4 0 ⟨c.val / 1024, by omega⟩ ⟨c.val % 1024, by omega⟩ d) * (((Real.log 256)⁻¹ : ℝ) : EReal) := by
  refine (put2_in Q 0 0 _ d c (Nat.zero_le _) (by omega) (Nat.zero_le _) (by omega)).trans ((pQ_at _ _ _).trans ?_)
  rw [scale_eq]
  exact congrArg (fun x : EReal => x * _) (window4_at qb 0 0 0 0 _ _ _ _ _ _ _ _ _ rfl (Nat.zero_add _).symm (Nat.zero_add _).symm (Nat.zero_add _).symm)

theorem fk_val (k : Fin 8448) : fk k.val = k := Fin.ext (Nat.mod_eq_of_lt k.isLt)

/-- The quotient of the accumulator's rows after the body is attention. -/
theorem body_quot (hk : ∀ k d, ∃ x : ℝ, kb (ix3 0 k d) = (x : EReal)) (hq : ∀ g x d, ∃ y : ℝ, qb (ix4 0 g x d) = (y : EReal))
    (Q : S128x4096.Idx → Ideal .bf16) (σ : St Ideal) (r : Fin 64) (c : Fin 4096) :
    Ideal.div ((bodyF (F := Ideal) qb kb vb Q σ).a (ix2 ⟨r.val, by omega⟩ c)) ((bodyF (F := Ideal) qb kb vb Q σ).a (ix2 64 c))
      = att qb kb vb r ⟨c.val / 1024, by omega⟩ ⟨c.val % 1024, by omega⟩ := by
  let g : Fin 4096 → Fin 4 := fun c => ⟨c.val / 1024, by omega⟩
  let x : Fin 4096 → Fin 1024 := fun c => ⟨c.val % 1024, by omega⟩
  let D : Fin 8448 → Fin 4096 → EReal := fun k c => ∑ d : Fin 128, kb (ix3 0 k d) * qb (ix4 0 (g c) (x c) d)
  have hD : ∀ k c, D k c = (((D k c).toReal : ℝ) : EReal) := fun k c => by
    obtain ⟨y, hy⟩ := sum_mul_real Finset.univ (fun d => kb (ix3 0 k d)) (fun d => qb (ix4 0 (g c) (x c) d)) (fun d => hk k d) (fun d => hq _ _ d)
    have hy' : D k c = y := hy
    rw [hy', EReal.toReal_coe]
  have hlog : 0 ≤ (Real.log 256)⁻¹ := inv_nonneg.2 (Real.log_nonneg (by norm_num))
  have hs : Scores kb (preQ (F := Ideal) qb Q) (fun k c => (D (fk k) c).toReal * (Real.log 256)⁻¹) := by
    refine ⟨hk, fun d c => ?_, fun k c => ?_⟩
    · obtain ⟨y, hy⟩ := hq (g c) (x c) d
      exact ⟨y * (Real.log 256)⁻¹, by rw [preQ_at]; exact (congrArg (fun z : EReal => z * _) hy).trans (EReal.coe_mul _ _).symm⟩
    · rw [EReal.coe_mul, ← hD]
      choose yk hyk using hk
      choose yq hyq using hq
      have e1 : D (fk k) c = ((∑ d, yk (fk k) d * yq (g c) (x c) d : ℝ) : EReal) := by
        rw [← sum_coe]
        exact Finset.sum_congr rfl fun d _ => by rw [hyk, hyq, EReal.coe_mul]
      rw [e1, ← EReal.coe_mul, Finset.sum_mul, ← sum_coe]
      refine Finset.sum_congr rfl fun d _ => ?_
      rw [mul_assoc, EReal.coe_mul, EReal.coe_mul, ← hyk]
      refine congrArg (fun z : EReal => _ * z) ?_
      rw [← hyq]
      exact preQ_at Q d c
  obtain ⟨μ, -, ha⟩ := body_col (vb := vb) (σ := σ) (col := c) qb hs
  rw [ha, ha]
  have e1 : ∀ k, V1 vb 64 k = 1 := fun k => dif_neg (by decide)
  have e2 : ∀ k, V1 vb ⟨r.val, by omega⟩ k = vb (ix3 0 r (fk k)) := fun k => dif_pos r.isLt
  simp only [e1, e2]
  rw [flash_quot (Finset.range (768 * 11)) (by simp) (fun k => vb (ix3 0 r (fk k))) (fun k => (D (fk k) c).toReal * (Real.log 256)⁻¹)
    (fun k => (D (fk k) c).toReal * (1 / 8)) μ (fun k => e2_scale _)]
  rw [show 768 * 11 = 8448 from rfl, Finset.sum_range, Finset.sum_range]
  simp only [fk_val]
  rfl

theorem pay2_at (a : Vec Ideal S64x4096 .f32) (l : Vec Ideal S1x4096 .f32) (r : Fin 64) (c : Fin 4096) :
    k0_pay2 (F := Ideal) a l (ix2 r c) = Ideal.div (a (ix2 r c)) (l (ix2 0 c)) := by
  pointwise [k0_pay2]

theorem pay3_at (a : Vec Ideal S64x4096 .f32) (l : Vec Ideal S1x4096 .f32) (i : Fin 1) (x : Fin 1024) (d : Fin 128) :
    k0_pay3 (F := Ideal) a l (ix3 i x d)
      = if h : d.val < 64 then k0_pay2 (F := Ideal) a l (ix2 ⟨d.val, h⟩ ⟨x.val, by omega⟩) else k0_pay2 (F := Ideal) a l (ix2 ⟨d.val - 64, by omega⟩ ⟨1024 + x.val, by omega⟩) := by
  pointwise [k0_pay3]

theorem pay4_at (a : Vec Ideal S64x4096 .f32) (l : Vec Ideal S1x4096 .f32) (i : Fin 1) (x : Fin 1024) (d : Fin 128) :
    k0_pay4 (F := Ideal) a l (ix3 i x d)
      = if h : d.val < 64 then k0_pay2 (F := Ideal) a l (ix2 ⟨d.val, h⟩ ⟨2048 + x.val, by omega⟩) else k0_pay2 (F := Ideal) a l (ix2 ⟨d.val - 64, by omega⟩ ⟨3072 + x.val, by omega⟩) := by
  pointwise [k0_pay4]

/-- The block the body stores, whatever was in the scratch and in the block before. -/
theorem fin_at (hk : ∀ k d, ∃ x : ℝ, kb (ix3 0 k d) = (x : EReal)) (hq : ∀ g x d, ∃ y : ℝ, qb (ix4 0 g x d) = (y : EReal))
    (Q : S128x4096.Idx → Ideal .bf16) (σ : St Ideal) (ob : FVec Ideal S1x1024x256 .bf16) (x : Fin 1024) (l : Fin 256) :
    finF (bodyF (F := Ideal) qb kb vb Q σ).a ob (ix3 0 x l) = att qb kb vb ⟨l.val % 64, by omega⟩ ⟨l.val / 64, by omega⟩ x := by
  have hb := body_quot (vb := vb) hk hq Q σ
  generalize (bodyF (F := Ideal) qb kb vb Q σ).a = a at hb ⊢
  have hw : ∀ (r : Fin 64) (c : Fin 4096), k0_pay2 (F := Ideal) (window a ![0, 0] S64x4096.size inb_S80x4096_S64x4096_0_0) (window a ![64, 0] S1x4096.size inb_S80x4096_S1x4096_64_0) (ix2 r c)
      = att qb kb vb r ⟨c.val / 1024, by omega⟩ ⟨c.val % 1024, by omega⟩ := fun r c => by
    refine (pay2_at _ _ r c).trans (Eq.trans ?_ (hb r c))
    exact congrArg₂ Ideal.div (window2_at a 0 0 _ r c ⟨r.val, by omega⟩ c (Nat.zero_add _).symm (Nat.zero_add _).symm) (window2_at a 64 0 _ 0 c 64 c rfl (Nat.zero_add _).symm)
  have hatt : ∀ (r r' : Fin 64) (g g' : Fin 4) (y y' : Fin 1024), r.val = r'.val → g.val = g'.val → y.val = y'.val → att qb kb vb r g y = att qb kb vb r' g' y' := by
    intro r r' g g' y y' h1 h2 h3
    rw [Fin.ext h1, Fin.ext h2, Fin.ext h3]
  unfold finF
  by_cases hl : l.val < 128
  · refine (put3_out _ 0 0 128 _ 0 x l (.inr (.inl hl))).trans ?_
    refine (put3_in ob 0 0 0 _ 0 x l le_rfl (by norm_num) (Nat.zero_le _) (by omega) (Nat.zero_le _) (by omega)).trans ((pay3_at _ _ _ _ _).trans ?_)
    by_cases h : l.val < 64
    · rw [dif_pos (by show l.val - 0 < 64; omega), hw]
      exact hatt _ _ _ _ _ _ (by show l.val - 0 = l.val % 64; omega) (by show (x.val - 0) / 1024 = l.val / 64; omega) (by show (x.val - 0) % 1024 = x.val; omega)
    · rw [dif_neg (by show ¬ l.val - 0 < 64; omega), hw]
      exact hatt _ _ _ _ _ _ (by show l.val - 0 - 64 = l.val % 64; omega) (by show (1024 + (x.val - 0)) / 1024 = l.val / 64; omega) (by show (1024 + (x.val - 0)) % 1024 = x.val; omega)
  · refine (put3_in _ 0 0 128 _ 0 x l le_rfl (by norm_num) (Nat.zero_le _) (by omega) (by omega) (by omega)).trans ((pay4_at _ _ _ _ _).trans ?_)
    by_cases h : l.val < 192
    · rw [dif_pos (by show l.val - 128 < 64; omega), hw]
      exact hatt _ _ _ _ _ _ (by show l.val - 128 = l.val % 64; omega) (by show (2048 + (x.val - 0)) / 1024 = l.val / 64; omega) (by show (2048 + (x.val - 0)) % 1024 = x.val; omega)
    · rw [dif_neg (by show ¬ l.val - 128 < 64; omega), hw]
      exact hatt _ _ _ _ _ _ (by show l.val - 128 - 64 = l.val % 64; omega) (by show (3072 + (x.val - 0)) / 1024 = l.val / 64; omega) (by show (3072 + (x.val - 0)) % 1024 = x.val; omega)

end Cert.Flash
-- ==== Proof.Flash.Ref.lean ====
/- The reference's attention at the ideal instance: its composed term of the arguments, read at an index. -/
module

public import proofs.«01_k».proof.Proof.Flash.Math
public import proofs.«01_k».proof.Proof.Gen.ReferenceIdeal.Run
public import proofs.«01_k».proof.Defs
public import Idealize.ShloMosaic.Lib.Claim
public import Idealize.ShloMosaic.Lib.Quiescent

@[expose] public section

set_option maxRecDepth 16384

noncomputable section

namespace Cert.Flash

open Idealize.ShloMosaic Idealize.ShloMosaic.TcCoe Idealize.SL.Sem
open Cert.ReferenceIdeal Cert.ReferenceIdeal.Gen

/-- The scores, scaled. -/
def refS (q : FVec Ideal S2x8192x4x4x64 .bf16) (k : FVec Ideal S2x8448x4x64 .bf16) : FVec Ideal S2x4x4x8192x8448 .f32 :=
  Host.divf (transpose S2x4x4x8192x8448 [0, 1, 4, 3, 2] (Host.dotGeneral dot_S2x8448x4x64_S2x8192x4x4x64_S2x4x8448x8192x4_3_4_1_13_02_02 none (extf .f32 k bitsLt_bf16_f32) (extf .f32 q bitsLt_bf16_f32)) transposes_S2x4x8448x8192x4_S2x4x4x8192x8448_0_1_4_3_2) (broadcastInDim S2x4x4x8192x8448 ![] bcast_S_S2x4x4x8192x8448 (constant S_ .f32 0x41000000#32))

/-- Their maxima over the keys. -/
def refM (s : FVec Ideal S2x4x4x8192x8448 .f32) : FVec Ideal S2x4x4x8192 .f32 :=
  maximumf (broadcastInDim S2x4x4x8192 ![] bcast_S_S2x4x4x8192 (constant S_ .f32 0xFF800000#32)) (Host.reduce FloatOps.maximumf s (constant S_ .f32 0xFF800000#32) reducesTo_S2x4x4x8192x8448_S2x4x4x8192_d4 h_S_)

/-- The exponentials under the maximum. -/
def refE (s : FVec Ideal S2x4x4x8192x8448 .f32) : FVec Ideal S2x4x4x8192x8448 .f32 :=
  Host.exp (subf s (broadcastInDim S2x4x4x8192x8448 ![0, 1, 2, 3, 4] bcast_S2x4x4x8192x1_S2x4x4x8192x8448_0_1_2_3_4 (broadcastInDim S2x4x4x8192x1 ![0, 1, 2, 3] bcast_S2x4x4x8192_S2x4x4x8192x1_0_1_2_3 (refM s))))

/-- The softmax. -/
def refP (e : FVec Ideal S2x4x4x8192x8448 .f32) : FVec Ideal S2x4x4x8192x8448 .f32 :=
  Host.divf e (broadcastInDim S2x4x4x8192x8448 ![0, 1, 2, 3, 4] bcast_S2x4x4x8192x1_S2x4x4x8192x8448_0_1_2_3_4 (broadcastInDim S2x4x4x8192x1 ![0, 1, 2, 3] bcast_S2x4x4x8192_S2x4x4x8192x1_0_1_2_3 (Host.reduceAdd e (constant S_ .f32 0x00000000#32) reducesTo_S2x4x4x8192x8448_S2x4x4x8192_d4 h_S_)))

/-- The weighted values, in the layout of the result. -/
def refO (p : FVec Ideal S2x4x4x8192x8448 .f32) (v : FVec Ideal S2x8448x4x64 .bf16) : FVec Ideal S2x8192x1024 .bf16 :=
  shapeCast _ (truncf .bf16 (transpose S2x8192x4x4x64 [0, 4, 1, 3, 2] (Host.dotGeneral dot_S2x8448x4x64_S2x4x4x8192x8448_S2x4x64x4x8192_1_4_3_23_02_01 none (extf .f32 v bitsLt_bf16_f32) (extf .f32 (truncf .bf16 p bitsLt_bf16_f32) bitsLt_bf16_f32)) transposes_S2x4x64x4x8192_S2x8192x4x4x64_0_4_1_3_2) bitsLt_bf16_f32) shapeCasts_S2x8192x4x4x64_S2x8192x1024

theorem refS_at (q : FVec Ideal S2x8192x4x4x64 .bf16) (k : FVec Ideal S2x8448x4x64 .bf16) (b : Fin 2) (h g : Fin 4) (x : Fin 8192) (n : Fin 8448) :
    refS q k (ix5 b h g x n) = Ideal.div (∑ d : Fin 64, k (ix4 b n h d) * q (ix5 b x h g d)) (Ideal.ofBits .f32 0x41000000#32) := by
  pointwise [refS]

/-- Folding the maximum over a nonempty list of reals, from below all of them, gives a real. -/
theorem foldl_max_real {ι : Type} (f : ι → EReal) (hf : ∀ n, ∃ y : ℝ, f n = y) (l : List ι) (hl : l ≠ []) :
    ∃ y : ℝ, l.foldl (fun r n => max r (f n)) ⊥ = y := by
  have h : ∀ (l : List ι) (r : EReal), (∃ y : ℝ, r = y) → ∃ y : ℝ, l.foldl (fun r n => max r (f n)) r = y := by
    intro l
    induction l with
    | nil => exact fun r hr => hr
    | cons a l ih => exact fun r hr => ih _ (max_real hr (hf a))
  cases l with
  | nil => exact absurd rfl hl
  | cons a l =>
    refine h l _ ?_
    obtain ⟨y, hy⟩ := hf a
    exact ⟨y, (max_eq_right bot_le).trans hy⟩

/-- A host maximum of reals, from below all of them, over at least one index is real. -/
theorem host_max_real {s t u : Shape} {axes : List (Fin s.rank)} (x : FVec Ideal s .f32) (hx : ∀ i, ∃ y : ℝ, x i = (y : EReal)) (h : s.ReducesTo axes t)
    (init : FVec Ideal u .f32) (hu : 0 < u.numel) (hi : init (Shape.Idx.first hu) = (⊥ : EReal)) (i : s.Idx) (j : t.Idx) (hij : h.drop i = j) :
    ∃ y : ℝ, (show EReal from Host.reduce (FloatOps.maximumf (F := Ideal) (φ := .f32)) x init h hu j) = y := by
  unfold Host.reduce
  rw [hi]
  refine foldl_max_real (fun n => x (s.rowMajor.symm n)) (fun n => hx _) _ fun hl => ?_
  have hm : s.rowMajor i ∈ (List.finRange s.numel).filter fun n => h.drop (s.rowMajor.symm n) = j := by
    rw [List.mem_filter]
    exact ⟨List.mem_finRange _, by rw [Equiv.symm_apply_apply]; exact decide_eq_true hij⟩
  rw [hl] at hm
  exact absurd hm (by simp)

theorem negInf_host (j : S_.Idx) : (constant (F := Ideal) S_ .f32 0xFF800000#32) j = (⊥ : EReal) := by
  show Ideal.ofBits .f32 0xFF800000#32 = ⊥
  simp [Ideal.ofBits, Ideal.ieee]

theorem refM_real (s : FVec Ideal S2x4x4x8192x8448 .f32) (hs : ∀ i, ∃ y : ℝ, s i = (y : EReal)) (b : Fin 2) (h g : Fin 4) (x : Fin 8192) :
    ∃ y : ℝ, refM s (ix4 b h g x) = (y : EReal) := by
  obtain ⟨y, hy⟩ := host_max_real s hs reducesTo_S2x4x4x8192x8448_S2x4x4x8192_d4 (constant S_ .f32 0xFF800000#32) h_S_ (negInf_host _) (ix5 b h g x 0) (ix4 b h g x) (by
    funext a
    fin_cases a
    · exact Fin.ext (reducesTo_S2x4x4x8192x8448_S2x4x4x8192_d4.drop_apply_val_of_eq (ix5 b h g x 0) 0 0)
    · exact Fin.ext (reducesTo_S2x4x4x8192x8448_S2x4x4x8192_d4.drop_apply_val_of_eq (ix5 b h g x 0) 1 1)
    · exact Fin.ext (reducesTo_S2x4x4x8192x8448_S2x4x4x8192_d4.drop_apply_val_of_eq (ix5 b h g x 0) 2 2)
    · exact Fin.ext (reducesTo_S2x4x4x8192x8448_S2x4x4x8192_d4.drop_apply_val_of_eq (ix5 b h g x 0) 3 3))
  have hmax : ∀ R : FVec Ideal S2x4x4x8192 .f32, maximumf (broadcastInDim S2x4x4x8192 ![] bcast_S_S2x4x4x8192 (constant S_ .f32 0xFF800000#32)) R (ix4 b h g x)
      = max (Ideal.ofBits .f32 0xFF800000#32) (R (ix4 b h g x)) := fun R => by pointwise
  refine ⟨y, (hmax _).trans ?_⟩
  rw [show Ideal.ofBits .f32 0xFF800000#32 = ⊥ by simp [Ideal.ofBits, Ideal.ieee]]
  exact (max_eq_right bot_le).trans hy

theorem refE_at (s : FVec Ideal S2x4x4x8192x8448 .f32) (b : Fin 2) (h g : Fin 4) (x : Fin 8192) (n : Fin 8448) :
    refE s (ix5 b h g x n) = Ideal.exp (s (ix5 b h g x n) - refM s (ix4 b h g x)) := by
  pointwise [refE]

theorem refP_at (e : FVec Ideal S2x4x4x8192x8448 .f32) (b : Fin 2) (h g : Fin 4) (x : Fin 8192) (n : Fin 8448) :
    refP e (ix5 b h g x n) = Ideal.div (e (ix5 b h g x n)) (∑ n' : Fin 8448, e (ix5 b h g x n')) := by
  pointwise [refP]

theorem refO_at (p : FVec Ideal S2x4x4x8192x8448 .f32) (v : FVec Ideal S2x8448x4x64 .bf16) (b : Fin 2) (x : Fin 8192) (l : Fin 1024) :
    refO p v (ix3 b x l) = ∑ n : Fin 8448, v (ix4 b n ⟨l.val / 256, by omega⟩ ⟨l.val % 64, by omega⟩) * p (ix5 b ⟨l.val / 256, by omega⟩ ⟨l.val / 64 % 4, by omega⟩ x n) := by
  pointwise [refO]

/-- Attention of one query, as a function of the argument arrays: the softmax weights of the scores times the values. -/
def attn (q : FVec Ideal S2x8192x4x4x64 .bf16) (k v : FVec Ideal S2x8448x4x64 .bf16) (b : Fin 2) (x : Fin 8192) (h g : Fin 4) (r : Fin 64) : EReal :=
  ∑ n : Fin 8448, v (ix4 b n h r) * W (fun n => ∑ d : Fin 64, k (ix4 b n h d) * q (ix5 b x h g d)) n

theorem eight : Ideal.ofBits .f32 0x41000000#32 = ((8 : ℝ) : EReal) := by
  simp [Ideal.ofBits, Ideal.ieee]
  rw [← EReal.coe_mul]
  norm_num

/-- The reference's term of finite queries and keys is attention. -/
theorem ref_at (q : FVec Ideal S2x8192x4x4x64 .bf16) (k v : FVec Ideal S2x8448x4x64 .bf16) (hq : ∀ b x h g d, ∃ y : ℝ, q (ix5 b x h g d) = (y : EReal))
    (hk : ∀ b n h d, ∃ y : ℝ, k (ix4 b n h d) = (y : EReal)) (b : Fin 2) (x : Fin 8192) (l : Fin 1024) :
    refO (refP (refE (refS q k))) v (ix3 b x l) = attn q k v b x ⟨l.val / 256, by omega⟩ ⟨l.val / 64 % 4, by omega⟩ ⟨l.val % 64, by omega⟩ := by
  rw [refO_at]
  generalize (⟨l.val / 256, by omega⟩ : Fin 4) = h
  generalize (⟨l.val / 64 % 4, by omega⟩ : Fin 4) = g
  generalize (⟨l.val % 64, by omega⟩ : Fin 64) = r
  have hD : ∀ (b : Fin 2) (h g : Fin 4) (x : Fin 8192) (n : Fin 8448), ∃ y : ℝ, (∑ d : Fin 64, k (ix4 b n h d) * q (ix5 b x h g d)) = (y : EReal) := fun b h g x n =>
    sum_mul_real _ _ _ (fun d => hk b n h d) (fun d => hq b x h g d)
  have hS : ∀ (b : Fin 2) (h g : Fin 4) (x : Fin 8192) (n : Fin 8448),
      refS q k (ix5 b h g x n) = (((∑ d : Fin 64, k (ix4 b n h d) * q (ix5 b x h g d)).toReal * (1 / 8) : ℝ) : EReal) := fun b h g x n => by
    obtain ⟨y, hy⟩ := hD b h g x n
    rw [refS_at, hy, eight, Ideal.div_coe (by norm_num), EReal.toReal_coe, EReal.coe_mul]
  obtain ⟨M, hM⟩ := refM_real (refS q k) (fun i => by rw [eq_ix5 i]; exact ⟨_, hS _ _ _ _ _⟩) b h g x
  have hE : ∀ n, refE (refS q k) (ix5 b h g x n) = ((Real.exp ((∑ d : Fin 64, k (ix4 b n h d) * q (ix5 b x h g d)).toReal * (1 / 8) - M) : ℝ) : EReal) := fun n => by
    rw [refE_at, hM, hS, exp_sub]
  unfold attn
  refine Finset.sum_congr rfl fun n _ => ?_
  refine congrArg (fun z : EReal => _ * z) ?_
  rw [refP_at]
  simp only [hE]
  exact softmax_shift Finset.univ Finset.univ_nonempty (fun n => (∑ d : Fin 64, k (ix4 b n h d) * q (ix5 b x h g d)).toReal * (1 / 8)) M n

/-- The reference's term of the arguments. -/
def REF (q : FVec Ideal S2x8192x4x4x64 .bf16) (k v : FVec Ideal S2x8448x4x64 .bf16) : FVec Ideal S2x8192x1024 .bf16 :=
  refO (refP (refE (refS q k))) v

/-- The reference's run leaves that term. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = REF (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

/-- The reference runs, leaves its arguments unchanged and every counter at zero. -/
theorem frame_reference : @Cert.quiescent_ReferenceIdeal Cert.ReferenceIdeal.Gen.facts := by
  exact fun m g _ => (θ_run Cert.ReferenceIdeal.defs _ _).mono (fun r h => ⟨fun c => (h c).2, Idealize.ShloMosaic.sem_eq_zero_of_no_sems (by decide) r.2⟩)
    (Cert.ReferenceIdeal.Value.run (F := Ideal) m g)

end Cert.Flash
-- ==== Proof.Flash.Value.lean ====
/- The attention call's result array at the ideal instance: at every index it is attention of the argument arrays, as the
   reference's term is. -/
module

public import proofs.«01_k».proof.Proof.Flash.Body
public import proofs.«01_k».proof.Proof.Flash.Frame
public import proofs.«01_k».proof.Proof.Flash.Ref
public import proofs.«01_k».proof.Defs
public import Idealize.ShloMosaic.Lib.Claim
public import Idealize.ShloMosaic.Lib.Pipeline.ValueKit

@[expose] public section

set_option maxRecDepth 16384

noncomputable section

namespace Cert.Flash

open Idealize.ShloMosaic Idealize.ShloMosaic.TcCoe Idealize.SL.Sem
open Idealize.ShloMosaic.Pipeline (Dat)
open Cert.KernelIdeal Cert.KernelIdeal.Gen

/-! ## The host's preparation -/

/-- The queries by heads, each in its half of the lanes with zeros in the other. -/
def prepQ (q : FVec Ideal S2x8192x4x4x64 .bf16) : FVec Ideal S2x16x8192x128 .bf16 :=
  shapeCast S2x16x8192x128 (concatenate S2x2x2x4x8192x128 2
    [⟨S2x2x1x4x8192x128, concatenate S2x2x1x4x8192x128 5 [⟨S2x2x1x4x8192x64, extractStridedSlice S2x2x1x4x8192x64 ![0, 0, 0, 0, 0, 0] (shapeCast S2x2x2x4x8192x64 (transpose S2x4x4x8192x64 [0, 2, 3, 1, 4] q transposes_S2x8192x4x4x64_S2x4x4x8192x64_0_2_3_1_4) shapeCasts_S2x4x4x8192x64_S2x2x2x4x8192x64) slices_S2x2x2x4x8192x64_S2x2x1x4x8192x64_0_0_0_0_0_0⟩,
      ⟨S2x2x1x4x8192x64, broadcastInDim S2x2x1x4x8192x64 ![] bcast_S_S2x2x1x4x8192x64 (constant S_ .bf16 0x0000#16)⟩] concatenates_S2x2x1x4x8192x64_S2x2x1x4x8192x64_S2x2x1x4x8192x128_d5⟩,
     ⟨S2x2x1x4x8192x128, concatenate S2x2x1x4x8192x128 5 [⟨S2x2x1x4x8192x64, broadcastInDim S2x2x1x4x8192x64 ![] bcast_S_S2x2x1x4x8192x64 (constant S_ .bf16 0x0000#16)⟩,
      ⟨S2x2x1x4x8192x64, extractStridedSlice S2x2x1x4x8192x64 ![0, 0, 1, 0, 0, 0] (shapeCast S2x2x2x4x8192x64 (transpose S2x4x4x8192x64 [0, 2, 3, 1, 4] q transposes_S2x8192x4x4x64_S2x4x4x8192x64_0_2_3_1_4) shapeCasts_S2x4x4x8192x64_S2x2x2x4x8192x64) slices_S2x2x2x4x8192x64_S2x2x1x4x8192x64_0_0_1_0_0_0⟩] concatenates_S2x2x1x4x8192x64_S2x2x1x4x8192x64_S2x2x1x4x8192x128_d5⟩]
    concatenates_S2x2x1x4x8192x128_S2x2x1x4x8192x128_S2x2x2x4x8192x128_d2) shapeCasts_S2x2x2x4x8192x128_S2x16x8192x128

/-- The values, transposed. -/
def prepV (v : FVec Ideal S2x8448x4x64 .bf16) : FVec Ideal S2x256x8448 .bf16 :=
  transpose S2x256x8448 [0, 2, 1] (shapeCast S2x8448x256 v shapeCasts_S2x8448x4x64_S2x8448x256) transposes_S2x8448x256_S2x256x8448_0_2_1

/-- The keys, heads side by side. -/
def prepK (k : FVec Ideal S2x8448x4x64 .bf16) : FVec Ideal S2x8448x256 .bf16 :=
  shapeCast S2x8448x256 k shapeCasts_S2x8448x4x64_S2x8448x256

theorem prepQ_read (q : FVec Ideal S2x8192x4x4x64 .bf16) (b : Fin 2) (H : Fin 16) (x : Fin 8192) (l : Fin 128) :
    prepQ q (ix4 b H x l) = (if h : H.val / 4 % 2 < 1 then if h1 : l.val < 64 then q (ix5 b x ⟨H.val / 8 * 2 + H.val / 4 % 2, by omega⟩ ⟨H.val % 4, by omega⟩ ⟨l.val, by omega⟩) else (0 : EReal)
      else if h1 : l.val < 64 then 0 else q (ix5 b x ⟨H.val / 8 * 2 + (1 + (H.val / 4 % 2 - 1)), by omega⟩ ⟨H.val % 4, by omega⟩ ⟨l.val - 64, by omega⟩)) := by
  pointwise [prepQ]

theorem prepQ_at (q : FVec Ideal S2x8192x4x4x64 .bf16) (b : Fin 2) (h g : Fin 4) (H : Fin 16) (hH : H.val = h.val * 4 + g.val) (x : Fin 8192) (l : Fin 128) :
    prepQ q (ix4 b H x l) = if l.val / 64 = h.val % 2 then q (ix5 b x h g ⟨l.val % 64, by omega⟩) else 0 := by
  rw [prepQ_read]
  obtain ⟨f, hf⟩ : ∃ f : Fin 4 → Fin 4 → Fin 64 → EReal, ∀ h g d, q (ix5 b x h g d) = f h g d := ⟨fun h g d => q (ix5 b x h g d), fun _ _ _ => rfl⟩
  simp only [hf]
  clear hf
  by_cases hp : H.val / 4 % 2 < 1 <;> by_cases hl : l.val < 64
  · have hc : l.val / 64 = h.val % 2 := by omega
    rw [dif_pos hp, dif_pos hl, if_pos hc]
    congr 1 <;> exact Fin.ext (by dsimp only; omega)
  · have hc : ¬l.val / 64 = h.val % 2 := by omega
    rw [dif_pos hp, dif_neg hl, if_neg hc]
  · have hc : ¬l.val / 64 = h.val % 2 := by omega
    rw [dif_neg hp, dif_pos hl, if_neg hc]
  · have hc : l.val / 64 = h.val % 2 := by omega
    rw [dif_neg hp, dif_neg hl, if_pos hc]
    congr 1 <;> exact Fin.ext (by dsimp only; omega)

theorem prepK_at (k : FVec Ideal S2x8448x4x64 .bf16) (b : Fin 2) (n : Fin 8448) (l : Fin 256) :
    prepK k (ix3 b n l) = k (ix4 b n ⟨l.val / 64, by omega⟩ ⟨l.val % 64, by omega⟩) := by
  pointwise [prepK]

theorem prepV_at (v : FVec Ideal S2x8448x4x64 .bf16) (b : Fin 2) (n : Fin 8448) (l : Fin 256) :
    prepV v (ix3 b l n) = v (ix4 b n ⟨l.val / 64, by omega⟩ ⟨l.val % 64, by omega⟩) := by
  pointwise [prepV]

variable (m : (ℓ : Loc nD τ sig) → Buf (Elt Ideal) ℓ)

theorem V_q (c : Dev nD) : V m c main_v8 = prepQ (m ((c : Thread nD τ).loc main_arg0)) := by
  unfold V; after_results; rfl
theorem V_k (c : Dev nD) : V m c main_v9 = prepK (m ((c : Thread nD τ).loc main_arg1)) := by
  unfold V; after_results; rfl
theorem V_v (c : Dev nD) : V m c main_v11 = prepV (m ((c : Thread nD τ).loc main_arg2)) := by
  unfold V; after_results; rfl

/-- The queries as launched. -/
abbrev aq (c : Dev nD) : FVec Ideal S2x8192x4x4x64 .bf16 := m ((c : Thread nD τ).loc main_arg0)
/-- The keys as launched. -/
abbrev ak (c : Dev nD) : FVec Ideal S2x8448x4x64 .bf16 := m ((c : Thread nD τ).loc main_arg1)
/-- The values as launched. -/
abbrev av (c : Dev nD) : FVec Ideal S2x8448x4x64 .bf16 := m ((c : Thread nD τ).loc main_arg2)

/-- The windows' block indices at every grid point. -/
theorem idx : ∀ t : Fin cfg0.N, win0_0.index t = ![(grid0.coords t 0).val, (grid0.coords t 1).val, (grid0.coords t 2).val, 0]
    ∧ win0_1.index t = ![(grid0.coords t 0).val, 0, (grid0.coords t 1).val / 2]
    ∧ win0_2.index t = ![(grid0.coords t 0).val, (grid0.coords t 1).val, 0] ∧ win0_3.index t = ![(grid0.coords t 0).val, (grid0.coords t 2).val, (grid0.coords t 1).val] :=
  (by decide +kernel : ∀ t : Fin grid0.N, _)

/-- A sum over 128 lanes of which one half is zero is the other half's sum. -/
theorem sum_half {f : Fin 128 → EReal} (p : ℕ) (hp : p < 2) (g : Fin 64 → EReal) (h1 : ∀ d : Fin 128, d.val / 64 = p → f d = g ⟨d.val % 64, by omega⟩)
    (h2 : ∀ d : Fin 128, ¬d.val / 64 = p → f d = 0) : ∑ d, f d = ∑ d, g d := by
  have e := Fin.sum_univ_add (a := 64) (b := 64) f
  refine e.trans ?_
  obtain rfl | rfl : p = 0 ∨ p = 1 := by omega
  · refine (congrArg₂ (· + ·) (Finset.sum_congr rfl fun d _ => ?_) (Finset.sum_eq_zero fun d _ => ?_)).trans (add_zero _)
    rotate_left
    · exact h2 _ (by simp only [Fin.val_natAdd]; omega)
    · rw [h1 _ (by simp only [Fin.val_castAdd]; omega)]
      exact congrArg g (Fin.ext (by simp only [Fin.val_castAdd]; omega))
  · rw [Finset.sum_eq_zero, zero_add]
    · refine Finset.sum_congr rfl fun d _ => ?_
      rw [h1 _ (by simp only [Fin.val_natAdd]; omega)]
      exact congrArg g (Fin.ext (by simp only [Fin.val_natAdd]; omega))
    · intro d _; exact h2 _ (by simp only [Fin.val_castAdd]; omega)

section Blocks
variable (c : Dev nD) (t : Fin cfg0.N) (b : Fin 2) (h : Fin 4) (hb : b.val = (grid0.coords t 0).val) (hh : h.val = (grid0.coords t 1).val)
include hb hh

/-- The array index under the query block's. -/
theorem emb_q (g : Fin 4) (x : Fin 1024) (X : Fin 8192) (hX : X.val = (grid0.coords t 2).val * 1024 + x.val) (d : Fin 128) (H : Fin 16) (hH : H.val = h.val * 4 + g.val) :
   (((cfg0.win 0).blk t).view.emb (ix4 0 g x d) : S2x16x8192x128.Idx) = ix4 b H X d := by
    blk_ext [idx t, hb, hh, hX, hH]

omit hb hh in
/-- The query window's array. -/
theorem V_q0 : (V m c (Pipeline.arrRef spec0 0) : FVec Ideal S2x16x8192x128 .bf16) = prepQ (aq m c) := V_q m c

omit hb hh in
/-- The query block read at an index. -/
theorem read_q (A : FVec Ideal S2x16x8192x128 .bf16) (g : Fin 4) (x : Fin 1024) (X : Fin 8192) (d : Fin 128) (H : Fin 16)  (he :  (((cfg0.win 0).blk t).view.emb (ix4 0 g x d) : S2x16x8192x128.Idx) = ix4 b H X d) :
   (((cfg0.win 0).blk t).view.read (Elt Ideal) A : FVec Ideal S1x4x1024x128 .bf16) (ix4 0 g x d) = A (ix4 b H X d) := congrArg A he

omit hb hh in
/-- The query block is that block of the prepared queries. -/
theorem iblk_q : (iblk m c 0 t : FVec Ideal S1x4x1024x128 .bf16) = (((cfg0.win 0).blk t).view.read (Elt Ideal) (prepQ (aq m c)) : FVec Ideal S1x4x1024x128 .bf16) := by
  unfold iblk
  exact congrArg (((cfg0.win 0).blk t).view.read (Elt Ideal)) (V_q0 m c)

/-- The query block: head `h`'s queries in its half of the lanes, zeros in the other. -/
theorem blk_q (g : Fin 4) (x : Fin 1024) (X : Fin 8192) (hX : X.val = (grid0.coords t 2).val * 1024 + x.val) (d : Fin 128) :
    (iblk m c 0 t : FVec Ideal S1x4x1024x128 .bf16) (ix4 0 g x d) = if d.val / 64 = h.val % 2 then aq m c (ix5 b X h g ⟨d.val % 64, by omega⟩) else 0 := by
  rw [iblk_q]
  exact (read_q t b _ g x X d _ (emb_q t b h hb hh g x X hX d ⟨h.val * 4 + g.val, by omega⟩ rfl)).trans (prepQ_at (aq m c) b h g ⟨h.val * 4 + g.val, by omega⟩ rfl X d)

/-- The key block: two heads' keys side by side. -/
theorem blk_k (n : Fin 8448) (d : Fin 128) :
    (iblk m c 1 t : FVec Ideal S1x8448x128 .bf16) (ix3 0 n d) = ak m c (ix4 b n ⟨h.val / 2 * 2 + d.val / 64, by omega⟩ ⟨d.val % 64, by omega⟩) := by
  have he : (((cfg0.win 1).blk t).view.emb (ix3 0 n d) : S2x8448x256.Idx) = ix3 b n ⟨h.val / 2 * 128 + d.val, by omega⟩ := by
    blk_ext [idx t, hb, hh]
  refine (congrArg (V m c main_v9) he).trans ?_
  rw [V_k, prepK_at]
  congr 2 <;> exact Fin.ext (by dsimp only; omega)

/-- The value block: head `h`'s values, transposed. -/
theorem blk_v (n : Fin 8448) (r : Fin 64) :
    (iblk m c 2 t : FVec Ideal S1x64x8448 .bf16) (ix3 0 r n) = av m c (ix4 b n h r) := by
  have he : (((cfg0.win 2).blk t).view.emb (ix3 0 r n) : S2x256x8448.Idx) = ix3 b ⟨h.val * 64 + r.val, by omega⟩ n := by
    blk_ext [idx t, hb, hh]
  refine (congrArg (V m c main_v11) he).trans ?_
  rw [V_v, prepV_at]
  congr 2 <;> exact Fin.ext (by dsimp only; omega)

/-- Attention of the blocks is attention of the arrays: the other head's keys meet zeros. -/
theorem att_eq (g : Fin 4) (x : Fin 1024) (X : Fin 8192) (hX : X.val = (grid0.coords t 2).val * 1024 + x.val) (r : Fin 64) :
    att (iblk m c 0 t) (iblk m c 1 t) (iblk m c 2 t) r g x
      = attn (aq m c) (ak m c) (av m c) b X h g r := by
  unfold att attn
  simp only [blk_q m c t b h hb hh g x X hX, blk_k m c t b h hb hh, blk_v m c t b h hb hh]
  refine Finset.sum_congr rfl fun n _ => congrArg _ (congrArg (W · n) (funext fun n => ?_))
  refine sum_half (h.val % 2) (by omega) (fun d : Fin 64 => ak m c (ix4 b n h d) * aq m c (ix5 b X h g d)) (fun d hd => ?_) (fun d hd => ?_)
  · rw [if_pos hd]
    have e : (⟨h.val / 2 * 2 + d.val / 64, by omega⟩ : Fin 4) = h := Fin.ext (by dsimp only; omega)
    rw [e]
  · rw [if_neg hd]; exact mul_zero _

end Blocks

/-- What a grid point stores. -/
def outB (c : Dev nD) (t : Fin cfg0.N) (y : S1x1024x256.Idx) : Ideal .bf16 :=
  att (iblk m c 0 t) (iblk m c 1 t) (iblk m c 2 t) ⟨(y 2).val % 64, by omega⟩ ⟨(y 2).val / 64, by have := (y 2).isLt; change (y 2).val < 256 at this; omega⟩ ⟨(y 1).val, (y 1).isLt⟩

/-- The queries and the keys are real numbers. -/
def Real1 : Prop := ∀ c : Dev nD, (∀ b x h g d, ∃ y : ℝ, aq m c (ix5 b x h g d) = (y : EReal))
  ∧ ∀ b n h d, ∃ y : ℝ, ak m c (ix4 b n h d) = (y : EReal)

variable (hr : Real1 m)
include hr

/-- The body stores that. -/
theorem out_eq (c : Dev nD) (t : Fin cfg0.N) (Q : S128x4096.Idx → Ideal .bf16) (σ : St Ideal) (ob : FVec Ideal S1x1024x256 .bf16) :
    finF (bodyF (F := Ideal) (iblk m c 0 t) (iblk m c 1 t) (iblk m c 2 t) Q σ).a ob = outB m c t := by
  obtain ⟨b, hb⟩ : ∃ b : Fin 2, b.val = (grid0.coords t 0).val := ⟨⟨_, (grid0.coords t 0).isLt⟩, rfl⟩
  obtain ⟨h, hh⟩ : ∃ h : Fin 4, h.val = (grid0.coords t 1).val := ⟨⟨_, (grid0.coords t 1).isLt⟩, rfl⟩
  have h2 : (grid0.coords t 2).val < 8 := (grid0.coords t 2).isLt
  funext y
  idx_vars y
  have hy : y0 = 0 := Subsingleton.elim _ _
  subst hy
  refine fin_at (fun n d => ?_) (fun g x d => ?_) Q σ ob y1 y2
  · rw [blk_k m c t b h hb hh]; exact (hr c).2 _ _ _ _
  · rw [blk_q m c t b h hb hh g x ⟨(grid0.coords t 2).val * 1024 + x.val, by omega⟩ rfl]
    split
    · exact (hr c).1 _ _ _ _ _
    · exact ⟨0, rfl⟩

/-- What the body stores at a block index is the reference's term at the array index under it. -/
theorem point (c : Dev nD) (t : Fin cfg0.N) (y : S1x1024x256.Idx) :
    (dats m (outB m) 0 c).after 3 t y = REF (aq m c) (ak m c) (av m c) (((cfg0.win 3).blk t).view.emb y) := by
  idx_vars y
  have hy : y0 = 0 := Subsingleton.elim _ _
  subst hy
  obtain ⟨b, hb⟩ : ∃ b : Fin 2, b.val = (grid0.coords t 0).val := ⟨⟨_, (grid0.coords t 0).isLt⟩, rfl⟩
  obtain ⟨h, hh⟩ : ∃ h : Fin 4, h.val = (grid0.coords t 1).val := ⟨⟨_, (grid0.coords t 1).isLt⟩, rfl⟩
  have h2 : (grid0.coords t 2).val < 8 := (grid0.coords t 2).isLt
  obtain ⟨X, hX⟩ : ∃ r : Fin 8192, r.val = (grid0.coords t 2).val * 1024 + y1.val := ⟨⟨_, by omega⟩, rfl⟩
  have he : (((cfg0.win 3).blk t).view.emb (ix3 0 y1 y2) : Cert.ReferenceIdeal.S2x8192x1024.Idx) = ix3 b X ⟨h.val * 256 + y2.val, by omega⟩ := by
    blk_ext [idx t, hb, hh, hX]
  rw [he, after0_3]
  refine (att_eq m c t b h hb hh _ _ X hX _).trans (Eq.trans ?_ (ref_at _ _ _ (hr c).1 (hr c).2 b X _).symm)
  congr 1 <;> exact Fin.ext (by dsimp only [ix3]; omega)

/-- The result array after the run is the reference's term of the arguments. -/
theorem final (c : Dev nD) : (dats m (outB m) 0 c).arrAt 3 (cfgs 0).N
    = REF (m ((c : Thread nD τ).loc main_arg0)) (m ((c : Thread nD τ).loc main_arg1)) (m ((c : Thread nD τ).loc main_arg2)) := by
  refine (dats m (outB m) 0 c).arrAt_eq_of_covers 3 _ (by decide +kernel) fun t _ y => ?_
  blk_simp
  exact point m hr c t y

/-- The run leaves the reference's term of the arguments, and the arguments as they were. -/
theorem run_value (ρ : Dev nD → PrngReg) : θ_run defs (onTc (τ := τ) (main (F := Ideal))) ⟨m, fun _ => 0, ρ⟩ fun r => ∀ c : Dev nD,
    r.2.mem ((c.tc : Thread nD τ).loc main_v12) = REF (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨((h c).1 3).trans (final m hr c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_exact m ρ (outB m) (out_eq m hr))

end Cert.Flash

/-! ## The claims -/

/-- The precondition's side conditions. -/
theorem Cert.Flash.pre_facts : Cert.Pre_finite.Facts where
  bitsLt_bf16_f32 := by decide
  bcast_S_S2x8192x4x4x64 := by decide
  bcast_S_S2x8448x4x64 := by decide

namespace Cert.Flash
open Idealize.ShloMosaic

/-- A number of absolute value below infinity is real. -/
theorem real_of_lt {x : EReal} (h : FloatOps.cmpf (F := Ideal) (φ := .f32) .olt (max x (-x)) (Ideal.ofBits .f32 0x7F800000#32) = 1#1) : ∃ y : ℝ, x = (y : EReal) := by
  have e : Ideal.ofBits .f32 0x7F800000#32 = (⊤ : EReal) := by simp [Ideal.ofBits, Ideal.ieee]
  rw [e] at h
  have hlt : max x (-x) < ⊤ := (Idealize.ShloMosaic.Ideal.cmp_olt_eq_one _ _).mp h
  induction x with
  | coe y => exact ⟨y, rfl⟩
  | bot => simp at hlt
  | top => simp at hlt

/-- Under the precondition the queries and the keys are real numbers. -/
theorem real1 (m : (ℓ : Loc Cert.KernelIdeal.nD Cert.KernelIdeal.τ Cert.KernelIdeal.sig) → Buf (Elt Ideal) ℓ) (h : @Cert.Pre_KernelIdeal_finite pre_facts m) : Real1 m := by
  intro c
  obtain ⟨h0, h1⟩ := h c
  exact ⟨fun b x h g d => real_of_lt (congrFun h0 (ix5 b x h g d)), fun b n h d => real_of_lt (congrFun h1 (ix4 b n h d))⟩

/-- Kernel and reference, from memories agreeing on the arguments, end with equal results. -/
theorem algebraic : @Cert.algebraic_KernelIdeal_ReferenceIdeal_pre_finite Cert.KernelIdeal.Gen.facts Cert.ReferenceIdeal.Gen.facts pre_facts := by
  intro m g m' g' hpre hagree
  refine ⟨_, run_value m (real1 m hpre) g, ?_⟩
  refine (θ_run Cert.ReferenceIdeal.defs _ _).mono (fun r h c => ⟨(h c).1.trans ?_, (h c).2⟩) (run_ref m' g')
  obtain ⟨h0, h1, h2⟩ := hagree c
  rw [h0, h1, h2]

end Cert.Flash

end
-- ==== Proof.Diff.Prog.lean ====
/- The differential-attention kernel's body as its units: per column block one product of keys and queries (`prodU`) and one
   update of the running maximum and of the accumulator (`consU`). -/
module

public import proofs.«01_k».proof.Proof.Gen.Kernel3Ideal.Skeleton

@[expose] public section

set_option maxRecDepth 1000000
set_option maxHeartbeats 0

noncomputable section

namespace Cert.Diff

open Idealize.ShloMosaic Idealize.SL.Sem
open Cert.Kernel3Ideal Cert.Kernel3Ideal.Gen

variable {F : FTy → Type} [FloatOps F] [Named F]

/-- The scores of one chunk of keys against one block of query columns, as stored. -/
def pS (kc : FVec F S768x128 .bf16) (q : Vec F S128x256 .bf16) : FVec F S1x768x256 .f32 :=
  shapeCast S1x768x256 (matmul dot_S768x128_S128x256_S768x256_1_0_0_1_n_n none kc q (constant S768x256 .f32 0x00000000#32)) shapeCasts_S768x256_S1x768x256

/-- Their maximum over the rows that share a sublane, as stored. -/
def pC (kc : FVec F S768x128 .bf16) (q : Vec F S128x256 .bf16) : FVec F S1x8x256 .f32 :=
  shapeCast S1x8x256 (multiReduction .maximumf [0] S8x256 (shapeCast S96x8x256 (matmul dot_S768x128_S128x256_S768x256_1_0_0_1_n_n none kc q (constant S768x256 .f32 0x00000000#32)) shapeCasts_S768x256_S96x8x256) 0xFF800000#32 reduces_S96x8x256_S8x256 (.inl rfl) rfl) shapeCasts_S8x256_S1x8x256

/-- The new running maximum. -/
def pN (m : FVec F S1x256 .f32) (cm : Vec F S1x8x256 .f32) : FVec F S1x256 .f32 :=
  maximumf m (shapeCast S1x256 (multiReduction .maximumf [0] S256 (shapeCast S8x256 cm shapeCasts_S1x8x256_S8x256) 0xFF800000#32 reduces_S8x256_S256 (.inl rfl) rfl) shapeCasts_S256_S1x256)

/-- The new running maximum, as stored. -/
def pM (m : FVec F S1x256 .f32) (cm : Vec F S1x8x256 .f32) : FVec F S1x256 .f32 :=
  shapeCast S1x256 (pN m cm) shapeCasts_S1x256_S1x256

/-- The new accumulator, as stored. -/
def pA (vt1 : FVec F S144x768 .bf16) (m : FVec F S1x256 .f32) (cm : Vec F S1x8x256 .f32) (s : Vec F S1x768x256 .f32) (a : FVec F S144x256 .f32) : FVec F S144x256 .f32 :=
  shapeCast S144x256 (addf (mulf (broadcastTo S144x256 (exp2 (subf m (pN m cm))) broadcasts_S1x256_S144x256) a)
    (matmul dot_S144x768_S768x256_S144x256_1_0_0_1_n_n none vt1
      (truncf .bf16 (exp2 (subf (shapeCast S768x256 s shapeCasts_S1x768x256_S768x256) (broadcastTo S768x256 (pN m cm) broadcasts_S1x256_S768x256))) bitsLt_bf16_f32)
      (constant S144x256 .f32 0x00000000#32))) shapeCasts_S144x256_S144x256

theorem inb7 (c : Fin 16) : ∀ a, (![0, 256 * c.val] : Fin 2 → Nat) a + S128x256.size a ≤ S128x4096.size a := by
  intro a; fin_cases a <;> simp <;> omega
theorem inb8 (s : Fin 2) (c : Fin 16) : ∀ a, (![s.val, 0, 256 * c.val] : Fin 3 → Nat) a + S1x768x256.size a ≤ S2x768x4096.size a := by
  intro a; fin_cases a <;> simp <;> omega
theorem inb9 (s : Fin 2) (c : Fin 16) : ∀ a, (![s.val, 0, 256 * c.val] : Fin 3 → Nat) a + S1x8x256.size a ≤ S2x8x4096.size a := by
  intro a; fin_cases a <;> simp <;> omega
theorem inb10 (c : Fin 16) : ∀ a, (![0, 256 * c.val] : Fin 2 → Nat) a + S1x256.size a ≤ S1x4096.size a := by
  intro a; fin_cases a <;> simp <;> omega
theorem inb11 (c : Fin 16) : ∀ a, (![0, 256 * c.val] : Fin 2 → Nat) a + S144x256.size a ≤ S144x4096.size a := by
  intro a; fin_cases a <;> simp <;> omega

/-- The block of columns `c` of each scratch array. -/
abbrev r7 (c : Fin 16) : Rect S128x4096 := Rect.unit (s := S128x4096) ![0, 256 * c.val] S128x256.size (inb7 c)
abbrev r8 (s : Fin 2) (c : Fin 16) : Rect S2x768x4096 := Rect.unit (s := S2x768x4096) ![s.val, 0, 256 * c.val] S1x768x256.size (inb8 s c)
abbrev r9 (s : Fin 2) (c : Fin 16) : Rect S2x8x4096 := Rect.unit (s := S2x8x4096) ![s.val, 0, 256 * c.val] S1x8x256.size (inb9 s c)
abbrev r10 (c : Fin 16) : Rect S1x4096 := Rect.unit (s := S1x4096) ![0, 256 * c.val] S1x256.size (inb10 c)
abbrev r11 (c : Fin 16) : Rect S144x4096 := Rect.unit (s := S144x4096) ![0, 256 * c.val] S144x256.size (inb11 c)

variable (arg9 : Memref sig .tc .vmem S128x4096 .bf16) (arg10 : Memref sig .tc .vmem S2x768x4096 .f32)
  (arg11 : Memref sig .tc .vmem S2x8x4096 .f32) (arg12 : Memref sig .tc .vmem S1x4096 .f32) (arg13 : Memref sig .tc .vmem S144x4096 .f32)

/-- One block of scores: product, store, maxima, store; then `K`. -/
def prodU (kc : FVec F S768x128 .bf16) (s : Fin 2) (c : Fin 16) (K : Prog (TpuEff nD τ sig (Elt F) Λ₀ .tc) PUnit) :
    Prog (TpuEff nD τ sig (Elt F) Λ₀ .tc) PUnit :=
  .op (.load arg9 (r7 c).toLoadRect (View.loadsAt_vmem h_S128x256)) fun (q : Vec F S128x256 .bf16) =>
  .op (.load arg10 (r8 s c).toLoadRect (View.loadsAt_vmem h_S1x768x256)) fun _ =>
  .op (.store arg10 (r8 s c) (pS kc q) Finset.univ (View.stores_vmem_bits_univ h_S1x768x256 rfl) (.inl rfl)) fun _ =>
  .op (.load arg11 (r9 s c).toLoadRect (View.loadsAt_vmem h_S1x8x256)) fun _ =>
  .op (.store arg11 (r9 s c) (pC kc q) Finset.univ (View.stores_vmem_bits_univ h_S1x8x256 rfl) (.inl rfl)) fun _ => K

/-- One update of a block of columns by a chunk's stored scores; then `K`. -/
def consU (vt1 : FVec F S144x768 .bf16) (s : Fin 2) (c : Fin 16) (K : Prog (TpuEff nD τ sig (Elt F) Λ₀ .tc) PUnit) :
    Prog (TpuEff nD τ sig (Elt F) Λ₀ .tc) PUnit :=
  .op (.load arg12 (r10 c).toLoadRect (View.loadsAt_vmem h_S1x256)) fun (m : Vec F S1x256 .f32) =>
  .op (.load arg11 (r9 s c).toLoadRect (View.loadsAt_vmem h_S1x8x256)) fun (cm : Vec F S1x8x256 .f32) =>
  .op (.load arg10 (r8 s c).toLoadRect (View.loadsAt_vmem h_S1x768x256)) fun (sc : Vec F S1x768x256 .f32) =>
  .op (.load arg13 (r11 c).toLoadRect (View.loadsAt_vmem h_S144x256)) fun (a : Vec F S144x256 .f32) =>
  .op (.load arg13 (r11 c).toLoadRect (View.loadsAt_vmem h_S144x256)) fun _ =>
  .op (.store arg13 (r11 c) (pA vt1 m cm sc a) Finset.univ (View.stores_vmem_bits_univ h_S144x256 rfl) (.inl rfl)) fun _ =>
  .op (.load arg12 (r10 c).toLoadRect (View.loadsAt_vmem h_S1x256)) fun _ =>
  .op (.store arg12 (r10 c) (pM m cm) Finset.univ (View.stores_vmem_bits_univ h_S1x256 rfl) (.inl rfl)) fun _ => K

/-- All column blocks. -/
def blocks : List (Fin 16) := [0, 1, 2, 3, 4, 5, 6, 7, 8, 9, 10, 11, 12, 13, 14, 15]

/-- The column blocks of one step: scores of the next chunk into slot `s`, update by the chunk of slot `s'`. -/
def cols (kc : FVec F S768x128 .bf16) (vt1 : FVec F S144x768 .bf16) (s s' : Fin 2) (K : Prog (TpuEff nD τ sig (Elt F) Λ₀ .tc) PUnit) :
    List (Fin 16) → Prog (TpuEff nD τ sig (Elt F) Λ₀ .tc) PUnit
  | [] => K
  | c :: cs => prodU arg9 arg10 arg11 kc s c (consU arg10 arg11 arg12 arg13 vt1 s' c (cols kc vt1 s s' K cs))

/-- A chunk of transposed values with the rows of ones under it. -/
def withOnes (ones : FVec F S16x768 .bf16) (v : Vec F S1x128x768 .bf16) : FVec F S144x768 .bf16 :=
  concatenate S144x768 0 [⟨S128x768, shapeCast S128x768 v shapeCasts_S1x128x768_S128x768⟩, ⟨S16x768, ones⟩] concatenates_S128x768_S16x768_S144x768_d0

/-- One step of the loop: the keys of one chunk, the values of the chunk before, and all column blocks. -/
def stepU (arg4 : Memref sig .tc .vmem S1x8448x128 .bf16) (arg5 : Memref sig .tc .vmem S1x128x8448 .bf16)
    (ones : FVec F S16x768 .bf16) (o4 : Fin 3 → Nat) (h4 : ∀ a, o4 a + S1x768x128.size a ≤ S1x8448x128.size a)
    (o5 : Fin 3 → Nat) (h5 : ∀ a, o5 a + S1x128x768.size a ≤ S1x128x8448.size a) (s s' : Fin 2)
    (K : Prog (TpuEff nD τ sig (Elt F) Λ₀ .tc) PUnit) : Prog (TpuEff nD τ sig (Elt F) Λ₀ .tc) PUnit :=
  .op (.load arg4 (Rect.unit (s := S1x8448x128) o4 S1x768x128.size h4).toLoadRect (View.loadsAt_vmem h_S1x768x128)) fun (k : Vec F S1x768x128 .bf16) =>
  .op (.load arg5 (Rect.unit (s := S1x128x8448) o5 S1x128x768.size h5).toLoadRect (View.loadsAt_vmem h_S1x128x768)) fun (v : Vec F S1x128x768 .bf16) =>
  cols arg9 arg10 arg11 arg12 arg13 (shapeCast S768x128 k shapeCasts_S1x768x128_S768x128) (withOnes ones v) s s' K blocks

/-- The column blocks of the first step: scores alone. -/
def colsP (kc : FVec F S768x128 .bf16) (s : Fin 2) (K : Prog (TpuEff nD τ sig (Elt F) Λ₀ .tc) PUnit) :
    List (Fin 16) → Prog (TpuEff nD τ sig (Elt F) Λ₀ .tc) PUnit
  | [] => K
  | c :: cs => prodU arg9 arg10 arg11 kc s c (colsP kc s K cs)

/-- The column blocks of the last step: updates alone. -/
def colsC (vt1 : FVec F S144x768 .bf16) (s : Fin 2) (K : Prog (TpuEff nD τ sig (Elt F) Λ₀ .tc) PUnit) :
    List (Fin 16) → Prog (TpuEff nD τ sig (Elt F) Λ₀ .tc) PUnit
  | [] => K
  | c :: cs => consU arg10 arg11 arg12 arg13 vt1 s c (colsC vt1 s K cs)

/-- One trip of the loop is four steps. -/
def tripU (arg4 : Memref sig .tc .vmem S1x8448x128 .bf16) (arg5 : Memref sig .tc .vmem S1x128x8448 .bf16)
    (ones : FVec F S16x768 .bf16) (t : Fin k0_t1_loop.trips) : Prog (TpuEff nD τ sig (Elt F) Λ₀ .tc) PUnit :=
  stepU arg9 arg10 arg11 arg12 arg13 arg4 arg5 ones _ (k0_off1_inb t 0) _ (k0_off2_inb t 0) 1 0 <|
  stepU arg9 arg10 arg11 arg12 arg13 arg4 arg5 ones _ (k0_off1_inb t 1) _ (k0_off2_inb t 1) 0 1 <|
  stepU arg9 arg10 arg11 arg12 arg13 arg4 arg5 ones _ (k0_off1_inb t 2) _ (k0_off2_inb t 2) 1 0 <|
  stepU arg9 arg10 arg11 arg12 arg13 arg4 arg5 ones _ (k0_off1_inb t 3) _ (k0_off2_inb t 3) 0 1 <|
  .ret ⟨⟩

/-- The printed region of the loop is `tripU`. -/
theorem trip_eq (i : grid0.Coords) (arg3 : Memref sig .tc .vmem S1x2x2048x128 .bf16) (harg3 : arg3.IsWhole) (arg4 : Memref sig .tc .vmem S1x8448x128 .bf16) (harg4 : arg4.IsWhole) (arg5 : Memref sig .tc .vmem S1x128x8448 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S1x2048x128 .bf16) (harg8 : arg8.IsWhole) (arg9 : Memref sig .tc .vmem S128x4096 .bf16) (harg9 : arg9.IsWhole) (arg10 : Memref sig .tc .vmem S2x768x4096 .f32) (harg10 : arg10.IsWhole) (arg11 : Memref sig .tc .vmem S2x8x4096 .f32) (harg11 : arg11.IsWhole) (arg12 : Memref sig .tc .vmem S1x4096 .f32) (harg12 : arg12.IsWhole) (arg13 : Memref sig .tc .vmem S144x4096 .f32) (harg13 : arg13.IsWhole)
   (v23 : FVec F S16x768 .bf16) (v25 : FVec F S768x128 .bf16) (v165 : FVec F S1x8x256 .f32) (t : Fin k0_t1_loop.trips) :
   k0_t1_body i arg3 harg3 arg4 harg4 arg5 harg5 arg6 harg6 arg7 harg7 arg8 harg8 arg9 harg9 arg10 harg10 arg11 harg11 arg12 harg12 arg13 harg13 v23 v25 v165 t ⟨⟩
   = tripU arg9 arg10 arg11 arg12 arg13 arg4 arg5 v23 t := by
  rfl

/-- The query block, scaled and transposed, as stored. -/
def pQ (x : Vec F S1x2x2048x128 .bf16) : FVec F S128x4096 .bf16 :=
  shapeCast S128x4096 (truncf .bf16 (transpose S128x4096 [1, 0] (mulf (extf .f32 (shapeCast S4096x128 (shapeCast S2x2048x128 x shapeCasts_S1x2x2048x128_S2x2048x128) shapeCasts_S2x2048x128_S4096x128) bitsLt_bf16_f32)
    (broadcast S4096x128 (Named.named κ "scale" 0x3E38AA3B#32))) transposes_S4096x128_p1_0_S128x4096) bitsLt_bf16_f32) shapeCasts_S128x4096_S128x4096

/-- The rows of ones. -/
def ones : FVec F S16x768 .bf16 := broadcast S16x768 (Scalar.ofBits .bf16 0x3F80#16)

/-- The factor of the second component: the difference of two exponentials of inner products, and a constant. -/
def pL (lam : Vec F S4x64 .f32) : FVec F S1x1 .f32 :=
  addf (subf
    (exp (shapeCast S1x1 (multiReduction .add [1] S1 (mulf (extractStridedSlice S1x64 ![0, 0] (shapeCast S4x64 lam shapeCasts_S4x64_S4x64) slices_S4x64_o0_0_S1x64) (extractStridedSlice S1x64 ![1, 0] (shapeCast S4x64 lam shapeCasts_S4x64_S4x64) slices_S4x64_o1_0_S1x64)) 0x00000000#32 reduces_S1x64_S1 (.inl rfl) rfl) shapeCasts_S1_S1x1))
    (exp (shapeCast S1x1 (multiReduction .add [1] S1 (mulf (extractStridedSlice S1x64 ![2, 0] (shapeCast S4x64 lam shapeCasts_S4x64_S4x64) slices_S4x64_o2_0_S1x64) (extractStridedSlice S1x64 ![3, 0] (shapeCast S4x64 lam shapeCasts_S4x64_S4x64) slices_S4x64_o3_0_S1x64)) 0x00000000#32 reduces_S1x64_S1 (.inl rfl) rfl) shapeCasts_S1_S1x1)))
    (broadcast S1x1 (Scalar.ofBits .f32 0x3EF1014C#32))

/-- The accumulator divided by its row of sums. -/
def pT (a : Vec F S128x4096 .f32) (l : Vec F S1x4096 .f32) : FVec F S128x4096 .f32 :=
  divf a (broadcastTo S128x4096 l broadcasts_S1x4096_S128x4096)

/-- The first component less the second times its factor. -/
def pD (o : FVec F S128x4096 .f32) (lam : FVec F S1x1 .f32) : FVec F S128x2048 .f32 :=
  subf (extractStridedSlice S128x2048 ![0, 0] o slices_S128x4096_o0_0_S128x2048)
    (mulf (broadcastTo S128x2048 lam broadcasts_S1x1_S128x2048) (extractStridedSlice S128x2048 ![0, 2048] o slices_S128x4096_o0_2048_S128x2048))

/-- Each column times the inverse root of its mean square. -/
def pR (d : FVec F S128x2048 .f32) : FVec F S128x2048 .f32 :=
  mulf d (broadcastTo S128x2048 (rsqrt (addf (divf (shapeCast S1x2048 (multiReduction .add [0] S2048 (mulf d d) 0x00000000#32 reduces_S128x2048_S2048 (.inl rfl) rfl) shapeCasts_S2048_S1x2048)
    (broadcast S1x2048 (Scalar.ofBits .f32 0x43000000#32))) (broadcast S1x2048 (Scalar.ofBits .f32 0x358637BD#32)))) broadcasts_S1x2048_S128x2048)

/-- The block of results, as stored. -/
def pO (a : Vec F S128x4096 .f32) (l : Vec F S1x4096 .f32) (lam : Vec F S4x64 .f32) (sg : Vec F S128x1 .f32) : FVec F S1x2048x128 .bf16 :=
  shapeCast S1x2048x128 (truncf .bf16 (transpose S2048x128 [1, 0]
    (mulf (mulf (pR (pD (pT a l) (pL lam))) (broadcastTo S128x2048 (shapeCast S128x1 sg shapeCasts_S128x1_S128x1) broadcasts_S128x1_S128x2048))
      (broadcast S128x2048 (Scalar.ofBits .f32 0x3F077F5A#32))) transposes_S128x2048_p1_0_S2048x128) bitsLt_bf16_f32) shapeCasts_S2048x128_S1x2048x128

/-- The end of the body: the two components combined, normalised and stored. -/
def finU (arg6 : Memref sig .tc .vmem S4x64 .f32) (arg7 : Memref sig .tc .vmem S128x1 .f32) (arg8 : Memref sig .tc .vmem S1x2048x128 .bf16) (harg8 : arg8.IsWhole) : Prog (TpuEff nD τ sig (Elt F) Λ₀ .tc) PUnit :=
  .op (.load arg13 (Rect.unit (s := S144x4096) ![0, 0] S128x4096.size inb_S144x4096_S128x4096_0_0).toLoadRect (View.loadsAt_vmem h_S128x4096)) fun (a : Vec F S128x4096 .f32) =>
  .op (.load arg13 (Rect.unit (s := S144x4096) ![128, 0] S1x4096.size inb_S144x4096_S1x4096_128_0).toLoadRect (View.loadsAt_vmem h_S1x4096)) fun (l : Vec F S1x4096 .f32) =>
  .op (.load arg6 (Rect.unit (s := S4x64) ![0, 0] S4x64.size inb_S4x64_S4x64_0_0).toLoadRect (View.loadsAt_vmem h_S4x64)) fun (lam : Vec F S4x64 .f32) =>
  .op (.load arg7 (Rect.unit (s := S128x1) ![0, 0] S128x1.size inb_S128x1_S128x1_0_0).toLoadRect (View.loadsAt_vmem h_S128x1)) fun (sg : Vec F S128x1 .f32) =>
  .op (.load arg8 (Rect.unit (s := S1x2048x128) ![0, 0, 0] S1x2048x128.size inb_S1x2048x128_S1x2048x128_0_0_0).toLoadRect (View.loadsAt_vmem h_S1x2048x128)) fun _ =>
  .op (.store arg8 (Rect.unit (s := S1x2048x128) ![0, 0, 0] S1x2048x128.size inb_S1x2048x128_S1x2048x128_0_0_0) (pO a l lam sg) Finset.univ (View.stores_vmem h_S1x2048x128 (harg8.storeExact_slice rfl _ packedbf16_S1x2048x128_S1x2048x128_0_0_0) (fun _ => rfl)) (.inl rfl)) fun _ =>
  .ret ⟨⟩

/-- What follows the loop: two steps, the last update and the end. -/
def restU (arg4 : Memref sig .tc .vmem S1x8448x128 .bf16) (arg5 : Memref sig .tc .vmem S1x128x8448 .bf16) (arg6 : Memref sig .tc .vmem S4x64 .f32) (arg7 : Memref sig .tc .vmem S128x1 .f32) (arg8 : Memref sig .tc .vmem S1x2048x128 .bf16) (harg8 : arg8.IsWhole) : Prog (TpuEff nD τ sig (Elt F) Λ₀ .tc) PUnit :=
  stepU arg9 arg10 arg11 arg12 arg13 arg4 arg5 ones _ inb_S1x8448x128_S1x768x128_0_6912_0 _ inb_S1x128x8448_S1x128x768_0_0_6144 1 0 <|
  stepU arg9 arg10 arg11 arg12 arg13 arg4 arg5 ones _ inb_S1x8448x128_S1x768x128_0_7680_0 _ inb_S1x128x8448_S1x128x768_0_0_6912 0 1 <|
  .op (.load arg5 (Rect.unit (s := S1x128x8448) ![0, 0, 7680] S1x128x768.size inb_S1x128x8448_S1x128x768_0_0_7680).toLoadRect (View.loadsAt_vmem h_S1x128x768)) fun (v : Vec F S1x128x768 .bf16) =>
  colsC arg10 arg11 arg12 arg13 (withOnes ones v) 0 (finU arg13 arg6 arg7 arg8 harg8) blocks

/-- What precedes the loop: the queries, the initial state, the first chunk's scores; then `K`. -/
def preU (arg3 : Memref sig .tc .vmem S1x2x2048x128 .bf16) (arg4 : Memref sig .tc .vmem S1x8448x128 .bf16) (harg9 : arg9.IsWhole)
    (K : Prog (TpuEff nD τ sig (Elt F) Λ₀ .tc) PUnit) : Prog (TpuEff nD τ sig (Elt F) Λ₀ .tc) PUnit :=
  .op (.load arg3 (Rect.unit (s := S1x2x2048x128) ![0, 0, 0, 0] S1x2x2048x128.size inb_S1x2x2048x128_S1x2x2048x128_0_0_0_0).toLoadRect (View.loadsAt_vmem h_S1x2x2048x128)) fun (x : Vec F S1x2x2048x128 .bf16) =>
  .op (.load arg9 (Rect.unit (s := S128x4096) ![0, 0] S128x4096.size inb_S128x4096_S128x4096_0_0).toLoadRect (View.loadsAt_vmem h_S128x4096)) fun _ =>
  .op (.store arg9 (Rect.unit (s := S128x4096) ![0, 0] S128x4096.size inb_S128x4096_S128x4096_0_0) (pQ x) Finset.univ (View.stores_vmem h_S128x4096 (harg9.storeExact_slice rfl _ packedbf16_S128x4096_S128x4096_0_0) (fun _ => rfl)) (.inl rfl)) fun _ =>
  .op (.load arg13 (Rect.unit (s := S144x4096) ![0, 0] S128x4096.size inb_S144x4096_S128x4096_0_0).toLoadRect (View.loadsAt_vmem h_S128x4096)) fun _ =>
  .op (.store arg13 (Rect.unit (s := S144x4096) ![0, 0] S128x4096.size inb_S144x4096_S128x4096_0_0) (shapeCast S128x4096 (broadcast S128x4096 (Scalar.ofBits .f32 0x00000000#32)) shapeCasts_S128x4096_S128x4096) Finset.univ (View.stores_vmem_bits_univ h_S128x4096 rfl) (.inl rfl)) fun _ =>
  .op (.load arg12 (Rect.unit (s := S1x4096) ![0, 0] S1x4096.size inb_S1x4096_S1x4096_0_0).toLoadRect (View.loadsAt_vmem h_S1x4096)) fun _ =>
  .op (.store arg12 (Rect.unit (s := S1x4096) ![0, 0] S1x4096.size inb_S1x4096_S1x4096_0_0) (shapeCast S1x4096 (broadcast S1x4096 (Scalar.ofBits .f32 0xF149F2CA#32)) shapeCasts_S1x4096_S1x4096) Finset.univ (View.stores_vmem_bits_univ h_S1x4096 rfl) (.inl rfl)) fun _ =>
  .op (.load arg13 (Rect.unit (s := S144x4096) ![128, 0] S16x4096.size inb_S144x4096_S16x4096_128_0).toLoadRect (View.loadsAt_vmem h_S16x4096)) fun _ =>
  .op (.store arg13 (Rect.unit (s := S144x4096) ![128, 0] S16x4096.size inb_S144x4096_S16x4096_128_0) (shapeCast S16x4096 (broadcast S16x4096 (Scalar.ofBits .f32 0x00000000#32)) shapeCasts_S16x4096_S16x4096) Finset.univ (View.stores_vmem_bits_univ h_S16x4096 rfl) (.inl rfl)) fun _ =>
  .op (.load arg4 (Rect.unit (s := S1x8448x128) ![0, 0, 0] S1x768x128.size inb_S1x8448x128_S1x768x128_0_0_0).toLoadRect (View.loadsAt_vmem h_S1x768x128)) fun (k : Vec F S1x768x128 .bf16) =>
  colsP arg9 arg10 arg11 (shapeCast S768x128 k shapeCasts_S1x768x128_S768x128) 0 K blocks

/-- The printed body is: what precedes the loop, the loop, the rest. -/
theorem body_eq (i : grid0.Coords) (arg3 : Memref sig .tc .vmem S1x2x2048x128 .bf16) (harg3 : arg3.IsWhole) (arg4 : Memref sig .tc .vmem S1x8448x128 .bf16) (harg4 : arg4.IsWhole) (arg5 : Memref sig .tc .vmem S1x128x8448 .bf16) (harg5 : arg5.IsWhole) (arg6 : Memref sig .tc .vmem S4x64 .f32) (harg6 : arg6.IsWhole) (arg7 : Memref sig .tc .vmem S128x1 .f32) (harg7 : arg7.IsWhole) (arg8 : Memref sig .tc .vmem S1x2048x128 .bf16) (harg8 : arg8.IsWhole) (arg9 : Memref sig .tc .vmem S128x4096 .bf16) (harg9 : arg9.IsWhole) (arg10 : Memref sig .tc .vmem S2x768x4096 .f32) (harg10 : arg10.IsWhole) (arg11 : Memref sig .tc .vmem S2x8x4096 .f32) (harg11 : arg11.IsWhole) (arg12 : Memref sig .tc .vmem S1x4096 .f32) (harg12 : arg12.IsWhole) (arg13 : Memref sig .tc .vmem S144x4096 .f32) (harg13 : arg13.IsWhole) :
    cc0_diff_attention (F := F) i arg3 harg3 arg4 harg4 arg5 harg5 arg6 harg6 arg7 harg7 arg8 harg8 arg9 harg9 arg10 harg10 arg11 harg11 arg12 harg12 arg13 harg13
      = preU arg9 arg10 arg11 arg12 arg13 arg3 arg4 harg9
          (Prog.bind (Scf.Loop.for k0_t1_loop k0_t1_ok ⟨⟩ (fun t _ => tripU arg9 arg10 arg11 arg12 arg13 arg4 arg5 ones t))
            fun _ => restU arg9 arg10 arg11 arg12 arg13 arg4 arg5 arg6 arg7 arg8 harg8) := by
  refine Eq.trans (b := preU arg9 arg10 arg11 arg12 arg13 arg3 arg4 harg9
          (Prog.bind (α := Σ' (_ : FVec F S128x2048 .f32), FVec F S128x2048 .f32) (Prog.bind (α := Σ' (_ : FVec F S768x128 .bf16), Vec F S1x128x768 .bf16) (Prog.bind (Scf.Loop.for k0_t1_loop k0_t1_ok ⟨⟩ (fun t _ => tripU arg9 arg10 arg11 arg12 arg13 arg4 arg5 ones t)) ?f1) ?f2) ?f3)) ?_ ?_
  case refine_1 => rfl
  case refine_2 => exact congrArg _ (((Prog.bind_assoc _ _ _).trans (Prog.bind_assoc _ _ _)).trans rfl)

end Cert.Diff
-- ==== Proof.Diff.Run.lean ====
/- The run of the differential-attention body over the contents of its buffers: every unit as a function of the contents, and the
   whole body as one function from the staged blocks and the scratch to the stored block. -/
module

public import proofs.«01_k».proof.Proof.Diff.Prog
public import proofs.«01_k».proof.Proof.Gen.Kernel3Ideal.Frame
public import Idealize.ShloMosaic.Lib.VecWindow

@[expose] public section

set_option maxRecDepth 100000

noncomputable section

namespace Cert.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen
open Idealize.ShloMosaic.VecWindow (window put)

variable {F : FTy → Type} [FloatOps F] [Named F]

local notation "𝕄" => MT nD τ sig Unit (Elt F) ℕ (UR sig nD τ) ℕ

/-- A memref held whole at contents that read `X`. -/
def pt (c : Dev nD) {s : Shape} {e : EltTy} (m : Memref sig .tc .vmem s e) (X : s.Idx → Elt F e) : sProp 𝕄 :=
  m.view.loc (c : Thread nD τ) ↦[m.view.set]{fullShare} m.view.rep X

theorem pt_of_owns (c : Dev nD) {s : Shape} {e : EltTy} (m : Memref sig .tc .vmem s e) (X : s.Idx → Elt F e) :
    (owns (c : Thread nD τ) m fullShare X : sProp 𝕄) ⊢ pt c m X := by
  unfold owns pt
  iintro ⟨%f, %h, H⟩
  iapply (pointsTo_rep_of_read (c : Thread nD τ) m f fullShare X h)
  iexact H

theorem owns_of_pt (c : Dev nD) {s : Shape} {e : EltTy} (m : Memref sig .tc .vmem s e) (X : s.Idx → Elt F e) :
    (pt c m X : sProp 𝕄) ⊢ owns (c : Thread nD τ) m fullShare X := by
  unfold owns pt
  iintro H
  iexists _
  isplitr
  · ipureintro; exact View.read_rep _ _
  iexact H

/-- A load reads a window of the contents. -/
theorem load_pt (c : Dev nD) {s : Shape} {e : EltTy} {m : Memref sig .tc .vmem s e} {off size : Fin s.rank → ℕ} {inb : ∀ a, off a + size a ≤ s.size a}
    {hl : m.view.LoadsAt (Rect.unit off size inb).toLoadRect} {X : s.Idx → Elt F e} {P : sProp 𝕄} {Q : PUnit → sProp 𝕄}
    {k : ((Rect.unit off size inb).shape.Idx → Elt F e) → Prog (TpuEff nD τ sig (Elt F) Λ₀ .tc) PUnit}
    (h : iprop(pt c m X ∗ P) ⊢ wp frame (wpE (defs₀ (F := F)) Variants.none (c : Thread nD τ) none) Set.univ (k (window X off size inb)) Q) :
    iprop(pt c m X ∗ P) ⊢ wp frame (wpE (defs₀ (F := F)) Variants.none (c : Thread nD τ) none) Set.univ (.op (.load m (Rect.unit off size inb).toLoadRect hl) k) Q := by
  have e : m.view.readAt (Elt F) (Rect.unit off size inb).toLoadRect (m.view.rep X) = window X off size inb := View.readAt_rep_unit m.view X inb rfl inb
  rw [← e] at h
  have hw := wp_load (Γ := PendingWaitsCtx.empty) (defs := defs₀ (F := F)) Variants.none (c : Thread nD τ) none Set.univ (Q := Q) (m := m) (r := (Rect.unit off size inb).toLoadRect) (hl := hl) (k := k) (S := m.view.set) (q := fullShare) (f := m.view.rep X) (View.setOn_subset_set _ _)
  exact (sep_mono_right (wand_intro_left h)).trans (BIClass.wand_elim hw)

/-- A store puts its payload over a window of the contents. -/
theorem store_pt (c : Dev nD) {s : Shape} {e : EltTy} {m : Memref sig .tc .vmem s e} {off size : Fin s.rank → ℕ} {inb : ∀ a, off a + size a ≤ s.size a}
    {w : (Rect.unit off size inb).shape.Idx → Elt F e}
    {hx : (m.access (Rect.unit off size inb)).Stores Finset.univ} {hm : Finset.univ = Finset.univ ∨ ∀ a, (Rect.unit off size inb).stride a = 1}
    {X : s.Idx → Elt F e} {P : sProp 𝕄} {Q : PUnit → sProp 𝕄} {k : PUnit → Prog (TpuEff nD τ sig (Elt F) Λ₀ .tc) PUnit}
    (h : iprop(pt c m (put X off size w) ∗ P) ⊢ wp frame (wpE (defs₀ (F := F)) Variants.none (c : Thread nD τ) none) Set.univ (k ⟨⟩) Q) :
    iprop(pt c m X ∗ P) ⊢ wp frame (wpE (defs₀ (F := F)) Variants.none (c : Thread nD τ) none) Set.univ (.op (.store m (Rect.unit off size inb) w Finset.univ hx hm) k) Q := by
  have hw := wp_store_writes₀ (defs := defs₀ (F := F)) Variants.none (c : Thread nD τ) none Set.univ (Q := Q) (m := m) (r := Rect.unit off size inb) (w := w) (hx := hx) (hm := hm) (k := k) (S := m.view.set) (f := m.view.rep X) (View.set_slice_subset _ _)
  have hp : (m.view.loc (c : Thread nD τ) ↦[m.view.set]{fullShare} m.view.writes (Elt F) (m.view.rep X) [⟨Rect.unit off size inb, w⟩] : sProp 𝕄) ⊢ pt c m (put X off size w) :=
    pointsTo_rep_of_read (c : Thread nD τ) m _ fullShare _ (View.read_writes_rep_unit m.view X inb w rfl)
  exact (sep_mono_right (wand_intro_left ((sep_mono_left hp).trans h))).trans (BIClass.wand_elim hw)

section Perm
theorem up2 {A B G : sProp 𝕄} : iprop(A ∗ B ∗ G) ⊢ iprop(B ∗ A ∗ G) := by
  iintro ⟨HA, HB, HG⟩
  isplitl [HB]; · iexact HB
  isplitl [HA]; · iexact HA
  iexact HG
theorem up3 {A B C G : sProp 𝕄} : iprop(A ∗ B ∗ C ∗ G) ⊢ iprop(C ∗ A ∗ B ∗ G) := (sep_mono_right up2).trans up2
theorem up4 {A B C D G : sProp 𝕄} : iprop(A ∗ B ∗ C ∗ D ∗ G) ⊢ iprop(D ∗ A ∗ B ∗ C ∗ G) := (sep_mono_right up3).trans up2
theorem up5 {A B C D E G : sProp 𝕄} : iprop(A ∗ B ∗ C ∗ D ∗ E ∗ G) ⊢ iprop(E ∗ A ∗ B ∗ C ∗ D ∗ G) := (sep_mono_right up4).trans up2
theorem dn3 {A B C G : sProp 𝕄} : iprop(C ∗ A ∗ B ∗ G) ⊢ iprop(A ∗ B ∗ C ∗ G) := up2.trans (sep_mono_right up2)
theorem dn4 {A B C D G : sProp 𝕄} : iprop(D ∗ A ∗ B ∗ C ∗ G) ⊢ iprop(A ∗ B ∗ C ∗ D ∗ G) := up2.trans (sep_mono_right dn3)
theorem dn5 {A B C D E G : sProp 𝕄} : iprop(E ∗ A ∗ B ∗ C ∗ D ∗ G) ⊢ iprop(A ∗ B ∗ C ∗ D ∗ E ∗ G) := up2.trans (sep_mono_right dn4)
theorem up6 {A B C D E H G : sProp 𝕄} : iprop(A ∗ B ∗ C ∗ D ∗ E ∗ H ∗ G) ⊢ iprop(H ∗ A ∗ B ∗ C ∗ D ∗ E ∗ G) := (sep_mono_right up5).trans up2
theorem dn6 {A B C D E H G : sProp 𝕄} : iprop(H ∗ A ∗ B ∗ C ∗ D ∗ E ∗ G) ⊢ iprop(A ∗ B ∗ C ∗ D ∗ E ∗ H ∗ G) := up2.trans (sep_mono_right dn5)
theorem up7 {A B C D E H I G : sProp 𝕄} : iprop(A ∗ B ∗ C ∗ D ∗ E ∗ H ∗ I ∗ G) ⊢ iprop(I ∗ A ∗ B ∗ C ∗ D ∗ E ∗ H ∗ G) := (sep_mono_right up6).trans up2
theorem dn7 {A B C D E H I G : sProp 𝕄} : iprop(I ∗ A ∗ B ∗ C ∗ D ∗ E ∗ H ∗ G) ⊢ iprop(A ∗ B ∗ C ∗ D ∗ E ∗ H ∗ I ∗ G) := up2.trans (sep_mono_right dn6)
theorem up8 {A B C D E H I J G : sProp 𝕄} : iprop(A ∗ B ∗ C ∗ D ∗ E ∗ H ∗ I ∗ J ∗ G) ⊢ iprop(J ∗ A ∗ B ∗ C ∗ D ∗ E ∗ H ∗ I ∗ G) := (sep_mono_right up7).trans up2
theorem dn8 {A B C D E H I J G : sProp 𝕄} : iprop(J ∗ A ∗ B ∗ C ∗ D ∗ E ∗ H ∗ I ∗ G) ⊢ iprop(A ∗ B ∗ C ∗ D ∗ E ∗ H ∗ I ∗ J ∗ G) := up2.trans (sep_mono_right dn7)
theorem up9 {A B C D E H I J L G : sProp 𝕄} : iprop(A ∗ B ∗ C ∗ D ∗ E ∗ H ∗ I ∗ J ∗ L ∗ G) ⊢ iprop(L ∗ A ∗ B ∗ C ∗ D ∗ E ∗ H ∗ I ∗ J ∗ G) := (sep_mono_right up8).trans up2
theorem dn9 {A B C D E H I J L G : sProp 𝕄} : iprop(L ∗ A ∗ B ∗ C ∗ D ∗ E ∗ H ∗ I ∗ J ∗ G) ⊢ iprop(A ∗ B ∗ C ∗ D ∗ E ∗ H ∗ I ∗ J ∗ L ∗ G) := up2.trans (sep_mono_right dn8)
theorem up10 {A B C D E H I J L M G : sProp 𝕄} : iprop(A ∗ B ∗ C ∗ D ∗ E ∗ H ∗ I ∗ J ∗ L ∗ M ∗ G) ⊢ iprop(M ∗ A ∗ B ∗ C ∗ D ∗ E ∗ H ∗ I ∗ J ∗ L ∗ G) := (sep_mono_right up9).trans up2
theorem dn10 {A B C D E H I J L M G : sProp 𝕄} : iprop(M ∗ A ∗ B ∗ C ∗ D ∗ E ∗ H ∗ I ∗ J ∗ L ∗ G) ⊢ iprop(A ∗ B ∗ C ∗ D ∗ E ∗ H ∗ I ∗ J ∗ L ∗ M ∗ G) := up2.trans (sep_mono_right dn9)
theorem up11 {A B C D E H I J L M N G : sProp 𝕄} : iprop(A ∗ B ∗ C ∗ D ∗ E ∗ H ∗ I ∗ J ∗ L ∗ M ∗ N ∗ G) ⊢ iprop(N ∗ A ∗ B ∗ C ∗ D ∗ E ∗ H ∗ I ∗ J ∗ L ∗ M ∗ G) := (sep_mono_right up10).trans up2
theorem dn11 {A B C D E H I J L M N G : sProp 𝕄} : iprop(N ∗ A ∗ B ∗ C ∗ D ∗ E ∗ H ∗ I ∗ J ∗ L ∗ M ∗ G) ⊢ iprop(A ∗ B ∗ C ∗ D ∗ E ∗ H ∗ I ∗ J ∗ L ∗ M ∗ N ∗ G) := up2.trans (sep_mono_right dn10)
end Perm

/-- The contents of the scratch: scores, their maxima, the running maximum, the accumulator. -/
structure St (F : FTy → Type) where
  s : S2x768x4096.Idx → Elt F .f32
  x : S2x8x4096.Idx → Elt F .f32
  m : S1x4096.Idx → Elt F .f32
  a : S144x4096.Idx → Elt F .f32

/-- A block of columns of each array. -/
def w7 (Q : S128x4096.Idx → Elt F .bf16) (c : Fin 16) : Vec F S128x256 .bf16 := window Q ![0, 256 * c.val] S128x256.size (inb7 c)
def w8 (X : S2x768x4096.Idx → Elt F .f32) (s : Fin 2) (c : Fin 16) : Vec F S1x768x256 .f32 := window X ![s.val, 0, 256 * c.val] S1x768x256.size (inb8 s c)
def w9 (X : S2x8x4096.Idx → Elt F .f32) (s : Fin 2) (c : Fin 16) : Vec F S1x8x256 .f32 := window X ![s.val, 0, 256 * c.val] S1x8x256.size (inb9 s c)
def w10 (X : S1x4096.Idx → Elt F .f32) (c : Fin 16) : Vec F S1x256 .f32 := window X ![0, 256 * c.val] S1x256.size (inb10 c)
def w11 (X : S144x4096.Idx → Elt F .f32) (c : Fin 16) : Vec F S144x256 .f32 := window X ![0, 256 * c.val] S144x256.size (inb11 c)

/-- The contents after `prodU`. -/
def prodF (Q : S128x4096.Idx → Elt F .bf16) (kc : FVec F S768x128 .bf16) (s : Fin 2) (c : Fin 16) (σ : St F) : St F :=
  { σ with
    s := put σ.s ![s.val, 0, 256 * c.val] S1x768x256.size (pS kc (w7 Q c))
    x := put σ.x ![s.val, 0, 256 * c.val] S1x8x256.size (pC kc (w7 Q c)) }

/-- The contents after `consU`. -/
def consF (vt1 : FVec F S144x768 .bf16) (s : Fin 2) (c : Fin 16) (σ : St F) : St F :=
  { σ with
    a := put σ.a ![0, 256 * c.val] S144x256.size (pA vt1 (w10 σ.m c) (w9 σ.x s c) (w8 σ.s s c) (w11 σ.a c))
    m := put σ.m ![0, 256 * c.val] S1x256.size (pM (w10 σ.m c) (w9 σ.x s c)) }

section Units

variable (c : Dev nD) {arg9 : Memref sig .tc .vmem S128x4096 .bf16} {arg10 : Memref sig .tc .vmem S2x768x4096 .f32}
  {arg11 : Memref sig .tc .vmem S2x8x4096 .f32} {arg12 : Memref sig .tc .vmem S1x4096 .f32} {arg13 : Memref sig .tc .vmem S144x4096 .f32}

variable (arg9 arg10 arg11 arg12 arg13) in
/-- The scratch held at `Q` and `σ`, and `P`. -/
def held (Q : S128x4096.Idx → Elt F .bf16) (σ : St F) (P : sProp 𝕄) : sProp 𝕄 :=
  iprop(pt c arg9 Q ∗ pt c arg10 σ.s ∗ pt c arg11 σ.x ∗ pt c arg12 σ.m ∗ pt c arg13 σ.a ∗ P)

variable {Q : S128x4096.Idx → Elt F .bf16} {K : Prog (TpuEff nD τ sig (Elt F) Λ₀ .tc) PUnit}

theorem prodU_wp {P : sProp 𝕄} {R : PUnit → sProp 𝕄} {σ : St F} (kc : FVec F S768x128 .bf16) (s : Fin 2) (b : Fin 16)
    (h : held c arg9 arg10 arg11 arg12 arg13 Q (prodF Q kc s b σ) P ⊢ wp frame (wpE (defs₀ (F := F)) Variants.none (c : Thread nD τ) none) Set.univ K R) :
    held c arg9 arg10 arg11 arg12 arg13 Q σ P ⊢ wp frame (wpE (defs₀ (F := F)) Variants.none (c : Thread nD τ) none) Set.univ (prodU arg9 arg10 arg11 kc s b K) R := by
  unfold held prodU
  refine load_pt c ?_
  refine up2.trans (load_pt c (store_pt c (up2.trans ?_)))
  refine up3.trans (load_pt c (store_pt c (dn3.trans ?_)))
  exact h

theorem consU_wp {P : sProp 𝕄} {R : PUnit → sProp 𝕄} {σ : St F} (vt1 : FVec F S144x768 .bf16) (s : Fin 2) (b : Fin 16)
    (h : held c arg9 arg10 arg11 arg12 arg13 Q (consF vt1 s b σ) P ⊢ wp frame (wpE (defs₀ (F := F)) Variants.none (c : Thread nD τ) none) Set.univ K R) :
    held c arg9 arg10 arg11 arg12 arg13 Q σ P ⊢ wp frame (wpE (defs₀ (F := F)) Variants.none (c : Thread nD τ) none) Set.univ (consU arg10 arg11 arg12 arg13 vt1 s b K) R := by
  unfold held consU
  refine up4.trans (load_pt c (dn4.trans ?_))
  refine up3.trans (load_pt c (dn3.trans ?_))
  refine up2.trans (load_pt c (up2.trans ?_))
  refine up5.trans (load_pt c (load_pt c (store_pt c (dn5.trans ?_))))
  refine up4.trans (load_pt c (store_pt c (dn4.trans ?_)))
  exact h

/-- The contents after the column blocks of a step. -/
def colsF (Q : S128x4096.Idx → Elt F .bf16) (kc : FVec F S768x128 .bf16) (vt1 : FVec F S144x768 .bf16) (s s' : Fin 2) (l : List (Fin 16)) (σ : St F) : St F :=
  l.foldl (fun σ b => consF vt1 s' b (prodF Q kc s b σ)) σ
def colsPF (Q : S128x4096.Idx → Elt F .bf16) (kc : FVec F S768x128 .bf16) (s : Fin 2) (l : List (Fin 16)) (σ : St F) : St F :=
  l.foldl (fun σ b => prodF Q kc s b σ) σ
def colsCF (vt1 : FVec F S144x768 .bf16) (s : Fin 2) (l : List (Fin 16)) (σ : St F) : St F :=
  l.foldl (fun σ b => consF vt1 s b σ) σ

theorem cols_wp {P : sProp 𝕄} {R : PUnit → sProp 𝕄} (kc : FVec F S768x128 .bf16) (vt1 : FVec F S144x768 .bf16) (s s' : Fin 2) (l : List (Fin 16)) : ∀ (σ : St F)
    (_ : held c arg9 arg10 arg11 arg12 arg13 Q (colsF Q kc vt1 s s' l σ) P ⊢ wp frame (wpE (defs₀ (F := F)) Variants.none (c : Thread nD τ) none) Set.univ K R),
    held c arg9 arg10 arg11 arg12 arg13 Q σ P ⊢ wp frame (wpE (defs₀ (F := F)) Variants.none (c : Thread nD τ) none) Set.univ (cols arg9 arg10 arg11 arg12 arg13 kc vt1 s s' K l) R := by
  induction l with
  | nil => exact fun _ h => h
  | cons b l ih => exact fun σ h => prodU_wp c kc s b (consU_wp c vt1 s' b (ih _ h))

theorem colsP_wp {P : sProp 𝕄} {R : PUnit → sProp 𝕄} (kc : FVec F S768x128 .bf16) (s : Fin 2) (l : List (Fin 16)) : ∀ (σ : St F)
    (_ : held c arg9 arg10 arg11 arg12 arg13 Q (colsPF Q kc s l σ) P ⊢ wp frame (wpE (defs₀ (F := F)) Variants.none (c : Thread nD τ) none) Set.univ K R),
    held c arg9 arg10 arg11 arg12 arg13 Q σ P ⊢ wp frame (wpE (defs₀ (F := F)) Variants.none (c : Thread nD τ) none) Set.univ (colsP arg9 arg10 arg11 kc s K l) R := by
  induction l with
  | nil => exact fun _ h => h
  | cons b l ih => exact fun σ h => prodU_wp c kc s b (ih _ h)

theorem colsC_wp {P : sProp 𝕄} {R : PUnit → sProp 𝕄} (vt1 : FVec F S144x768 .bf16) (s : Fin 2) (l : List (Fin 16)) : ∀ (σ : St F)
    (_ : held c arg9 arg10 arg11 arg12 arg13 Q (colsCF vt1 s l σ) P ⊢ wp frame (wpE (defs₀ (F := F)) Variants.none (c : Thread nD τ) none) Set.univ K R),
    held c arg9 arg10 arg11 arg12 arg13 Q σ P ⊢ wp frame (wpE (defs₀ (F := F)) Variants.none (c : Thread nD τ) none) Set.univ (colsC arg10 arg11 arg12 arg13 vt1 s K l) R := by
  induction l with
  | nil => exact fun _ h => h
  | cons b l ih => exact fun σ h => consU_wp c vt1 s b (ih _ h)

/-- A chunk of keys and a chunk of values of the staged blocks. -/
def kcOf (kb : S1x8448x128.Idx → Elt F .bf16) (o : Fin 3 → Nat) (h : ∀ a, o a + S1x768x128.size a ≤ S1x8448x128.size a) : FVec F S768x128 .bf16 :=
  shapeCast S768x128 (window kb o S1x768x128.size h : Vec F S1x768x128 .bf16) shapeCasts_S1x768x128_S768x128
def vcOf (vb : S1x128x8448.Idx → Elt F .bf16) (o : Fin 3 → Nat) (h : ∀ a, o a + S1x128x768.size a ≤ S1x128x8448.size a) : FVec F S144x768 .bf16 :=
  withOnes ones (window vb o S1x128x768.size h : Vec F S1x128x768 .bf16)

variable {arg4 : Memref sig .tc .vmem S1x8448x128 .bf16} {arg5 : Memref sig .tc .vmem S1x128x8448 .bf16}
  {kb : S1x8448x128.Idx → Elt F .bf16} {vb : S1x128x8448.Idx → Elt F .bf16}

/-- The contents after a step. -/
def stepF (Q : S128x4096.Idx → Elt F .bf16) (kb : S1x8448x128.Idx → Elt F .bf16) (vb : S1x128x8448.Idx → Elt F .bf16)
    (o4 : Fin 3 → Nat) (h4 : ∀ a, o4 a + S1x768x128.size a ≤ S1x8448x128.size a)
    (o5 : Fin 3 → Nat) (h5 : ∀ a, o5 a + S1x128x768.size a ≤ S1x128x8448.size a) (s s' : Fin 2) (σ : St F) : St F :=
  colsF Q (kcOf kb o4 h4) (vcOf vb o5 h5) s s' blocks σ

theorem stepU_wp {P : sProp 𝕄} {R : PUnit → sProp 𝕄} {σ : St F} (o4 : Fin 3 → Nat) (h4 : ∀ a, o4 a + S1x768x128.size a ≤ S1x8448x128.size a)
    (o5 : Fin 3 → Nat) (h5 : ∀ a, o5 a + S1x128x768.size a ≤ S1x128x8448.size a) (s s' : Fin 2)
    (h : held c arg9 arg10 arg11 arg12 arg13 Q (stepF Q kb vb o4 h4 o5 h5 s s' σ) iprop(pt c arg4 kb ∗ pt c arg5 vb ∗ P)
      ⊢ wp frame (wpE (defs₀ (F := F)) Variants.none (c : Thread nD τ) none) Set.univ K R) :
    held c arg9 arg10 arg11 arg12 arg13 Q σ iprop(pt c arg4 kb ∗ pt c arg5 vb ∗ P)
      ⊢ wp frame (wpE (defs₀ (F := F)) Variants.none (c : Thread nD τ) none) Set.univ (stepU arg9 arg10 arg11 arg12 arg13 arg4 arg5 ones o4 h4 o5 h5 s s' K) R := by
  have h' := cols_wp c (kcOf kb o4 h4) (vcOf vb o5 h5) s s' blocks σ h
  unfold stepU
  unfold held at h' ⊢
  refine up6.trans (load_pt c (dn6.trans ?_))
  refine up7.trans (load_pt c (dn7.trans ?_))
  exact h'

/-- The contents after a trip. -/
def tripF (Q : S128x4096.Idx → Elt F .bf16) (kb : S1x8448x128.Idx → Elt F .bf16) (vb : S1x128x8448.Idx → Elt F .bf16) (t : Fin k0_t1_loop.trips) (σ : St F) : St F :=
  stepF Q kb vb _ (k0_off1_inb t 3) _ (k0_off2_inb t 3) 0 1 <| stepF Q kb vb _ (k0_off1_inb t 2) _ (k0_off2_inb t 2) 1 0 <|
  stepF Q kb vb _ (k0_off1_inb t 1) _ (k0_off2_inb t 1) 0 1 <| stepF Q kb vb _ (k0_off1_inb t 0) _ (k0_off2_inb t 0) 1 0 σ

theorem tripU_wp {P : sProp 𝕄} {σ : St F} (t : Fin k0_t1_loop.trips) :
    held c arg9 arg10 arg11 arg12 arg13 Q σ iprop(pt c arg4 kb ∗ pt c arg5 vb ∗ P)
      ⊢ wp frame (wpE (defs₀ (F := F)) Variants.none (c : Thread nD τ) none) Set.univ (tripU arg9 arg10 arg11 arg12 arg13 arg4 arg5 ones t)
          fun _ => held c arg9 arg10 arg11 arg12 arg13 Q (tripF Q kb vb t σ) iprop(pt c arg4 kb ∗ pt c arg5 vb ∗ P) := by
  unfold tripU
  exact stepU_wp c _ _ _ _ _ _ (stepU_wp c _ _ _ _ _ _ (stepU_wp c _ _ _ _ _ _ (stepU_wp c _ _ _ _ _ _ fupd_intro)))

/-- The contents after `n` trips. -/
def loopF (Q : S128x4096.Idx → Elt F .bf16) (kb : S1x8448x128.Idx → Elt F .bf16) (vb : S1x128x8448.Idx → Elt F .bf16) (σ : St F) : ℕ → St F
  | 0 => σ
  | n + 1 => if h : n < k0_t1_loop.trips then tripF Q kb vb ⟨n, h⟩ (loopF Q kb vb σ n) else loopF Q kb vb σ n

theorem loop_wp {P : sProp 𝕄} {R : PUnit → sProp 𝕄} {σ : St F} {K : PUnit → Prog (TpuEff nD τ sig (Elt F) Λ₀ .tc) PUnit}
    (h : ∀ u, held c arg9 arg10 arg11 arg12 arg13 Q (loopF Q kb vb σ k0_t1_loop.trips) iprop(pt c arg4 kb ∗ pt c arg5 vb ∗ P)
      ⊢ wp frame (wpE (defs₀ (F := F)) Variants.none (c : Thread nD τ) none) Set.univ (K u) R) :
    held c arg9 arg10 arg11 arg12 arg13 Q σ iprop(pt c arg4 kb ∗ pt c arg5 vb ∗ P)
      ⊢ wp frame (wpE (defs₀ (F := F)) Variants.none (c : Thread nD τ) none) Set.univ
        (Prog.bind (Scf.Loop.for k0_t1_loop k0_t1_ok ⟨⟩ (fun t _ => tripU arg9 arg10 arg11 arg12 arg13 arg4 arg5 ones t)) K) R := by
  have hb := Scf.wp_for_bind frame (wpE (defs₀ (F := F)) Variants.none (c : Thread nD τ) none) Set.univ k0_t1_loop.lb k0_t1_loop.ub k0_t1_loop.st k0_t1_ok PUnit.unit
    (fun t _ => tripU arg9 arg10 arg11 arg12 arg13 arg4 arg5 ones t)
    (fun n _ => held c arg9 arg10 arg11 arg12 arg13 Q (loopF Q kb vb σ n) iprop(pt c arg4 kb ∗ pt c arg5 vb ∗ P))
    (fun t _ => by
      have hs : loopF Q kb vb σ (t.val + 1) = tripF Q kb vb t (loopF Q kb vb σ t.val) := dif_pos t.isLt
      rw [hs]
      exact tripU_wp c t) (kk := K) (Q := R)
  have hb' : held c arg9 arg10 arg11 arg12 arg13 Q σ iprop(pt c arg4 kb ∗ pt c arg5 vb ∗ P)
      ⊢ iprop((∀ u, held c arg9 arg10 arg11 arg12 arg13 Q (loopF Q kb vb σ k0_t1_loop.trips) iprop(pt c arg4 kb ∗ pt c arg5 vb ∗ P)
          -∗ wp frame (wpE (defs₀ (F := F)) Variants.none (c : Thread nD τ) none) Set.univ (K u) R)
        -∗ wp frame (wpE (defs₀ (F := F)) Variants.none (c : Thread nD τ) none) Set.univ
        (Prog.bind (Scf.Loop.for k0_t1_loop k0_t1_ok ⟨⟩ (fun t _ => tripU arg9 arg10 arg11 arg12 arg13 arg4 arg5 ones t)) K) R) := hb
  iintro H
  iapply hb' $$ H
  iintro %u H
  iapply (h u)
  iexact H

variable {arg6 : Memref sig .tc .vmem S4x64 .f32} {arg7 : Memref sig .tc .vmem S128x1 .f32} {arg8 : Memref sig .tc .vmem S1x2048x128 .bf16} {arg3 : Memref sig .tc .vmem S1x2x2048x128 .bf16}
  {lb : S4x64.Idx → Elt F .f32} {gb : S128x1.Idx → Elt F .f32} {ob : S1x2048x128.Idx → Elt F .bf16} {qb : S1x2x2048x128.Idx → Elt F .bf16}

/-- The stored block from the accumulator, the four vectors and the gains. -/
def finF (lb : S4x64.Idx → Elt F .f32) (gb : S128x1.Idx → Elt F .f32) (a : S144x4096.Idx → Elt F .f32) (ob : S1x2048x128.Idx → Elt F .bf16) : S1x2048x128.Idx → Elt F .bf16 :=
  put ob ![0, 0, 0] S1x2048x128.size
    (pO (window a ![0, 0] S128x4096.size inb_S144x4096_S128x4096_0_0 : Vec F S128x4096 .f32) (window a ![128, 0] S1x4096.size inb_S144x4096_S1x4096_128_0 : Vec F S1x4096 .f32)
      (window lb ![0, 0] S4x64.size inb_S4x64_S4x64_0_0 : Vec F S4x64 .f32) (window gb ![0, 0] S128x1.size inb_S128x1_S128x1_0_0 : Vec F S128x1 .f32))

theorem finU_wp {P : sProp 𝕄} {σ : St F} (harg8 : arg8.IsWhole) :
    held c arg9 arg10 arg11 arg12 arg13 Q σ iprop(pt c arg4 kb ∗ pt c arg5 vb ∗ pt c arg6 lb ∗ pt c arg7 gb ∗ pt c arg8 ob ∗ P)
      ⊢ wp frame (wpE (defs₀ (F := F)) Variants.none (c : Thread nD τ) none) Set.univ (finU arg13 arg6 arg7 arg8 harg8)
          fun _ => held c arg9 arg10 arg11 arg12 arg13 Q σ iprop(pt c arg4 kb ∗ pt c arg5 vb ∗ pt c arg6 lb ∗ pt c arg7 gb ∗ pt c arg8 (finF lb gb σ.a ob) ∗ P) := by
  unfold finU held
  refine up5.trans (load_pt c (load_pt c (dn5.trans ?_)))
  refine up8.trans (load_pt c (dn8.trans ?_))
  refine up9.trans (load_pt c (dn9.trans ?_))
  refine up10.trans (load_pt c (store_pt c (dn10.trans ?_)))
  exact fupd_intro

/-- The contents after what follows the loop, the end apart. -/
def restF (Q : S128x4096.Idx → Elt F .bf16) (kb : S1x8448x128.Idx → Elt F .bf16) (vb : S1x128x8448.Idx → Elt F .bf16) (σ : St F) : St F :=
  colsCF (vcOf vb _ inb_S1x128x8448_S1x128x768_0_0_7680) 0 blocks <|
  stepF Q kb vb _ inb_S1x8448x128_S1x768x128_0_7680_0 _ inb_S1x128x8448_S1x128x768_0_0_6912 0 1 <|
  stepF Q kb vb _ inb_S1x8448x128_S1x768x128_0_6912_0 _ inb_S1x128x8448_S1x128x768_0_0_6144 1 0 σ

theorem restU_wp {P : sProp 𝕄} {σ : St F} (harg8 : arg8.IsWhole) :
    held c arg9 arg10 arg11 arg12 arg13 Q σ iprop(pt c arg4 kb ∗ pt c arg5 vb ∗ pt c arg6 lb ∗ pt c arg7 gb ∗ pt c arg8 ob ∗ P)
      ⊢ wp frame (wpE (defs₀ (F := F)) Variants.none (c : Thread nD τ) none) Set.univ (restU arg9 arg10 arg11 arg12 arg13 arg4 arg5 arg6 arg7 arg8 harg8)
          fun _ => held c arg9 arg10 arg11 arg12 arg13 Q (restF Q kb vb σ) iprop(pt c arg4 kb ∗ pt c arg5 vb ∗ pt c arg6 lb ∗ pt c arg7 gb ∗ pt c arg8 (finF lb gb (restF Q kb vb σ).a ob) ∗ P) := by
  unfold restU
  refine stepU_wp c _ _ _ _ _ _ (stepU_wp c _ _ _ _ _ _ ?_)
  have h := colsC_wp c (vcOf vb _ inb_S1x128x8448_S1x128x768_0_0_7680) 0 blocks _ (finU_wp c (arg9 := arg9) (arg10 := arg10) (arg11 := arg11) (arg12 := arg12) (arg13 := arg13)
    (arg4 := arg4) (arg5 := arg5) (kb := kb) (vb := vb) (lb := lb) (gb := gb) (ob := ob) (arg6 := arg6) (arg7 := arg7) (Q := Q) (P := P) (σ := restF Q kb vb σ) harg8)
  unfold held at h ⊢
  refine up7.trans (load_pt c (dn7.trans ?_))
  exact h

/-- The contents before the first chunk: the queries, and the state at its start. -/
def preQ (qb : S1x2x2048x128.Idx → Elt F .bf16) (Q : S128x4096.Idx → Elt F .bf16) : S128x4096.Idx → Elt F .bf16 :=
  put Q ![0, 0] S128x4096.size (pQ (window qb ![0, 0, 0, 0] S1x2x2048x128.size inb_S1x2x2048x128_S1x2x2048x128_0_0_0_0 : Vec F S1x2x2048x128 .bf16))
def preS (σ : St F) : St F :=
  { σ with
    a := put (put σ.a ![0, 0] S128x4096.size (shapeCast S128x4096 (broadcast S128x4096 (Scalar.ofBits .f32 0x00000000#32)) shapeCasts_S128x4096_S128x4096 : FVec F S128x4096 .f32))
      ![128, 0] S16x4096.size (shapeCast S16x4096 (broadcast S16x4096 (Scalar.ofBits .f32 0x00000000#32)) shapeCasts_S16x4096_S16x4096 : FVec F S16x4096 .f32)
    m := put σ.m ![0, 0] S1x4096.size (shapeCast S1x4096 (broadcast S1x4096 (Scalar.ofBits .f32 0xF149F2CA#32)) shapeCasts_S1x4096_S1x4096 : FVec F S1x4096 .f32) }

/-- The contents of the scratch after the whole body. -/
def bodyF (qb : S1x2x2048x128.Idx → Elt F .bf16) (kb : S1x8448x128.Idx → Elt F .bf16) (vb : S1x128x8448.Idx → Elt F .bf16) (Q : S128x4096.Idx → Elt F .bf16) (σ : St F) : St F :=
  restF (preQ qb Q) kb vb (loopF (preQ qb Q) kb vb (colsPF (preQ qb Q) (kcOf kb _ inb_S1x8448x128_S1x768x128_0_0_0) 0 blocks (preS σ)) k0_t1_loop.trips)

/-- The body runs from the staged blocks and any scratch to the block `finF` of what `bodyF` leaves. -/
theorem body_wp {P : sProp 𝕄} {σ : St F} (i : grid0.Coords) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) :
    held c arg9 arg10 arg11 arg12 arg13 Q σ iprop(pt c arg4 kb ∗ pt c arg5 vb ∗ pt c arg6 lb ∗ pt c arg7 gb ∗ pt c arg8 ob ∗ pt c arg3 qb ∗ P)
      ⊢ wp frame (wpE (defs₀ (F := F)) Variants.none (c : Thread nD τ) none) Set.univ (cc0_diff_attention (F := F) i arg3 harg3 arg4 harg4 arg5 harg5 arg6 harg6 arg7 harg7 arg8 harg8 arg9 harg9 arg10 harg10 arg11 harg11 arg12 harg12 arg13 harg13)
          fun _ => held c arg9 arg10 arg11 arg12 arg13 (preQ qb Q) (bodyF qb kb vb Q σ) iprop(pt c arg4 kb ∗ pt c arg5 vb ∗ pt c arg6 lb ∗ pt c arg7 gb ∗ pt c arg8 (finF lb gb (bodyF qb kb vb Q σ).a ob) ∗ pt c arg3 qb ∗ P) := by
  rw [body_eq]
  have h := colsP_wp c (Q := preQ qb Q) (P := iprop(pt c arg4 kb ∗ pt c arg5 vb ∗ pt c arg6 lb ∗ pt c arg7 gb ∗ pt c arg8 ob ∗ pt c arg3 qb ∗ P)) (kcOf kb _ inb_S1x8448x128_S1x768x128_0_0_0) 0 blocks (preS σ)
    (loop_wp c (arg9 := arg9) (arg10 := arg10) (arg11 := arg11) (arg12 := arg12) (arg13 := arg13) (arg4 := arg4) (arg5 := arg5) fun _ => restU_wp c harg8)
  unfold preU
  unfold held at h ⊢
  refine up11.trans (load_pt c (dn11.trans ?_))
  refine load_pt c (store_pt c ?_)
  refine up5.trans (load_pt c (store_pt c (dn5.trans ?_)))
  refine up4.trans (load_pt c (store_pt c (dn4.trans ?_)))
  refine up5.trans (load_pt c (store_pt c (dn5.trans ?_)))
  refine up6.trans (load_pt c (dn6.trans ?_))
  exact h

end Units

end Cert.Diff
-- ==== Proof.Diff.Frame.lean ====
/- The differential-attention call's runs: at every point the body turns the staged blocks into the block `finF … (bodyF …)`; the frame
   of the program, which says nothing of the stored block, and the run whose stored blocks are named, from a proof that the
   blocks are the named ones. -/
module

public import proofs.«01_k».proof.Proof.Diff.Run

@[expose] public section

set_option maxRecDepth 100000

noncomputable section

namespace Cert.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel3Ideal Cert.Kernel3Ideal.Gen

variable {F : FTy → Type} [FloatOps F] [Named F]

local notation "𝕄" => MT nD τ sig Unit (Elt F) ℕ (UR sig nD τ) ℕ

/-- The scratch buffers, each at some contents, as the state the body runs from. -/
theorem scratch_in (c : Dev nD) (P : sProp 𝕄) :
    iprop(Pipeline.scopedRest (Ix := Unit) (Name := ℕ) (U := UR sig nD τ) (Lvl := ℕ) (Val := Elt F) spec0 c ∗ P)
      ⊢ iprop(∃ Q, ∃ σ : St F, held c (Memref.whole cc0_scratch0) (Memref.whole cc0_scratch1) (Memref.whole cc0_scratch2) (Memref.whole cc0_scratch3) (Memref.whole cc0_scratch4) Q σ P) := by
  rw [scopedRest0_eq]
  simp only [← owns_whole]
  unfold held
  iintro ⟨⟨⟨%f0, H0⟩, ⟨%f1, H1⟩, ⟨%f2, H2⟩, ⟨%f3, H3⟩, ⟨%f4, H4⟩⟩, HP⟩
  iexists f0
  iexists (St.mk f1 f2 f3 f4)
  isplitl [H0]; · iapply (pt_of_owns c (Memref.whole cc0_scratch0) f0); iexact H0
  isplitl [H1]; · iapply (pt_of_owns c (Memref.whole cc0_scratch1) f1); iexact H1
  isplitl [H2]; · iapply (pt_of_owns c (Memref.whole cc0_scratch2) f2); iexact H2
  isplitl [H3]; · iapply (pt_of_owns c (Memref.whole cc0_scratch3) f3); iexact H3
  isplitl [H4]; · iapply (pt_of_owns c (Memref.whole cc0_scratch4) f4); iexact H4
  iexact HP

theorem scratch_out (c : Dev nD) (P : sProp 𝕄) (Q : S128x4096.Idx → Elt F .bf16) (σ : St F) :
    held c (Memref.whole cc0_scratch0) (Memref.whole cc0_scratch1) (Memref.whole cc0_scratch2) (Memref.whole cc0_scratch3) (Memref.whole cc0_scratch4) Q σ P
      ⊢ iprop(Pipeline.scopedRest (Ix := Unit) (Name := ℕ) (U := UR sig nD τ) (Lvl := ℕ) (Val := Elt F) spec0 c ∗ P) := by
  rw [scopedRest0_eq]
  simp only [← owns_whole]
  unfold held
  iintro ⟨H0, H1, H2, H3, H4, HP⟩
  isplitl [H0 H1 H2 H3 H4]
  · isplitl [H0]; · iexists _; iapply (owns_of_pt c (Memref.whole cc0_scratch0) Q); iexact H0
    isplitl [H1]; · iexists _; iapply (owns_of_pt c (Memref.whole cc0_scratch1) σ.s); iexact H1
    isplitl [H2]; · iexists _; iapply (owns_of_pt c (Memref.whole cc0_scratch2) σ.x); iexact H2
    isplitl [H3]; · iexists _; iapply (owns_of_pt c (Memref.whole cc0_scratch3) σ.m); iexact H3
    iexists _; iapply (owns_of_pt c (Memref.whole cc0_scratch4) σ.a); iexact H4
  iexact HP

/-- The body at a point, from the staged blocks. -/
theorem point_wp (c : Dev nD) (t : Fin cfg0.N) (qb : S1x2x2048x128.Idx → Elt F .bf16) (kb : S1x8448x128.Idx → Elt F .bf16) (vb : S1x128x8448.Idx → Elt F .bf16) (lb : S4x64.Idx → Elt F .f32) (gb : S128x1.Idx → Elt F .f32) (ob : S1x2048x128.Idx → Elt F .bf16) (P : sProp 𝕄) :
    iprop(Pipeline.scopedRest (Ix := Unit) (Name := ℕ) (U := UR sig nD τ) (Lvl := ℕ) (Val := Elt F) spec0 c
        ∗ owns (c : Thread nD τ) (st0_0 t) fullShare qb ∗ owns (c : Thread nD τ) (st0_1 t) fullShare kb ∗ owns (c : Thread nD τ) (st0_2 t) fullShare vb ∗ owns (c : Thread nD τ) (st0_3 t) fullShare lb ∗ owns (c : Thread nD τ) (st0_4 t) fullShare gb ∗ owns (c : Thread nD τ) (st0_5 t) fullShare ob ∗ P)
      ⊢ wp frame (wpE (defs₀ (F := F)) Variants.none (c : Thread nD τ) none) Set.univ (bodyAt0 t) fun _ =>
        iprop(Pipeline.scopedRest (Ix := Unit) (Name := ℕ) (U := UR sig nD τ) (Lvl := ℕ) (Val := Elt F) spec0 c
        ∗ owns (c : Thread nD τ) (st0_0 t) fullShare qb ∗ owns (c : Thread nD τ) (st0_1 t) fullShare kb ∗ owns (c : Thread nD τ) (st0_2 t) fullShare vb ∗ owns (c : Thread nD τ) (st0_3 t) fullShare lb ∗ owns (c : Thread nD τ) (st0_4 t) fullShare gb
        ∗ (∃ Q, ∃ σ : St F, owns (c : Thread nD τ) (st0_5 t) fullShare (finF lb gb (bodyF qb kb vb Q σ).a ob)) ∗ P) := by
  unfold bodyAt0
  refine (scratch_in c _).trans ?_
  iintro ⟨%Q, %σ, H⟩
  iapply (wp_wand_r frame (wpE (defs₀ (F := F)) Variants.none (c : Thread nD τ) none) Set.univ)
  isplitl [H]
  · iapply (body_wp c (P := P) (Q := Q) (σ := σ) (arg3 := win0_0.stage (cfg0.slots t 0)) (arg4 := win0_1.stage (cfg0.slots t 1)) (arg5 := win0_2.stage (cfg0.slots t 2)) (arg6 := win0_3.stage (cfg0.slots t 3)) (arg7 := win0_4.stage (cfg0.slots t 4)) (arg8 := win0_5.stage (cfg0.slots t 5))
      (qb := qb) (kb := kb) (vb := vb) (lb := lb) (gb := gb) (ob := ob))
    unfold held
    icases H with ⟨H0, H1, H2, H3, H4, Hq, Hk, Hv, Hl, Hg, Ho, HP⟩
    isplitl [H0]; · iexact H0
    isplitl [H1]; · iexact H1
    isplitl [H2]; · iexact H2
    isplitl [H3]; · iexact H3
    isplitl [H4]; · iexact H4
    isplitl [Hk]; · iapply (pt_of_owns c (st0_1 t) kb); iexact Hk
    isplitl [Hv]; · iapply (pt_of_owns c (st0_2 t) vb); iexact Hv
    isplitl [Hl]; · iapply (pt_of_owns c (st0_3 t) lb); iexact Hl
    isplitl [Hg]; · iapply (pt_of_owns c (st0_4 t) gb); iexact Hg
    isplitl [Ho]; · iapply (pt_of_owns c (st0_5 t) ob); iexact Ho
    isplitl [Hq]; · iapply (pt_of_owns c (st0_0 t) qb); iexact Hq
    iexact HP
  iintro %u H
  ihave H' := (scratch_out c _ _ _) $$ H
  icases H' with ⟨Hs, Hk, Hv, Hl, Hg, Ho, Hq, HP⟩
  isplitl [Hs]; · iexact Hs
  isplitl [Hq]; · iapply (owns_of_pt c (st0_0 t) qb); iexact Hq
  isplitl [Hk]; · iapply (owns_of_pt c (st0_1 t) kb); iexact Hk
  isplitl [Hv]; · iapply (owns_of_pt c (st0_2 t) vb); iexact Hv
  isplitl [Hl]; · iapply (owns_of_pt c (st0_3 t) lb); iexact Hl
  isplitl [Hg]; · iapply (owns_of_pt c (st0_4 t) gb); iexact Hg
  isplitl [Ho]; · iexists Q; iexists σ; iapply (owns_of_pt c (st0_5 t) _); iexact Ho
  iexact HP

variable (m : (ℓ : Loc nD τ sig) → Buf (Elt F) ℓ) (ρ : Dev nD → PrngReg)

/-- The proof data: each input's buffer at its block after the body, the output's at `out`. -/
def dats (out : (c : Dev nD) → (t : Fin cfg0.N) → S1x2048x128.Idx → Elt F .bf16) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out c t
  Φ _ := Pipeline.ΦA spec0 c
  q _ := fullShare
  owed _ := 0

variable (out : (c : Dev nD) → (t : Fin cfg0.N) → S1x2048x128.Idx → Elt F .bf16)

theorem A_eq (c : Dev nD) (w : Fin cfg0.W) : (dats m out 0 c).A w = V m c (Pipeline.arrRef spec0 w) := by dsimp only [dats]
theorem after0_0 (c : Dev nD) (t : Fin cfg0.N) : (dats m out 0 c).after 0 t = iblk m c 0 t := by dsimp only [dats]
theorem after0_1 (c : Dev nD) (t : Fin cfg0.N) : (dats m out 0 c).after 1 t = iblk m c 1 t := by dsimp only [dats]
theorem after0_2 (c : Dev nD) (t : Fin cfg0.N) : (dats m out 0 c).after 2 t = iblk m c 2 t := by dsimp only [dats]
theorem after0_3 (c : Dev nD) (t : Fin cfg0.N) : (dats m out 0 c).after 3 t = iblk m c 3 t := by dsimp only [dats]
theorem after0_4 (c : Dev nD) (t : Fin cfg0.N) : (dats m out 0 c).after 4 t = iblk m c 4 t := by dsimp only [dats]
theorem after0_5 (c : Dev nD) (t : Fin cfg0.N) : (dats m out 0 c).after 5 t = out c t := by dsimp only [dats]
theorem before0_0 (c : Dev nD) (t : Fin cfg0.N) (d) : (dats m out 0 c).before 0 t d = iblk m c 0 t :=
  before0_0_of m (dats m out 0 c) (A_eq m out c 0) (after0_0 m out c) t d
theorem before0_1 (c : Dev nD) (t : Fin cfg0.N) (d) : (dats m out 0 c).before 1 t d = iblk m c 1 t :=
  before0_1_of m (dats m out 0 c) (A_eq m out c 1) (after0_1 m out c) t d
theorem before0_2 (c : Dev nD) (t : Fin cfg0.N) (d) : (dats m out 0 c).before 2 t d = iblk m c 2 t :=
  before0_2_of m (dats m out 0 c) (A_eq m out c 2) (after0_2 m out c) t d

theorem before0_3 (c : Dev nD) (t : Fin cfg0.N) (d) : (dats m out 0 c).before 3 t d = iblk m c 3 t :=
  before0_3_of m (dats m out 0 c) (A_eq m out c 3) (after0_3 m out c) t d
theorem before0_4 (c : Dev nD) (t : Fin cfg0.N) (d) : (dats m out 0 c).before 4 t d = iblk m c 4 t :=
  before0_4_of m (dats m out 0 c) (A_eq m out c 4) (after0_4 m out c) t d

/-- The body table's row at a point. -/
theorem defs₀_row (t : Fin cfg0.N) : defs₀ (F := F) .tc cfg0.body (cfg0.bodyArgs t (cfg0.slots t)) = bodyAt0 t := by
  unfold defs₀; rw [Defs.onTc_tc]

/-- The output window marked. -/
def fgt : Fin cfg0.W → Bool
  | ⟨0, _⟩ => false
  | ⟨1, _⟩ => false
  | ⟨2, _⟩ => false
  | ⟨3, _⟩ => false
  | ⟨4, _⟩ => false
  | ⟨5, _⟩ => true

theorem sound_forget (c : Dev nD) (t : Fin cfg0.N) :
    iprop((dats m out 0 c).Φ t.castSucc ∗ (dats m out 0 c).owesAt () t.castSucc
      ∗ (∃ d, owns (c : Thread nD τ) (st0_0 t) fullShare ((dats m out 0 c).before 0 t d))
      ∗ (∃ d, owns (c : Thread nD τ) (st0_1 t) fullShare ((dats m out 0 c).before 1 t d))
      ∗ (∃ d, owns (c : Thread nD τ) (st0_2 t) fullShare ((dats m out 0 c).before 2 t d))
      ∗ (∃ d, owns (c : Thread nD τ) (st0_3 t) fullShare ((dats m out 0 c).before 3 t d))
      ∗ (∃ d, owns (c : Thread nD τ) (st0_4 t) fullShare ((dats m out 0 c).before 4 t d))
      ∗ (∃ X, owns (c : Thread nD τ) (st0_5 t) fullShare X))
    ⊢ wp frame (wpE (defs₀ (F := F)) Variants.none (c : Thread nD τ) none) Set.univ (bodyAt0 t) fun _ =>
      iprop((dats m out 0 c).Φ t.succ ∗ (dats m out 0 c).owesAt () t.succ
      ∗ owns (c : Thread nD τ) (st0_0 t) fullShare ((dats m out 0 c).after 0 t)
      ∗ owns (c : Thread nD τ) (st0_1 t) fullShare ((dats m out 0 c).after 1 t)
      ∗ owns (c : Thread nD τ) (st0_2 t) fullShare ((dats m out 0 c).after 2 t)
      ∗ owns (c : Thread nD τ) (st0_3 t) fullShare ((dats m out 0 c).after 3 t)
      ∗ owns (c : Thread nD τ) (st0_4 t) fullShare ((dats m out 0 c).after 4 t)
      ∗ (∃ X, owns (c : Thread nD τ) (st0_5 t) fullShare X)) := by
  simp only [before0_0, before0_1, before0_2, before0_3, before0_4, after0_0, after0_1, after0_2, after0_3, after0_4]
  rw [show (dats m out 0 c).Φ t.succ = Pipeline.ΦA spec0 c from rfl, show (dats m out 0 c).Φ t.castSucc = Pipeline.ΦA spec0 c from rfl,
    show (dats m out 0 c).owesAt () t.succ = (dats m out 0 c).owesAt () t.castSucc from rfl]
  unfold Pipeline.ΦA
  iintro ⟨⟨Hs, Hr⟩, Ho, ⟨%d0, H0⟩, ⟨%d1, H1⟩, ⟨%d2, H2⟩, ⟨%d3, H3⟩, ⟨%d4, H4⟩, ⟨%X, H5⟩⟩
  iapply (wp_wand_r frame (wpE (defs₀ (F := F)) Variants.none (c : Thread nD τ) none) Set.univ)
  isplitl [Hs Hr H0 H1 H2 H3 H4 H5]
  · iapply (point_wp c t (iblk m c 0 t) (iblk m c 1 t) (iblk m c 2 t) (iblk m c 3 t) (iblk m c 4 t) X iprop(∃ r, prngReg c r))
    isplitl [Hs]; · iexact Hs
    isplitl [H0]; · iexact H0
    isplitl [H1]; · iexact H1
    isplitl [H2]; · iexact H2
    isplitl [H3]; · iexact H3
    isplitl [H4]; · iexact H4
    isplitl [H5]; · iexact H5
    iexact Hr
  iintro %u ⟨Hs, H0, H1, H2, H3, H4, ⟨%Q, %σ, H5⟩, Hr⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  iexists _; iexact H5

theorem body_forget (c : Dev nD) : BodyObligation (dats m out 0 c) (defs₀ (F := F)) Variants.none () Set.univ fgt := fun t => by
  rw [bigSep_W0, bigSep_W0, defs₀_row]
  exact sound_forget m out c t

theorem sound_exact (hout : ∀ c t Q (σ : St F) ob, finF (iblk m c 3 t) (iblk m c 4 t) (bodyF (iblk m c 0 t) (iblk m c 1 t) (iblk m c 2 t) Q σ).a ob = out c t) (c : Dev nD) (t : Fin cfg0.N) :
    iprop((dats m out 0 c).Φ t.castSucc ∗ (dats m out 0 c).owesAt () t.castSucc
      ∗ (∃ d, owns (c : Thread nD τ) (st0_0 t) fullShare ((dats m out 0 c).before 0 t d))
      ∗ (∃ d, owns (c : Thread nD τ) (st0_1 t) fullShare ((dats m out 0 c).before 1 t d))
      ∗ (∃ d, owns (c : Thread nD τ) (st0_2 t) fullShare ((dats m out 0 c).before 2 t d))
      ∗ (∃ d, owns (c : Thread nD τ) (st0_3 t) fullShare ((dats m out 0 c).before 3 t d))
      ∗ (∃ d, owns (c : Thread nD τ) (st0_4 t) fullShare ((dats m out 0 c).before 4 t d))
      ∗ (∃ d, owns (c : Thread nD τ) (st0_5 t) fullShare ((dats m out 0 c).before 5 t d)))
    ⊢ wp frame (wpE (defs₀ (F := F)) Variants.none (c : Thread nD τ) none) Set.univ (bodyAt0 t) fun _ =>
      iprop((dats m out 0 c).Φ t.succ ∗ (dats m out 0 c).owesAt () t.succ
      ∗ owns (c : Thread nD τ) (st0_0 t) fullShare ((dats m out 0 c).after 0 t)
      ∗ owns (c : Thread nD τ) (st0_1 t) fullShare ((dats m out 0 c).after 1 t)
      ∗ owns (c : Thread nD τ) (st0_2 t) fullShare ((dats m out 0 c).after 2 t)
      ∗ owns (c : Thread nD τ) (st0_3 t) fullShare ((dats m out 0 c).after 3 t)
      ∗ owns (c : Thread nD τ) (st0_4 t) fullShare ((dats m out 0 c).after 4 t)
      ∗ owns (c : Thread nD τ) (st0_5 t) fullShare ((dats m out 0 c).after 5 t)) := by
  simp only [before0_0, before0_1, before0_2, before0_3, before0_4, after0_0, after0_1, after0_2, after0_3, after0_4, after0_5]
  rw [show (dats m out 0 c).Φ t.succ = Pipeline.ΦA spec0 c from rfl, show (dats m out 0 c).Φ t.castSucc = Pipeline.ΦA spec0 c from rfl,
    show (dats m out 0 c).owesAt () t.succ = (dats m out 0 c).owesAt () t.castSucc from rfl]
  unfold Pipeline.ΦA
  iintro ⟨⟨Hs, Hr⟩, Ho, ⟨%d0, H0⟩, ⟨%d1, H1⟩, ⟨%d2, H2⟩, ⟨%d3, H3⟩, ⟨%d4, H4⟩, ⟨%d5, H5⟩⟩
  iapply (wp_wand_r frame (wpE (defs₀ (F := F)) Variants.none (c : Thread nD τ) none) Set.univ)
  isplitl [Hs Hr H0 H1 H2 H3 H4 H5]
  · iapply (point_wp c t (iblk m c 0 t) (iblk m c 1 t) (iblk m c 2 t) (iblk m c 3 t) (iblk m c 4 t) ((dats m out 0 c).before 5 t d5) iprop(∃ r, prngReg c r))
    isplitl [Hs]; · iexact Hs
    isplitl [H0]; · iexact H0
    isplitl [H1]; · iexact H1
    isplitl [H2]; · iexact H2
    isplitl [H3]; · iexact H3
    isplitl [H4]; · iexact H4
    isplitl [H5]; · iexact H5
    iexact Hr
  iintro %u ⟨Hs, H0, H1, H2, H3, H4, ⟨%Q, %σ, H5⟩, Hr⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  rw [← hout c t Q σ ((dats m out 0 c).before 5 t d5)]
  iexact H5

theorem body_exact (hout : ∀ c t Q (σ : St F) ob, finF (iblk m c 3 t) (iblk m c 4 t) (bodyF (iblk m c 0 t) (iblk m c 1 t) (iblk m c 2 t) Q σ).a ob = out c t) (c : Dev nD) :
    BodyObligation (dats m out 0 c) (defs₀ (F := F)) Variants.none () Set.univ := fun t => by
  rw [bigSep_W0, bigSep_W0, defs₀_row]
  exact sound_exact m out hout c t

set_option backward.isDefEq.respectTransparency.types false in
set_option maxHeartbeats 800000 in
/-- The launch, the output forgotten; every semaphore ends at zero. -/
theorem run_forget : θ_run defs (onTc (τ := τ) (main (F := F))) (s₀ m ρ)
    (fun r => Pipeline.RDat.FramePost (cfgs 0) (fun c => (dats m out 0 c).toRForget fgt) (V m) r ∧ r.2.sem = fun _ => 0) :=
  Pipeline.θ_run_frame_forget (Q' := _) cfgs (dats m out) (0 : Fin 1) launch0 defs₀ Variants.none fgt m ρ main
    (hbody := fun c => (body_forget m out c).loose) (hshare := fun c => (dats m out 0 c).share_full fun _ => rfl)
    (howed := fun _ _ => rfl) (V := V m) (hmain := hmain m Variants.none) (hA := A_eq m out) (hΦ := fun _ _ => rfl)

/-- The frame: the program runs, its arguments end unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c)⟩, h.2⟩)
    (run_forget m ρ (fun _ _ _ => Scalar.ofBits .bf16 0x0000#16))

set_option backward.isDefEq.respectTransparency.types false in
set_option maxHeartbeats 800000 in
/-- The launch with the stored blocks named. -/
theorem run_exact (hout : ∀ c t Q (σ : St F) ob, finF (iblk m c 3 t) (iblk m c 4 t) (bodyF (iblk m c 0 t) (iblk m c 1 t) (iblk m c 2 t) Q σ).a ob = out c t) :
    θ_run defs (onTc (τ := τ) (main (F := F))) (s₀ m ρ) (Pipeline.FramePost cfgs (dats m out) 0 (V m)) :=
  Pipeline.θ_run_frame cfgs (dats m out) (0 : Fin 1) launch0 defs₀ Variants.none m ρ main
    (hbody := fun c => (body_exact m out hout c).loose) (hshare := fun c => (dats m out 0 c).share_full fun _ => rfl)
    (howed := fun _ _ => rfl) (V := V m) (hmain := hmain m Variants.none) (hA := A_eq m out) (hΦ := fun _ _ => rfl)

end Cert.Diff
-- ==== Proof.Diff.Frames.lean ====
/- The frames of the differential-attention call, of the printed program and of its idealization: read on bit patterns the two are one program. -/
module

public import proofs.«01_k».proof.Proof.Diff.Frame
public import proofs.«01_k».proof.Proof.Gen.Kernel3
public import proofs.«01_k».proof.Defs

@[expose] public section

set_option maxRecDepth 1000000
set_option maxHeartbeats 0

noncomputable section

namespace Cert.Diff

open Idealize.ShloMosaic Idealize.ShloMosaic.TcCoe
open Idealize.SL.Sem

attribute [local instance] Cert.Kernel3.Gen.facts Cert.Kernel3Ideal.Gen.facts
/-- Read on bit patterns, a named constant is its printed bits: so the idealized program read there is the printed one. -/
@[reducible] def bitsNamed : Named Bits := ⟨fun _ _ {φ} b => Scalar.ofBits φ b⟩
attribute [local instance] bitsNamed

theorem main_bits : Cert.Kernel3.main (F := Bits) = Cert.Kernel3Ideal.main (F := Bits) := rfl
theorem body_bits (i : Cert.Kernel3Ideal.grid0.Coords) a1 b1 a2 b2 a3 b3 a4 b4 a5 b5 a6 b6 a7 b7 a8 b8 a9 b9 a10 b10 a11 b11 : Cert.Kernel3.cc0_diff_attention (F := Bits) i a1 b1 a2 b2 a3 b3 a4 b4 a5 b5 a6 b6 a7 b7 a8 b8 a9 b9 a10 b10 a11 b11 = Cert.Kernel3Ideal.cc0_diff_attention (F := Bits) i a1 b1 a2 b2 a3 b3 a4 b4 a5 b5 a6 b6 a7 b7 a8 b8 a9 b9 a10 b10 a11 b11 := rfl
theorem table_bits (b) (a : Cert.Kernel3.Λ₀.Args b) : Cert.Kernel3.defs₀ (F := Bits) .tc b a = Cert.Kernel3Ideal.defs₀ (F := Bits) .tc b a := by
  match b, a with
  | ⟨0, _⟩, (t, s) => exact body_bits _ _ _ _ _ _ _ _ _ _ _ _ _ _ _ _ _ _ _ _ _ _ _
  | ⟨_ + 1, h⟩, _ => exact absurd h (Nat.not_lt.2 (Nat.le_add_left _ _))
theorem defs0_bits : Cert.Kernel3.defs₀ (F := Bits) = Cert.Kernel3Ideal.defs₀ (F := Bits) := by
  unfold Cert.Kernel3.defs₀ Cert.Kernel3Ideal.defs₀
  refine congrArg Defs.onTc ?_
  funext b a
  exact table_bits b a
theorem defs_bits : Cert.Kernel3.defs (F := Bits) = Cert.Kernel3Ideal.defs (F := Bits) := congrArg (Pipeline.defs (Cert.Kernel3Ideal.pcfgs (F := Bits))) defs0_bits

/-- The idealized call runs, its arguments unchanged. -/
theorem frame_kernelIdeal : Cert.quiescent_Kernel3Ideal := fun m ρ _ => frame_run (F := Ideal) m ρ

/-- The printed call runs, its arguments unchanged. -/
theorem frame_kernel : Cert.quiescent_Kernel3 := fun m ρ _ => by
  have h := frame_run (F := Bits) m ρ
  rw [← defs_bits, ← main_bits] at h
  exact h

end Cert.Diff
-- ==== Proof.Diff.Math.lean ====
/- The arithmetic of an online softmax whose scores may be infinite, and the difference of two of them: weights of infinite
   scores, the quotient by the sum of the weights, the difference before or after the sum over the keys, and the norm. -/
module

public import proofs.«01_k».proof.Proof.Flash.Math

@[expose] public section

noncomputable section

namespace Cert.Diff

open Idealize.ShloMosaic
open Cert.Flash (e2 e2_pos e2_add e2_scale sum_mul_coe sum_coe sum_mul_real exp2_sub exp_sub)

/-- A sum times a nonnegative real. -/
theorem sum_mul_pos {ι : Type} (s : Finset ι) (f : ι → EReal) (c : ℝ) (hc : 0 ≤ c) : (∑ k ∈ s, f k * (c : EReal)) = (∑ k ∈ s, f k) * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- The weight of a score below infinity under a real maximum. -/
def wt (s : EReal) (μ : ℝ) : ℝ := if s = ⊥ then 0 else e2 (s.toReal - μ)

theorem exp2_wt {s : EReal} (hs : s ≠ ⊤) (μ : ℝ) : Ideal.exp2 (s - (μ : EReal)) = ((wt s μ : ℝ) : EReal) := by
  induction s with
  | bot => rw [EReal.bot_sub, wt, if_pos rfl]; rfl
  | coe x => rw [exp2_sub, wt, if_neg (EReal.coe_ne_bot x), EReal.toReal_coe]
  | top => exact absurd rfl hs

/-- Under an infinite maximum every weight is zero. -/
theorem exp2_top (s : EReal) : Ideal.exp2 (s - ⊤) = 0 := by
  rw [EReal.sub_top]; rfl

theorem exp_top (s : EReal) : Ideal.exp (s - ⊤) = 0 := by
  rw [EReal.sub_top]; rfl

theorem wt_rescale (s : EReal) (μ μ' : ℝ) : e2 (μ - μ') * wt s μ = wt s μ' := by
  unfold wt
  by_cases h : s = ⊥
  · rw [if_pos h, if_pos h, mul_zero]
  · rw [if_neg h, if_neg h, ← e2_add]
    congr 1
    ring

theorem ne_top_of_le {s : EReal} {μ : ℝ} (h : s ≤ (μ : EReal)) : s ≠ ⊤ := fun e => by
  rw [e, top_le_iff] at h
  exact EReal.coe_ne_top μ h

/-- One chunk: the accumulator rescaled to the new maximum plus the chunk's weighted values is the longer sum. -/
theorem flash_step (N C : ℕ) (V S : ℕ → EReal) (M M' : EReal) (hM : M ≠ ⊥) (hMM : M ≤ M') (hS : ∀ k, k < N → S k ≤ M) :
    Ideal.exp2 (M - M') * (∑ k ∈ Finset.range N, V k * Ideal.exp2 (S k - M)) + (∑ j : Fin C, V (N + j.val) * Ideal.exp2 (S (N + j.val) - M'))
      = ∑ k ∈ Finset.range (N + C), V k * Ideal.exp2 (S k - M') := by
  induction M' with
  | bot => exact absurd (le_bot_iff.1 hMM) hM
  | top => simp only [exp2_top, zero_mul, mul_zero, Finset.sum_const_zero, add_zero]
  | coe μ' =>
    obtain ⟨μ, rfl⟩ : ∃ μ : ℝ, M = (μ : EReal) := by
      induction M with
      | bot => exact absurd rfl hM
      | top => exact absurd rfl (ne_top_of_le hMM)
      | coe x => exact ⟨x, rfl⟩
    have hk : ∀ k ∈ Finset.range N, S k ≠ ⊤ := fun k hk => ne_top_of_le (hS k (Finset.mem_range.1 hk))
    rw [exp2_sub, Finset.sum_range_add, Finset.sum_range (n := C)]
    refine congrArg (· + _) ?_
    have h1 : (∑ k ∈ Finset.range N, V k * Ideal.exp2 (S k - (μ : EReal))) = ∑ k ∈ Finset.range N, V k * ((wt (S k) μ : ℝ) : EReal) :=
      Finset.sum_congr rfl fun k h => by rw [exp2_wt (hk k h)]
    rw [h1, mul_comm, sum_mul_coe _ _ _ _ (e2_pos _).le]
    refine Finset.sum_congr rfl fun k h => ?_
    rw [exp2_wt (hk k h), ← wt_rescale (S k) μ μ', mul_comm (wt _ _)]

/-- The scores have no softmax: one is infinite, or all are minus infinity. -/
def Bad (t : Fin 8448 → EReal) : Prop := (∃ k, t k = ⊤) ∨ ∀ k, t k = ⊥

/-- The exponential of a score scaled by `1/8`; zero at minus infinity. -/
def ew (t : EReal) : ℝ := if t = ⊥ then 0 else Real.exp (t.toReal * (1 / 8))

theorem ew_nonneg (t : EReal) : 0 ≤ ew t := by
  unfold ew
  split
  · exact le_rfl
  · exact (Real.exp_pos _).le

theorem ew_pos {t : EReal} (h : t ≠ ⊥) : 0 < ew t := by
  rw [ew, if_neg h]
  exact Real.exp_pos _

/-- The weight of key `k` among the scores `t`, scaled by `1/8`. -/
def Wx (t : Fin 8448 → EReal) (k : Fin 8448) : ℝ := ew (t k) / ∑ k', ew (t k')

open Classical in
/-- The softmax of the scores. -/
def soft (t : Fin 8448 → EReal) (k : Fin 8448) : EReal := if Bad t then ⊥ else ((Wx t k : ℝ) : EReal)

open Classical in
/-- The mean of the values under the softmax of the scores. -/
def mean (v t : Fin 8448 → EReal) : EReal := if Bad t then ⊥ else ∑ k, v k * ((Wx t k : ℝ) : EReal)

theorem soft_bad {t : Fin 8448 → EReal} (h : Bad t) (k : Fin 8448) : soft t k = ⊥ := if_pos h
theorem soft_good {t : Fin 8448 → EReal} (h : ¬Bad t) (k : Fin 8448) : soft t k = ((Wx t k : ℝ) : EReal) := if_neg h
theorem mean_bad {t : Fin 8448 → EReal} (h : Bad t) (v : Fin 8448 → EReal) : mean v t = ⊥ := if_pos h
theorem mean_good {t : Fin 8448 → EReal} (h : ¬Bad t) (v : Fin 8448 → EReal) : mean v t = ∑ k, v k * ((Wx t k : ℝ) : EReal) := if_neg h

theorem div_zero_zero : Ideal.div 0 0 = ⊥ := by simp [Ideal.div]

/-- Scores scaled by a positive real: their infinities stay. -/
theorem scale_cases {D S : EReal} {c : ℝ} (hc : 0 < c) (h : S = D * (c : EReal)) : (D = ⊤ ∧ S = ⊤) ∨ (D = ⊥ ∧ S = ⊥) ∨ ∃ x : ℝ, D = (x : EReal) ∧ S = ((x * c : ℝ) : EReal) := by
  subst h
  induction D with
  | bot => exact .inr (.inl ⟨rfl, by rw [mul_comm]; exact EReal.coe_mul_bot_of_pos hc⟩)
  | top => exact .inl ⟨rfl, by rw [mul_comm]; exact EReal.coe_mul_top_of_pos hc⟩
  | coe x => exact .inr (.inr ⟨x, rfl, (EReal.coe_mul _ _).symm⟩)

/-- Where the scores have a softmax the sum of the exponentials is positive. -/
theorem sum_ew_pos {t : Fin 8448 → EReal} (h : ¬∀ k, t k = ⊥) : 0 < ∑ k, ew (t k) := by
  obtain ⟨k, hk⟩ := not_forall.1 h
  exact Finset.sum_pos' (fun k _ => ew_nonneg _) ⟨k, Finset.mem_univ _, ew_pos hk⟩

/-- The quotient of the weighted values by the weights, under a maximum of the scores. -/
theorem quot_eq (v D S : Fin 8448 → EReal) (hS : ∀ k, S k = D k * (((Real.log 256)⁻¹ : ℝ) : EReal)) (M : EReal) (hM : M ≠ ⊥) (hle : ∀ k, S k ≤ M)
    (htop : M = ⊤ → ∃ k, S k = ⊤) : Ideal.div (∑ k, v k * Ideal.exp2 (S k - M)) (∑ k, 1 * Ideal.exp2 (S k - M)) = mean v D := by
  have hc : 0 < (Real.log 256)⁻¹ := inv_pos.2 (Real.log_pos (by norm_num))
  induction M with
  | bot => exact absurd rfl hM
  | top =>
    obtain ⟨k, hk⟩ := htop rfl
    have hb : Bad D := by
      refine .inl ⟨k, ?_⟩
      rcases scale_cases hc (hS k) with h | h | ⟨x, _, h⟩
      · exact h.1
      · rw [h.2] at hk; exact absurd hk (by simp)
      · rw [h] at hk; exact absurd hk (EReal.coe_ne_top _)
    simp only [exp2_top, mul_zero, Finset.sum_const_zero]
    rw [mean_bad hb, div_zero_zero]
  | coe μ =>
    have hw : ∀ k, D k ≠ ⊤ ∧ Ideal.exp2 (S k - (μ : EReal)) = ((ew (D k) * e2 (-μ) : ℝ) : EReal) := fun k => by
      rcases scale_cases hc (hS k) with h | h | ⟨x, h1, h2⟩
      · exact absurd h.2 (ne_top_of_le (hle k))
      · rw [h.1, h.2, EReal.bot_sub, ew, if_pos rfl, zero_mul]
        exact ⟨by simp, rfl⟩
      · rw [h1, h2, exp2_sub, ew, if_neg (EReal.coe_ne_bot x), EReal.toReal_coe, sub_eq_add_neg, e2_add, e2_scale]
        exact ⟨EReal.coe_ne_top x, rfl⟩
    simp only [fun k => (hw k).2, one_mul]
    by_cases hb : ∀ k, D k = ⊥
    · have hz : ∀ k, ew (D k) = 0 := fun k => if_pos (hb k)
      simp only [hz, zero_mul, EReal.coe_zero, mul_zero, Finset.sum_const_zero]
      rw [mean_bad (.inr hb), div_zero_zero]
    · have hz := sum_ew_pos hb
      have he := e2_pos (-μ)
      rw [mean_good (fun h => h.elim (fun ⟨k, hk⟩ => (hw k).1 hk) hb), sum_coe, ← Finset.sum_mul, Ideal.div_coe (mul_pos hz he).ne', sum_mul_coe _ _ _ _ (one_div_pos.2 (mul_pos hz he)).le]
      refine Finset.sum_congr rfl fun k _ => ?_
      rw [Wx]
      congr 2
      field_simp

/-- The quotient of exponentials under the maximum of the scores. -/
theorem soft_eq (D S : Fin 8448 → EReal) (hS : ∀ k, S k = D k * ((1 / 8 : ℝ) : EReal)) (M : EReal) (hle : ∀ k, S k ≤ M) (hmem : ∃ k, M = S k) (k : Fin 8448) :
    Ideal.div (Ideal.exp (S k - M)) (∑ k', Ideal.exp (S k' - M)) = soft D k := by
  have hc : (0 : ℝ) < 1 / 8 := by norm_num
  induction M with
  | bot =>
    have hb : ∀ k, D k = ⊥ := fun k => by
      rcases scale_cases hc (hS k) with h | h | ⟨x, _, h⟩
      · have := hle k; rw [h.2] at this; exact absurd this (by simp)
      · exact h.1
      · have := hle k; rw [h, le_bot_iff] at this; exact absurd this (EReal.coe_ne_bot _)
    have hz : ∀ k, Ideal.exp (S k - ⊥) = 0 := fun k => by
      rw [le_bot_iff.1 (hle k), EReal.bot_sub]; rfl
    simp only [hz, Finset.sum_const_zero]
    rw [soft_bad (.inr hb), div_zero_zero]
  | top =>
    obtain ⟨k', hk⟩ := hmem
    have hb : Bad D := by
      refine .inl ⟨k', ?_⟩
      rcases scale_cases hc (hS k') with h | h | ⟨x, _, h⟩
      · exact h.1
      · rw [h.2] at hk; exact absurd hk (by simp)
      · rw [h] at hk; exact absurd hk.symm (EReal.coe_ne_top _)
    simp only [exp_top, Finset.sum_const_zero]
    rw [soft_bad hb, div_zero_zero]
  | coe μ =>
    have hw : ∀ k, D k ≠ ⊤ ∧ Ideal.exp (S k - (μ : EReal)) = ((ew (D k) * Real.exp (-μ) : ℝ) : EReal) := fun k => by
      rcases scale_cases hc (hS k) with h | h | ⟨x, h1, h2⟩
      · exact absurd h.2 (ne_top_of_le (hle k))
      · rw [h.1, h.2, EReal.bot_sub, ew, if_pos rfl, zero_mul]
        exact ⟨by simp, rfl⟩
      · rw [h1, h2, exp_sub, ew, if_neg (EReal.coe_ne_bot x), EReal.toReal_coe, sub_eq_add_neg, Real.exp_add]
        exact ⟨EReal.coe_ne_top x, rfl⟩
    have hb : ¬∀ k, D k = ⊥ := fun h => by
      obtain ⟨k', hk⟩ := hmem
      have := hS k'
      rw [h k', ← hk, mul_comm, EReal.coe_mul_bot_of_pos hc] at this
      exact EReal.coe_ne_bot _ this
    have hz := sum_ew_pos hb
    have he := Real.exp_pos (-μ)
    simp only [fun k => (hw k).2]
    rw [soft_good (fun h => h.elim (fun ⟨k, hk⟩ => (hw k).1 hk) hb), sum_coe, ← Finset.sum_mul, Ideal.div_coe (mul_pos hz he).ne', ← EReal.coe_mul]
    rw [Wx]
    congr 1
    field_simp

/-- Among reals, values weighted by a difference are the difference of the weighted values. -/
theorem sum_diff {ι : Type} (s : Finset ι) (f : ι → EReal) (p0 p1 : ι → ℝ) (l : ℝ) (hf : ∀ n, ∃ y : ℝ, f n = y) :
    (∑ n ∈ s, f n * ((p0 n : EReal) - (l : EReal) * (p1 n : EReal))) = (∑ n ∈ s, f n * (p0 n : EReal)) - (l : EReal) * ∑ n ∈ s, f n * (p1 n : EReal) := by
  choose a ha using hf
  simp only [ha, ← EReal.coe_mul, ← EReal.coe_sub, sum_coe]
  congr 1
  rw [Finset.mul_sum, ← Finset.sum_sub_distrib]
  exact Finset.sum_congr rfl fun n _ => by ring

/-- A vector times the inverse root of its mean square, times gains and a constant. -/
def norm (z g : Fin 128 → EReal) (d : Fin 128) : EReal :=
  z d * Ideal.rsqrt (Ideal.div (∑ r, z r * z r) (Ideal.ofBits .f32 0x43000000#32) + Ideal.ofBits .f32 0x358637BD#32) * g d * Ideal.ofBits .f32 0x3F077F5A#32

/-- Zero or infinite. -/
def ZI (x : EReal) : Prop := x = 0 ∨ x = ⊤ ∨ x = ⊥

theorem zi_add (x y : EReal) (hx : ZI x) (hy : ZI y) : ZI (x + y) := by
  rcases hx with rfl | rfl | rfl <;> rcases hy with rfl | rfl | rfl <;> simp [ZI]

theorem zi_mul {v : EReal} (hv : ∃ y : ℝ, v = y) {I : EReal} (hI : I = ⊤ ∨ I = ⊥) : ZI (v * I) := by
  obtain ⟨y, rfl⟩ := hv
  rcases lt_trichotomy y 0 with h | rfl | h <;> rcases hI with rfl | rfl
  · exact .inr (.inr (EReal.coe_mul_top_of_neg h))
  · exact .inr (.inl (EReal.coe_mul_bot_of_neg h))
  · exact .inl (zero_mul _)
  · exact .inl (zero_mul _)
  · exact .inr (.inl (EReal.coe_mul_top_of_pos h))
  · exact .inr (.inr (EReal.coe_mul_bot_of_pos h))

theorem zi_sum {v : Fin 8448 → EReal} (hv : ∀ n, ∃ y : ℝ, v n = y) {I : EReal} (hI : I = ⊤ ∨ I = ⊥) : ZI (∑ n, v n * I) :=
  Finset.sum_induction _ ZI zi_add (.inl rfl) fun n _ => zi_mul (hv n) hI

theorem c128 : Ideal.ofBits .f32 0x43000000#32 = ((128 : ℝ) : EReal) := by
  have h : ((1124073472#32).toNat >>> 23) % 256 = 134 := by decide
  simp [Ideal.ofBits, Ideal.ieee, h]
  norm_num
  rw [← EReal.coe_mul]
  norm_num

theorem eps_real : ∃ y : ℝ, Ideal.ofBits .f32 0x358637BD#32 = (y : EReal) := by
  simp only [Ideal.ofBits, Ideal.ieee]
  norm_num
  exact ⟨_, (EReal.coe_mul _ _).symm⟩

/-- A vector of zeros and infinities is normalised to zero. -/
theorem norm_zero (z g : Fin 128 → EReal) (hz : ∀ r, ZI (z r)) (d : Fin 128) : norm z g d = 0 := by
  have h0 : ∀ r, 0 ≤ z r * z r := fun r => by rcases hz r with h | h | h <;> rw [h] <;> simp
  have h : z d * Ideal.rsqrt (Ideal.div (∑ r, z r * z r) (Ideal.ofBits .f32 0x43000000#32) + Ideal.ofBits .f32 0x358637BD#32) = 0 := by
    by_cases hd : z d = 0
    · rw [hd, zero_mul]
    · have ht : z d * z d = ⊤ := by
        rcases (hz d).resolve_left hd with h | h <;> rw [h] <;> simp
      have hs : (∑ r, z r * z r) = ⊤ := by
        rw [← Finset.add_sum_erase _ _ (Finset.mem_univ d), ht]
        exact EReal.top_add_of_ne_bot (ne_bot_of_le_ne_bot EReal.zero_ne_bot (Finset.sum_nonneg fun r _ => h0 r))
      obtain ⟨e, he⟩ := eps_real
      rw [hs, c128, he, Ideal.div_coe (by norm_num), EReal.top_mul_coe_of_pos (by norm_num), EReal.top_add_coe]
      exact mul_zero _
  rw [norm, h, zero_mul, zero_mul]

/-- The difference of two softmaxes may be taken before or after the sum over the keys: the norm is the same. -/
theorem norm_eq (v : Fin 8448 → Fin 128 → EReal) (hv : ∀ n r, ∃ y : ℝ, v n r = y) (t0 t1 : Fin 8448 → EReal) (l : ℝ) (g : Fin 128 → EReal) (d : Fin 128) :
    norm (fun r => ∑ n, v n r * (soft t0 n - (l : EReal) * soft t1 n)) g d = norm (fun r => mean (fun n => v n r) t0 - (l : EReal) * mean (fun n => v n r) t1) g d := by
  by_cases h0 : Bad t0
  · rw [norm_zero _ _ (fun r => by simp only [soft_bad h0, EReal.bot_sub]; exact zi_sum (fun n => hv n r) (.inr rfl)),
      norm_zero _ _ (fun r => by simp only [mean_bad h0, EReal.bot_sub]; exact .inr (.inr rfl))]
  by_cases h1 : Bad t1
  · rcases lt_trichotomy l 0 with hl | rfl | hl
    · have e : (l : EReal) * ⊥ = ⊤ := EReal.coe_mul_bot_of_neg hl
      rw [norm_zero _ _ (fun r => by simp only [soft_bad h1, e, EReal.sub_top]; exact zi_sum (fun n => hv n r) (.inr rfl)),
        norm_zero _ _ (fun r => by simp only [mean_bad h1, e, EReal.sub_top]; exact .inr (.inr rfl))]
    · refine congrArg (norm · g d) (funext fun r => ?_)
      simp only [EReal.coe_zero, zero_mul, sub_zero, soft_good h0, mean_good h0]
    · have e : (l : EReal) * ⊥ = ⊥ := EReal.coe_mul_bot_of_pos hl
      rw [norm_zero _ _ (fun r => by simp only [soft_bad h1, soft_good h0, e, EReal.coe_sub_bot]; exact zi_sum (fun n => hv n r) (.inl rfl)),
        norm_zero _ _ (fun r => by
          obtain ⟨y, hy⟩ := sum_mul_real Finset.univ (fun n => v n r) (fun n => ((Wx t0 n : ℝ) : EReal)) (fun n => hv n r) (fun n => ⟨_, rfl⟩)
          simp only [mean_bad h1, mean_good h0, e]
          rw [hy, EReal.coe_sub_bot]
          exact .inr (.inl rfl))]
  · refine congrArg (norm · g d) (funext fun r => ?_)
    simp only [soft_good h0, soft_good h1, mean_good h0, mean_good h1]
    exact sum_diff Finset.univ (fun n => v n r) (Wx t0) (Wx t1) l fun n => hv n r

end Cert.Diff
-- ==== Proof.Diff.Col.lean ====
/- One column of the differential-attention state, at the ideal instance: what the units read and write there, and the invariant of a step:
   after `n` chunks the accumulator is the sum of the values of those chunks weighted by `2 ^ (score - running maximum)`. -/
module

public import proofs.«01_k».proof.Proof.Diff.Run
public import proofs.«01_k».proof.Proof.Diff.Math
public import proofs.«01_k».proof.Proof.Flash.Col

@[expose] public section

set_option maxRecDepth 16384

noncomputable section

namespace Cert.Diff

open Idealize.ShloMosaic Idealize.SL.Sem
open Idealize.ShloMosaic.VecWindow
open Cert.Kernel3Ideal Cert.Kernel3Ideal.Gen
open Cert.Flash (put2_in put2_out put3_in put3_out window2_at window3_at window4_at negInf fold_once)

/-! ## The payloads at an index -/

theorem pS_at (kc : FVec Ideal S768x128 .bf16) (q : Vec Ideal S128x256 .bf16) (i : Fin 1) (j : Fin 768) (x : Fin 256) :
    pS kc q (ix3 i j x) = ∑ d : Fin 128, kc (ix2 j d) * q (ix2 d x) := by
  pointwise [pS]

theorem pC_at (kc : FVec Ideal S768x128 .bf16) (q : Vec Ideal S128x256 .bf16) (i : Fin 1) (r : Fin 8) (x : Fin 256) :
    pC kc q (ix3 i r x) = Finset.fold max ⊥ (fun k : Fin 96 => ∑ d : Fin 128, kc (ix2 ⟨k.val * 8 + r.val, by omega⟩ d) * q (ix2 d x)) Finset.univ := by
  pointwise [pC]
  rw [negInf]

theorem pN_at (m : FVec Ideal S1x256 .f32) (cm : Vec Ideal S1x8x256 .f32) (x : Fin 256) :
    pN m cm (ix2 0 x) = max (m (ix2 0 x)) (Finset.fold max ⊥ (fun r : Fin 8 => cm (ix3 0 r x)) Finset.univ) := by
  pointwise [pN]
  rw [negInf]

theorem pM_at (m : FVec Ideal S1x256 .f32) (cm : Vec Ideal S1x8x256 .f32) (x : Fin 256) :
    pM m cm (ix2 0 x) = pN m cm (ix2 0 x) := by
  pointwise [pM]

theorem pA_at (vt1 : FVec Ideal S144x768 .bf16) (m : FVec Ideal S1x256 .f32) (cm : Vec Ideal S1x8x256 .f32) (s : Vec Ideal S1x768x256 .f32) (a : FVec Ideal S144x256 .f32) (r : Fin 144) (x : Fin 256) :
    pA vt1 m cm s a (ix2 r x) = Ideal.exp2 (m (ix2 0 x) - pN m cm (ix2 0 x)) * a (ix2 r x) + ∑ j : Fin 768, vt1 (ix2 r j) * Ideal.exp2 (s (ix3 0 j x) - pN m cm (ix2 0 x)) := by
  pointwise [pA]
  rfl

theorem withOnes_at (v : Vec Ideal S1x128x768 .bf16) (r : Fin 144) (j : Fin 768) :
    withOnes ones v (ix2 r j) = if h : r.val < 128 then v (ix3 0 ⟨r.val, h⟩ j) else 1 := by
  pointwise [withOnes, ones]

theorem pQ_at (x : Vec Ideal S1x2x2048x128 .bf16) (d : Fin 128) (c : Fin 4096) :
    pQ x (ix2 d c) = x (ix4 0 ⟨c.val / 2048, by omega⟩ ⟨c.val % 2048, by omega⟩ d) * (Named.named (F := Ideal) κ "scale" 0x3E38AA3B#32 : Ideal .f32) := by
  pointwise [pQ]

theorem kc_at (v : Vec Ideal S1x768x128 .bf16) (j : Fin 768) (d : Fin 128) :
    (shapeCast S768x128 v shapeCasts_S1x768x128_S768x128 : FVec Ideal S768x128 .bf16) (ix2 j d) = v (ix3 0 j d) := by
  pointwise

/-! ## A column of the state -/

/-- Column `col` lies in block `b` exactly when the block is `col / 256`. -/
theorem col_ne {b : Fin 16} {col : Fin 4096} (h : b.val ≠ col.val / 256) : col.val < 256 * b.val ∨ 256 * b.val + 256 ≤ col.val := by omega

variable (kb : S1x8448x128.Idx → Ideal .bf16) (vb : S1x128x8448.Idx → Ideal .bf16) (Q : S128x4096.Idx → Ideal .bf16)

/-- Key number `k`. -/
def fk (k : ℕ) : Fin 8448 := ⟨k % 8448, Nat.mod_lt _ (by norm_num)⟩

/-- Row `r` of the values of key `k`, with rows of ones under them. -/
def V1 (r : Fin 144) (k : ℕ) : EReal := if h : r.val < 128 then vb (ix3 0 ⟨r.val, h⟩ (fk k)) else 1

/-- The scores `S` are the products of keys and queries. -/
structure Scores (S : ℕ → Fin 4096 → EReal) : Prop where
  hS : ∀ k c, (∑ d : Fin 128, (show EReal from kb (ix3 0 (fk k) d)) * (show EReal from Q (ix2 d c))) = S k c

/-- After `n` chunks: the running maximum bounds their scores and is infinite only as one of them, and the accumulator is the weighted sum of their values. -/
def Hold (S : ℕ → Fin 4096 → EReal) (n : ℕ) (col : Fin 4096) (σ : St Ideal) : Prop :=
  ∃ M : EReal, σ.m (ix2 0 col) = M ∧ M ≠ ⊥ ∧ (∀ k, k < 768 * n → S k col ≤ M) ∧ (M = ⊤ → ∃ k, k < 768 * n ∧ S k col = ⊤)
    ∧ ∀ r : Fin 144, σ.a (ix2 r col) = ∑ k ∈ Finset.range (768 * n), V1 vb r k * Ideal.exp2 (S k col - M)

/-- Slot `s` holds the scores of chunk `n`; each is below one of the slot's partial maxima, and such a maximum is infinite only as one of the scores. -/
def Slot (S : ℕ → Fin 4096 → EReal) (n : ℕ) (s : Fin 2) (col : Fin 4096) (σ : St Ideal) : Prop :=
  (∀ j : Fin 768, σ.s (ix3 s j col) = S (768 * n + j.val) col) ∧ (∀ j : Fin 768, ∃ r : Fin 8, S (768 * n + j.val) col ≤ (show EReal from σ.x (ix3 s r col)))
    ∧ ∀ r : Fin 8, (show EReal from σ.x (ix3 s r col)) = ⊤ → ∃ j : Fin 768, S (768 * n + j.val) col = ⊤

variable {kb vb Q} {S : ℕ → Fin 4096 → EReal} {n : ℕ} {col : Fin 4096} {σ : St Ideal}

theorem hold_prod (kc : FVec Ideal S768x128 .bf16) (s : Fin 2) (b : Fin 16) (h : Hold vb S n col σ) : Hold vb S n col (prodF Q kc s b σ) := h

theorem slot_cons (vt1 : FVec Ideal S144x768 .bf16) (s s' : Fin 2) (b : Fin 16) (h : Slot S n s col σ) : Slot S n s col (consF vt1 s' b σ) := h

theorem slot_prod_ne (kc : FVec Ideal S768x128 .bf16) (s s' : Fin 2) (b : Fin 16) (hb : b.val ≠ col.val / 256 ∨ s ≠ s') (h : Slot S n s' col σ) :
    Slot S n s' col (prodF Q kc s b σ) := by
  have hh : (s'.val < s.val ∨ s.val + 1 ≤ s'.val) ∨ (col.val < 256 * b.val ∨ 256 * b.val + 256 ≤ col.val) := by
    rcases hb with hb | hb
    · exact .inr (col_ne hb)
    · exact .inl (by omega)
  have hx : ∀ r : Fin 8, (prodF Q kc s b σ).x (ix3 s' r col) = σ.x (ix3 s' r col) := fun r => put3_out σ.x s.val 0 (256 * b.val) _ s' r col hh
  refine ⟨fun j => ?_, fun j => ?_, fun r hr => h.2.2 r ((hx r).symm.trans hr)⟩
  · exact (put3_out σ.s s.val 0 (256 * b.val) _ s' j col hh).trans (h.1 j)
  · obtain ⟨r, hr⟩ := h.2.1 j
    exact ⟨r, hr.trans_eq (hx r).symm⟩

/-- The scores of a chunk of keys against a block of columns are that chunk's. -/
theorem slot_prod (hs : Scores kb Q S) (s : Fin 2) (b : Fin 16) (hb : b.val = col.val / 256) (o : Fin 3 → ℕ)
    (h : ∀ a, o a + S1x768x128.size a ≤ S1x8448x128.size a) (hn : 768 * n + 768 ≤ 8448) (ho : o = ![0, 768 * n, 0]) :
    Slot S n s col (prodF Q (kcOf kb o h) s b σ) := by
  subst ho
  have hkc : ∀ (j : Fin 768) (d : Fin 128), kcOf (F := Ideal) kb _ h (ix2 j d) = kb (ix3 0 (fk (768 * n + j.val)) d) := fun j d => by
    refine (kc_at _ j d).trans (window3_at kb 0 (768 * n) 0 h 0 j d 0 (fk (768 * n + j.val)) d rfl ?_ (Nat.zero_add _).symm)
    exact Nat.mod_eq_of_lt (by omega)
  have hw : ∀ (d : Fin 128) (x : Fin 256), w7 (F := Ideal) Q b (ix2 d x) = Q (ix2 d ⟨256 * b.val + x.val, by omega⟩) := fun d x =>
    window2_at Q 0 (256 * b.val) (inb7 b) d x d ⟨256 * b.val + x.val, by omega⟩ (Nat.zero_add _).symm rfl
  have e1 : 256 * b.val ≤ col.val := by omega
  have e2 : col.val < 256 * b.val + 256 := by omega
  have hP : ∀ j : Fin 768, (∑ d : Fin 128, (show EReal from kcOf (F := Ideal) kb _ h (ix2 j d)) * (show EReal from w7 (F := Ideal) Q b (ix2 d ⟨col.val - 256 * b.val, by omega⟩)))
      = S (768 * n + j.val) col := fun j => by
    rw [← hs.hS]
    refine Finset.sum_congr rfl fun d _ => ?_
    rw [hkc, hw]
    refine congrArg₂ (fun (a b : EReal) => a * b) rfl (congrArg Q ?_)
    exact congrArg (ix2 d) (Fin.ext (by show 256 * b.val + (col.val - 256 * b.val) = col.val; omega))
  have hX : ∀ r : Fin 8, (prodF Q (kcOf kb _ h) s b σ).x (ix3 s r col) = Finset.fold max ⊥ (fun k : Fin 96 => S (768 * n + (k.val * 8 + r.val)) col) Finset.univ := fun r => by
    refine (put3_in σ.x s.val 0 (256 * b.val) _ s r col le_rfl (Nat.lt_succ_self _) (Nat.zero_le _) (by omega) e1 e2).trans ((pC_at _ _ _ _ _).trans ?_)
    exact Finset.fold_congr fun k _ => hP ⟨k.val * 8 + r.val, by omega⟩
  refine ⟨fun j => ?_, fun j => ⟨⟨j.val % 8, by omega⟩, ?_⟩, fun r hr => ?_⟩
  · refine (put3_in σ.s s.val 0 (256 * b.val) _ s j col le_rfl (Nat.lt_succ_self _) (Nat.zero_le _) (by omega) e1 e2).trans ?_
    exact (pS_at _ _ _ _ _).trans (hP ⟨j.val - 0, by omega⟩)
  · refine le_of_le_of_eq ?_ (hX _).symm
    refine (Finset.le_fold_max _).2 (.inr ⟨⟨j.val / 8, by omega⟩, Finset.mem_univ _, ?_⟩)
    exact le_of_eq (congrArg (fun i => S (768 * n + i) col) (by show j.val = j.val / 8 * 8 + j.val % 8; omega))
  · obtain h' | ⟨k, _, hk⟩ := (Finset.le_fold_max _).1 (top_le_iff.2 ((hX r).symm.trans hr))
    · exact absurd h' (by simp)
    · exact ⟨⟨k.val * 8 + r.val, by omega⟩, top_le_iff.1 hk⟩

theorem hold_cons_ne (vt1 : FVec Ideal S144x768 .bf16) (s : Fin 2) (b : Fin 16) (hb : b.val ≠ col.val / 256) (h : Hold vb S n col σ) :
    Hold vb S n col (consF vt1 s b σ) := by
  obtain ⟨M, hm, hM, hle, htop, ha⟩ := h
  refine ⟨M, ?_, hM, hle, htop, fun r => ?_⟩
  · exact (put2_out σ.m 0 (256 * b.val) _ 0 col (.inr (col_ne hb))).trans hm
  · exact (put2_out σ.a 0 (256 * b.val) _ r col (.inr (col_ne hb))).trans (ha r)

/-- The update of a column by a chunk's scores. -/
theorem hold_cons (s : Fin 2) (b : Fin 16) (hb : b.val = col.val / 256) (o : Fin 3 → ℕ)
    (h : ∀ a, o a + S1x128x768.size a ≤ S1x128x8448.size a) (hn : 768 * n + 768 ≤ 8448) (ho : o = ![0, 0, 768 * n])
    (hh : Hold vb S n col σ) (hsl : Slot S n s col σ) : Hold vb S (n + 1) col (consF (vcOf vb o h) s b σ) := by
  subst ho
  have hvc : ∀ (r : Fin 144) (j : Fin 768), vcOf (F := Ideal) vb _ h (ix2 r j) = V1 vb r (768 * n + j.val) := fun r j => by
    refine (withOnes_at _ r j).trans ?_
    unfold V1
    by_cases hr : r.val < 128
    · rw [dif_pos hr, dif_pos hr]
      refine window3_at vb 0 0 (768 * n) h 0 ⟨r.val, hr⟩ j 0 ⟨r.val, hr⟩ (fk (768 * n + j.val)) rfl (Nat.zero_add _).symm ?_
      exact Nat.mod_eq_of_lt (by omega)
    · rw [dif_neg hr, dif_neg hr]
  have e1 : 256 * b.val ≤ col.val := by omega
  have e2 : col.val < 256 * b.val + 256 := by omega
  obtain ⟨M, hm, hM, hle, htop, ha⟩ := hh
  obtain ⟨hs, hx, hx2⟩ := hsl
  let x : Fin 256 := ⟨col.val - 256 * b.val, by omega⟩
  have hx' : (col : ℕ) = 256 * b.val + x.val := by show col.val = 256 * b.val + (col.val - 256 * b.val); omega
  have wm : w10 σ.m b (ix2 0 x) = M := (window2_at σ.m 0 (256 * b.val) (inb10 b) 0 x 0 col rfl hx').trans hm
  have wx : ∀ r : Fin 8, w9 σ.x s b (ix3 0 r x) = σ.x (ix3 s r col) := fun r =>
    window3_at σ.x s.val 0 (256 * b.val) (inb9 s b) 0 r x s r col rfl (Nat.zero_add _).symm hx'
  have ws : ∀ j : Fin 768, w8 σ.s s b (ix3 0 j x) = S (768 * n + j.val) col := fun j =>
    (window3_at σ.s s.val 0 (256 * b.val) (inb8 s b) 0 j x s j col rfl (Nat.zero_add _).symm hx').trans (hs j)
  have wa : ∀ r : Fin 144, w11 σ.a b (ix2 r x) = σ.a (ix2 r col) := fun r =>
    window2_at σ.a 0 (256 * b.val) (inb11 b) r x r col (Nat.zero_add _).symm hx'
  obtain ⟨M', hM'⟩ : ∃ M' : EReal, pN (w10 σ.m b) (w9 σ.x s b) (ix2 0 x) = M' := ⟨_, rfl⟩
  have hN : M' = max M (Finset.fold max ⊥ (fun r : Fin 8 => (show EReal from σ.x (ix3 s r col))) Finset.univ) := by
    refine hM'.symm.trans ((pN_at _ _ _).trans ?_)
    exact congrArg₂ max wm (Finset.fold_congr fun r _ => wx r)
  have hMM : M ≤ M' := hN ▸ le_max_left _ _
  refine ⟨M', ?_, ne_bot_of_le_ne_bot hM hMM, fun k hk => ?_, fun ht => ?_, fun r => ?_⟩
  · exact (put2_in σ.m 0 (256 * b.val) _ 0 col le_rfl (by norm_num) e1 e2).trans ((pM_at _ _ x).trans hM')
  · by_cases hkn : k < 768 * n
    · exact (hle k hkn).trans hMM
    · obtain ⟨r, hr⟩ := hx ⟨k - 768 * n, by omega⟩
      have hk' : S k col ≤ (show EReal from σ.x (ix3 s r col)) := by
        rwa [show 768 * n + (⟨k - 768 * n, by omega⟩ : Fin 768).val = k by show 768 * n + (k - 768 * n) = k; omega] at hr
      rw [hN]
      exact le_max_of_le_right ((Finset.le_fold_max _).2 (.inr ⟨r, Finset.mem_univ _, hk'⟩))
  · rw [hN] at ht
    rcases max_eq_top.1 ht with h1 | h1
    · obtain ⟨k, hk, e⟩ := htop h1
      exact ⟨k, by omega, e⟩
    · obtain h' | ⟨r, _, hr⟩ := (Finset.le_fold_max _).1 (top_le_iff.2 h1)
      · exact absurd h' (by simp)
      · obtain ⟨j, hj⟩ := hx2 r (top_le_iff.1 hr)
        exact ⟨768 * n + j.val, by omega, hj⟩
  · refine (put2_in σ.a 0 (256 * b.val) _ r col (Nat.zero_le _) (by omega) e1 e2).trans ((pA_at _ _ _ _ _ r x).trans ?_)
    rw [hM', wm, wa, ha, show 768 * (n + 1) = 768 * n + 768 by ring, ← flash_step _ _ _ _ M M' hM hMM hle]
    refine congrArg _ (Finset.sum_congr rfl fun j _ => ?_)
    rw [hvc, ws]

/-! ## A pass over the column blocks -/

theorem blocks_nodup : blocks.Nodup := by decide
theorem mem_blocks (b : Fin 16) : b ∈ blocks := by revert b; decide

/-- A step: the next chunk's scores, the update by this chunk's. -/
theorem step_col (hs : Scores kb Q S) (o4 : Fin 3 → ℕ) (h4 : ∀ a, o4 a + S1x768x128.size a ≤ S1x8448x128.size a)
    (o5 : Fin 3 → ℕ) (h5 : ∀ a, o5 a + S1x128x768.size a ≤ S1x128x8448.size a) (s s' : Fin 2) (hne : s ≠ s')
    (hn : 768 * (n + 1) + 768 ≤ 8448) (ho4 : o4 = ![0, 768 * (n + 1), 0]) (ho5 : o5 = ![0, 0, 768 * n])
    (h : Hold vb S n col σ ∧ Slot S n s' col σ) :
    Hold vb S (n + 1) col (stepF Q kb vb o4 h4 o5 h5 s s' σ) ∧ Slot S (n + 1) s col (stepF Q kb vb o4 h4 o5 h5 s s' σ) := by
  unfold stepF colsF
  refine fold_once (f := fun σ b => consF (vcOf vb o5 h5) s' b (prodF Q (kcOf kb o4 h4) s b σ)) (b₀ := ⟨col.val / 256, by omega⟩) (P := fun σ => Hold vb S n col σ ∧ Slot S n s' col σ)
    (R := fun σ => Hold vb S (n + 1) col σ ∧ Slot S (n + 1) s col σ) ?_ ?_ ?_ blocks σ blocks_nodup (mem_blocks _) h
  · intro b x hb hx
    have hb' : b.val ≠ col.val / 256 := fun e => hb (Fin.ext e)
    exact ⟨hold_cons_ne _ _ _ hb' (hold_prod _ _ _ hx.1), slot_cons _ _ _ _ (slot_prod_ne _ _ _ _ (.inl hb') hx.2)⟩
  · intro b x hb hx
    have hb' : b.val ≠ col.val / 256 := fun e => hb (Fin.ext e)
    exact ⟨hold_cons_ne _ _ _ hb' (hold_prod _ _ _ hx.1), slot_cons _ _ _ _ (slot_prod_ne _ _ _ _ (.inl hb') hx.2)⟩
  · intro x hx
    exact ⟨hold_cons _ _ rfl _ _ (by omega) ho5 (hold_prod _ _ _ hx.1) (slot_prod_ne _ _ _ _ (.inr hne) hx.2),
      slot_cons _ _ _ _ (slot_prod hs _ _ rfl _ _ (by omega) ho4)⟩

/-- A chunk's scores alone. -/
theorem first_col (hs : Scores kb Q S) (s : Fin 2) (o4 : Fin 3 → ℕ) (h4 : ∀ a, o4 a + S1x768x128.size a ≤ S1x8448x128.size a) (hn : 768 * n + 768 ≤ 8448) (ho4 : o4 = ![0, 768 * n, 0])
    (h : Hold vb S n col σ) :
    Hold vb S n col (colsPF Q (kcOf kb o4 h4) s blocks σ) ∧ Slot S n s col (colsPF Q (kcOf kb o4 h4) s blocks σ) := by
  refine ⟨?_, ?_⟩
  · have hall : ∀ (l : List (Fin 16)) (x : St Ideal), Hold vb S n col x → Hold vb S n col (colsPF Q (kcOf kb o4 h4) s l x) := by
      intro l
      induction l with
      | nil => exact fun x hx => hx
      | cons b l ih => exact fun x hx => ih _ (hold_prod _ _ _ hx)
    exact hall blocks σ h
  · have hkeep : ∀ (l : List (Fin 16)) (x : St Ideal), (∀ b ∈ l, b.val ≠ col.val / 256) → Slot S n s col x → Slot S n s col (colsPF Q (kcOf kb o4 h4) s l x) := by
      intro l
      induction l with
      | nil => exact fun x _ hx => hx
      | cons b l ih => exact fun x hb hx => ih _ (fun b' h' => hb b' (List.mem_cons_of_mem _ h')) (slot_prod_ne _ _ _ _ (.inl (hb b List.mem_cons_self)) hx)
    have hall : ∀ (l : List (Fin 16)) (x : St Ideal), l.Nodup → (∃ b ∈ l, b.val = col.val / 256) → Slot S n s col (colsPF Q (kcOf kb o4 h4) s l x) := by
      intro l
      induction l with
      | nil => rintro x _ ⟨b, hb, _⟩; exact absurd hb (by simp)
      | cons b l ih =>
        rintro x hl ⟨b', hb', e⟩
        rw [List.nodup_cons] at hl
        by_cases hbb : b.val = col.val / 256
        · refine hkeep l _ (fun b'' h'' e'' => hl.1 ?_) (slot_prod hs s b hbb o4 h4 hn ho4)
          rwa [show b = b'' from Fin.ext (hbb.trans e''.symm)]
        · refine ih _ hl.2 ⟨b', (List.mem_cons.1 hb').resolve_left fun e' => hbb (e' ▸ e), e⟩
    exact hall blocks σ blocks_nodup ⟨⟨col.val / 256, by omega⟩, mem_blocks _, rfl⟩

/-- A chunk's update alone. -/
theorem last_col (s : Fin 2) (o5 : Fin 3 → ℕ) (h5 : ∀ a, o5 a + S1x128x768.size a ≤ S1x128x8448.size a) (hn : 768 * n + 768 ≤ 8448) (ho5 : o5 = ![0, 0, 768 * n])
    (h : Hold vb S n col σ ∧ Slot S n s col σ) : Hold vb S (n + 1) col (colsCF (vcOf vb o5 h5) s blocks σ) := by
  unfold colsCF
  refine fold_once (f := fun σ b => consF (vcOf vb o5 h5) s b σ) (b₀ := ⟨col.val / 256, by omega⟩) (P := fun σ => Hold vb S n col σ ∧ Slot S n s col σ)
    (R := fun σ => Hold vb S (n + 1) col σ) ?_ ?_ ?_ blocks σ blocks_nodup (mem_blocks _) h
  · exact fun b x hb hx => ⟨hold_cons_ne _ _ _ (fun e => hb (Fin.ext e)) hx.1, slot_cons _ _ _ _ hx.2⟩
  · exact fun b x hb hx => hold_cons_ne _ _ _ (fun e => hb (Fin.ext e)) hx
  · exact fun x hx => hold_cons _ _ rfl _ _ hn ho5 hx.1 hx.2

end Cert.Diff
-- ==== Proof.Diff.Body.lean ====
/- The whole differential-attention body at the ideal instance: the block it stores is the normalised difference of two softmax attentions over all keys. -/
module

public import proofs.«01_k».proof.Proof.Flash.Body
public import proofs.«01_k».proof.Proof.Diff.Col

@[expose] public section

set_option maxRecDepth 16384

noncomputable section

namespace Cert.Diff

open Idealize.ShloMosaic Idealize.SL.Sem
open Idealize.ShloMosaic.VecWindow
open Cert.Kernel3Ideal Cert.Kernel3Ideal.Gen
open Cert.Flash (put2_in put2_out put3_in put3_out window2_at window3_at window4_at initial_real)

section Chain
variable {kb : S1x8448x128.Idx → Ideal .bf16} {vb : S1x128x8448.Idx → Ideal .bf16} {Q : S128x4096.Idx → Ideal .bf16}
  {S : ℕ → Fin 4096 → EReal} {n : ℕ} {col : Fin 4096} {σ : St Ideal}

/-- Before the first chunk the accumulator is zero and the running maximum real. -/
theorem preS_hold : Hold vb S 0 col (preS σ) := by
  obtain ⟨μ, hμ⟩ := initial_real
  have hz : ∀ j : S128x4096.Idx, (shapeCast S128x4096 (broadcast S128x4096 (Scalar.ofBits .f32 0x00000000#32)) shapeCasts_S128x4096_S128x4096 : FVec Ideal S128x4096 .f32) j = 0 := fun j => by pointwise
  have hz' : ∀ j : S16x4096.Idx, (shapeCast S16x4096 (broadcast S16x4096 (Scalar.ofBits .f32 0x00000000#32)) shapeCasts_S16x4096_S16x4096 : FVec Ideal S16x4096 .f32) j = 0 := fun j => by pointwise
  have hm : ∀ j : S1x4096.Idx, (shapeCast S1x4096 (broadcast S1x4096 (Scalar.ofBits .f32 0xF149F2CA#32)) shapeCasts_S1x4096_S1x4096 : FVec Ideal S1x4096 .f32) j = Ideal.ofBits .f32 0xF149F2CA#32 := fun j => by pointwise
  refine ⟨μ, ?_, EReal.coe_ne_bot μ, fun k hk => absurd hk (by omega), fun h => absurd h (EReal.coe_ne_top μ), fun r => ?_⟩
  · exact (put2_in σ.m 0 0 _ 0 col le_rfl (by norm_num) (Nat.zero_le _) (by omega)).trans ((hm _).trans hμ)
  · rw [Nat.mul_zero, Finset.sum_range_zero]
    by_cases hr : r.val < 128
    · exact (put2_out _ 128 0 _ r col (.inl (.inl hr))).trans ((put2_in σ.a 0 0 _ r col (Nat.zero_le _) (by omega) (Nat.zero_le _) (by omega)).trans (hz _))
    · exact (put2_in _ 128 0 _ r col (by omega) (by omega) (Nat.zero_le _) (by omega)).trans (hz' _)

/-- One trip of the loop is four steps. -/
theorem trip_col (hs : Scores kb Q S) (t : Fin k0_t1_loop.trips) (h : Hold vb S (4 * t.val) col σ ∧ Slot S (4 * t.val) 0 col σ) :
    Hold vb S (4 * (t.val + 1)) col (tripF Q kb vb t σ) ∧ Slot S (4 * (t.val + 1)) 0 col (tripF Q kb vb t σ) := by
  have ht : t.val < 2 := t.isLt
  have o1 : ∀ r : Fin 4, k0_off1 t (BitVec.ofNat 32 r.val) = ![0, 768 * (4 * t.val + r.val + 1), 0] := fun r =>
    (k0_off1_eq t r).trans (congrArg (fun x => (![0, x, 0] : Fin 3 → ℕ)) (by omega))
  have o2 : ∀ r : Fin 4, k0_off2 t (BitVec.ofNat 32 r.val) = ![0, 0, 768 * (4 * t.val + r.val)] := fun r =>
    (k0_off2_eq t r).trans (congrArg (fun x => (![0, 0, x] : Fin 3 → ℕ)) (by omega))
  have h1 := step_col (n := 4 * t.val) hs _ (k0_off1_inb t 0) _ (k0_off2_inb t 0) 1 0 (by decide) (by omega) (o1 0) (o2 0) h
  have h2 := step_col (n := 4 * t.val + 1) hs _ (k0_off1_inb t 1) _ (k0_off2_inb t 1) 0 1 (by decide) (by omega) (o1 1) (o2 1) h1
  have h3 := step_col (n := 4 * t.val + 2) hs _ (k0_off1_inb t 2) _ (k0_off2_inb t 2) 1 0 (by decide) (by omega) (o1 2) (o2 2) h2
  exact step_col (n := 4 * t.val + 3) hs _ (k0_off1_inb t 3) _ (k0_off2_inb t 3) 0 1 (by decide) (by omega) (o1 3) (o2 3) h3

theorem loop_col (hs : Scores kb Q S) (h : Hold vb S 0 col σ ∧ Slot S 0 0 col σ) :
    ∀ m, m ≤ k0_t1_loop.trips → Hold vb S (4 * m) col (loopF Q kb vb σ m) ∧ Slot S (4 * m) 0 col (loopF Q kb vb σ m)
  | 0, _ => h
  | m + 1, hm => by
    have e : loopF Q kb vb σ (m + 1) = tripF Q kb vb ⟨m, hm⟩ (loopF Q kb vb σ m) := dif_pos hm
    rw [e]
    exact trip_col hs ⟨m, hm⟩ (loop_col hs h m (Nat.le_of_succ_le hm))

theorem rest_col (hs : Scores kb Q S) (h : Hold vb S 8 col σ ∧ Slot S 8 0 col σ) : Hold vb S 11 col (restF Q kb vb σ) := by
  have h1 := step_col (n := 8) hs _ inb_S1x8448x128_S1x768x128_0_6912_0 _ inb_S1x128x8448_S1x128x768_0_0_6144 1 0 (by decide) (by norm_num) rfl rfl h
  have h2 := step_col (n := 9) hs _ inb_S1x8448x128_S1x768x128_0_7680_0 _ inb_S1x128x8448_S1x128x768_0_0_6912 0 1 (by decide) (by norm_num) rfl rfl h1
  exact last_col (n := 10) 0 _ inb_S1x128x8448_S1x128x768_0_0_7680 (by norm_num) rfl h2

/-- After the body every column holds the sum over all eleven chunks. -/
theorem body_col (qb : S1x2x2048x128.Idx → Ideal .bf16) (hs : Scores kb (preQ (F := Ideal) qb Q) S) : Hold vb S 11 col (bodyF (F := Ideal) qb kb vb Q σ) :=
  rest_col hs (loop_col hs (first_col (n := 0) hs 0 _ inb_S1x8448x128_S1x768x128_0_0_0 (by norm_num) rfl preS_hold) 2 le_rfl)

end Chain

/-! ## The stored block -/

/-- Attention of the query of column `c` on value row `r`. -/
def att (qb : FVec Ideal S1x2x2048x128 .bf16) (kb : FVec Ideal S1x8448x128 .bf16) (vb : FVec Ideal S1x128x8448 .bf16) (r : Fin 128) (g : Fin 2) (x : Fin 2048) : EReal :=
  mean (fun k => vb (ix3 0 r k)) (fun k => ∑ d : Fin 128, kb (ix3 0 k d) * qb (ix4 0 g x d))

variable {qb : FVec Ideal S1x2x2048x128 .bf16} {kb : FVec Ideal S1x8448x128 .bf16} {vb : FVec Ideal S1x128x8448 .bf16}

theorem scale_eq : (Named.named (F := Ideal) κ "scale" 0x3E38AA3B#32 : Ideal .f32) = (((Real.log 256)⁻¹ : ℝ) : EReal) := rfl

theorem preQ_at (Q : S128x4096.Idx → Ideal .bf16) (d : Fin 128) (c : Fin 4096) :
    preQ (F := Ideal) qb Q (ix2 d c) = qb (ix4 0 ⟨c.val / 2048, by omega⟩ ⟨c.val % 2048, by omega⟩ d) * (((Real.log 256)⁻¹ : ℝ) : EReal) := by
  refine (put2_in Q 0 0 _ d c (Nat.zero_le _) (by omega) (Nat.zero_le _) (by omega)).trans ((pQ_at _ _ _).trans ?_)
  rw [scale_eq]
  exact congrArg (fun x : EReal => x * _) (window4_at qb 0 0 0 0 _ _ _ _ _ _ _ _ _ rfl (Nat.zero_add _).symm (Nat.zero_add _).symm (Nat.zero_add _).symm)

theorem fk_val (k : Fin 8448) : fk k.val = k := Fin.ext (Nat.mod_eq_of_lt k.isLt)

/-- The quotient of the accumulator's rows after the body is attention. -/
theorem body_quot (Q : S128x4096.Idx → Ideal .bf16) (σ : St Ideal) (r : Fin 128) (c : Fin 4096) :
    Ideal.div ((bodyF (F := Ideal) qb kb vb Q σ).a (ix2 ⟨r.val, by omega⟩ c)) ((bodyF (F := Ideal) qb kb vb Q σ).a (ix2 128 c))
      = att qb kb vb r ⟨c.val / 2048, by omega⟩ ⟨c.val % 2048, by omega⟩ := by
  let g : Fin 4096 → Fin 2 := fun c => ⟨c.val / 2048, by omega⟩
  let x : Fin 4096 → Fin 2048 := fun c => ⟨c.val % 2048, by omega⟩
  let D : Fin 8448 → Fin 4096 → EReal := fun k c => ∑ d : Fin 128, kb (ix3 0 k d) * qb (ix4 0 (g c) (x c) d)
  have hs : Scores kb (preQ (F := Ideal) qb Q) (fun k c => D (fk k) c * (((Real.log 256)⁻¹ : ℝ) : EReal)) := by
    refine ⟨fun k c => ?_⟩
    refine (Finset.sum_congr rfl fun d _ => ?_).trans (sum_mul_pos Finset.univ (fun d => kb (ix3 0 (fk k) d) * qb (ix4 0 (g c) (x c) d)) _ (inv_nonneg.2 (Real.log_nonneg (by norm_num))))
    rw [mul_assoc]
    exact congrArg (fun z : EReal => _ * z) (preQ_at Q d c)
  obtain ⟨M, -, hM, hle, htop, ha⟩ := body_col (vb := vb) (σ := σ) (col := c) qb hs
  rw [ha, ha]
  have e1 : ∀ k, V1 vb 128 k = 1 := fun k => dif_neg (by decide)
  have e2 : ∀ k, V1 vb ⟨r.val, by omega⟩ k = vb (ix3 0 r (fk k)) := fun k => dif_pos r.isLt
  simp only [e1, e2]
  rw [show 768 * 11 = 8448 from rfl, Finset.sum_range, Finset.sum_range]
  simp only [fk_val]
  refine quot_eq (fun k => vb (ix3 0 r k)) (fun k => D k c) (fun k => D k c * (((Real.log 256)⁻¹ : ℝ) : EReal)) (fun k => rfl) M hM (fun k => ?_) (fun h => ?_)
  · exact le_of_eq_of_le (congrArg (fun i => D i c * _) (fk_val k).symm) (hle k.val k.isLt)
  · obtain ⟨k, _, hk⟩ := htop h
    exact ⟨fk k, hk⟩

/-- The factor of the second component: a difference of exponentials of inner products of the rows, and a constant. -/
def lamOf (lb : FVec Ideal S4x64 .f32) : EReal :=
  Ideal.exp (∑ d : Fin 64, lb (ix2 0 d) * lb (ix2 1 d)) - Ideal.exp (∑ d : Fin 64, lb (ix2 2 d) * lb (ix2 3 d)) + Ideal.ofBits .f32 0x3EF1014C#32

theorem pL_at (lam : FVec Ideal S4x64 .f32) : pL (F := Ideal) lam (ix2 0 0) = lamOf lam := by
  pointwise [pL]
  rfl

theorem pT_at (a : FVec Ideal S128x4096 .f32) (l : FVec Ideal S1x4096 .f32) (r : Fin 128) (c : Fin 4096) :
    pT (F := Ideal) a l (ix2 r c) = Ideal.div (a (ix2 r c)) (l (ix2 0 c)) := by
  pointwise [pT]

theorem pD_at (o : FVec Ideal S128x4096 .f32) (lam : FVec Ideal S1x1 .f32) (r : Fin 128) (x : Fin 2048) :
    pD (F := Ideal) o lam (ix2 r x) = o (ix2 r ⟨x.val, by omega⟩) - lam (ix2 0 0) * o (ix2 r ⟨2048 + x.val, by omega⟩) := by
  pointwise [pD]

theorem pR_at (d : FVec Ideal S128x2048 .f32) (r : Fin 128) (x : Fin 2048) :
    pR (F := Ideal) d (ix2 r x) = d (ix2 r x) * Ideal.rsqrt (Ideal.div (∑ r' : Fin 128, d (ix2 r' x) * d (ix2 r' x)) (Ideal.ofBits .f32 0x43000000#32) + Ideal.ofBits .f32 0x358637BD#32) := by
  pointwise [pR]

theorem pO_at (a : FVec Ideal S128x4096 .f32) (l : FVec Ideal S1x4096 .f32) (lam : FVec Ideal S4x64 .f32) (sg : FVec Ideal S128x1 .f32) (i : Fin 1) (x : Fin 2048) (d : Fin 128) :
    pO (F := Ideal) a l lam sg (ix3 i x d) = pR (F := Ideal) (pD (pT a l) (pL lam)) (ix2 d x) * sg (ix2 d 0) * Ideal.ofBits .f32 0x3F077F5A#32 := by
  pointwise [pO]

/-- The block the body stores, whatever was in the scratch and in the block before. -/
theorem fin_at (lb : FVec Ideal S4x64 .f32) (gb : FVec Ideal S128x1 .f32)
    (Q : S128x4096.Idx → Ideal .bf16) (σ : St Ideal) (ob : FVec Ideal S1x2048x128 .bf16) (x : Fin 2048) (d : Fin 128) :
    finF lb gb (bodyF (F := Ideal) qb kb vb Q σ).a ob (ix3 0 x d)
      = norm (fun r => att qb kb vb r 0 x - lamOf lb * att qb kb vb r 1 x) (fun r => gb (ix2 r 0)) d := by
  have hb := body_quot (qb := qb) (kb := kb) (vb := vb) Q σ
  generalize (bodyF (F := Ideal) qb kb vb Q σ).a = a at hb ⊢
  have hw : ∀ (r : Fin 128) (c : Fin 4096) (g : Fin 2), c.val = g.val * 2048 + x.val → pT (F := Ideal) (window a ![0, 0] S128x4096.size inb_S144x4096_S128x4096_0_0) (window a ![128, 0] S1x4096.size inb_S144x4096_S1x4096_128_0) (ix2 r c)
      = att qb kb vb r g x := fun r c g hc => by
    refine (pT_at _ _ r c).trans (Eq.trans ?_ ((hb r c).trans ?_))
    · exact congrArg₂ Ideal.div (window2_at a 0 0 _ r c ⟨r.val, by omega⟩ c (Nat.zero_add _).symm (Nat.zero_add _).symm) (window2_at a 128 0 _ 0 c 128 c rfl (Nat.zero_add _).symm)
    · rw [show (⟨c.val / 2048, by omega⟩ : Fin 2) = g from Fin.ext (by dsimp only; omega), show (⟨c.val % 2048, by omega⟩ : Fin 2048) = x from Fin.ext (by dsimp only; omega)]
  have hl : window lb ![0, 0] S4x64.size inb_S4x64_S4x64_0_0 = lb := funext fun y => by
    idx_vars y
    exact window2_at lb 0 0 _ y0 y1 y0 y1 (Nat.zero_add _).symm (Nat.zero_add _).symm
  have hg : window gb ![0, 0] S128x1.size inb_S128x1_S128x1_0_0 = gb := funext fun y => by
    idx_vars y
    exact window2_at gb 0 0 _ y0 y1 y0 y1 (Nat.zero_add _).symm (Nat.zero_add _).symm
  unfold finF
  refine (put3_in ob 0 0 0 _ 0 x d le_rfl (by norm_num) (Nat.zero_le _) (by omega) (Nat.zero_le _) (by omega)).trans ((pO_at _ _ _ _ _ _ _).trans ?_)
  rw [hl, hg]
  generalize window a ![0, 0] S128x4096.size inb_S144x4096_S128x4096_0_0 = A at hw ⊢
  generalize window a ![128, 0] S1x4096.size inb_S144x4096_S1x4096_128_0 = L at hw ⊢
  have hz : ∀ r : Fin 128, pD (F := Ideal) (pT A L) (pL lb) (ix2 r x) = att qb kb vb r 0 x - lamOf lb * att qb kb vb r 1 x := fun r => by
    rw [pD_at, pL_at, hw r _ 0 (show x.val = 0 * 2048 + x.val by omega), hw r _ 1 (show 2048 + x.val = 1 * 2048 + x.val by omega)]
  show pR (F := Ideal) (pD (pT A L) (pL lb)) (ix2 d x) * gb (ix2 d 0) * Ideal.ofBits .f32 0x3F077F5A#32 = _
  rw [pR_at]
  simp only [hz]
  rfl

end Cert.Diff
-- ==== Proof.Diff.Ref.lean ====
/- The reference's differential attention at the ideal instance: its composed term of the arguments, read at an index. -/
module

public import proofs.«01_k».proof.Proof.Diff.Body
public import proofs.«01_k».proof.Proof.Flash.Ref
public import proofs.«01_k».proof.Proof.Gen.Reference3Ideal.Run
public import proofs.«01_k».proof.Defs
public import Idealize.ShloMosaic.Lib.Claim
public import Idealize.ShloMosaic.Lib.Quiescent

@[expose] public section

set_option maxRecDepth 16384

noncomputable section

namespace Cert.Diff

open Idealize.ShloMosaic Idealize.ShloMosaic.TcCoe Idealize.SL.Sem
open Cert.Reference3Ideal Cert.Reference3Ideal.Gen
open Cert.Flash (sum_mul_real negInf_host eight)

/-- The scores of both components, scaled. -/
def refS (q : FVec Ideal S2x8192x8x2x64 .bf16) (k : FVec Ideal S2x8448x8x2x64 .bf16) : FVec Ideal S2x2x8x8192x8448 .f32 :=
  Host.divf (Host.dotGeneral dot_S2x8192x8x2x64_S2x8448x8x2x64_S2x2x8x8192x8448_4_4_1_1_032_032 none (extf .f32 q bitsLt_bf16_f32) (extf .f32 k bitsLt_bf16_f32)) (broadcastInDim S2x2x8x8192x8448 ![] bcast_S_S2x2x8x8192x8448 (constant S_ .f32 0x41000000#32))

/-- Their maxima over the keys. -/
def refM (s : FVec Ideal S2x2x8x8192x8448 .f32) : FVec Ideal S2x2x8x8192 .f32 :=
  maximumf (broadcastInDim S2x2x8x8192 ![] bcast_S_S2x2x8x8192 (constant S_ .f32 0xFF800000#32)) (Host.reduce FloatOps.maximumf s (constant S_ .f32 0xFF800000#32) reducesTo_S2x2x8x8192x8448_S2x2x8x8192_d4 h_S_)

/-- The exponentials under the maximum. -/
def refE (s : FVec Ideal S2x2x8x8192x8448 .f32) : FVec Ideal S2x2x8x8192x8448 .f32 :=
  Host.exp (subf s (broadcastInDim S2x2x8x8192x8448 ![0, 1, 2, 3, 4] bcast_S2x2x8x8192x1_S2x2x8x8192x8448_0_1_2_3_4 (broadcastInDim S2x2x8x8192x1 ![0, 1, 2, 3] bcast_S2x2x8x8192_S2x2x8x8192x1_0_1_2_3 (refM s))))

/-- The softmax. -/
def refP (e : FVec Ideal S2x2x8x8192x8448 .f32) : FVec Ideal S2x2x8x8192x8448 .f32 :=
  Host.divf e (broadcastInDim S2x2x8x8192x8448 ![0, 1, 2, 3, 4] bcast_S2x2x8x8192x1_S2x2x8x8192x8448_0_1_2_3_4 (broadcastInDim S2x2x8x8192x1 ![0, 1, 2, 3] bcast_S2x2x8x8192_S2x2x8x8192x1_0_1_2_3 (Host.reduceAdd e (constant S_ .f32 0x00000000#32) reducesTo_S2x2x8x8192x8448_S2x2x8x8192_d4 h_S_)))

/-- The factor of the second component. -/
def refL (l1 k1 l2 k2 : FVec Ideal S64 .f32) : FVec Ideal S_ .f32 :=
  addf (subf (Host.exp (Host.reduceAdd (mulf l1 k1) (constant S_ .f32 0x00000000#32) reducesTo_S64_S_d0 h_S_)) (Host.exp (Host.reduceAdd (mulf l2 k2) (constant S_ .f32 0x00000000#32) reducesTo_S64_S_d0 h_S_))) (constant S_ .f32 0x3EF1014C#32)

/-- The difference of the two components' weights. -/
def refA (p : FVec Ideal S2x2x8x8192x8448 .f32) (lam : FVec Ideal S_ .f32) : FVec Ideal S2x8x8192x8448 .f32 :=
  subf (shapeCast _ (extractStridedSlice S2x1x8x8192x8448 ![0, 0, 0, 0, 0] p slices_S2x2x8x8192x8448_S2x1x8x8192x8448_0_0_0_0_0) shapeCasts_S2x1x8x8192x8448_S2x8x8192x8448)
    (mulf (broadcastInDim S2x8x8192x8448 ![] bcast_S_S2x8x8192x8448 lam) (shapeCast _ (extractStridedSlice S2x1x8x8192x8448 ![0, 1, 0, 0, 0] p slices_S2x2x8x8192x8448_S2x1x8x8192x8448_0_1_0_0_0) shapeCasts_S2x1x8x8192x8448_S2x8x8192x8448))

/-- The weighted values. -/
def refZ (a : FVec Ideal S2x8x8192x8448 .f32) (v : FVec Ideal S2x8448x8x128 .bf16) : FVec Ideal S2x8192x8x128 .f32 :=
  transpose S2x8192x8x128 [0, 3, 1, 2] (Host.dotGeneral dot_S2x8448x8x128_S2x8x8192x8448_S2x8x128x8192_1_3_3_2_02_01 none (extf .f32 v bitsLt_bf16_f32) a) transposes_S2x8x128x8192_S2x8192x8x128_0_3_1_2

/-- The normalisation over a head's values, in the layout of the result. -/
def refO (z : FVec Ideal S2x8192x8x128 .f32) (g : FVec Ideal S128 .f32) : FVec Ideal S2x8192x1024 .bf16 :=
  truncf .bf16 (shapeCast _ (mulf (mulf (mulf z (broadcastInDim S2x8192x8x128 ![0, 1, 2, 3] bcast_S2x8192x8x1_S2x8192x8x128_0_1_2_3 (Host.rsqrt (addf (Host.divf (broadcastInDim S2x8192x8x1 ![0, 1, 2] bcast_S2x8192x8_S2x8192x8x1_0_1_2 (Host.reduceAdd (mulf z z) (constant S_ .f32 0x00000000#32) reducesTo_S2x8192x8x128_S2x8192x8_d3 h_S_)) (broadcastInDim S2x8192x8x1 ![] bcast_S_S2x8192x8x1 (constant S_ .f32 0x43000000#32))) (broadcastInDim S2x8192x8x1 ![] bcast_S_S2x8192x8x1 (constant S_ .f32 0x358637BD#32)))))) (broadcastInDim S2x8192x8x128 ![0, 1, 2, 3] bcast_S1x1x1x128_S2x8192x8x128_0_1_2_3 (broadcastInDim S1x1x1x128 ![3] bcast_S128_S1x1x1x128_3 g))) (broadcastInDim S2x8192x8x128 ![] bcast_S_S2x8192x8x128 (constant S_ .f32 0x3F077F5A#32))) shapeCasts_S2x8192x8x128_S2x8192x1024) bitsLt_bf16_f32

theorem refS_at (q : FVec Ideal S2x8192x8x2x64 .bf16) (k : FVec Ideal S2x8448x8x2x64 .bf16) (b c : Fin 2) (h : Fin 8) (x : Fin 8192) (n : Fin 8448) :
    refS q k (ix5 b c h x n) = Ideal.div (∑ d : Fin 64, q (ix5 b x h c d) * k (ix5 b n h c d)) (Ideal.ofBits .f32 0x41000000#32) := by
  pointwise [refS]

/-- A running maximum bounds what it has met and is its start or one of them. -/
theorem foldl_max {ι : Type} (f : ι → EReal) : ∀ (l : List ι) (r : EReal),
    r ≤ l.foldl (fun r n => max r (f n)) r ∧ (∀ n ∈ l, f n ≤ l.foldl (fun r n => max r (f n)) r)
      ∧ (l.foldl (fun r n => max r (f n)) r = r ∨ ∃ n ∈ l, l.foldl (fun r n => max r (f n)) r = f n)
  | [], r => ⟨le_rfl, fun n hn => absurd hn (by simp), .inl rfl⟩
  | a :: l, r => by
    obtain ⟨h1, h2, h3⟩ := foldl_max f l (max r (f a))
    rw [List.foldl_cons]
    refine ⟨(le_max_left _ _).trans h1, fun n hn => ?_, ?_⟩
    · rcases List.mem_cons.1 hn with rfl | hn
      · exact (le_max_right _ _).trans h1
      · exact h2 n hn
    · rcases h3 with h3 | ⟨n, hn, h3⟩
      · rcases max_choice r (f a) with h | h
        · exact .inl (h3.trans h)
        · exact .inr ⟨a, List.mem_cons_self, h3.trans h⟩
      · exact .inr ⟨n, List.mem_cons_of_mem _ hn, h3⟩

/-- A host maximum bounds the elements it runs over and is one of them. -/
theorem host_max {s t u : Shape} {axes : List (Fin s.rank)} (x : FVec Ideal s .f32) (h : s.ReducesTo axes t) (init : FVec Ideal u .f32) (hu : 0 < u.numel)
    (hi : init (Shape.Idx.first hu) = (⊥ : EReal)) (i : s.Idx) (j : t.Idx) (hij : h.drop i = j) :
    (∀ i, h.drop i = j → (show EReal from x i) ≤ (show EReal from Host.reduce (FloatOps.maximumf (F := Ideal) (φ := .f32)) x init h hu j))
      ∧ ∃ i, h.drop i = j ∧ (show EReal from Host.reduce (FloatOps.maximumf (F := Ideal) (φ := .f32)) x init h hu j) = x i := by
  unfold Host.reduce
  rw [hi]
  have hm : ∀ i, h.drop i = j → s.rowMajor i ∈ (List.finRange s.numel).filter fun n => h.drop (s.rowMajor.symm n) = j := fun i hij => by
    rw [List.mem_filter]
    exact ⟨List.mem_finRange _, by rw [Equiv.symm_apply_apply]; exact decide_eq_true hij⟩
  have hm' : ∀ n ∈ (List.finRange s.numel).filter (fun n => h.drop (s.rowMajor.symm n) = j), h.drop (s.rowMajor.symm n) = j := fun n hn =>
    of_decide_eq_true (List.mem_filter.1 hn).2
  generalize ((List.finRange s.numel).filter fun n => h.drop (s.rowMajor.symm n) = j) = l at hm hm' ⊢
  obtain ⟨-, h2, h3⟩ := foldl_max (fun n => (show EReal from x (s.rowMajor.symm n))) l ⊥
  have h2' : ∀ i, h.drop i = j → (show EReal from x i) ≤ l.foldl (fun r n => max r (show EReal from x (s.rowMajor.symm n))) ⊥ := fun i hij => by
    have := h2 _ (hm i hij)
    rwa [Equiv.symm_apply_apply] at this
  refine ⟨h2', ?_⟩
  rcases h3 with h3 | ⟨n, hn, h3⟩
  · refine ⟨i, hij, h3.trans ?_⟩
    have := h2' i hij
    rw [h3] at this
    exact (le_bot_iff.1 this).symm
  · exact ⟨_, hm' n hn, h3⟩

theorem refM_spec (s : FVec Ideal S2x2x8x8192x8448 .f32) (b c : Fin 2) (h : Fin 8) (x : Fin 8192) :
    (∀ n, (show EReal from s (ix5 b c h x n)) ≤ (show EReal from refM s (ix4 b c h x))) ∧ ∃ n, (show EReal from refM s (ix4 b c h x)) = s (ix5 b c h x n) := by
  have hd : ∀ n, reducesTo_S2x2x8x8192x8448_S2x2x8x8192_d4.drop (ix5 b c h x n) = ix4 b c h x := fun n => by
    funext a
    fin_cases a
    · exact Fin.ext (reducesTo_S2x2x8x8192x8448_S2x2x8x8192_d4.drop_apply_val_of_eq (ix5 b c h x n) 0 0)
    · exact Fin.ext (reducesTo_S2x2x8x8192x8448_S2x2x8x8192_d4.drop_apply_val_of_eq (ix5 b c h x n) 1 1)
    · exact Fin.ext (reducesTo_S2x2x8x8192x8448_S2x2x8x8192_d4.drop_apply_val_of_eq (ix5 b c h x n) 2 2)
    · exact Fin.ext (reducesTo_S2x2x8x8192x8448_S2x2x8x8192_d4.drop_apply_val_of_eq (ix5 b c h x n) 3 3)
  have hd' : ∀ i : S2x2x8x8192x8448.Idx, reducesTo_S2x2x8x8192x8448_S2x2x8x8192_d4.drop i = ix4 b c h x → ∃ n, i = ix5 b c h x n := fun i hi => by
    idx_vars i
    have e0 : i0 = b := Fin.ext ((reducesTo_S2x2x8x8192x8448_S2x2x8x8192_d4.drop_apply_val_of_eq (ix5 i0 i1 i2 i3 i4) 0 0).symm.trans (congrArg Fin.val (congrFun hi 0)))
    have e1 : i1 = c := Fin.ext ((reducesTo_S2x2x8x8192x8448_S2x2x8x8192_d4.drop_apply_val_of_eq (ix5 i0 i1 i2 i3 i4) 1 1).symm.trans (congrArg Fin.val (congrFun hi 1)))
    have e2 : i2 = h := Fin.ext ((reducesTo_S2x2x8x8192x8448_S2x2x8x8192_d4.drop_apply_val_of_eq (ix5 i0 i1 i2 i3 i4) 2 2).symm.trans (congrArg Fin.val (congrFun hi 2)))
    have e3 : i3 = x := Fin.ext ((reducesTo_S2x2x8x8192x8448_S2x2x8x8192_d4.drop_apply_val_of_eq (ix5 i0 i1 i2 i3 i4) 3 3).symm.trans (congrArg Fin.val (congrFun hi 3)))
    exact ⟨i4, by rw [e0, e1, e2, e3]⟩
  obtain ⟨h1, i, hi, h2⟩ := host_max s reducesTo_S2x2x8x8192x8448_S2x2x8x8192_d4 (constant S_ .f32 0xFF800000#32) h_S_ (negInf_host _) (ix5 b c h x 0) (ix4 b c h x) (hd 0)
  have hmax : ∀ R : FVec Ideal S2x2x8x8192 .f32, maximumf (broadcastInDim S2x2x8x8192 ![] bcast_S_S2x2x8x8192 (constant S_ .f32 0xFF800000#32)) R (ix4 b c h x)
      = max (Ideal.ofBits .f32 0xFF800000#32) (R (ix4 b c h x)) := fun R => by pointwise
  have hM : (show EReal from refM s (ix4 b c h x)) = (show EReal from Host.reduce (FloatOps.maximumf (F := Ideal) (φ := .f32)) s (constant (F := Ideal) S_ .f32 0xFF800000#32) reducesTo_S2x2x8x8192x8448_S2x2x8x8192_d4 h_S_ (ix4 b c h x)) := by
    refine (hmax _).trans ?_
    rw [show Ideal.ofBits .f32 0xFF800000#32 = ⊥ by simp [Ideal.ofBits, Ideal.ieee]]
    exact max_eq_right bot_le
  obtain ⟨n, rfl⟩ := hd' i hi
  exact ⟨fun n => (h1 _ (hd n)).trans_eq hM.symm, n, hM.trans h2⟩

theorem refE_at (s : FVec Ideal S2x2x8x8192x8448 .f32) (b c : Fin 2) (h : Fin 8) (x : Fin 8192) (n : Fin 8448) :
    refE s (ix5 b c h x n) = Ideal.exp (s (ix5 b c h x n) - refM s (ix4 b c h x)) := by
  pointwise [refE]

theorem refP_at (e : FVec Ideal S2x2x8x8192x8448 .f32) (b c : Fin 2) (h : Fin 8) (x : Fin 8192) (n : Fin 8448) :
    refP e (ix5 b c h x n) = Ideal.div (e (ix5 b c h x n)) (∑ n' : Fin 8448, e (ix5 b c h x n')) := by
  pointwise [refP]

/-- The second component's factor of the four weight vectors. -/
def lamR (l1 k1 l2 k2 : FVec Ideal S64 .f32) : EReal :=
  Ideal.exp (∑ d : Fin 64, l1 (ix1 d) * k1 (ix1 d)) - Ideal.exp (∑ d : Fin 64, l2 (ix1 d) * k2 (ix1 d)) + Ideal.ofBits .f32 0x3EF1014C#32

theorem refL_at (l1 k1 l2 k2 : FVec Ideal S64 .f32) : refL l1 k1 l2 k2 ix0 = lamR l1 k1 l2 k2 := by
  pointwise [refL, lamR]

theorem refA_at (p : FVec Ideal S2x2x8x8192x8448 .f32) (lam : FVec Ideal S_ .f32) (b : Fin 2) (h : Fin 8) (x : Fin 8192) (n : Fin 8448) :
    refA p lam (ix4 b h x n) = p (ix5 b 0 h x n) - lam ix0 * p (ix5 b 1 h x n) := by
  pointwise [refA]

theorem refZ_at (a : FVec Ideal S2x8x8192x8448 .f32) (v : FVec Ideal S2x8448x8x128 .bf16) (b : Fin 2) (x : Fin 8192) (h : Fin 8) (r : Fin 128) :
    refZ a v (ix4 b x h r) = ∑ n : Fin 8448, v (ix4 b n h r) * a (ix4 b h x n) := by
  pointwise [refZ]

theorem refO_at (z : FVec Ideal S2x8192x8x128 .f32) (g : FVec Ideal S128 .f32) (b : Fin 2) (x : Fin 8192) (l : Fin 1024) :
    refO z g (ix3 b x l) = norm (fun r => z (ix4 b x ⟨l.val / 128, by omega⟩ r)) (fun r => g (ix1 r)) ⟨l.val % 128, by omega⟩ := by
  pointwise [refO, norm]

/-- The scores of one query of one component, before their scaling. -/
def score (q : FVec Ideal S2x8192x8x2x64 .bf16) (k : FVec Ideal S2x8448x8x2x64 .bf16) (b : Fin 2) (x : Fin 8192) (h : Fin 8) (c : Fin 2) (n : Fin 8448) : EReal :=
  ∑ d : Fin 64, k (ix5 b n h c d) * q (ix5 b x h c d)

/-- Attention of one query of one component, as a function of the argument arrays: the mean of the values under the softmax of the scores. -/
def attn (q : FVec Ideal S2x8192x8x2x64 .bf16) (k : FVec Ideal S2x8448x8x2x64 .bf16) (v : FVec Ideal S2x8448x8x128 .bf16) (b : Fin 2) (x : Fin 8192) (h : Fin 8) (c : Fin 2) (r : Fin 128) : EReal :=
  mean (fun n => v (ix4 b n h r)) (score q k b x h c)

/-- The reference's softmax is the softmax of the scores. -/
theorem refP_eq (q : FVec Ideal S2x8192x8x2x64 .bf16) (k : FVec Ideal S2x8448x8x2x64 .bf16) (b c : Fin 2) (h : Fin 8) (x : Fin 8192) (n : Fin 8448) :
    refP (refE (refS q k)) (ix5 b c h x n) = soft (score q k b x h c) n := by
  have hS : ∀ n, refS q k (ix5 b c h x n) = score q k b x h c n * ((1 / 8 : ℝ) : EReal) := fun n => by
    rw [refS_at, show (∑ d : Fin 64, q (ix5 b x h c d) * k (ix5 b n h c d)) = score q k b x h c n from
      Finset.sum_congr rfl fun d _ => mul_comm _ _, eight, Ideal.div_coe (by norm_num)]
  obtain ⟨hle, hmem⟩ := refM_spec (refS q k) b c h x
  rw [refP_at]
  simp only [refE_at]
  exact soft_eq (score q k b x h c) (fun n => refS q k (ix5 b c h x n)) hS (refM (refS q k) (ix4 b c h x)) hle hmem n

theorem lamInit_real : ∃ y : ℝ, Ideal.ofBits .f32 0x3EF1014C#32 = (y : EReal) := by
  simp only [Ideal.ofBits, Ideal.ieee]
  norm_num
  exact ⟨_, (EReal.coe_mul _ _).symm⟩

/-- Of real weight vectors the factor is real. -/
theorem lamR_real (l1 k1 l2 k2 : FVec Ideal S64 .f32) (h1 : ∀ d, ∃ y : ℝ, l1 (ix1 d) = (y : EReal)) (h2 : ∀ d, ∃ y : ℝ, k1 (ix1 d) = (y : EReal))
    (h3 : ∀ d, ∃ y : ℝ, l2 (ix1 d) = (y : EReal)) (h4 : ∀ d, ∃ y : ℝ, k2 (ix1 d) = (y : EReal)) : ∃ y : ℝ, lamR l1 k1 l2 k2 = (y : EReal) := by
  obtain ⟨x, hx⟩ := sum_mul_real Finset.univ (fun d : Fin 64 => (l1 (ix1 d) : EReal)) (fun d => k1 (ix1 d)) h1 h2
  obtain ⟨y, hy⟩ := sum_mul_real Finset.univ (fun d : Fin 64 => (l2 (ix1 d) : EReal)) (fun d => k2 (ix1 d)) h3 h4
  obtain ⟨z, hz⟩ := lamInit_real
  refine ⟨Real.exp x - Real.exp y + z, ?_⟩
  unfold lamR
  rw [hx, hy, hz, EReal.coe_add, EReal.coe_sub]
  rfl

/-- The reference's term of the arguments. -/
def REF (q : FVec Ideal S2x8192x8x2x64 .bf16) (k : FVec Ideal S2x8448x8x2x64 .bf16) (v : FVec Ideal S2x8448x8x128 .bf16) (l1 k1 l2 k2 : FVec Ideal S64 .f32) (g : FVec Ideal S128 .f32) : FVec Ideal S2x8192x1024 .bf16 :=
  refO (refZ (refA (refP (refE (refS q k))) (refL l1 k1 l2 k2)) v) g

/-- The reference's term of finite values and weight vectors is the normalised difference of the two components' attention. -/
theorem ref_at (q : FVec Ideal S2x8192x8x2x64 .bf16) (k : FVec Ideal S2x8448x8x2x64 .bf16) (v : FVec Ideal S2x8448x8x128 .bf16) (l1 k1 l2 k2 : FVec Ideal S64 .f32) (g : FVec Ideal S128 .f32)
    (hv : ∀ b n h d, ∃ y : ℝ, v (ix4 b n h d) = (y : EReal))
    (hl : ∃ y : ℝ, lamR l1 k1 l2 k2 = (y : EReal)) (b : Fin 2) (x : Fin 8192) (l : Fin 1024) (h : Fin 8) (d : Fin 128) (hh : h.val = l.val / 128) (hd : d.val = l.val % 128) :
    REF q k v l1 k1 l2 k2 g (ix3 b x l) = norm (fun r => attn q k v b x h 0 r - lamR l1 k1 l2 k2 * attn q k v b x h 1 r) (fun r => g (ix1 r)) d := by
  unfold REF
  rw [refO_at, show (⟨l.val / 128, by omega⟩ : Fin 8) = h from Fin.ext hh.symm, show (⟨l.val % 128, by omega⟩ : Fin 128) = d from Fin.ext hd.symm]
  obtain ⟨y, hy⟩ := hl
  unfold attn
  rw [hy]
  refine Eq.trans (congrArg (norm · _ d) (funext fun r => ?_)) (norm_eq (fun n r => v (ix4 b n h r)) (fun n r => hv b n h r) (score q k b x h 0) (score q k b x h 1) y _ d)
  rw [refZ_at]
  refine Finset.sum_congr rfl fun n _ => congrArg (fun z : EReal => _ * z) ?_
  rw [refA_at, refL_at, refP_eq, refP_eq, hy]

/-- The reference's run leaves that term. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50) = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Cert.Reference3Ideal.Value.run (F := Ideal) m ρ

/-- The reference runs, leaves its arguments unchanged and every counter at zero. -/
theorem frame_reference : @Cert.quiescent_Reference3Ideal Cert.Reference3Ideal.Gen.facts := by
  exact fun m g _ => (θ_run Cert.Reference3Ideal.defs _ _).mono (fun r h => ⟨fun c => (h c).2, Idealize.ShloMosaic.sem_eq_zero_of_no_sems (by decide) r.2⟩)
    (Cert.Reference3Ideal.Value.run (F := Ideal) m g)

end Cert.Diff
-- ==== Proof.Diff.Value.lean ====
/- The differential-attention call's result array at the ideal instance: at every index it is the normalised difference of
   two attentions of the argument arrays, as the reference's term is. -/
module

public import proofs.«01_k».proof.Proof.Flash.Value
public import proofs.«01_k».proof.Proof.Diff.Body
public import proofs.«01_k».proof.Proof.Diff.Frame
public import proofs.«01_k».proof.Proof.Diff.Ref
public import proofs.«01_k».proof.Defs
public import Idealize.ShloMosaic.Lib.Claim
public import Idealize.ShloMosaic.Lib.Pipeline.ValueKit

@[expose] public section

set_option maxRecDepth 16384

noncomputable section

namespace Cert.Diff

open Idealize.ShloMosaic Idealize.ShloMosaic.TcCoe Idealize.SL.Sem
open Idealize.ShloMosaic.Pipeline (Dat)
open Cert.Kernel3Ideal Cert.Kernel3Ideal.Gen
open Cert.Flash (sum_half real_of_lt)

/-! ## The host's preparation -/

/-- The queries by heads and components, each component in its half of the lanes with zeros in the other. -/
def prepQ (q : FVec Ideal S2x8192x8x2x64 .bf16) : FVec Ideal S2x16x8192x128 .bf16 :=
  shapeCast S2x16x8192x128 (concatenate S2x8x2x8192x128 2
    [⟨S2x8x1x8192x128, concatenate S2x8x1x8192x128 4 [⟨S2x8x1x8192x64, extractStridedSlice S2x8x1x8192x64 ![0, 0, 0, 0, 0] (transpose S2x8x2x8192x64 [0, 2, 3, 1, 4] q transposes_S2x8192x8x2x64_S2x8x2x8192x64_0_2_3_1_4) slices_S2x8x2x8192x64_S2x8x1x8192x64_0_0_0_0_0⟩,
      ⟨S2x8x1x8192x64, broadcastInDim S2x8x1x8192x64 ![] bcast_S_S2x8x1x8192x64 (constant S_ .bf16 0x0000#16)⟩] concatenates_S2x8x1x8192x64_S2x8x1x8192x64_S2x8x1x8192x128_d4⟩,
     ⟨S2x8x1x8192x128, concatenate S2x8x1x8192x128 4 [⟨S2x8x1x8192x64, broadcastInDim S2x8x1x8192x64 ![] bcast_S_S2x8x1x8192x64 (constant S_ .bf16 0x0000#16)⟩,
      ⟨S2x8x1x8192x64, extractStridedSlice S2x8x1x8192x64 ![0, 0, 1, 0, 0] (transpose S2x8x2x8192x64 [0, 2, 3, 1, 4] q transposes_S2x8192x8x2x64_S2x8x2x8192x64_0_2_3_1_4) slices_S2x8x2x8192x64_S2x8x1x8192x64_0_0_1_0_0⟩] concatenates_S2x8x1x8192x64_S2x8x1x8192x64_S2x8x1x8192x128_d4⟩]
    concatenates_S2x8x1x8192x128_S2x8x1x8192x128_S2x8x2x8192x128_d2) shapeCasts_S2x8x2x8192x128_S2x16x8192x128

/-- The values, transposed. -/
def prepV (v : FVec Ideal S2x8448x8x128 .bf16) : FVec Ideal S2x1024x8448 .bf16 :=
  transpose S2x1024x8448 [0, 2, 1] (shapeCast S2x8448x1024 v shapeCasts_S2x8448x8x128_S2x8448x1024) transposes_S2x8448x1024_S2x1024x8448_0_2_1

/-- The keys, heads and components side by side. -/
def prepK (k : FVec Ideal S2x8448x8x2x64 .bf16) : FVec Ideal S2x8448x1024 .bf16 :=
  shapeCast S2x8448x1024 k shapeCasts_S2x8448x8x2x64_S2x8448x1024

/-- The four weight vectors as rows. -/
def prepL (l1 k1 l2 k2 : FVec Ideal S64 .f32) : FVec Ideal S4x64 .f32 :=
  concatenate S4x64 0 [⟨S1x64, broadcastInDim S1x64 ![1] bcast_S64_S1x64_1 l1⟩, ⟨S1x64, broadcastInDim S1x64 ![1] bcast_S64_S1x64_1 k1⟩,
    ⟨S1x64, broadcastInDim S1x64 ![1] bcast_S64_S1x64_1 l2⟩, ⟨S1x64, broadcastInDim S1x64 ![1] bcast_S64_S1x64_1 k2⟩] concatenates_S1x64_S1x64_S1x64_S1x64_S4x64_d0

/-- The normalisation's weights as a column. -/
def prepG (g : FVec Ideal S128 .f32) : FVec Ideal S128x1 .f32 := shapeCast S128x1 g shapeCasts_S128_S128x1

theorem prepQ_read (q : FVec Ideal S2x8192x8x2x64 .bf16) (b : Fin 2) (H : Fin 16) (x : Fin 8192) (l : Fin 128) :
    prepQ q (ix4 b H x l) = (if h : H.val % 2 < 1 then if h1 : l.val < 64 then q (ix5 b x ⟨H.val / 2, by omega⟩ ⟨H.val % 2, by omega⟩ ⟨l.val, by omega⟩) else (0 : EReal)
      else if h1 : l.val < 64 then 0 else q (ix5 b x ⟨H.val / 2, by omega⟩ ⟨1 + (H.val % 2 - 1), by omega⟩ ⟨l.val - 64, by omega⟩)) := by
  pointwise [prepQ]

theorem prepQ_at (q : FVec Ideal S2x8192x8x2x64 .bf16) (b : Fin 2) (h : Fin 8) (g : Fin 2) (H : Fin 16) (hH : H.val = h.val * 2 + g.val) (x : Fin 8192) (l : Fin 128) :
    prepQ q (ix4 b H x l) = if l.val / 64 = g.val then q (ix5 b x h g ⟨l.val % 64, by omega⟩) else 0 := by
  rw [prepQ_read]
  obtain ⟨f, hf⟩ : ∃ f : Fin 8 → Fin 2 → Fin 64 → EReal, ∀ h g d, q (ix5 b x h g d) = f h g d := ⟨fun h g d => q (ix5 b x h g d), fun _ _ _ => rfl⟩
  simp only [hf]
  clear hf
  by_cases hp : H.val % 2 < 1 <;> by_cases hl : l.val < 64
  · have hc : l.val / 64 = g.val := by omega
    rw [dif_pos hp, dif_pos hl, if_pos hc]
    congr 1 <;> exact Fin.ext (by dsimp only; omega)
  · have hc : ¬l.val / 64 = g.val := by omega
    rw [dif_pos hp, dif_neg hl, if_neg hc]
  · have hc : ¬l.val / 64 = g.val := by omega
    rw [dif_neg hp, dif_pos hl, if_neg hc]
  · have hc : l.val / 64 = g.val := by omega
    rw [dif_neg hp, dif_neg hl, if_pos hc]
    congr 1 <;> exact Fin.ext (by dsimp only; omega)

theorem prepK_at (k : FVec Ideal S2x8448x8x2x64 .bf16) (b : Fin 2) (n : Fin 8448) (l : Fin 1024) :
    prepK k (ix3 b n l) = k (ix5 b n ⟨l.val / 128, by omega⟩ ⟨l.val / 64 % 2, by omega⟩ ⟨l.val % 64, by omega⟩) := by
  pointwise [prepK]

theorem prepV_at (v : FVec Ideal S2x8448x8x128 .bf16) (b : Fin 2) (n : Fin 8448) (l : Fin 1024) :
    prepV v (ix3 b l n) = v (ix4 b n ⟨l.val / 128, by omega⟩ ⟨l.val % 128, by omega⟩) := by
  pointwise [prepV]

theorem prepL_0 (l1 k1 l2 k2 : FVec Ideal S64 .f32) (d : Fin 64) : prepL l1 k1 l2 k2 (ix2 0 d) = l1 (ix1 d) := by
  pointwise [prepL]
theorem prepL_1 (l1 k1 l2 k2 : FVec Ideal S64 .f32) (d : Fin 64) : prepL l1 k1 l2 k2 (ix2 1 d) = k1 (ix1 d) := by
  pointwise [prepL]
theorem prepL_2 (l1 k1 l2 k2 : FVec Ideal S64 .f32) (d : Fin 64) : prepL l1 k1 l2 k2 (ix2 2 d) = l2 (ix1 d) := by
  pointwise [prepL]
theorem prepL_3 (l1 k1 l2 k2 : FVec Ideal S64 .f32) (d : Fin 64) : prepL l1 k1 l2 k2 (ix2 3 d) = k2 (ix1 d) := by
  pointwise [prepL]

theorem prepG_at (g : FVec Ideal S128 .f32) (r : Fin 128) : prepG g (ix2 r 0) = g (ix1 r) := by
  pointwise [prepG]

variable (m : (ℓ : Loc nD τ sig) → Buf (Elt Ideal) ℓ)

/-- The queries as launched. -/
abbrev aq (c : Dev nD) : FVec Ideal S2x8192x8x2x64 .bf16 := m ((c : Thread nD τ).loc main_arg0)
/-- The keys as launched. -/
abbrev ak (c : Dev nD) : FVec Ideal S2x8448x8x2x64 .bf16 := m ((c : Thread nD τ).loc main_arg1)
/-- The values as launched. -/
abbrev av (c : Dev nD) : FVec Ideal S2x8448x8x128 .bf16 := m ((c : Thread nD τ).loc main_arg2)
/-- The first weight vector as launched. -/
abbrev al1 (c : Dev nD) : FVec Ideal S64 .f32 := m ((c : Thread nD τ).loc main_arg3)
/-- The second weight vector as launched. -/
abbrev ak1 (c : Dev nD) : FVec Ideal S64 .f32 := m ((c : Thread nD τ).loc main_arg4)
/-- The third weight vector as launched. -/
abbrev al2 (c : Dev nD) : FVec Ideal S64 .f32 := m ((c : Thread nD τ).loc main_arg5)
/-- The fourth weight vector as launched. -/
abbrev ak2 (c : Dev nD) : FVec Ideal S64 .f32 := m ((c : Thread nD τ).loc main_arg6)
/-- The normalisation's weights as launched. -/
abbrev ag (c : Dev nD) : FVec Ideal S128 .f32 := m ((c : Thread nD τ).loc main_arg7)

theorem V_q (c : Dev nD) : V m c main_v7 = prepQ (m ((c : Thread nD τ).loc main_arg0)) := by
  unfold V; after_results; rfl
theorem V_k (c : Dev nD) : V m c main_v13 = prepK (m ((c : Thread nD τ).loc main_arg1)) := by
  unfold V; after_results; rfl
theorem V_v (c : Dev nD) : V m c main_v15 = prepV (m ((c : Thread nD τ).loc main_arg2)) := by
  unfold V; after_results; rfl
theorem V_l (c : Dev nD) : V m c main_v12 = prepL (m ((c : Thread nD τ).loc main_arg3)) (m ((c : Thread nD τ).loc main_arg4)) (m ((c : Thread nD τ).loc main_arg5)) (m ((c : Thread nD τ).loc main_arg6)) := by
  unfold V; after_results; rfl
theorem V_g (c : Dev nD) : V m c main_v16 = prepG (m ((c : Thread nD τ).loc main_arg7)) := by
  unfold V; after_results; rfl

/-- The windows' block indices at every grid point. -/
theorem idx : ∀ t : Fin cfg0.N, win0_0.index t = ![(grid0.coords t 0).val, (grid0.coords t 1).val, (grid0.coords t 2).val, 0]
    ∧ win0_1.index t = ![(grid0.coords t 0).val, 0, (grid0.coords t 1).val]
    ∧ win0_2.index t = ![(grid0.coords t 0).val, (grid0.coords t 1).val, 0] ∧ win0_3.index t = ![0, 0] ∧ win0_4.index t = ![0, 0]
    ∧ win0_5.index t = ![(grid0.coords t 0).val, (grid0.coords t 2).val, (grid0.coords t 1).val] :=
  (by decide +kernel : ∀ t : Fin grid0.N, _)

section Blocks
variable (c : Dev nD) (t : Fin cfg0.N) (b : Fin 2) (h : Fin 8) (hb : b.val = (grid0.coords t 0).val) (hh : h.val = (grid0.coords t 1).val)
include hb hh

/-- The array index under the query block's. -/
theorem emb_q (g : Fin 2) (x : Fin 2048) (X : Fin 8192) (hX : X.val = (grid0.coords t 2).val * 2048 + x.val) (d : Fin 128) (H : Fin 16) (hH : H.val = h.val * 2 + g.val) :
    (((cfg0.win 0).blk t).view.emb (ix4 0 g x d) : S2x16x8192x128.Idx) = ix4 b H X d := by
  blk_ext [idx t, hb, hh, hX, hH]

omit hb hh in
/-- The query window's array. -/
theorem V_q0 : (V m c (Pipeline.arrRef spec0 0) : FVec Ideal S2x16x8192x128 .bf16) = prepQ (aq m c) := V_q m c

omit hb hh in
/-- The query block read at an index. -/
theorem read_q (A : FVec Ideal S2x16x8192x128 .bf16) (g : Fin 2) (x : Fin 2048) (X : Fin 8192) (d : Fin 128) (H : Fin 16) (he : (((cfg0.win 0).blk t).view.emb (ix4 0 g x d) : S2x16x8192x128.Idx) = ix4 b H X d) :
    (((cfg0.win 0).blk t).view.read (Elt Ideal) A : FVec Ideal S1x2x2048x128 .bf16) (ix4 0 g x d) = A (ix4 b H X d) := congrArg A he

omit hb hh in
/-- The query block is that block of the prepared queries. -/
theorem iblk_q : (iblk m c 0 t : FVec Ideal S1x2x2048x128 .bf16) = (((cfg0.win 0).blk t).view.read (Elt Ideal) (prepQ (aq m c)) : FVec Ideal S1x2x2048x128 .bf16) := by
  unfold iblk
  exact congrArg (((cfg0.win 0).blk t).view.read (Elt Ideal)) (V_q0 m c)

/-- The query block: head `h`'s queries, each component in its half of the lanes with zeros in the other. -/
theorem blk_q (g : Fin 2) (x : Fin 2048) (X : Fin 8192) (hX : X.val = (grid0.coords t 2).val * 2048 + x.val) (d : Fin 128) :
    (iblk m c 0 t : FVec Ideal S1x2x2048x128 .bf16) (ix4 0 g x d) = if d.val / 64 = g.val then aq m c (ix5 b X h g ⟨d.val % 64, by omega⟩) else 0 := by
  rw [iblk_q]
  exact (read_q t b _ g x X d _ (emb_q t b h hb hh g x X hX d ⟨h.val * 2 + g.val, by omega⟩ rfl)).trans (prepQ_at (aq m c) b h g ⟨h.val * 2 + g.val, by omega⟩ rfl X d)

/-- The key block: head `h`'s two components side by side. -/
theorem blk_k (n : Fin 8448) (d : Fin 128) :
    (iblk m c 1 t : FVec Ideal S1x8448x128 .bf16) (ix3 0 n d) = ak m c (ix5 b n h ⟨d.val / 64, by omega⟩ ⟨d.val % 64, by omega⟩) := by
  have he : (((cfg0.win 1).blk t).view.emb (ix3 0 n d) : S2x8448x1024.Idx) = ix3 b n ⟨h.val * 128 + d.val, by omega⟩ := by
    blk_ext [idx t, hb, hh]
  refine (congrArg (V m c main_v13) he).trans ?_
  rw [V_k, prepK_at]
  congr 2 <;> exact Fin.ext (by dsimp only; omega)

/-- The value block: head `h`'s values, transposed. -/
theorem blk_v (n : Fin 8448) (r : Fin 128) :
    (iblk m c 2 t : FVec Ideal S1x128x8448 .bf16) (ix3 0 r n) = av m c (ix4 b n h r) := by
  have he : (((cfg0.win 2).blk t).view.emb (ix3 0 r n) : S2x1024x8448.Idx) = ix3 b ⟨h.val * 128 + r.val, by omega⟩ n := by
    blk_ext [idx t, hb, hh]
  refine (congrArg (V m c main_v15) he).trans ?_
  rw [V_v, prepV_at]
  congr 2 <;> exact Fin.ext (by dsimp only; omega)

omit hb hh in
/-- The window array of the weight vectors. -/
theorem V_l0 : (V m c (Pipeline.arrRef spec0 3) : FVec Ideal S4x64 .f32) = prepL (al1 m c) (ak1 m c) (al2 m c) (ak2 m c) := V_l m c

omit hb hh in
/-- Its block is the whole of it. -/
theorem blk_l : (iblk m c 3 t : FVec Ideal S4x64 .f32) = prepL (al1 m c) (ak1 m c) (al2 m c) (ak2 m c) := by
  have he : ∀ (j : Fin 4) (d : Fin 64), (((cfg0.win 3).blk t).view.emb (ix2 j d) : S4x64.Idx) = ix2 j d := fun j d => by
    blk_ext [idx t]
  have hr : ∀ A : FVec Ideal S4x64 .f32, (((cfg0.win 3).blk t).view.read (Elt Ideal) A : FVec Ideal S4x64 .f32) = A := fun A => funext fun y => by
    rw [eq_ix2 y]
    exact congrArg A (he _ _)
  unfold iblk
  exact (congrArg (((cfg0.win 3).blk t).view.read (Elt Ideal)) (V_l0 m c)).trans (hr _)

omit hb hh in
/-- The block of the normalisation's weights. -/
theorem blk_g (r : Fin 128) : (iblk m c 4 t : FVec Ideal S128x1 .f32) (ix2 r 0) = ag m c (ix1 r) := by
  have he : (((cfg0.win 4).blk t).view.emb (ix2 r 0) : S128x1.Idx) = ix2 r 0 := by
    blk_ext [idx t]
  refine (congrArg (V m c main_v16) he).trans ?_
  rw [V_g, prepG_at]

omit hb hh in
/-- The body's factor is the reference's. -/
theorem lam_eq : lamOf (iblk m c 3 t) = lamR (al1 m c) (ak1 m c) (al2 m c) (ak2 m c) := by
  rw [blk_l m c t]
  unfold lamOf lamR
  simp only [prepL_0, prepL_1, prepL_2, prepL_3]

/-- Attention of the blocks is attention of the arrays: the other component's keys meet zeros. -/
theorem att_eq (g : Fin 2) (x : Fin 2048) (X : Fin 8192) (hX : X.val = (grid0.coords t 2).val * 2048 + x.val) (r : Fin 128) :
    att (iblk m c 0 t) (iblk m c 1 t) (iblk m c 2 t) r g x
      = attn (aq m c) (ak m c) (av m c) b X h g r := by
  unfold att attn
  simp only [blk_q m c t b h hb hh g x X hX, blk_k m c t b h hb hh, blk_v m c t b h hb hh]
  refine congrArg (mean _) (funext fun n => ?_)
  refine sum_half g.val g.isLt (fun d : Fin 64 => ak m c (ix5 b n h g d) * aq m c (ix5 b X h g d)) (fun d hd => ?_) (fun d hd => ?_)
  · rw [if_pos hd]
    have e : (⟨d.val / 64, by omega⟩ : Fin 2) = g := Fin.ext hd
    rw [e]
  · rw [if_neg hd]; exact mul_zero _

end Blocks

/-- What a grid point stores. -/
def outB (c : Dev nD) (t : Fin cfg0.N) (y : S1x2048x128.Idx) : Ideal .bf16 :=
  norm (fun r => att (iblk m c 0 t) (iblk m c 1 t) (iblk m c 2 t) r 0 ⟨(y 1).val, (y 1).isLt⟩ - lamOf (iblk m c 3 t) * att (iblk m c 0 t) (iblk m c 1 t) (iblk m c 2 t) r 1 ⟨(y 1).val, (y 1).isLt⟩)
    (fun r => (iblk m c 4 t : FVec Ideal S128x1 .f32) (ix2 r 0)) ⟨(y 2).val, (y 2).isLt⟩

/-- The values and the four weight vectors are real numbers. -/
structure Real3 (c : Dev nD) : Prop where
  v : ∀ b n h d, ∃ y : ℝ, av m c (ix4 b n h d) = (y : EReal)
  l1 : ∀ d, ∃ y : ℝ, al1 m c (ix1 d) = (y : EReal)
  k1 : ∀ d, ∃ y : ℝ, ak1 m c (ix1 d) = (y : EReal)
  l2 : ∀ d, ∃ y : ℝ, al2 m c (ix1 d) = (y : EReal)
  k2 : ∀ d, ∃ y : ℝ, ak2 m c (ix1 d) = (y : EReal)

/-- The body stores that. -/
theorem out_eq (c : Dev nD) (t : Fin cfg0.N) (Q : S128x4096.Idx → Ideal .bf16) (σ : St Ideal) (ob : FVec Ideal S1x2048x128 .bf16) :
    finF (iblk m c 3 t) (iblk m c 4 t) (bodyF (F := Ideal) (iblk m c 0 t) (iblk m c 1 t) (iblk m c 2 t) Q σ).a ob = outB m c t := by
  funext y
  idx_vars y
  have hy : y0 = 0 := Subsingleton.elim _ _
  subst hy
  exact fin_at _ _ Q σ ob y1 y2

variable (hr : ∀ c, Real3 m c)
include hr

/-- What the body stores at a block index is the reference's term at the array index under it. -/
theorem point (c : Dev nD) (t : Fin cfg0.N) (y : S1x2048x128.Idx) :
    (dats m (outB m) 0 c).after 5 t y = REF (aq m c) (ak m c) (av m c) (al1 m c) (ak1 m c) (al2 m c) (ak2 m c) (ag m c) (((cfg0.win 5).blk t).view.emb y) := by
  idx_vars y
  have hy : y0 = 0 := Subsingleton.elim _ _
  subst hy
  obtain ⟨b, hb⟩ : ∃ b : Fin 2, b.val = (grid0.coords t 0).val := ⟨⟨_, (grid0.coords t 0).isLt⟩, rfl⟩
  obtain ⟨h, hh⟩ : ∃ h : Fin 8, h.val = (grid0.coords t 1).val := ⟨⟨_, (grid0.coords t 1).isLt⟩, rfl⟩
  have h2 : (grid0.coords t 2).val < 4 := (grid0.coords t 2).isLt
  obtain ⟨X, hX⟩ : ∃ r : Fin 8192, r.val = (grid0.coords t 2).val * 2048 + y1.val := ⟨⟨_, by omega⟩, rfl⟩
  have he : (((cfg0.win 5).blk t).view.emb (ix3 0 y1 y2) : Cert.Reference3Ideal.S2x8192x1024.Idx) = ix3 b X ⟨h.val * 128 + y2.val, by omega⟩ := by
    blk_ext [idx t, hb, hh, hX]
  have hl : ∃ y : ℝ, lamR (al1 m c) (ak1 m c) (al2 m c) (ak2 m c) = (y : EReal) := lamR_real _ _ _ _ (hr c).l1 (hr c).k1 (hr c).l2 (hr c).k2
  rw [he, after0_5]
  refine Eq.trans ?_ (ref_at _ _ _ _ _ _ _ (ag m c) (hr c).v hl b X _ h y2 (by dsimp only; omega) (by dsimp only; omega)).symm
  unfold outB
  rw [lam_eq m c t]
  simp only [blk_g m c t]
  refine congrArg (norm · _ y2) (funext fun r => ?_)
  exact congrArg₂ (fun u w : EReal => u - _ * w) (att_eq m c t b h hb hh 0 y1 X hX r) (att_eq m c t b h hb hh 1 y1 X hX r)

/-- The result array after the run is the reference's term of the arguments. -/
theorem final (c : Dev nD) : (dats m (outB m) 0 c).arrAt 5 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m (outB m) 0 c).arrAt_eq_of_covers 5 _ (by decide +kernel) fun t _ y => ?_
  blk_simp
  exact point m hr c t y

/-- The run leaves the reference's term of the arguments, and the arguments as they were. -/
theorem run_value (ρ : Dev nD → PrngReg) : θ_run defs (onTc (τ := τ) (main (F := Ideal))) ⟨m, fun _ => 0, ρ⟩ fun r => ∀ c : Dev nD,
    r.2.mem ((c.tc : Thread nD τ).loc main_v17) = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  (θ_run defs _ _).mono (fun _ h c => ⟨((h c).1 5).trans (final m hr c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_exact m ρ (outB m) (out_eq m))

end Cert.Diff

/-! ## The claims -/

/-- The precondition's side conditions. -/
theorem Cert.Diff.pre_facts : Cert.Pre_finite3.Facts where
  bitsLt_bf16_f32 := by decide
  bcast_S_S2x8448x8x128 := by decide
  bcast_S_S64 := by decide

namespace Cert.Diff
open Idealize.ShloMosaic
open Cert.Flash (real_of_lt)

/-- Under the precondition those arrays are real numbers. -/
theorem real3 (m : (ℓ : Loc Cert.Kernel3Ideal.nD Cert.Kernel3Ideal.τ Cert.Kernel3Ideal.sig) → Buf (Elt Ideal) ℓ) (h : @Cert.Pre_Kernel3Ideal_finite3 pre_facts m) : ∀ c, Real3 m c := by
  intro c
  obtain ⟨h2, h3, h4, h5, h6⟩ := h c
  exact ⟨fun b n h d => real_of_lt (congrFun h2 (ix4 b n h d)),
    fun d => real_of_lt (congrFun h3 (ix1 d)), fun d => real_of_lt (congrFun h4 (ix1 d)), fun d => real_of_lt (congrFun h5 (ix1 d)), fun d => real_of_lt (congrFun h6 (ix1 d))⟩

/-- Kernel and reference, from memories agreeing on the arguments, end with equal results. -/
theorem algebraic : @Cert.algebraic_Kernel3Ideal_Reference3Ideal_pre_finite3 Cert.Kernel3Ideal.Gen.facts Cert.Reference3Ideal.Gen.facts pre_facts := by
  intro m g m' g' hpre hagree
  refine ⟨_, run_value m (real3 m hpre) g, ?_⟩
  refine (θ_run Cert.Reference3Ideal.defs _ _).mono (fun r h c => ⟨(h c).1.trans ?_, (h c).2⟩) (run_ref m' g')
  obtain ⟨h0, h1, h2, h3, h4, h5, h6, h7⟩ := hagree c
  rw [h0, h1, h2, h3, h4, h5, h6, h7]

end Cert.Diff

end
-- ==== Proof.Conv.Taps.lean ====
/- The depthwise convolution of the post call's second scratch buffer: each of the four trips of the body's loop writes eight
   blocks of 128 rows and 128 columns, and each block holds, at every index, the bias and the 31 products of that column's taps
   with the rows of the first scratch buffer. -/
module

public import proofs.«01_k».proof.Proof.Gen.Kernel4Ideal.Frame
public import proofs.«01_k».proof.Defs
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Conv

open Cert.Kernel4Ideal Cert.Kernel4Ideal.Gen

/-- The 31 taps as the body adds them: by the shift modulo eight, the bias first. -/
theorem taps_nat (b : EReal) (g : ℕ → EReal) :
    (((((((((((((((((((((((((((((((b + g 7) + g 15) + g 23) + g 0) + g 8) + g 16) + g 24) + g 1) + g 9) + g 17) + g 25) + g 2) + g 10) + g 18) + g 26) + g 3) + g 11) + g 19) + g 27) + g 4) + g 12) + g 20) + g 28) + g 5) + g 13) + g 21) + g 29) + g 6) + g 14) + g 22) + g 30) = b + ∑ k : Fin 31, g k.val := by
  rw [Fin.sum_univ_eq_sum_range g 31]
  simp only [Finset.sum_range_succ, Finset.sum_range_zero]
  abel

theorem taps_sum (b : EReal) (f : Fin 31 → EReal) :
    (((((((((((((((((((((((((((((((b + f 7) + f 15) + f 23) + f 0) + f 8) + f 16) + f 24) + f 1) + f 9) + f 17) + f 25) + f 2) + f 10) + f 18) + f 26) + f 3) + f 11) + f 19) + f 27) + f 4) + f 12) + f 20) + f 28) + f 5) + f 13) + f 21) + f 29) + f 6) + f 14) + f 22) + f 30) = b + ∑ k : Fin 31, f k := by
  have h := taps_nat b fun n => if h : n < 31 then f ⟨n, h⟩ else 0
  simpa using h

/-- The buffer at a row number. -/
def rowAt (B : FVec Ideal S544x1024 .f32) (n : ℕ) (d : Fin 1024) : EReal := if h : n < 544 then B (ix2 ⟨n, h⟩ d) else 0

theorem rowAt_of (B : FVec Ideal S544x1024 .f32) (n : Fin 544) (m : ℕ) (d : Fin 1024) (h : n.val = m) : (B (ix2 n d) : EReal) = rowAt B m d := by
  subst h
  exact (dif_pos (α := EReal) (c := n.val < 544) (t := fun h => B (ix2 ⟨n.val, h⟩ d)) (e := fun _ => 0) n.isLt).symm

/-- The convolution at row `r`, column `d`: the bias and the 31 products, tap `k` with the buffer's row `r + k + 1`. -/
def conv (B : FVec Ideal S544x1024 .f32) (W : FVec Ideal S31x1024 .f32) (b : FVec Ideal S1x1024 .f32) (y : S512x1024.Idx) : EReal :=
  (b (ix2 0 (y 1)) : EReal) + ∑ k : Fin 31, (W (ix2 k (y 1)) : EReal) * rowAt B ((y 0).val + k.val + 1) (y 1)

/-- The pieces trip `k` writes at grid point `t`. -/
abbrev tripAt (c : Dev nD) (t : Fin cfg0.N) (x0 : FVec Ideal S512x1024 .f32) (x1 : FVec Ideal S6x1024 .f32) (W : FVec Ideal S31x1024 .f32) (b : FVec Ideal S1x1024 .f32)
    (x5 : BufTy.Contents (Elt Ideal) scM0_0.view.ty) (k : Fin k0_t1_loop.trips) : List (View.Piece (Elt Ideal) S512x1024 .f32) :=
  tripL_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) x0 x1 (0#32) (4#32) ((hs0_4 t).unread W) ((hs0_5 t).unread b) x5 k

/-- A 128-row block of the second scratch buffer, placed. -/
theorem place (k : Fin k0_t1_loop.trips) (o : ℕ) (ho : o + 128 ≤ 1024) {off : Fin 2 → ℕ} (inb) (h : off = ![128 * k.val, o]) (r : Fin 128) (x : Fin 128) :
    (Rect.unit (s := S512x1024) off S128x128.size inb).emb (ix2 r x) = ix2 ⟨128 * k.val + r.val, by have : k.val < 4 := k.isLt; omega⟩ ⟨o + x.val, by omega⟩ := by
  subst h
  funext a
  refine Fin.ext ?_
  refine (Rect.idx_unit_val _ _ inb _ a).trans ?_
  match a with
  | 0 => rfl
  | 1 => rfl

set_option maxHeartbeats 0 in
/-- Every block trip `k` writes holds the convolution. -/
theorem trip_piece (c : Dev nD) (t : Fin cfg0.N) (x0 x1 W b x5 k) (p) (hp : p ∈ tripAt c t x0 x1 W b x5 k) (x : p.1.shape.Idx) :
    p.2 x = conv (scM0_0.view.read (Elt Ideal) x5) W b (p.1.emb x) := by
  have hk : k.val < 4 := k.isLt
  unfold tripAt tripL_k0_t1 trip_k0_t1 at hp
  dsimp only at hp
  simp only [List.mem_cons, List.not_mem_nil, or_false] at hp
  rcases hp with rfl | rfl | rfl | rfl | rfl | rfl | rfl | rfl
  · idx_vars x
    sl_unfold_words
    simp only [View.readAt_eq_ld, Memref.IsWhole.read_unread]
    have ho := congrFun (k0_off15_eq k) 0
    simp only [k0_off15, Matrix.cons_val_zero] at ho
    have he := place k 896 (by decide) (k0_off16_inb k) (k0_off16_eq k) x0 x1
    refine Eq.trans ?_ (congrArg (conv _ _ _) he).symm
    pointwise [k0_pay77, k0_pay78, k0_pay79, k0_pay80, k0_pay81, k0_pay82, k0_pay83, k0_pay84, k0_pay85, k0_pay86, k0_pay87, k0_pay88, k0_pay89, k0_pay90, k0_pay91, k0_pay92, k0_pay98]
    refine Eq.trans ?_ (taps_sum _ fun j => (W (ix2 j ⟨896 + x1.val, by omega⟩) : EReal) * rowAt (View.read (Elt Ideal) scM0_0.view x5) (128 * k.val + x0.val + j.val + 1) ⟨896 + x1.val, by omega⟩)
    have hx := x0.isLt
    repeat refine congrArg₂ HAdd.hAdd ?_ (congrArg₂ HMul.hMul rfl (rowAt_of _ _ _ _ (by dsimp only; omega)))
    rfl
  · idx_vars x
    sl_unfold_words
    simp only [View.readAt_eq_ld, Memref.IsWhole.read_unread]
    have ho := congrFun (k0_off13_eq k) 0
    simp only [k0_off13, Matrix.cons_val_zero] at ho
    have he := place k 768 (by decide) (k0_off14_inb k) (k0_off14_eq k) x0 x1
    refine Eq.trans ?_ (congrArg (conv _ _ _) he).symm
    pointwise [k0_pay66, k0_pay67, k0_pay68, k0_pay69, k0_pay70, k0_pay71, k0_pay72, k0_pay73, k0_pay74, k0_pay75, k0_pay76]
    refine Eq.trans ?_ (taps_sum _ fun j => (W (ix2 j ⟨768 + x1.val, by omega⟩) : EReal) * rowAt (View.read (Elt Ideal) scM0_0.view x5) (128 * k.val + x0.val + j.val + 1) ⟨768 + x1.val, by omega⟩)
    have hx := x0.isLt
    repeat refine congrArg₂ HAdd.hAdd ?_ (congrArg₂ HMul.hMul rfl (rowAt_of _ _ _ _ (by dsimp only; omega)))
    rfl
  · idx_vars x
    sl_unfold_words
    simp only [View.readAt_eq_ld, Memref.IsWhole.read_unread]
    have ho := congrFun (k0_off11_eq k) 0
    simp only [k0_off11, Matrix.cons_val_zero] at ho
    have he := place k 640 (by decide) (k0_off12_inb k) (k0_off12_eq k) x0 x1
    refine Eq.trans ?_ (congrArg (conv _ _ _) he).symm
    pointwise [k0_pay50, k0_pay51, k0_pay52, k0_pay53, k0_pay54, k0_pay55, k0_pay56, k0_pay57, k0_pay58, k0_pay59, k0_pay60, k0_pay61, k0_pay62, k0_pay63, k0_pay64, k0_pay65]
    refine Eq.trans ?_ (taps_sum _ fun j => (W (ix2 j ⟨640 + x1.val, by omega⟩) : EReal) * rowAt (View.read (Elt Ideal) scM0_0.view x5) (128 * k.val + x0.val + j.val + 1) ⟨640 + x1.val, by omega⟩)
    have hx := x0.isLt
    repeat refine congrArg₂ HAdd.hAdd ?_ (congrArg₂ HMul.hMul rfl (rowAt_of _ _ _ _ (by dsimp only; omega)))
    rfl
  · idx_vars x
    sl_unfold_words
    simp only [View.readAt_eq_ld, Memref.IsWhole.read_unread]
    have ho := congrFun (k0_off9_eq k) 0
    simp only [k0_off9, Matrix.cons_val_zero] at ho
    have he := place k 512 (by decide) (k0_off10_inb k) (k0_off10_eq k) x0 x1
    refine Eq.trans ?_ (congrArg (conv _ _ _) he).symm
    pointwise [k0_pay38, k0_pay39, k0_pay40, k0_pay41, k0_pay42, k0_pay43, k0_pay44, k0_pay45, k0_pay46, k0_pay47, k0_pay48, k0_pay49]
    refine Eq.trans ?_ (taps_sum _ fun j => (W (ix2 j ⟨512 + x1.val, by omega⟩) : EReal) * rowAt (View.read (Elt Ideal) scM0_0.view x5) (128 * k.val + x0.val + j.val + 1) ⟨512 + x1.val, by omega⟩)
    have hx := x0.isLt
    repeat refine congrArg₂ HAdd.hAdd ?_ (congrArg₂ HMul.hMul rfl (rowAt_of _ _ _ _ (by dsimp only; omega)))
    rfl
  · idx_vars x
    sl_unfold_words
    simp only [View.readAt_eq_ld, Memref.IsWhole.read_unread]
    have ho := congrFun (k0_off7_eq k) 0
    simp only [k0_off7, Matrix.cons_val_zero] at ho
    have he := place k 384 (by decide) (k0_off8_inb k) (k0_off8_eq k) x0 x1
    refine Eq.trans ?_ (congrArg (conv _ _ _) he).symm
    pointwise [k0_pay33, k0_pay34, k0_pay35, k0_pay36, k0_pay37]
    refine Eq.trans ?_ (taps_sum _ fun j => (W (ix2 j ⟨384 + x1.val, by omega⟩) : EReal) * rowAt (View.read (Elt Ideal) scM0_0.view x5) (128 * k.val + x0.val + j.val + 1) ⟨384 + x1.val, by omega⟩)
    have hx := x0.isLt
    repeat refine congrArg₂ HAdd.hAdd ?_ (congrArg₂ HMul.hMul rfl (rowAt_of _ _ _ _ (by dsimp only; omega)))
    rfl
  · idx_vars x
    sl_unfold_words
    simp only [View.readAt_eq_ld, Memref.IsWhole.read_unread]
    have ho := congrFun (k0_off5_eq k) 0
    simp only [k0_off5, Matrix.cons_val_zero] at ho
    have he := place k 256 (by decide) (k0_off6_inb k) (k0_off6_eq k) x0 x1
    refine Eq.trans ?_ (congrArg (conv _ _ _) he).symm
    pointwise [k0_pay20, k0_pay21, k0_pay22, k0_pay23, k0_pay24, k0_pay25, k0_pay26, k0_pay27, k0_pay28, k0_pay29, k0_pay30, k0_pay31, k0_pay32]
    refine Eq.trans ?_ (taps_sum _ fun j => (W (ix2 j ⟨256 + x1.val, by omega⟩) : EReal) * rowAt (View.read (Elt Ideal) scM0_0.view x5) (128 * k.val + x0.val + j.val + 1) ⟨256 + x1.val, by omega⟩)
    have hx := x0.isLt
    repeat refine congrArg₂ HAdd.hAdd ?_ (congrArg₂ HMul.hMul rfl (rowAt_of _ _ _ _ (by dsimp only; omega)))
    rfl
  · idx_vars x
    sl_unfold_words
    simp only [View.readAt_eq_ld, Memref.IsWhole.read_unread]
    have ho := congrFun (k0_off3_eq k) 0
    simp only [k0_off3, Matrix.cons_val_zero] at ho
    have he := place k 128 (by decide) (k0_off4_inb k) (k0_off4_eq k) x0 x1
    refine Eq.trans ?_ (congrArg (conv _ _ _) he).symm
    pointwise [k0_pay11, k0_pay12, k0_pay13, k0_pay14, k0_pay15, k0_pay16, k0_pay17, k0_pay18, k0_pay19]
    refine Eq.trans ?_ (taps_sum _ fun j => (W (ix2 j ⟨128 + x1.val, by omega⟩) : EReal) * rowAt (View.read (Elt Ideal) scM0_0.view x5) (128 * k.val + x0.val + j.val + 1) ⟨128 + x1.val, by omega⟩)
    have hx := x0.isLt
    repeat refine congrArg₂ HAdd.hAdd ?_ (congrArg₂ HMul.hMul rfl (rowAt_of _ _ _ _ (by dsimp only; omega)))
    rfl
  · idx_vars x
    sl_unfold_words
    simp only [View.readAt_eq_ld, Memref.IsWhole.read_unread]
    have ho := congrFun (k0_off1_eq k) 0
    simp only [k0_off1, Matrix.cons_val_zero] at ho
    have he := place k 0 (by decide) (k0_off2_inb k) (k0_off2_eq k) x0 x1
    refine Eq.trans ?_ (congrArg (conv _ _ _) he).symm
    pointwise [k0_pay2, k0_pay3, k0_pay4, k0_pay5, k0_pay6, k0_pay7, k0_pay8, k0_pay9, k0_pay10]
    refine Eq.trans ?_ (taps_sum _ fun j => (W (ix2 j ⟨x1.val, by omega⟩) : EReal) * rowAt (View.read (Elt Ideal) scM0_0.view x5) (128 * k.val + x0.val + j.val + 1) ⟨x1.val, by omega⟩)
    have hx := x0.isLt
    repeat refine congrArg₂ HAdd.hAdd ?_ (congrArg₂ HMul.hMul rfl (rowAt_of _ _ _ _ (by dsimp only; omega)))
    rfl

end Cert.Conv
-- ==== Proof.Conv.Buffers.lean ====
/- The two scratch buffers of the post call with a convolution, at a grid point: the first holds the tokens' rows of the block and of
   its two neighbours, zero before the first and after the last token; the second holds their depthwise convolution. -/
module

public import proofs.«01_k».proof.Proof.Conv.Taps
public import Idealize.ShloMosaic.Lib.WritesUnit

@[expose] public section

set_option maxRecDepth 16384

noncomputable section

open Idealize.ShloMosaic Idealize.ShloMosaic.TcCoe Idealize.SL.Sem

namespace Cert.Conv

open Cert.Kernel4Ideal Cert.Kernel4Ideal.Gen

/-- The pieces the first `n` trips write at grid point `t`. -/
abbrev piecesAt (c : Dev nD) (t : Fin cfg0.N) (x0 : FVec Ideal S512x1024 .f32) (x1 : FVec Ideal S6x1024 .f32) (W : FVec Ideal S31x1024 .f32) (b : FVec Ideal S1x1024 .f32)
    (x5 : BufTy.Contents (Elt Ideal) scM0_0.view.ty) (n : ℕ) : List (View.Piece (Elt Ideal) S512x1024 .f32) :=
  pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) x0 x1 (0#32) (4#32) ((hs0_4 t).unread W) ((hs0_5 t).unread b) x5 n

/-- Every piece of the loop holds the convolution. -/
theorem pieces_conv (c : Dev nD) (t : Fin cfg0.N) (x0 x1 W b x5) (n : ℕ) (hn : n ≤ 4) : ∀ p ∈ piecesAt c t x0 x1 W b x5 n, ∀ x : p.1.shape.Idx,
    p.2 x = conv (scM0_0.view.read (Elt Ideal) x5) W b (p.1.emb x) := by
  induction n with
  | zero => intro p hp; exact absurd hp List.not_mem_nil
  | succ n ih =>
    intro p hp x
    have hs : piecesAt c t x0 x1 W b x5 (n + 1) = tripAt c t x0 x1 W b x5 ⟨n, hn⟩ ++ piecesAt c t x0 x1 W b x5 n :=
      pb_k0_t1_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) x0 x1 (0#32) (4#32) ((hs0_4 t).unread W) ((hs0_5 t).unread b) x5 ⟨n, hn⟩
    rw [hs] at hp
    rcases List.mem_append.mp hp with h | h
    · exact trip_piece c t x0 x1 W b x5 ⟨n, hn⟩ p h x
    · exact ih (by omega) p h x

/-- The loop's pieces fill the buffer. -/
theorem pieces_cover (c : Dev nD) (t : Fin cfg0.N) (x0 x1 W b x5) (y : S512x1024.Idx) :
    ∃ p ∈ piecesAt c t x0 x1 W b x5 (Scf.trips k0_t1_loop.lb k0_t1_loop.ub k0_t1_loop.st), y ∈ p.1.set :=
  View.cover_of_tiledL (piecesAt c t x0 x1 W b x5 (Scf.trips k0_t1_loop.lb k0_t1_loop.ub k0_t1_loop.st)) S128x128.size (by sl_kernel_rfl) y

/-- The second scratch buffer, read whole after the loop, is the convolution of the first. -/
theorem conv_read (c : Dev nD) (t : Fin cfg0.N) (x0 x1 W b x5) (inb) :
    (View.whole cc0_scratch1).readCov (piecesAt c t x0 x1 W b x5 (Scf.trips k0_t1_loop.lb k0_t1_loop.ub k0_t1_loop.st)) (Rect.unit ![0, 0] S512x1024.size inb).toLoadRect
      = conv (scM0_0.view.read (Elt Ideal) x5) W b := by
  refine (View.readCov_eq_canon_ld _ _ _ (pieces_cover c t x0 x1 W b x5)).trans ?_
  have h : View.canon (piecesAt c t x0 x1 W b x5 (Scf.trips k0_t1_loop.lb k0_t1_loop.ub k0_t1_loop.st)) = conv (scM0_0.view.read (Elt Ideal) x5) W b :=
    funext fun y => View.canon_apply_of_pieces _ _ (fun p hp x => pieces_conv c t x0 x1 W b x5 4 (le_refl _) p hp x) y (pieces_cover c t x0 x1 W b x5 y)
  rw [h]
  funext y
  idx_vars y
  pointwise []

/-- The three pieces the body writes to the first scratch buffer before the loop. -/
abbrev rows (i : grid0.Coords) (p1 : FVec Ideal S1x16x1024 .bf16) (p2 : FVec Ideal S1x512x1024 .bf16) (p3 : FVec Ideal S1x16x1024 .bf16)
    (h1 : ∀ a, (![0, 0] : Fin 2 → ℕ) a + (![16, 1024] : Fin 2 → ℕ) a ≤ S544x1024.size a) (h2 : ∀ a, (![16, 0] : Fin 2 → ℕ) a + (![512, 1024] : Fin 2 → ℕ) a ≤ S544x1024.size a)
    (h3 : ∀ a, (![528, 0] : Fin 2 → ℕ) a + (![16, 1024] : Fin 2 → ℕ) a ≤ S544x1024.size a) : List (View.Piece (Elt Ideal) S544x1024 .f32) :=
  [⟨Rect.unit (s := S544x1024) ![528, 0] ![16, 1024] h3, k0_pay97 (F := Ideal) i p3⟩, ⟨Rect.unit (s := S544x1024) ![16, 0] ![512, 1024] h2, k0_pay96 (F := Ideal) p2⟩,
    ⟨Rect.unit (s := S544x1024) ![0, 0] ![16, 1024] h1, k0_pay95 (F := Ideal) i p1⟩]

/-- Whether there is a block before. -/
theorem first_block : ∀ j : Fin 16, Scalar.cmpi .sgt (BitVec.ofNat 32 j.val) 0#32 = if 0 < j.val then 1#1 else 0#1 := by decide +kernel

/-- Whether there is a block after. -/
theorem last_block : ∀ j : Fin 16, Scalar.cmpi .slt (BitVec.ofNat 32 j.val) 15#32 = if j.val < 15 then 1#1 else 0#1 := by decide +kernel

/-- The halo before, zero at the first block. -/
theorem pay_before (i : grid0.Coords) (p : FVec Ideal S1x16x1024 .bf16) (n : Fin 16) (d : Fin 1024) :
    k0_pay95 (F := Ideal) i p (ix2 n d) = if 0 < (i 1).val then (p (ix3 0 n d) : EReal) else 0 := by
  unfold k0_pay95
  dsimp only
  rw [first_block (i 1)]
  by_cases h : 0 < (i 1).val
  · rw [if_pos h, if_pos h]
    pointwise []
  · rw [if_neg h, if_neg h]
    pointwise []

/-- The halo after, zero at the last block. -/
theorem pay_after (i : grid0.Coords) (p : FVec Ideal S1x16x1024 .bf16) (n : Fin 16) (d : Fin 1024) :
    k0_pay97 (F := Ideal) i p (ix2 n d) = if (i 1).val < 15 then (p (ix3 0 n d) : EReal) else 0 := by
  unfold k0_pay97
  dsimp only
  rw [last_block (i 1)]
  by_cases h : (i 1).val < 15
  · rw [if_pos h, if_pos h]
    pointwise []
  · rw [if_neg h, if_neg h]
    pointwise []

variable (f : BufTy.Contents (Elt Ideal) scM0_0.view.ty)

/-- The buffer's rows 0 to 15 are the end of the block before, or zero at the first block. -/
theorem rows_before (i p1 p2 p3 h1 h2 h3) (n : ℕ) (hn : n < 16) (d : Fin 1024) :
    rowAt (scM0_0.view.read (Elt Ideal) ((View.whole cc0_scratch0).writes (Elt Ideal) f (rows i p1 p2 p3 h1 h2 h3))) n d
      = if 0 < (i 1).val then (p1 (ix3 0 ⟨n, hn⟩ d) : EReal) else 0 := by
  rw [← rowAt_of _ ⟨n, by omega⟩ n d rfl]
  refine (View.read_writes_cons_rows_of_not_mem (View.whole cc0_scratch0) f h3 _ _ (ix2 ⟨n, by omega⟩ d) rfl rfl (by left; show n < 528; omega)).trans ?_
  refine (View.read_writes_cons_rows_of_not_mem (View.whole cc0_scratch0) f h2 _ _ (ix2 ⟨n, by omega⟩ d) rfl rfl (by left; show n < 16; omega)).trans ?_
  refine (View.read_writes_cons_rows_of_mem (View.whole cc0_scratch0) f h1 _ _ (ix2 ⟨n, by omega⟩ d) (ix2 ⟨n, hn⟩ d) rfl (by show n = 0 + n; omega) rfl).trans ?_
  exact pay_before i p1 ⟨n, hn⟩ d

/-- The buffer's rows 16 to 527 are the block. -/
theorem rows_centre (i p1 p2 p3 h1 h2 h3) (n : ℕ) (hn : n < 512) (d : Fin 1024) :
    rowAt (scM0_0.view.read (Elt Ideal) ((View.whole cc0_scratch0).writes (Elt Ideal) f (rows i p1 p2 p3 h1 h2 h3))) (16 + n) d
      = (p2 (ix3 0 ⟨n, hn⟩ d) : EReal) := by
  rw [← rowAt_of _ ⟨16 + n, by omega⟩ (16 + n) d rfl]
  refine (View.read_writes_cons_rows_of_not_mem (View.whole cc0_scratch0) f h3 _ _ (ix2 ⟨16 + n, by omega⟩ d) rfl rfl (by left; show 16 + n < 528; omega)).trans ?_
  refine (View.read_writes_cons_rows_of_mem (View.whole cc0_scratch0) f h2 _ _ (ix2 ⟨16 + n, by omega⟩ d) (ix2 ⟨n, hn⟩ d) rfl rfl rfl).trans ?_
  pointwise [k0_pay96]

/-- The buffer's rows 528 to 543 are the start of the block after, or zero at the last block. -/
theorem rows_after (i p1 p2 p3 h1 h2 h3) (n : ℕ) (hn : n < 16) (d : Fin 1024) :
    rowAt (scM0_0.view.read (Elt Ideal) ((View.whole cc0_scratch0).writes (Elt Ideal) f (rows i p1 p2 p3 h1 h2 h3))) (528 + n) d
      = if (i 1).val < 15 then (p3 (ix3 0 ⟨n, hn⟩ d) : EReal) else 0 := by
  rw [← rowAt_of _ ⟨528 + n, by omega⟩ (528 + n) d rfl]
  refine (View.read_writes_cons_rows_of_mem (View.whole cc0_scratch0) f h3 _ _ (ix2 ⟨528 + n, by omega⟩ d) (ix2 ⟨n, hn⟩ d) rfl rfl rfl).trans ?_
  exact pay_after i p3 ⟨n, hn⟩ d

end Cert.Conv
-- ==== Proof.Conv.Reference.lean ====
/- The reference of the post call with a convolution, in stages, and its convolution as a sum over the taps. -/
module

public import proofs.«01_k».proof.Proof.Post.Value
public import proofs.«01_k».proof.Proof.Gen.Reference4Ideal.Run
public import proofs.«01_k».proof.Defs
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Conv

open Cert.Reference4Ideal Cert.Reference4Ideal.Gen

/-- The tokens' array with 15 zero rows before and after. -/
def padded (U : FVec Ideal S2x8192x1024 .bf16) : FVec Ideal S2x8222x1024 .f32 :=
  pad S2x8222x1024 ![0, 15, 0] ![0, 15, 0] ![0, 0, 0] (extf .f32 U bitsLt_bf16_f32) (sitofp .f32 (constantI S_ 32 0#32)) pads_S2x8192x1024_S2x8222x1024_000_15150_000 h_S_

/-- A vector over the columns, spread over the tokens. -/
abbrev row (B : FVec Ideal S1024 .f32) : FVec Ideal S2x8192x1024 .f32 :=
  broadcastInDim S2x8192x1024 ![0, 1, 2] bcast_S1x1x1024_S2x8192x1024_0_1_2 (broadcastInDim S1x1x1024 ![2] bcast_S1024_S1x1x1024_2 B)

/-- Tap `k`: the padded array from row `k` times the weights' row `k`. -/
def tap (P : FVec Ideal S2x8222x1024 .f32) (W : FVec Ideal S31x1024 .f32) (k : ℕ) (hP : S2x8222x1024.Slices ![0, k, 0] S2x8192x1024) (hW : S31x1024.Slices ![k, 0] S1x1024) :
    FVec Ideal S2x8192x1024 .f32 :=
  mulf (extractStridedSlice S2x8192x1024 ![0, k, 0] P hP) (row (shapeCast _ (extractStridedSlice S1x1024 ![k, 0] W hW) shapeCasts_S1x1024_S1024))

/-- The depthwise convolution. -/
def convolved (P : FVec Ideal S2x8222x1024 .f32) (W : FVec Ideal S31x1024 .f32) (B : FVec Ideal S1024 .f32) : FVec Ideal S2x8192x1024 .f32 :=
  addf (addf (addf (addf (addf (addf (addf (addf (addf (addf (addf (addf (addf (addf (addf (addf (addf (addf (addf (addf (addf (addf (addf (addf (addf (addf (addf (addf (addf (addf (addf (tap P W 0 slices_S2x8222x1024_S2x8192x1024_0_0_0 slices_S31x1024_S1x1024_0_0)
    (tap P W 1 slices_S2x8222x1024_S2x8192x1024_0_1_0 slices_S31x1024_S1x1024_1_0))
    (tap P W 2 slices_S2x8222x1024_S2x8192x1024_0_2_0 slices_S31x1024_S1x1024_2_0))
    (tap P W 3 slices_S2x8222x1024_S2x8192x1024_0_3_0 slices_S31x1024_S1x1024_3_0))
    (tap P W 4 slices_S2x8222x1024_S2x8192x1024_0_4_0 slices_S31x1024_S1x1024_4_0))
    (tap P W 5 slices_S2x8222x1024_S2x8192x1024_0_5_0 slices_S31x1024_S1x1024_5_0))
    (tap P W 6 slices_S2x8222x1024_S2x8192x1024_0_6_0 slices_S31x1024_S1x1024_6_0))
    (tap P W 7 slices_S2x8222x1024_S2x8192x1024_0_7_0 slices_S31x1024_S1x1024_7_0))
    (tap P W 8 slices_S2x8222x1024_S2x8192x1024_0_8_0 slices_S31x1024_S1x1024_8_0))
    (tap P W 9 slices_S2x8222x1024_S2x8192x1024_0_9_0 slices_S31x1024_S1x1024_9_0))
    (tap P W 10 slices_S2x8222x1024_S2x8192x1024_0_10_0 slices_S31x1024_S1x1024_10_0))
    (tap P W 11 slices_S2x8222x1024_S2x8192x1024_0_11_0 slices_S31x1024_S1x1024_11_0))
    (tap P W 12 slices_S2x8222x1024_S2x8192x1024_0_12_0 slices_S31x1024_S1x1024_12_0))
    (tap P W 13 slices_S2x8222x1024_S2x8192x1024_0_13_0 slices_S31x1024_S1x1024_13_0))
    (tap P W 14 slices_S2x8222x1024_S2x8192x1024_0_14_0 slices_S31x1024_S1x1024_14_0))
    (tap P W 15 slices_S2x8222x1024_S2x8192x1024_0_15_0 slices_S31x1024_S1x1024_15_0))
    (tap P W 16 slices_S2x8222x1024_S2x8192x1024_0_16_0 slices_S31x1024_S1x1024_16_0))
    (tap P W 17 slices_S2x8222x1024_S2x8192x1024_0_17_0 slices_S31x1024_S1x1024_17_0))
    (tap P W 18 slices_S2x8222x1024_S2x8192x1024_0_18_0 slices_S31x1024_S1x1024_18_0))
    (tap P W 19 slices_S2x8222x1024_S2x8192x1024_0_19_0 slices_S31x1024_S1x1024_19_0))
    (tap P W 20 slices_S2x8222x1024_S2x8192x1024_0_20_0 slices_S31x1024_S1x1024_20_0))
    (tap P W 21 slices_S2x8222x1024_S2x8192x1024_0_21_0 slices_S31x1024_S1x1024_21_0))
    (tap P W 22 slices_S2x8222x1024_S2x8192x1024_0_22_0 slices_S31x1024_S1x1024_22_0))
    (tap P W 23 slices_S2x8222x1024_S2x8192x1024_0_23_0 slices_S31x1024_S1x1024_23_0))
    (tap P W 24 slices_S2x8222x1024_S2x8192x1024_0_24_0 slices_S31x1024_S1x1024_24_0))
    (tap P W 25 slices_S2x8222x1024_S2x8192x1024_0_25_0 slices_S31x1024_S1x1024_25_0))
    (tap P W 26 slices_S2x8222x1024_S2x8192x1024_0_26_0 slices_S31x1024_S1x1024_26_0))
    (tap P W 27 slices_S2x8222x1024_S2x8192x1024_0_27_0 slices_S31x1024_S1x1024_27_0))
    (tap P W 28 slices_S2x8222x1024_S2x8192x1024_0_28_0 slices_S31x1024_S1x1024_28_0))
    (tap P W 29 slices_S2x8222x1024_S2x8192x1024_0_29_0 slices_S31x1024_S1x1024_29_0))
    (tap P W 30 slices_S2x8222x1024_S2x8192x1024_0_30_0 slices_S31x1024_S1x1024_30_0))
    (row B)

/-- The mean over the columns. -/
def mean (C : FVec Ideal S2x8192x1024 .f32) : FVec Ideal S2x8192x1 .f32 :=
  Host.divf (broadcastInDim S2x8192x1 ![0, 1] bcast_S2x8192_S2x8192x1_0_1 (Host.reduceAdd C (constant S_ .f32 0x00000000#32) reducesTo_S2x8192x1024_S2x8192_d2 h_S_)) (broadcastInDim S2x8192x1 ![] bcast_S_S2x8192x1 (constant S_ .f32 0x44800000#32))

/-- The array less its mean. -/
def centred (C : FVec Ideal S2x8192x1024 .f32) : FVec Ideal S2x8192x1024 .f32 :=
  subf C (broadcastInDim S2x8192x1024 ![0, 1, 2] bcast_S2x8192x1_S2x8192x1024_0_1_2 (mean C))

/-- The layer norm. -/
def normed (C : FVec Ideal S2x8192x1024 .f32) (G B : FVec Ideal S1024 .f32) : FVec Ideal S2x8192x1024 .f32 :=
  addf (mulf (mulf (centred C) (broadcastInDim S2x8192x1024 ![0, 1, 2] bcast_S2x8192x1_S2x8192x1024_0_1_2 (Host.rsqrt (addf (mean (mulf (centred C) (centred C))) (broadcastInDim S2x8192x1 ![] bcast_S_S2x8192x1 (constant S_ .f32 0x358637BD#32)))))) (row G)) (row B)

/-- The residual stream after the convolution module's gated out-projection. -/
def residual (X S : FVec Ideal S2x8192x1024 .f32) (M : FVec Ideal S2x6144 .f32) (W : FVec Ideal S1024x1024 .f32) (B : FVec Ideal S1024 .f32) : FVec Ideal S2x8192x1024 .f32 :=
  addf X (mulf (Cert.Post.modRow M ![0, 0, 2048] slices_S2x1x6144_S2x1x1024_0_0_2048)
    (addf (Host.dotGeneral dot_S2x8192x1024_S1024x1024_S2x8192x1024_2_0_01_1_n_n none
      (mulf S (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf S))))) W) (row B)))

/-- The whole term. -/
def REF (X : FVec Ideal S2x8192x1024 .f32) (U : FVec Ideal S2x8192x1024 .bf16) (M : FVec Ideal S2x6144 .f32) (Wd : FVec Ideal S31x1024 .f32) (Bd Lg Lb : FVec Ideal S1024 .f32)
    (Wo : FVec Ideal S1024x1024 .f32) (Bo G : FVec Ideal S1024 .f32) (Up : FVec Ideal S1024x4096 .f32) (Dn : FVec Ideal S4096x1024 .f32) : FVec Ideal S2x8192x1024 .f32 :=
  Cert.Post.out (residual X (normed (convolved (padded U) Wd Bd) Lg Lb) M Wo Bo) M
    (Cert.Post.hid (Cert.Post.h2 (residual X (normed (convolved (padded U) Wd Bd) Lg Lb) M Wo Bo) M G) Up) Dn

open Cert.Reference4Ideal.Value in
/-- The reference's run leaves that term. -/
theorem res_eq (V : Valuation τ sig (Elt Ideal)) :
    addf (res_main_v259 V) (mulf (Cert.Post.modRow (V (Proc.devRef .tc main_arg2)) ![0, 0, 5120] slices_S2x1x6144_S2x1x1024_0_0_5120) (Host.dotGeneral dot_S2x8192x4096_S4096x1024_S2x8192x1024_2_0_01_1_n_n none (φ₁ := .f32) (φ₂ := .f32) (mulf (φ := .f32) (res_main_v281 V) (res_main_v281 V)) (V (Proc.devRef .tc main_arg11))))
      = REF (V (Proc.devRef .tc main_arg0)) (V (Proc.devRef .tc main_arg1)) (V (Proc.devRef .tc main_arg2)) (V (Proc.devRef .tc main_arg3)) (V (Proc.devRef .tc main_arg4)) (V (Proc.devRef .tc main_arg5))
          (V (Proc.devRef .tc main_arg6)) (V (Proc.devRef .tc main_arg7)) (V (Proc.devRef .tc main_arg8)) (V (Proc.devRef .tc main_arg9)) (V (Proc.devRef .tc main_arg10)) (V (Proc.devRef .tc main_arg11)) := by
  have hC : res_main_v227 V = convolved (padded (V (Proc.devRef .tc main_arg1))) (V (Proc.devRef .tc main_arg3)) (V (Proc.devRef .tc main_arg4)) := by
    unfold res_main_v227 res_main_v161 res_main_v84 convolved
    rfl
  have hS : res_main_v251 V = normed (res_main_v227 V) (V (Proc.devRef .tc main_arg5)) (V (Proc.devRef .tc main_arg6)) := by
    unfold res_main_v251 res_main_v233 res_main_v231 normed centred mean
    rfl
  have hX : res_main_v259 V = residual (V (Proc.devRef .tc main_arg0)) (res_main_v251 V) (V (Proc.devRef .tc main_arg2)) (V (Proc.devRef .tc main_arg7)) (V (Proc.devRef .tc main_arg8)) := by
    unfold res_main_v259 residual
    rfl
  have hH : mulf (φ := .f32) (res_main_v281 V) (res_main_v281 V) = Cert.Post.hid (Cert.Post.h2 (res_main_v259 V) (V (Proc.devRef .tc main_arg2)) (V (Proc.devRef .tc main_arg9))) (V (Proc.devRef .tc main_arg10)) := by
    unfold res_main_v281 Cert.Post.hid Cert.Post.h2
    rfl
  rw [hH, hX, hS, hC]
  unfold REF Cert.Post.out
  rfl

/-- The padded array at an index. -/
theorem padded_apply (U : FVec Ideal S2x8192x1024 .bf16) (b : Fin 2) (n : Fin 8222) (d : Fin 1024) :
    (padded U (ix3 b n d) : EReal) = if h : 15 ≤ n.val ∧ n.val - 15 < 8192 then (U (ix3 b ⟨n.val - 15, by omega⟩ d) : EReal) else 0 := by
  pointwise [padded]
  have h0 : (FloatOps.sitofp (F := Ideal) .f32 0#32 : EReal) = 0 := by simp [FloatOps.sitofp]
  rw [h0]

/-- A tap at an index. -/
theorem tap_apply (P : FVec Ideal S2x8222x1024 .f32) (W : FVec Ideal S31x1024 .f32) (k : ℕ) (hk : k < 31) (hP hW) (b : Fin 2) (r : Fin 8192) (d : Fin 1024) :
    (tap P W k hP hW (ix3 b r d) : EReal) = (P (ix3 b ⟨k + r.val, by omega⟩ d) : EReal) * W (ix2 ⟨k, hk⟩ d) := by
  pointwise [tap]

/-- A spread vector at an index. -/
theorem row_apply (B : FVec Ideal S1024 .f32) (b : Fin 2) (r : Fin 8192) (d : Fin 1024) : (row B (ix3 b r d) : EReal) = B (ix1 d) := by
  pointwise []

/-- The taps in order, then the bias. -/
theorem taps_ref (b : EReal) (f : Fin 31 → EReal) :
    ((((((((((((((((((((((((((((((f 0 + f 1) + f 2) + f 3) + f 4) + f 5) + f 6) + f 7) + f 8) + f 9) + f 10) + f 11) + f 12) + f 13) + f 14) + f 15) + f 16) + f 17) + f 18) + f 19) + f 20) + f 21) + f 22) + f 23) + f 24) + f 25) + f 26) + f 27) + f 28) + f 29) + f 30) + b = b + ∑ k : Fin 31, f k := by
  have h : ∀ g : ℕ → EReal, ((((((((((((((((((((((((((((((g 0 + g 1) + g 2) + g 3) + g 4) + g 5) + g 6) + g 7) + g 8) + g 9) + g 10) + g 11) + g 12) + g 13) + g 14) + g 15) + g 16) + g 17) + g 18) + g 19) + g 20) + g 21) + g 22) + g 23) + g 24) + g 25) + g 26) + g 27) + g 28) + g 29) + g 30) + b = b + ∑ k : Fin 31, g k.val := fun g => by
    rw [Fin.sum_univ_eq_sum_range g 31]
    simp only [Finset.sum_range_succ, Finset.sum_range_zero]
    rw [zero_add, add_comm]
  simpa using h fun n => if h : n < 31 then f ⟨n, h⟩ else 0

/-- The convolution at an index. -/
theorem convolved_apply (P : FVec Ideal S2x8222x1024 .f32) (W : FVec Ideal S31x1024 .f32) (B : FVec Ideal S1024 .f32) (b : Fin 2) (r : Fin 8192) (d : Fin 1024) :
    (convolved P W B (ix3 b r d) : EReal) = B (ix1 d) + ∑ k : Fin 31, (P (ix3 b ⟨k.val + r.val, by omega⟩ d) : EReal) * W (ix2 k d) := by
  refine Eq.trans ?_ (taps_ref (B (ix1 d)) fun k => (P (ix3 b ⟨k.val + r.val, by omega⟩ d) : EReal) * W (ix2 k d))
  unfold convolved
  exact congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (congrArg₂ HAdd.hAdd (tap_apply P W 0 (by decide) _ _ b r d) (tap_apply P W 1 (by decide) _ _ b r d)) (tap_apply P W 2 (by decide) _ _ b r d)) (tap_apply P W 3 (by decide) _ _ b r d)) (tap_apply P W 4 (by decide) _ _ b r d)) (tap_apply P W 5 (by decide) _ _ b r d)) (tap_apply P W 6 (by decide) _ _ b r d)) (tap_apply P W 7 (by decide) _ _ b r d)) (tap_apply P W 8 (by decide) _ _ b r d)) (tap_apply P W 9 (by decide) _ _ b r d)) (tap_apply P W 10 (by decide) _ _ b r d)) (tap_apply P W 11 (by decide) _ _ b r d)) (tap_apply P W 12 (by decide) _ _ b r d)) (tap_apply P W 13 (by decide) _ _ b r d)) (tap_apply P W 14 (by decide) _ _ b r d)) (tap_apply P W 15 (by decide) _ _ b r d)) (tap_apply P W 16 (by decide) _ _ b r d)) (tap_apply P W 17 (by decide) _ _ b r d)) (tap_apply P W 18 (by decide) _ _ b r d)) (tap_apply P W 19 (by decide) _ _ b r d)) (tap_apply P W 20 (by decide) _ _ b r d)) (tap_apply P W 21 (by decide) _ _ b r d)) (tap_apply P W 22 (by decide) _ _ b r d)) (tap_apply P W 23 (by decide) _ _ b r d)) (tap_apply P W 24 (by decide) _ _ b r d)) (tap_apply P W 25 (by decide) _ _ b r d)) (tap_apply P W 26 (by decide) _ _ b r d)) (tap_apply P W 27 (by decide) _ _ b r d)) (tap_apply P W 28 (by decide) _ _ b r d)) (tap_apply P W 29 (by decide) _ _ b r d)) (tap_apply P W 30 (by decide) _ _ b r d))
    (row_apply B b r d)

end Cert.Conv
-- ==== Proof.Conv.Value.lean ====
/- The post call of a layer with a convolution (depthwise convolution, layer norm, silu, out-projection, gated residual, modulated
   RMSNorm, squared-ReLU MLP), at the ideal instance: what the tiled kernel leaves in its result array is the reference's
   composed term of the arguments. -/
module

public import proofs.«01_k».proof.Proof.Conv.Buffers
public import proofs.«01_k».proof.Proof.Conv.Reference
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Conv

open Cert.Kernel4Ideal Cert.Kernel4Ideal.Gen
variable (m : (ℓ : Loc nD τ sig) → Buf (Elt Ideal) ℓ)

/-- The windows' block indices at every grid point. -/
theorem idx : ∀ t : Fin cfg0.N, win0_0.index t = ![(grid0.coords t 0).val, (grid0.coords t 1).val, 0] ∧ win0_1.index t = ![(grid0.coords t 0).val, 32 * (grid0.coords t 1).val - 1, 0]
    ∧ win0_2.index t = ![(grid0.coords t 0).val, (grid0.coords t 1).val, 0] ∧ win0_3.index t = ![(grid0.coords t 0).val, min (32 * (grid0.coords t 1).val + 32) 511, 0]
    ∧ win0_4.index t = ![0, 0] ∧ win0_5.index t = ![0, 0] ∧ win0_6.index t = ![0, 0] ∧ win0_7.index t = ![0, 0]
    ∧ win0_8.index t = ![(grid0.coords t 0).val, 0, 0] ∧ win0_9.index t = ![0, 0] ∧ win0_10.index t = ![0, 0] ∧ win0_11.index t = ![0, 0] ∧ win0_12.index t = ![0, 0] ∧ win0_13.index t = ![0, 0]
    ∧ win0_14.index t = ![(grid0.coords t 0).val, (grid0.coords t 1).val, 0] :=
  (by decide +kernel : ∀ t : Fin grid0.N, _)

/-- The halo before, as rows of the array. -/
theorem blk_before (c : Dev nD) (t : Fin cfg0.N) (b : Fin 2) (r : Fin 8192) (n : Fin 16) (d : Fin 1024)
    (hb : b.val = (grid0.coords t 0).val) (hr : r.val = (32 * (grid0.coords t 1).val - 1) * 16 + n.val) :
    iblk m c 1 t (ix3 0 n d) = m ((c : Thread nD τ).loc main_arg1) (ix3 b r d) := by
  blk_point [iblk, V, idx t]

/-- The block, as rows of the array. -/
theorem blk_centre (c : Dev nD) (t : Fin cfg0.N) (b : Fin 2) (r : Fin 8192) (n : Fin 512) (d : Fin 1024)
    (hb : b.val = (grid0.coords t 0).val) (hr : r.val = (grid0.coords t 1).val * 512 + n.val) :
    iblk m c 2 t (ix3 0 n d) = m ((c : Thread nD τ).loc main_arg1) (ix3 b r d) := by
  blk_point [iblk, V, idx t]

/-- The halo after, as rows of the array. -/
theorem blk_after (c : Dev nD) (t : Fin cfg0.N) (b : Fin 2) (r : Fin 8192) (n : Fin 16) (d : Fin 1024)
    (hb : b.val = (grid0.coords t 0).val) (hr : r.val = (min (32 * (grid0.coords t 1).val + 32) 511) * 16 + n.val) :
    iblk m c 3 t (ix3 0 n d) = m ((c : Thread nD τ).loc main_arg1) (ix3 b r d) := by
  blk_point [iblk, V, idx t]

/-- The convolution's weights. -/
theorem blk_taps (c : Dev nD) (t : Fin cfg0.N) (k : Fin 31) (d : Fin 1024) :
    iblk m c 4 t (ix2 k d) = m ((c : Thread nD τ).loc main_arg3) (ix2 k d) := by
  blk_point [iblk, V, idx t]

/-- The convolution's bias. -/
theorem blk_bias (c : Dev nD) (t : Fin cfg0.N) (d : Fin 1024) :
    iblk m c 5 t (ix2 0 d) = m ((c : Thread nD τ).loc main_arg4) (ix1 d) := by
  blk_point [iblk, V, idx t]

/-- The first scratch buffer at point `t`. -/
abbrev ubuf (c : Dev nD) (t : Fin cfg0.N) (f : BufTy.Contents (Elt Ideal) scM0_0.view.ty) (h1 : ∀ a, (![0, 0] : Fin 2 → ℕ) a + (![16, 1024] : Fin 2 → ℕ) a ≤ S544x1024.size a)
    (h2 : ∀ a, (![16, 0] : Fin 2 → ℕ) a + (![512, 1024] : Fin 2 → ℕ) a ≤ S544x1024.size a) (h3 : ∀ a, (![528, 0] : Fin 2 → ℕ) a + (![16, 1024] : Fin 2 → ℕ) a ≤ S544x1024.size a) : BufTy.Contents (Elt Ideal) scM0_0.view.ty :=
  (View.whole cc0_scratch0).writes (Elt Ideal) f (rows (grid0.coords t) (iblk m c 1 t) (iblk m c 2 t) (iblk m c 3 t) h1 h2 h3)

/-- Row `n` of the buffer is the padded array's row `512 j + n - 1`. -/
theorem ubuf_row (c : Dev nD) (t : Fin cfg0.N) (f h1 h2 h3) (b : Fin 2) (n : ℕ) (R : Fin 8222) (d : Fin 1024) (hn : 1 ≤ n) (hn' : n ≤ 542)
    (hb : b.val = (grid0.coords t 0).val) (hR : R.val + 1 = (grid0.coords t 1).val * 512 + n) :
    rowAt (scM0_0.view.read (Elt Ideal) (ubuf m c t f h1 h2 h3)) n d = padded (m ((c : Thread nD τ).loc main_arg1)) (ix3 b R d) := by
  have hj : (grid0.coords t 1).val < 16 := (grid0.coords t 1).isLt
  rw [padded_apply]
  rcases Nat.lt_or_ge n 16 with h | h
  · refine (rows_before f _ _ _ _ h1 h2 h3 n h d).trans ?_
    by_cases h0 : 0 < (grid0.coords t 1).val
    · rw [if_pos h0, dif_pos (by omega)]
      exact blk_before m c t b _ _ d hb (by show R.val - 15 = _ + n; omega)
    · rw [if_neg h0, dif_neg (by omega)]
  · rcases Nat.lt_or_ge n 528 with h' | h'
    · obtain ⟨k, rfl⟩ := Nat.exists_eq_add_of_le h
      refine (rows_centre f _ _ _ _ h1 h2 h3 k (by omega) d).trans ?_
      rw [dif_pos (by omega)]
      exact blk_centre m c t b _ _ d hb (by show R.val - 15 = _ + k; omega)
    · obtain ⟨k, rfl⟩ := Nat.exists_eq_add_of_le h'
      refine (rows_after f _ _ _ _ h1 h2 h3 k (by omega) d).trans ?_
      by_cases h0 : (grid0.coords t 1).val < 15
      · rw [if_pos h0, dif_pos (by omega)]
        exact blk_after m c t b _ _ d hb (by show R.val - 15 = min _ _ * 16 + k; omega)
      · rw [if_neg h0, dif_neg (by omega)]

/-- The body's convolution at a block index is the reference's. -/
theorem conv_point (c : Dev nD) (t : Fin cfg0.N) (f h1 h2 h3) (b : Fin 2) (r : Fin 8192) (y0 : Fin 512) (d : Fin 1024)
    (hb : b.val = (grid0.coords t 0).val) (hr : r.val = (grid0.coords t 1).val * 512 + y0.val) :
    conv (scM0_0.view.read (Elt Ideal) (ubuf m c t f h1 h2 h3)) (iblk m c 4 t) (iblk m c 5 t) (ix2 y0 d)
      = convolved (padded (m ((c : Thread nD τ).loc main_arg1))) (m ((c : Thread nD τ).loc main_arg3)) (m ((c : Thread nD τ).loc main_arg4)) (ix3 b r d) := by
  rw [convolved_apply]
  refine congrArg₂ HAdd.hAdd (blk_bias m c t d) (Finset.sum_congr rfl fun k _ => ?_)
  rw [mul_comm]
  exact congrArg₂ HMul.hMul (ubuf_row m c t f h1 h2 h3 b _ _ d (by omega) (by show y0.val + k.val + 1 ≤ 542; omega) hb (by show k.val + r.val + 1 = _ + (y0.val + k.val + 1); omega)) (blk_taps m c t k d)

/-- The logistic function, spelt out. -/
theorem logistic_eq (x : EReal) : Ideal.logistic x = Ideal.div 1 (1 + Ideal.exp (-x)) := rfl

/-- The residual after the out-projection, computed by the body at a block index. -/
theorem pay_residual (c : Dev nD) (t : Fin cfg0.N) (b : Fin 2) (r : Fin 8192) (y0 : Fin 512) (y1 : Fin 1024) (C : FVec Ideal S512x1024 .f32) (C' : FVec Ideal Cert.Reference4Ideal.S2x8192x1024 .f32)
    (hb : b.val = (grid0.coords t 0).val) (hr : r.val = (grid0.coords t 1).val * 512 + y0.val) (hC : ∀ d, (C (ix2 y0 d) : EReal) = C' (ix3 b r d)) :
    k0_pay99 (F := Ideal) (k0_pay93 (iblk m c 0 t)) (k0_pay94 (iblk m c 8 t)) C (iblk m c 6 t) (iblk m c 7 t) (iblk m c 9 t) (iblk m c 10 t) (ix2 y0 y1)
      = residual (m ((c : Thread nD τ).loc main_arg0)) (normed C' (m ((c : Thread nD τ).loc main_arg5)) (m ((c : Thread nD τ).loc main_arg6))) (m ((c : Thread nD τ).loc main_arg2))
          (m ((c : Thread nD τ).loc main_arg7)) (m ((c : Thread nD τ).loc main_arg8)) (ix3 b r y1) := by
  pointwise [k0_pay99, k0_pay93, k0_pay94, residual, normed, centred, mean]
  simp only [hC, logistic_eq]
  blk_point [iblk, V, idx t]

/-- The modulated norm, computed by the body at a block index. -/
theorem pay_norm (c : Dev nD) (t : Fin cfg0.N) (b : Fin 2) (r : Fin 8192) (y0 : Fin 512) (y1 : Fin 1024) (X : FVec Ideal S512x1024 .f32) (X' : FVec Ideal Cert.Reference4Ideal.S2x8192x1024 .f32)
    (hb : b.val = (grid0.coords t 0).val) (hX : ∀ d, (X (ix2 y0 d) : EReal) = X' (ix3 b r d)) :
    k0_pay100 (F := Ideal) (k0_pay94 (iblk m c 8 t)) X (iblk m c 11 t) (ix2 y0 y1)
      = Cert.Post.h2 X' (m ((c : Thread nD τ).loc main_arg2)) (m ((c : Thread nD τ).loc main_arg9)) (ix3 b r y1) := by
  pointwise [k0_pay100, k0_pay94, Cert.Post.h2]
  simp only [hX]
  blk_point [iblk, V, idx t]

/-- The squared-ReLU MLP with its gated residual, computed by the body over four column blocks of the up-projection,
    at a block index: one sum over the whole hidden width. -/
theorem pay_mlp (A : FVec Ideal S512x1024 .f32) (M : FVec Ideal S1x6x1024 .f32) (G : FVec Ideal S1x1024 .f32) (U : FVec Ideal S1024x4096 .bf16) (D : FVec Ideal S4096x1024 .bf16)
    (i0 i1 i2 i3 j0 j1 j2 j3) (y0 : Fin 512) (y1 : Fin 1024) :
    k0_pay1 (F := Ideal) (k0_pay94 M) A (k0_pay100 (k0_pay94 M) A G)
      (k0_pay101 (k0_pay94 M) A G (View.ld U (Rect.unit (s := S1024x4096) ![0, 0] S1024x1024.size i0)) (View.ld D (Rect.unit (s := S4096x1024) ![0, 0] S1024x1024.size j0)))
      (k0_pay102 (k0_pay94 M) A G (View.ld U (Rect.unit (s := S1024x4096) ![0, 1024] S1024x1024.size i1))) (View.ld D (Rect.unit (s := S4096x1024) ![1024, 0] S1024x1024.size j1))
      (View.ld U (Rect.unit (s := S1024x4096) ![0, 2048] S1024x1024.size i2)) (View.ld D (Rect.unit (s := S4096x1024) ![2048, 0] S1024x1024.size j2))
      (View.ld U (Rect.unit (s := S1024x4096) ![0, 3072] S1024x1024.size i3)) (View.ld D (Rect.unit (s := S4096x1024) ![3072, 0] S1024x1024.size j3)) (ix3 0 y0 y1)
      = (A (ix2 y0 y1) : EReal) + M (ix3 0 5 y1) * ∑ k : Fin 4096,
          (max (∑ j : Fin 1024, (k0_pay100 (F := Ideal) (k0_pay94 M) A G (ix2 y0 j) : EReal) * U (ix2 j k)) 0 * max (∑ j : Fin 1024, (k0_pay100 (F := Ideal) (k0_pay94 M) A G (ix2 y0 j) : EReal) * U (ix2 j k)) 0) * D (ix2 k y1) := by
  unfold k0_pay101 k0_pay102
  generalize k0_pay100 (F := Ideal) (k0_pay94 M) A G = H
  rw [Cert.Post.sum_quarters]
  pointwise [k0_pay1, k0_pay94]

/-- The result, computed by the body at a block index from the residual. -/
theorem pay_out (c : Dev nD) (t : Fin cfg0.N) (b : Fin 2) (r : Fin 8192) (y0 : Fin 512) (y1 : Fin 1024) (X : FVec Ideal S512x1024 .f32) (X' : FVec Ideal Cert.Reference4Ideal.S2x8192x1024 .f32)
    (hb : b.val = (grid0.coords t 0).val) (hr : r.val = (grid0.coords t 1).val * 512 + y0.val) (i0 i1 i2 i3 j0 j1 j2 j3) (hX : ∀ d, (X (ix2 y0 d) : EReal) = X' (ix3 b r d)) :
    k0_pay1 (F := Ideal) (k0_pay94 (iblk m c 8 t)) X (k0_pay100 (k0_pay94 (iblk m c 8 t)) X (iblk m c 11 t))
      (k0_pay101 (k0_pay94 (iblk m c 8 t)) X (iblk m c 11 t) (View.ld (iblk m c 12 t) (Rect.unit (s := S1024x4096) ![0, 0] S1024x1024.size i0)) (View.ld (iblk m c 13 t) (Rect.unit (s := S4096x1024) ![0, 0] S1024x1024.size j0)))
      (k0_pay102 (k0_pay94 (iblk m c 8 t)) X (iblk m c 11 t) (View.ld (iblk m c 12 t) (Rect.unit (s := S1024x4096) ![0, 1024] S1024x1024.size i1))) (View.ld (iblk m c 13 t) (Rect.unit (s := S4096x1024) ![1024, 0] S1024x1024.size j1))
      (View.ld (iblk m c 12 t) (Rect.unit (s := S1024x4096) ![0, 2048] S1024x1024.size i2)) (View.ld (iblk m c 13 t) (Rect.unit (s := S4096x1024) ![2048, 0] S1024x1024.size j2))
      (View.ld (iblk m c 12 t) (Rect.unit (s := S1024x4096) ![0, 3072] S1024x1024.size i3)) (View.ld (iblk m c 13 t) (Rect.unit (s := S4096x1024) ![3072, 0] S1024x1024.size j3)) (ix3 0 y0 y1)
      = Cert.Post.out X' (m ((c : Thread nD τ).loc main_arg2)) (Cert.Post.hid (Cert.Post.h2 X' (m ((c : Thread nD τ).loc main_arg2)) (m ((c : Thread nD τ).loc main_arg9))) (m ((c : Thread nD τ).loc main_arg10)))
          (m ((c : Thread nD τ).loc main_arg11)) (ix3 b r y1) := by
  refine (pay_mlp _ _ _ _ _ _ _ _ _ _ _ _ _ y0 y1).trans ?_
  rw [Cert.Post.out_apply]
  simp only [hX, fun k : Fin 1024 => pay_norm m c t b r y0 k X X' hb hX]
  blk_point [iblk, V, idx t]

/-- What the body stores at a block index is the reference's term at the array index under it. -/
theorem point (c : Dev nD) (t : Fin cfg0.N) (y : S1x512x1024.Idx) :
    (dats m 0 c).after 14 t y = REF (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) (((cfg0.win 14).blk t).view.emb y) := by
  idx_vars y
  have hy : y0 = 0 := Subsingleton.elim _ _
  subst hy
  obtain ⟨b, hb⟩ : ∃ b : Fin 2, b.val = (grid0.coords t 0).val := ⟨⟨_, (grid0.coords t 0).isLt⟩, rfl⟩
  have h1 : (grid0.coords t 1).val < 16 := (grid0.coords t 1).isLt
  obtain ⟨r, hr⟩ : ∃ r : Fin 8192, r.val = (grid0.coords t 1).val * 512 + y1.val := ⟨⟨_, by omega⟩, rfl⟩
  have he : (((cfg0.win 14).blk t).view.emb (ix3 0 y1 y2) : Cert.Reference4Ideal.S2x8192x1024.Idx) = ix3 b r y2 := by
    blk_ext [idx t, hb, hr]
  rw [he, after0_14]
  unfold outsAt0
  frame_out
  rw [REF]
  exact pay_out m c t b r y1 y2 _ _ hb hr _ _ _ _ _ _ _ _ fun d => pay_residual m c t b r y1 d _ _ hb hr fun d =>
    (congrFun (conv_read c t _ _ (iblk m c 4 t) (iblk m c 5 t) _ _) (ix2 y1 d)).trans (conv_point m c t _ _ _ _ b r y1 d hb hr)

/-- The result array after the run is the reference's term of the arguments. -/
theorem final (c : Dev nD) : (dats m 0 c).arrAt 14 (cfgs 0).N
    = REF (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  refine (dats m 0 c).arrAt_eq_of_covers 14 _ (by decide +kernel) fun t _ y => ?_
  blk_simp
  exact point m c t y

end Cert.Conv

/-! ## The claims -/

/-- Kernel and reference, from memories agreeing on the arguments, end with equal results. -/
theorem Cert.Conv.algebraic : @Cert.algebraic_Kernel4Ideal_Reference4Ideal Cert.Kernel4Ideal.Gen.facts Cert.Reference4Ideal.Gen.facts := by
  pair_intro
  · run_from Cert.Kernel4Ideal.Gen.run_main m g
  · run_from Cert.Reference4Ideal.Value.run m' g'
    rw [Cert.Conv.final m c]
    obtain ⟨h0, h1, h2, h3, h4, h5, h6, h7, h8, h9, h10, h11⟩ := hagree c
    rw [← h0, ← h1, ← h2, ← h3, ← h4, ← h5, ← h6, ← h7, ← h8, ← h9, ← h10, ← h11]
    exact Cert.Conv.res_eq (StableHlo.launchContents m' c)

/-- The reference runs, leaves its arguments unchanged and every counter at zero. -/
theorem Cert.Conv.frame_reference : @Cert.quiescent_Reference4Ideal Cert.Reference4Ideal.Gen.facts := by
  exact fun m g _ => (θ_run Cert.Reference4Ideal.defs _ _).mono (fun r h => ⟨fun c => (h c).2, Idealize.ShloMosaic.sem_eq_zero_of_no_sems (by decide) r.2⟩)
    (Cert.Reference4Ideal.Value.run (F := Ideal) m g)

end
-- ==== Proof.Glu.Value.lean ====
/-
  The beginning of the convolution layer (modulated RMSNorm and the gated input projection), at the ideal instance: what
  the tiled kernel leaves in its result array is the reference's composed term of the arguments.
-/
module

public import proofs.«01_k».proof.Proof.Gen.Kernel5Ideal.Value
public import proofs.«01_k».proof.Proof.Gen.Reference5Ideal.Run
public import proofs.«01_k».proof.Defs
public import Idealize.ShloMosaic.Lib.Claim
public import Idealize.ShloMosaic.Lib.Quiescent
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Glu

/-! ## The reference's term, in stages -/

section Ref
open Cert.Reference5Ideal Cert.Reference5Ideal.Gen

/-- The modulated RMSNorm of the residual stream. -/
def normed (X : FVec Ideal S2x8192x1024 .f32) (M : FVec Ideal S2x6144 .f32) (G : FVec Ideal S1024 .f32) : FVec Ideal S2x8192x1024 .f32 :=
  addf (mulf (mulf (mulf X (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf X X) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 G))) (broadcastInDim S2x8192x1024 ![0, 1, 2] bcast_S2x1x1024_S2x8192x1024_0_1_2 (addf (broadcastInDim S2x1x1024 ![] bcast_S_S2x1x1024 (constant S_ .f32 0x3F800000#32)) (extractStridedSlice S2x1x1024 ![0, 0, 1024] (broadcastInDim S2x1x6144 ![0, 2] bcast_S2x6144_S2x1x6144_0_2 M) slices_S2x1x6144_S2x1x1024_0_0_1024)))) (broadcastInDim S2x8192x1024 ![0, 1, 2] bcast_S2x1x1024_S2x8192x1024_0_1_2 (extractStridedSlice S2x1x1024 ![0, 0, 0] (broadcastInDim S2x1x6144 ![0, 2] bcast_S2x6144_S2x1x6144_0_2 M) slices_S2x1x6144_S2x1x1024_0_0_0))

/-- The input projection, with its bias. -/
def proj (H : FVec Ideal S2x8192x1024 .f32) (W : FVec Ideal S1024x2048 .f32) (B : FVec Ideal S2048 .f32) : FVec Ideal S2x8192x2048 .f32 :=
  addf (Host.dotGeneral (φ₁ := .f32) (φ₂ := .f32) dot_S2x8192x1024_S1024x2048_S2x8192x2048_2_0_01_1_n_n none H W) (broadcastInDim S2x8192x2048 ![0, 1, 2] bcast_S1x1x2048_S2x8192x2048_0_1_2 (broadcastInDim S1x1x2048 ![2] bcast_S2048_S1x1x2048_2 B))

/-- The first half of the columns, gated by the logistic function of the second half. -/
def gated (P : FVec Ideal S2x8192x2048 .f32) : FVec Ideal S2x8192x1024 .bf16 :=
  truncf .bf16 (mulf (φ := .f32) (extractStridedSlice S2x8192x1024 ![0, 0, 0] P slices_S2x8192x2048_S2x8192x1024_0_0_0) (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, 1024] P slices_S2x8192x2048_S2x8192x1024_0_0_1024)))))) bitsLt_bf16_f32

/-- The whole term. -/
def REF (X : FVec Ideal S2x8192x1024 .f32) (M : FVec Ideal S2x6144 .f32) (G : FVec Ideal S1024 .f32) (W : FVec Ideal S1024x2048 .f32) (B : FVec Ideal S2048 .f32) :
    FVec Ideal S2x8192x1024 .bf16 := gated (proj (normed X M G) W B)

/-- The reference's run leaves that term. -/
theorem run_ref (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v39) = REF (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h => h) (Cert.Reference5Ideal.Value.run (F := Ideal) m g)

end Ref

/-! ## The kernel's payloads at a block index -/

open Cert.Kernel5Ideal Cert.Kernel5Ideal.Gen
variable (m : (ℓ : Loc nD τ sig) → Buf (Elt Ideal) ℓ)

/-- The reference's term of the kernel's arguments. -/
abbrev spec (c : Dev nD) : FVec Ideal Cert.Reference5Ideal.S2x8192x1024 .bf16 :=
  REF (m ((c : Thread nD τ).loc main_arg0)) (m ((c : Thread nD τ).loc main_arg1)) (m ((c : Thread nD τ).loc main_arg2)) (m ((c : Thread nD τ).loc main_arg3)) (m ((c : Thread nD τ).loc main_arg4))

/-- The windows' block indices at every grid point. -/
theorem idx : ∀ t : Fin cfg0.N, win0_0.index t = ![(grid0.coords t 0).val, (grid0.coords t 1).val, 0] ∧ win0_1.index t = ![(grid0.coords t 0).val, 0, 0]
    ∧ win0_2.index t = ![0, 0] ∧ win0_3.index t = ![0, 0] ∧ win0_4.index t = ![0, 0]
    ∧ win0_5.index t = ![(grid0.coords t 0).val, (grid0.coords t 1).val, 0] :=
  (by decide +kernel : ∀ t : Fin grid0.N, _)

/-- The logistic function, spelt out. -/
theorem logistic_eq (x : EReal) : Ideal.logistic x = Ideal.div 1 (1 + Ideal.exp (-x)) := rfl

/-- The gated projection of 256 rows that hold rows of the residual stream, computed by the body, at an index. -/
theorem pay_rows (c : Dev nD) (t : Fin cfg0.N) (b : Fin 2) (r : Fin 8192) (y0 : Fin 256) (y1 : Fin 1024) (X : FVec Ideal S1x256x1024 .f32)
    (hb : b.val = (grid0.coords t 0).val) (hX : ∀ d : Fin 1024, (X (ix3 0 y0 d) : EReal) = m ((c : Thread nD τ).loc main_arg0) (ix3 b r d)) :
    k0_pay8 (F := Ideal) (k0_pay2 (iblk m c 1 t)) X (iblk m c 2 t) (iblk m c 3 t) (iblk m c 4 t) (ix2 y0 y1) = spec m c (ix3 b r y1) := by
  pointwise [k0_pay8, k0_pay2, spec, REF, gated, proj, normed]
  simp only [hX, logistic_eq]
  blk_point [iblk, V, idx t]

/-- A block of 256 rows of the residual stream's block holds its rows. -/
theorem rows_eq (c : Dev nD) (t : Fin cfg0.N) (b : Fin 2) (r : Fin 8192) (o : ℕ) (inb : ∀ a, (![0, o, 0] : Fin 3 → ℕ) a + S1x256x1024.size a ≤ S1x1024x1024.size a) (y0 : Fin 256)
    (hb : b.val = (grid0.coords t 0).val) (hr : r.val = (grid0.coords t 1).val * 1024 + (o + y0.val)) (d : Fin 1024) :
    (View.ld (iblk m c 0 t) (Rect.unit (s := S1x1024x1024) ![0, o, 0] S1x256x1024.size inb) (ix3 0 y0 d) : EReal) = m ((c : Thread nD τ).loc main_arg0) (ix3 b r d) := by
  blk_point [iblk, V, idx t]

/-- The four row blocks' payloads are one function of the rows. -/
theorem pay_first (M : FVec Ideal S1x6x1024 .f32) (X : FVec Ideal S1x256x1024 .f32) (G : FVec Ideal S1x1024 .f32) (W : FVec Ideal S1024x2048 .bf16) (B : FVec Ideal S1x2048 .f32) :
    k0_pay4 (k0_pay3 (F := Ideal) M X G W B) = k0_pay1 (k0_pay8 (k0_pay2 M) X G W B) := by
  unfold k0_pay4 k0_pay3 k0_pay1 k0_pay8
  rfl

theorem pay_second (M : FVec Ideal S6x1024 .f32) (X : FVec Ideal S1x256x1024 .f32) (G : FVec Ideal S1x1024 .f32) (W : FVec Ideal S1024x2048 .bf16) (B : FVec Ideal S1x2048 .f32) :
    k0_pay6 (k0_pay5 (F := Ideal) M X G W B) = k0_pay1 (k0_pay8 M X G W B) := by
  unfold k0_pay6 k0_pay5 k0_pay1 k0_pay8
  rfl

theorem pay_third (M : FVec Ideal S6x1024 .f32) (X : FVec Ideal S1x256x1024 .f32) (G : FVec Ideal S1x1024 .f32) (W : FVec Ideal S1024x2048 .bf16) (B : FVec Ideal S1x2048 .f32) :
    k0_pay7 (F := Ideal) M X G W B = k0_pay1 (k0_pay8 M X G W B) := by
  unfold k0_pay7 k0_pay1 k0_pay8
  rfl

/-- The stored block at an index, when each of the four row blocks is a function `g` of the index. -/
theorem out_of (x0 : Vec Ideal S1x1024x1024 .f32) (x1 : Vec Ideal S1x6x1024 .f32) (x2 : Vec Ideal S1x1024 .f32) (x3 : Vec Ideal S1024x2048 .bf16) (x4 : Vec Ideal S1x2048 .f32)
    (g : S1x1024x1024.Idx → Elt Ideal .bf16)
    (h : ∀ (o : ℕ) (inb : ∀ a, (![0, o, 0] : Fin 3 → ℕ) a + S1x256x1024.size a ≤ S1x1024x1024.size a) (x : S1x256x1024.Idx),
      k0_pay1 (F := Ideal) (k0_pay8 (k0_pay2 x1) (View.ld x0 (Rect.unit (s := S1x1024x1024) ![0, o, 0] S1x256x1024.size inb)) x2 x3 x4) x
        = g ((Rect.unit (s := S1x1024x1024) ![0, o, 0] S1x256x1024.size inb).emb x)) (y : S1x1024x1024.Idx) :
    out0_5 (F := Ideal) x0 x1 x2 x3 x4 y = g y := by
  have e1 : View.ld x1 r0_0 = x1 := View.ld_unit_lit (Val := Elt Ideal) _ x1 (by decide : ∀ a : Fin 3, (![0, 0, 0] : Fin 3 → ℕ) a = 0)
  have e2 : View.ld x2 r0_2 = x2 := View.ld_unit_lit (Val := Elt Ideal) _ x2 (by decide : ∀ a : Fin 2, (![0, 0] : Fin 2 → ℕ) a = 0)
  have e3 : View.ld x3 r0_3 = x3 := View.ld_unit_lit (Val := Elt Ideal) _ x3 (by decide : ∀ a : Fin 2, (![0, 0] : Fin 2 → ℕ) a = 0)
  have e4 : View.ld x4 r0_4 = x4 := View.ld_unit_lit (Val := Elt Ideal) _ x4 (by decide : ∀ a : Fin 2, (![0, 0] : Fin 2 → ℕ) a = 0)
  unfold out0_5 k0_pay9
  rw [e1, e2, e3, e4, pay_first, pay_second, pay_third]
  refine View.canon_apply_of_pieces (Val := Elt Ideal) (e := .bf16) g _ ?_ y (cover0_5 _ _ _ _ y)
  intro p hp x
  rcases List.mem_cons.mp hp with rfl | hp
  · exact h 768 _ x
  rcases List.mem_cons.mp hp with rfl | hp
  · exact h 512 _ x
  rcases List.mem_cons.mp hp with rfl | hp
  · exact h 256 _ x
  rcases List.mem_cons.mp hp with rfl | hp
  · exact h 0 _ x
  · exact absurd hp List.not_mem_nil

/-- What the body stores in its block of the result, at a block index, is the reference's term at the array index under it. -/
theorem point (c : Dev nD) (t : Fin cfg0.N) (y : S1x1024x1024.Idx) :
    (dats m 0 c).after 5 t y = spec m c (((cfg0.win 5).blk t).view.emb y) := by
  rw [after0_5]
  refine out_of _ _ _ _ _ (fun y => spec m c (((cfg0.win 5).blk t).view.emb y)) ?_ y
  intro o inb x
  idx_vars x
  have hx : x0 = 0 := Subsingleton.elim _ _
  subst hx
  have ho : o + 256 ≤ 1024 := inb 1
  obtain ⟨b, hb⟩ : ∃ b : Fin 2, b.val = (grid0.coords t 0).val := ⟨⟨_, (grid0.coords t 0).isLt⟩, rfl⟩
  have h1 : (grid0.coords t 1).val < 8 := (grid0.coords t 1).isLt
  obtain ⟨r, hr⟩ : ∃ r : Fin 8192, r.val = (grid0.coords t 1).val * 1024 + (o + x1.val) := ⟨⟨_, by omega⟩, rfl⟩
  have he : (((cfg0.win 5).blk t).view.emb ((Rect.unit (s := S1x1024x1024) ![0, o, 0] S1x256x1024.size inb).emb (ix3 0 x1 x2)) : Cert.Reference5Ideal.S2x8192x1024.Idx) = ix3 b r x2 := by
    blk_ext [idx t, hb, hr]
  show _ = spec m c _
  rw [he, ← pay_rows m c t b r x1 x2 _ hb (rows_eq m c t b r o inb x1 hb hr)]
  pointwise [k0_pay1]
  rfl

/-- The result array after the run is the reference's term of the arguments. -/
theorem final (c : Dev nD) : (dats m 0 c).arrAt 5 (cfgs 0).N = spec m c := by
  refine (dats m 0 c).arrAt_eq_of_covers 5 _ (by decide +kernel) fun t _ y => ?_
  blk_simp
  exact point m c t y

end Cert.Glu

/-! ## The claims -/

/-- Kernel and reference, from memories agreeing on the arguments, end with equal results. -/
theorem Cert.Glu.algebraic : @Cert.algebraic_Kernel5Ideal_Reference5Ideal Cert.Kernel5Ideal.Gen.facts Cert.Reference5Ideal.Gen.facts := by
  pair_intro
  · run_from Cert.Kernel5Ideal.Gen.run_main m g
  · run_from Cert.Glu.run_ref m' g'
    rw [Cert.Glu.final m c]

/-- The reference runs, leaves its arguments unchanged and every counter at zero. -/
theorem Cert.Glu.frame_reference : @Cert.quiescent_Reference5Ideal Cert.Reference5Ideal.Gen.facts := by
  exact fun m g _ => (θ_run Cert.Reference5Ideal.defs _ _).mono (fun r h => ⟨fun c => (h c).2, Idealize.ShloMosaic.sem_eq_zero_of_no_sems (by decide) r.2⟩)
    (Cert.Reference5Ideal.Value.run (F := Ideal) m g)

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Loops
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Loops
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Post.Value
public import proofs.«01_k».proof.Proof.Flash.Frames
public import proofs.«01_k».proof.Proof.Flash.Value
public import proofs.«01_k».proof.Proof.Diff.Frames
public import proofs.«01_k».proof.Proof.Diff.Value
public import proofs.«01_k».proof.Proof.Conv.Value
public import proofs.«01_k».proof.Proof.Glu.Value
public import Idealize.ShloMosaic.Adequacy
public import Idealize.ShloMosaic.Init

@[expose] public section

noncomputable section

namespace Cert.Proof

open Idealize.ShloMosaic Idealize.SL.Sem Cert.Kernel2

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Flash.pre_facts, Cert.Diff.pre_facts,
  Cert.Flash.frame_kernel,
  Cert.Flash.frame_kernelIdeal,
  fun m g _ => Cert.Flash.frame_kernelIdeal m g trivial,
  Cert.Flash.frame_reference,
  fun m g _ => Cert.Flash.frame_reference m g trivial,
  fun m ρ _ => Cert.Kernel2.Gen.frame m ρ,
  fun m ρ _ => Cert.Kernel2Ideal.Gen.frame m ρ,
  Cert.Post.frame_reference,
  Cert.Diff.frame_kernel,
  Cert.Diff.frame_kernelIdeal,
  fun m g _ => Cert.Diff.frame_kernelIdeal m g trivial,
  Cert.Diff.frame_reference,
  fun m g _ => Cert.Diff.frame_reference m g trivial,
  fun m ρ _ => Cert.Kernel4.Gen.frame m ρ,
  fun m ρ _ => Cert.Kernel4Ideal.Gen.frame m ρ,
  Cert.Conv.frame_reference,
  fun m ρ _ => Cert.Kernel5.Gen.frame m ρ,
  fun m ρ _ => Cert.Kernel5Ideal.Gen.frame m ρ,
  Cert.Glu.frame_reference,
  IdealRules.named_const.statement Cert.KernelIdeal.κ "scale" .f32 0x3E38AA3B#32 _ rfl,
  Cert.Flash.algebraic,
  trivial,
  Cert.Post.algebraic,
  IdealRules.named_const.statement Cert.Kernel3Ideal.κ "scale" .f32 0x3E38AA3B#32 _ rfl,
  Cert.Diff.algebraic,
  trivial,
  Cert.Conv.algebraic,
  trivial,
  Cert.Glu.algebraic⟩

end Cert.Proof

end
